-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_SbProj (m : (ℓ : Loc Cert.SbProj.nD Cert.SbProj.τ Cert.SbProj.sig) → Buf (Elt Bits) ℓ) : Prop :=
  True

def Pre_SbProjIdeal (m : (ℓ : Loc Cert.SbProjIdeal.nD Cert.SbProjIdeal.τ Cert.SbProjIdeal.sig) → Buf (Elt Ideal) ℓ) : Prop :=
  True

def Pre_SbProjRefIdeal (m : (ℓ : Loc Cert.SbProjRefIdeal.nD Cert.SbProjRefIdeal.τ Cert.SbProjRefIdeal.sig) → Buf (Elt Ideal) ℓ) : Prop :=
  True

def Pre_OutLn (m : (ℓ : Loc Cert.OutLn.nD Cert.OutLn.τ Cert.OutLn.sig) → Buf (Elt Bits) ℓ) : Prop :=
  True

def Pre_OutLnIdeal (m : (ℓ : Loc Cert.OutLnIdeal.nD Cert.OutLnIdeal.τ Cert.OutLnIdeal.sig) → Buf (Elt Ideal) ℓ) : Prop :=
  True

def Pre_OutLnRefIdeal (m : (ℓ : Loc Cert.OutLnRefIdeal.nD Cert.OutLnRefIdeal.τ Cert.OutLnRefIdeal.sig) → Buf (Elt Ideal) ℓ) : Prop :=
  True

def Pre_MobaProj (m : (ℓ : Loc Cert.MobaProj.nD Cert.MobaProj.τ Cert.MobaProj.sig) → Buf (Elt Bits) ℓ) : Prop :=
  True

def Pre_MobaProjIdeal (m : (ℓ : Loc Cert.MobaProjIdeal.nD Cert.MobaProjIdeal.τ Cert.MobaProjIdeal.sig) → Buf (Elt Ideal) ℓ) : Prop :=
  True

def Pre_MobaProjRefIdeal (m : (ℓ : Loc Cert.MobaProjRefIdeal.nD Cert.MobaProjRefIdeal.τ Cert.MobaProjRefIdeal.sig) → Buf (Elt Ideal) ℓ) : Prop :=
  True

def Pre_SwaProj (m : (ℓ : Loc Cert.SwaProj.nD Cert.SwaProj.τ Cert.SwaProj.sig) → Buf (Elt Bits) ℓ) : Prop :=
  True

def Pre_SwaProjIdeal (m : (ℓ : Loc Cert.SwaProjIdeal.nD Cert.SwaProjIdeal.τ Cert.SwaProjIdeal.sig) → Buf (Elt Ideal) ℓ) : Prop :=
  True

def Pre_SwaProjRefIdeal (m : (ℓ : Loc Cert.SwaProjRefIdeal.nD Cert.SwaProjRefIdeal.τ Cert.SwaProjRefIdeal.sig) → Buf (Elt Ideal) ℓ) : Prop :=
  True

def Pre_DilOut (m : (ℓ : Loc Cert.DilOut.nD Cert.DilOut.τ Cert.DilOut.sig) → Buf (Elt Bits) ℓ) : Prop :=
  True

def Pre_DilOutIdeal (m : (ℓ : Loc Cert.DilOutIdeal.nD Cert.DilOutIdeal.τ Cert.DilOutIdeal.sig) → Buf (Elt Ideal) ℓ) : Prop :=
  True

def Pre_DilOutRefIdeal (m : (ℓ : Loc Cert.DilOutRefIdeal.nD Cert.DilOutRefIdeal.τ Cert.DilOutRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_SbProj [hSbProj : Cert.SbProj.Facts] : Prop :=
  ∀ (m : (ℓ : Loc Cert.SbProj.nD Cert.SbProj.τ Cert.SbProj.sig) → Buf (Elt Bits) ℓ) (g : Dev Cert.SbProj.nD → PrngReg), Pre_SbProj m →
    θ_run (Cert.SbProj.defs (F := Bits)) (onTc (τ := Cert.SbProj.τ) (Cert.SbProj.main (F := Bits))) ⟨m, fun _ => 0, g⟩ (fun r => (∀ c : Dev Cert.SbProj.nD,
      r.2.mem ((c.tc : Thread Cert.SbProj.nD Cert.SbProj.τ).loc Cert.SbProj.main_arg0) = m ((c.tc : Thread Cert.SbProj.nD Cert.SbProj.τ).loc Cert.SbProj.main_arg0)
      ∧ r.2.mem ((c.tc : Thread Cert.SbProj.nD Cert.SbProj.τ).loc Cert.SbProj.main_arg1) = m ((c.tc : Thread Cert.SbProj.nD Cert.SbProj.τ).loc Cert.SbProj.main_arg1))
      ∧ r.2.sem = fun _ => 0)

def quiescent_SbProjIdeal [hSbProjIdeal : Cert.SbProjIdeal.Facts] : Prop :=
  ∀ (m : (ℓ : Loc Cert.SbProjIdeal.nD Cert.SbProjIdeal.τ Cert.SbProjIdeal.sig) → Buf (Elt Ideal) ℓ) (g : Dev Cert.SbProjIdeal.nD → PrngReg), Pre_SbProjIdeal m →
    θ_run (Cert.SbProjIdeal.defs (F := Ideal)) (onTc (τ := Cert.SbProjIdeal.τ) (Cert.SbProjIdeal.main (F := Ideal))) ⟨m, fun _ => 0, g⟩ (fun r => (∀ c : Dev Cert.SbProjIdeal.nD,
      r.2.mem ((c.tc : Thread Cert.SbProjIdeal.nD Cert.SbProjIdeal.τ).loc Cert.SbProjIdeal.main_arg0) = m ((c.tc : Thread Cert.SbProjIdeal.nD Cert.SbProjIdeal.τ).loc Cert.SbProjIdeal.main_arg0)
      ∧ r.2.mem ((c.tc : Thread Cert.SbProjIdeal.nD Cert.SbProjIdeal.τ).loc Cert.SbProjIdeal.main_arg1) = m ((c.tc : Thread Cert.SbProjIdeal.nD Cert.SbProjIdeal.τ).loc Cert.SbProjIdeal.main_arg1))
      ∧ r.2.sem = fun _ => 0)

def quiescent_SbProjRefIdeal [hSbProjRefIdeal : Cert.SbProjRefIdeal.Facts] : Prop :=
  ∀ (m : (ℓ : Loc Cert.SbProjRefIdeal.nD Cert.SbProjRefIdeal.τ Cert.SbProjRefIdeal.sig) → Buf (Elt Ideal) ℓ) (g : Dev Cert.SbProjRefIdeal.nD → PrngReg), Pre_SbProjRefIdeal m →
    θ_run (Cert.SbProjRefIdeal.defs (F := Ideal)) (onTc (τ := Cert.SbProjRefIdeal.τ) (Cert.SbProjRefIdeal.main (F := Ideal))) ⟨m, fun _ => 0, g⟩ (fun r => (∀ c : Dev Cert.SbProjRefIdeal.nD,
      r.2.mem ((c.tc : Thread Cert.SbProjRefIdeal.nD Cert.SbProjRefIdeal.τ).loc Cert.SbProjRefIdeal.main_arg0) = m ((c.tc : Thread Cert.SbProjRefIdeal.nD Cert.SbProjRefIdeal.τ).loc Cert.SbProjRefIdeal.main_arg0)
      ∧ r.2.mem ((c.tc : Thread Cert.SbProjRefIdeal.nD Cert.SbProjRefIdeal.τ).loc Cert.SbProjRefIdeal.main_arg1) = m ((c.tc : Thread Cert.SbProjRefIdeal.nD Cert.SbProjRefIdeal.τ).loc Cert.SbProjRefIdeal.main_arg1))
      ∧ r.2.sem = fun _ => 0)

def quiescent_OutLn [hOutLn : Cert.OutLn.Facts] : Prop :=
  ∀ (m : (ℓ : Loc Cert.OutLn.nD Cert.OutLn.τ Cert.OutLn.sig) → Buf (Elt Bits) ℓ) (g : Dev Cert.OutLn.nD → PrngReg), Pre_OutLn m →
    θ_run (Cert.OutLn.defs (F := Bits)) (onTc (τ := Cert.OutLn.τ) (Cert.OutLn.main (F := Bits))) ⟨m, fun _ => 0, g⟩ (fun r => (∀ c : Dev Cert.OutLn.nD,
      r.2.mem ((c.tc : Thread Cert.OutLn.nD Cert.OutLn.τ).loc Cert.OutLn.main_arg0) = m ((c.tc : Thread Cert.OutLn.nD Cert.OutLn.τ).loc Cert.OutLn.main_arg0)
      ∧ r.2.mem ((c.tc : Thread Cert.OutLn.nD Cert.OutLn.τ).loc Cert.OutLn.main_arg1) = m ((c.tc : Thread Cert.OutLn.nD Cert.OutLn.τ).loc Cert.OutLn.main_arg1)
      ∧ r.2.mem ((c.tc : Thread Cert.OutLn.nD Cert.OutLn.τ).loc Cert.OutLn.main_arg2) = m ((c.tc : Thread Cert.OutLn.nD Cert.OutLn.τ).loc Cert.OutLn.main_arg2)
      ∧ r.2.mem ((c.tc : Thread Cert.OutLn.nD Cert.OutLn.τ).loc Cert.OutLn.main_arg3) = m ((c.tc : Thread Cert.OutLn.nD Cert.OutLn.τ).loc Cert.OutLn.main_arg3)
      ∧ r.2.mem ((c.tc : Thread Cert.OutLn.nD Cert.OutLn.τ).loc Cert.OutLn.main_arg4) = m ((c.tc : Thread Cert.OutLn.nD Cert.OutLn.τ).loc Cert.OutLn.main_arg4)
      ∧ r.2.mem ((c.tc : Thread Cert.OutLn.nD Cert.OutLn.τ).loc Cert.OutLn.main_arg5) = m ((c.tc : Thread Cert.OutLn.nD Cert.OutLn.τ).loc Cert.OutLn.main_arg5))
      ∧ r.2.sem = fun _ => 0)

def quiescent_OutLnIdeal [hOutLnIdeal : Cert.OutLnIdeal.Facts] : Prop :=
  ∀ (m : (ℓ : Loc Cert.OutLnIdeal.nD Cert.OutLnIdeal.τ Cert.OutLnIdeal.sig) → Buf (Elt Ideal) ℓ) (g : Dev Cert.OutLnIdeal.nD → PrngReg), Pre_OutLnIdeal m →
    θ_run (Cert.OutLnIdeal.defs (F := Ideal)) (onTc (τ := Cert.OutLnIdeal.τ) (Cert.OutLnIdeal.main (F := Ideal))) ⟨m, fun _ => 0, g⟩ (fun r => (∀ c : Dev Cert.OutLnIdeal.nD,
      r.2.mem ((c.tc : Thread Cert.OutLnIdeal.nD Cert.OutLnIdeal.τ).loc Cert.OutLnIdeal.main_arg0) = m ((c.tc : Thread Cert.OutLnIdeal.nD Cert.OutLnIdeal.τ).loc Cert.OutLnIdeal.main_arg0)
      ∧ r.2.mem ((c.tc : Thread Cert.OutLnIdeal.nD Cert.OutLnIdeal.τ).loc Cert.OutLnIdeal.main_arg1) = m ((c.tc : Thread Cert.OutLnIdeal.nD Cert.OutLnIdeal.τ).loc Cert.OutLnIdeal.main_arg1)
      ∧ r.2.mem ((c.tc : Thread Cert.OutLnIdeal.nD Cert.OutLnIdeal.τ).loc Cert.OutLnIdeal.main_arg2) = m ((c.tc : Thread Cert.OutLnIdeal.nD Cert.OutLnIdeal.τ).loc Cert.OutLnIdeal.main_arg2)
      ∧ r.2.mem ((c.tc : Thread Cert.OutLnIdeal.nD Cert.OutLnIdeal.τ).loc Cert.OutLnIdeal.main_arg3) = m ((c.tc : Thread Cert.OutLnIdeal.nD Cert.OutLnIdeal.τ).loc Cert.OutLnIdeal.main_arg3)
      ∧ r.2.mem ((c.tc : Thread Cert.OutLnIdeal.nD Cert.OutLnIdeal.τ).loc Cert.OutLnIdeal.main_arg4) = m ((c.tc : Thread Cert.OutLnIdeal.nD Cert.OutLnIdeal.τ).loc Cert.OutLnIdeal.main_arg4)
      ∧ r.2.mem ((c.tc : Thread Cert.OutLnIdeal.nD Cert.OutLnIdeal.τ).loc Cert.OutLnIdeal.main_arg5) = m ((c.tc : Thread Cert.OutLnIdeal.nD Cert.OutLnIdeal.τ).loc Cert.OutLnIdeal.main_arg5))
      ∧ r.2.sem = fun _ => 0)

def quiescent_OutLnRefIdeal [hOutLnRefIdeal : Cert.OutLnRefIdeal.Facts] : Prop :=
  ∀ (m : (ℓ : Loc Cert.OutLnRefIdeal.nD Cert.OutLnRefIdeal.τ Cert.OutLnRefIdeal.sig) → Buf (Elt Ideal) ℓ) (g : Dev Cert.OutLnRefIdeal.nD → PrngReg), Pre_OutLnRefIdeal m →
    θ_run (Cert.OutLnRefIdeal.defs (F := Ideal)) (onTc (τ := Cert.OutLnRefIdeal.τ) (Cert.OutLnRefIdeal.main (F := Ideal))) ⟨m, fun _ => 0, g⟩ (fun r => (∀ c : Dev Cert.OutLnRefIdeal.nD,
      r.2.mem ((c.tc : Thread Cert.OutLnRefIdeal.nD Cert.OutLnRefIdeal.τ).loc Cert.OutLnRefIdeal.main_arg0) = m ((c.tc : Thread Cert.OutLnRefIdeal.nD Cert.OutLnRefIdeal.τ).loc Cert.OutLnRefIdeal.main_arg0)
      ∧ r.2.mem ((c.tc : Thread Cert.OutLnRefIdeal.nD Cert.OutLnRefIdeal.τ).loc Cert.OutLnRefIdeal.main_arg1) = m ((c.tc : Thread Cert.OutLnRefIdeal.nD Cert.OutLnRefIdeal.τ).loc Cert.OutLnRefIdeal.main_arg1)
      ∧ r.2.mem ((c.tc : Thread Cert.OutLnRefIdeal.nD Cert.OutLnRefIdeal.τ).loc Cert.OutLnRefIdeal.main_arg2) = m ((c.tc : Thread Cert.OutLnRefIdeal.nD Cert.OutLnRefIdeal.τ).loc Cert.OutLnRefIdeal.main_arg2)
      ∧ r.2.mem ((c.tc : Thread Cert.OutLnRefIdeal.nD Cert.OutLnRefIdeal.τ).loc Cert.OutLnRefIdeal.main_arg3) = m ((c.tc : Thread Cert.OutLnRefIdeal.nD Cert.OutLnRefIdeal.τ).loc Cert.OutLnRefIdeal.main_arg3)
      ∧ r.2.mem ((c.tc : Thread Cert.OutLnRefIdeal.nD Cert.OutLnRefIdeal.τ).loc Cert.OutLnRefIdeal.main_arg4) = m ((c.tc : Thread Cert.OutLnRefIdeal.nD Cert.OutLnRefIdeal.τ).loc Cert.OutLnRefIdeal.main_arg4)
      ∧ r.2.mem ((c.tc : Thread Cert.OutLnRefIdeal.nD Cert.OutLnRefIdeal.τ).loc Cert.OutLnRefIdeal.main_arg5) = m ((c.tc : Thread Cert.OutLnRefIdeal.nD Cert.OutLnRefIdeal.τ).loc Cert.OutLnRefIdeal.main_arg5))
      ∧ r.2.sem = fun _ => 0)

def quiescent_MobaProj [hMobaProj : Cert.MobaProj.Facts] : Prop :=
  ∀ (m : (ℓ : Loc Cert.MobaProj.nD Cert.MobaProj.τ Cert.MobaProj.sig) → Buf (Elt Bits) ℓ) (g : Dev Cert.MobaProj.nD → PrngReg), Pre_MobaProj m →
    θ_run (Cert.MobaProj.defs (F := Bits)) (onTc (τ := Cert.MobaProj.τ) (Cert.MobaProj.main (F := Bits))) ⟨m, fun _ => 0, g⟩ (fun r => (∀ c : Dev Cert.MobaProj.nD,
      r.2.mem ((c.tc : Thread Cert.MobaProj.nD Cert.MobaProj.τ).loc Cert.MobaProj.main_arg0) = m ((c.tc : Thread Cert.MobaProj.nD Cert.MobaProj.τ).loc Cert.MobaProj.main_arg0)
      ∧ r.2.mem ((c.tc : Thread Cert.MobaProj.nD Cert.MobaProj.τ).loc Cert.MobaProj.main_arg1) = m ((c.tc : Thread Cert.MobaProj.nD Cert.MobaProj.τ).loc Cert.MobaProj.main_arg1))
      ∧ r.2.sem = fun _ => 0)

def quiescent_MobaProjIdeal [hMobaProjIdeal : Cert.MobaProjIdeal.Facts] : Prop :=
  ∀ (m : (ℓ : Loc Cert.MobaProjIdeal.nD Cert.MobaProjIdeal.τ Cert.MobaProjIdeal.sig) → Buf (Elt Ideal) ℓ) (g : Dev Cert.MobaProjIdeal.nD → PrngReg), Pre_MobaProjIdeal m →
    θ_run (Cert.MobaProjIdeal.defs (F := Ideal)) (onTc (τ := Cert.MobaProjIdeal.τ) (Cert.MobaProjIdeal.main (F := Ideal))) ⟨m, fun _ => 0, g⟩ (fun r => (∀ c : Dev Cert.MobaProjIdeal.nD,
      r.2.mem ((c.tc : Thread Cert.MobaProjIdeal.nD Cert.MobaProjIdeal.τ).loc Cert.MobaProjIdeal.main_arg0) = m ((c.tc : Thread Cert.MobaProjIdeal.nD Cert.MobaProjIdeal.τ).loc Cert.MobaProjIdeal.main_arg0)
      ∧ r.2.mem ((c.tc : Thread Cert.MobaProjIdeal.nD Cert.MobaProjIdeal.τ).loc Cert.MobaProjIdeal.main_arg1) = m ((c.tc : Thread Cert.MobaProjIdeal.nD Cert.MobaProjIdeal.τ).loc Cert.MobaProjIdeal.main_arg1))
      ∧ r.2.sem = fun _ => 0)

def quiescent_MobaProjRefIdeal [hMobaProjRefIdeal : Cert.MobaProjRefIdeal.Facts] : Prop :=
  ∀ (m : (ℓ : Loc Cert.MobaProjRefIdeal.nD Cert.MobaProjRefIdeal.τ Cert.MobaProjRefIdeal.sig) → Buf (Elt Ideal) ℓ) (g : Dev Cert.MobaProjRefIdeal.nD → PrngReg), Pre_MobaProjRefIdeal m →
    θ_run (Cert.MobaProjRefIdeal.defs (F := Ideal)) (onTc (τ := Cert.MobaProjRefIdeal.τ) (Cert.MobaProjRefIdeal.main (F := Ideal))) ⟨m, fun _ => 0, g⟩ (fun r => (∀ c : Dev Cert.MobaProjRefIdeal.nD,
      r.2.mem ((c.tc : Thread Cert.MobaProjRefIdeal.nD Cert.MobaProjRefIdeal.τ).loc Cert.MobaProjRefIdeal.main_arg0) = m ((c.tc : Thread Cert.MobaProjRefIdeal.nD Cert.MobaProjRefIdeal.τ).loc Cert.MobaProjRefIdeal.main_arg0)
      ∧ r.2.mem ((c.tc : Thread Cert.MobaProjRefIdeal.nD Cert.MobaProjRefIdeal.τ).loc Cert.MobaProjRefIdeal.main_arg1) = m ((c.tc : Thread Cert.MobaProjRefIdeal.nD Cert.MobaProjRefIdeal.τ).loc Cert.MobaProjRefIdeal.main_arg1))
      ∧ r.2.sem = fun _ => 0)

def quiescent_SwaProj [hSwaProj : Cert.SwaProj.Facts] : Prop :=
  ∀ (m : (ℓ : Loc Cert.SwaProj.nD Cert.SwaProj.τ Cert.SwaProj.sig) → Buf (Elt Bits) ℓ) (g : Dev Cert.SwaProj.nD → PrngReg), Pre_SwaProj m →
    θ_run (Cert.SwaProj.defs (F := Bits)) (onTc (τ := Cert.SwaProj.τ) (Cert.SwaProj.main (F := Bits))) ⟨m, fun _ => 0, g⟩ (fun r => (∀ c : Dev Cert.SwaProj.nD,
      r.2.mem ((c.tc : Thread Cert.SwaProj.nD Cert.SwaProj.τ).loc Cert.SwaProj.main_arg0) = m ((c.tc : Thread Cert.SwaProj.nD Cert.SwaProj.τ).loc Cert.SwaProj.main_arg0)
      ∧ r.2.mem ((c.tc : Thread Cert.SwaProj.nD Cert.SwaProj.τ).loc Cert.SwaProj.main_arg1) = m ((c.tc : Thread Cert.SwaProj.nD Cert.SwaProj.τ).loc Cert.SwaProj.main_arg1))
      ∧ r.2.sem = fun _ => 0)

def quiescent_SwaProjIdeal [hSwaProjIdeal : Cert.SwaProjIdeal.Facts] : Prop :=
  ∀ (m : (ℓ : Loc Cert.SwaProjIdeal.nD Cert.SwaProjIdeal.τ Cert.SwaProjIdeal.sig) → Buf (Elt Ideal) ℓ) (g : Dev Cert.SwaProjIdeal.nD → PrngReg), Pre_SwaProjIdeal m →
    θ_run (Cert.SwaProjIdeal.defs (F := Ideal)) (onTc (τ := Cert.SwaProjIdeal.τ) (Cert.SwaProjIdeal.main (F := Ideal))) ⟨m, fun _ => 0, g⟩ (fun r => (∀ c : Dev Cert.SwaProjIdeal.nD,
      r.2.mem ((c.tc : Thread Cert.SwaProjIdeal.nD Cert.SwaProjIdeal.τ).loc Cert.SwaProjIdeal.main_arg0) = m ((c.tc : Thread Cert.SwaProjIdeal.nD Cert.SwaProjIdeal.τ).loc Cert.SwaProjIdeal.main_arg0)
      ∧ r.2.mem ((c.tc : Thread Cert.SwaProjIdeal.nD Cert.SwaProjIdeal.τ).loc Cert.SwaProjIdeal.main_arg1) = m ((c.tc : Thread Cert.SwaProjIdeal.nD Cert.SwaProjIdeal.τ).loc Cert.SwaProjIdeal.main_arg1))
      ∧ r.2.sem = fun _ => 0)

def quiescent_SwaProjRefIdeal [hSwaProjRefIdeal : Cert.SwaProjRefIdeal.Facts] : Prop :=
  ∀ (m : (ℓ : Loc Cert.SwaProjRefIdeal.nD Cert.SwaProjRefIdeal.τ Cert.SwaProjRefIdeal.sig) → Buf (Elt Ideal) ℓ) (g : Dev Cert.SwaProjRefIdeal.nD → PrngReg), Pre_SwaProjRefIdeal m →
    θ_run (Cert.SwaProjRefIdeal.defs (F := Ideal)) (onTc (τ := Cert.SwaProjRefIdeal.τ) (Cert.SwaProjRefIdeal.main (F := Ideal))) ⟨m, fun _ => 0, g⟩ (fun r => (∀ c : Dev Cert.SwaProjRefIdeal.nD,
      r.2.mem ((c.tc : Thread Cert.SwaProjRefIdeal.nD Cert.SwaProjRefIdeal.τ).loc Cert.SwaProjRefIdeal.main_arg0) = m ((c.tc : Thread Cert.SwaProjRefIdeal.nD Cert.SwaProjRefIdeal.τ).loc Cert.SwaProjRefIdeal.main_arg0)
      ∧ r.2.mem ((c.tc : Thread Cert.SwaProjRefIdeal.nD Cert.SwaProjRefIdeal.τ).loc Cert.SwaProjRefIdeal.main_arg1) = m ((c.tc : Thread Cert.SwaProjRefIdeal.nD Cert.SwaProjRefIdeal.τ).loc Cert.SwaProjRefIdeal.main_arg1))
      ∧ r.2.sem = fun _ => 0)

def quiescent_DilOut [hDilOut : Cert.DilOut.Facts] : Prop :=
  ∀ (m : (ℓ : Loc Cert.DilOut.nD Cert.DilOut.τ Cert.DilOut.sig) → Buf (Elt Bits) ℓ) (g : Dev Cert.DilOut.nD → PrngReg), Pre_DilOut m →
    θ_run (Cert.DilOut.defs (F := Bits)) (onTc (τ := Cert.DilOut.τ) (Cert.DilOut.main (F := Bits))) ⟨m, fun _ => 0, g⟩ (fun r => (∀ c : Dev Cert.DilOut.nD,
      r.2.mem ((c.tc : Thread Cert.DilOut.nD Cert.DilOut.τ).loc Cert.DilOut.main_arg0) = m ((c.tc : Thread Cert.DilOut.nD Cert.DilOut.τ).loc Cert.DilOut.main_arg0)
      ∧ r.2.mem ((c.tc : Thread Cert.DilOut.nD Cert.DilOut.τ).loc Cert.DilOut.main_arg1) = m ((c.tc : Thread Cert.DilOut.nD Cert.DilOut.τ).loc Cert.DilOut.main_arg1)
      ∧ r.2.mem ((c.tc : Thread Cert.DilOut.nD Cert.DilOut.τ).loc Cert.DilOut.main_arg2) = m ((c.tc : Thread Cert.DilOut.nD Cert.DilOut.τ).loc Cert.DilOut.main_arg2)
      ∧ r.2.mem ((c.tc : Thread Cert.DilOut.nD Cert.DilOut.τ).loc Cert.DilOut.main_arg3) = m ((c.tc : Thread Cert.DilOut.nD Cert.DilOut.τ).loc Cert.DilOut.main_arg3)
      ∧ r.2.mem ((c.tc : Thread Cert.DilOut.nD Cert.DilOut.τ).loc Cert.DilOut.main_arg4) = m ((c.tc : Thread Cert.DilOut.nD Cert.DilOut.τ).loc Cert.DilOut.main_arg4)
      ∧ r.2.mem ((c.tc : Thread Cert.DilOut.nD Cert.DilOut.τ).loc Cert.DilOut.main_arg5) = m ((c.tc : Thread Cert.DilOut.nD Cert.DilOut.τ).loc Cert.DilOut.main_arg5)
      ∧ r.2.mem ((c.tc : Thread Cert.DilOut.nD Cert.DilOut.τ).loc Cert.DilOut.main_arg6) = m ((c.tc : Thread Cert.DilOut.nD Cert.DilOut.τ).loc Cert.DilOut.main_arg6)
      ∧ r.2.mem ((c.tc : Thread Cert.DilOut.nD Cert.DilOut.τ).loc Cert.DilOut.main_arg7) = m ((c.tc : Thread Cert.DilOut.nD Cert.DilOut.τ).loc Cert.DilOut.main_arg7)
      ∧ r.2.mem ((c.tc : Thread Cert.DilOut.nD Cert.DilOut.τ).loc Cert.DilOut.main_arg8) = m ((c.tc : Thread Cert.DilOut.nD Cert.DilOut.τ).loc Cert.DilOut.main_arg8)
      ∧ r.2.mem ((c.tc : Thread Cert.DilOut.nD Cert.DilOut.τ).loc Cert.DilOut.main_arg9) = m ((c.tc : Thread Cert.DilOut.nD Cert.DilOut.τ).loc Cert.DilOut.main_arg9)
      ∧ r.2.mem ((c.tc : Thread Cert.DilOut.nD Cert.DilOut.τ).loc Cert.DilOut.main_arg10) = m ((c.tc : Thread Cert.DilOut.nD Cert.DilOut.τ).loc Cert.DilOut.main_arg10))
      ∧ r.2.sem = fun _ => 0)

def quiescent_DilOutIdeal [hDilOutIdeal : Cert.DilOutIdeal.Facts] : Prop :=
  ∀ (m : (ℓ : Loc Cert.DilOutIdeal.nD Cert.DilOutIdeal.τ Cert.DilOutIdeal.sig) → Buf (Elt Ideal) ℓ) (g : Dev Cert.DilOutIdeal.nD → PrngReg), Pre_DilOutIdeal m →
    θ_run (Cert.DilOutIdeal.defs (F := Ideal)) (onTc (τ := Cert.DilOutIdeal.τ) (Cert.DilOutIdeal.main (F := Ideal))) ⟨m, fun _ => 0, g⟩ (fun r => (∀ c : Dev Cert.DilOutIdeal.nD,
      r.2.mem ((c.tc : Thread Cert.DilOutIdeal.nD Cert.DilOutIdeal.τ).loc Cert.DilOutIdeal.main_arg0) = m ((c.tc : Thread Cert.DilOutIdeal.nD Cert.DilOutIdeal.τ).loc Cert.DilOutIdeal.main_arg0)
      ∧ r.2.mem ((c.tc : Thread Cert.DilOutIdeal.nD Cert.DilOutIdeal.τ).loc Cert.DilOutIdeal.main_arg1) = m ((c.tc : Thread Cert.DilOutIdeal.nD Cert.DilOutIdeal.τ).loc Cert.DilOutIdeal.main_arg1)
      ∧ r.2.mem ((c.tc : Thread Cert.DilOutIdeal.nD Cert.DilOutIdeal.τ).loc Cert.DilOutIdeal.main_arg2) = m ((c.tc : Thread Cert.DilOutIdeal.nD Cert.DilOutIdeal.τ).loc Cert.DilOutIdeal.main_arg2)
      ∧ r.2.mem ((c.tc : Thread Cert.DilOutIdeal.nD Cert.DilOutIdeal.τ).loc Cert.DilOutIdeal.main_arg3) = m ((c.tc : Thread Cert.DilOutIdeal.nD Cert.DilOutIdeal.τ).loc Cert.DilOutIdeal.main_arg3)
      ∧ r.2.mem ((c.tc : Thread Cert.DilOutIdeal.nD Cert.DilOutIdeal.τ).loc Cert.DilOutIdeal.main_arg4) = m ((c.tc : Thread Cert.DilOutIdeal.nD Cert.DilOutIdeal.τ).loc Cert.DilOutIdeal.main_arg4)
      ∧ r.2.mem ((c.tc : Thread Cert.DilOutIdeal.nD Cert.DilOutIdeal.τ).loc Cert.DilOutIdeal.main_arg5) = m ((c.tc : Thread Cert.DilOutIdeal.nD Cert.DilOutIdeal.τ).loc Cert.DilOutIdeal.main_arg5)
      ∧ r.2.mem ((c.tc : Thread Cert.DilOutIdeal.nD Cert.DilOutIdeal.τ).loc Cert.DilOutIdeal.main_arg6) = m ((c.tc : Thread Cert.DilOutIdeal.nD Cert.DilOutIdeal.τ).loc Cert.DilOutIdeal.main_arg6)
      ∧ r.2.mem ((c.tc : Thread Cert.DilOutIdeal.nD Cert.DilOutIdeal.τ).loc Cert.DilOutIdeal.main_arg7) = m ((c.tc : Thread Cert.DilOutIdeal.nD Cert.DilOutIdeal.τ).loc Cert.DilOutIdeal.main_arg7)
      ∧ r.2.mem ((c.tc : Thread Cert.DilOutIdeal.nD Cert.DilOutIdeal.τ).loc Cert.DilOutIdeal.main_arg8) = m ((c.tc : Thread Cert.DilOutIdeal.nD Cert.DilOutIdeal.τ).loc Cert.DilOutIdeal.main_arg8)
      ∧ r.2.mem ((c.tc : Thread Cert.DilOutIdeal.nD Cert.DilOutIdeal.τ).loc Cert.DilOutIdeal.main_arg9) = m ((c.tc : Thread Cert.DilOutIdeal.nD Cert.DilOutIdeal.τ).loc Cert.DilOutIdeal.main_arg9)
      ∧ r.2.mem ((c.tc : Thread Cert.DilOutIdeal.nD Cert.DilOutIdeal.τ).loc Cert.DilOutIdeal.main_arg10) = m ((c.tc : Thread Cert.DilOutIdeal.nD Cert.DilOutIdeal.τ).loc Cert.DilOutIdeal.main_arg10))
      ∧ r.2.sem = fun _ => 0)

def quiescent_DilOutRefIdeal [hDilOutRefIdeal : Cert.DilOutRefIdeal.Facts] : Prop :=
  ∀ (m : (ℓ : Loc Cert.DilOutRefIdeal.nD Cert.DilOutRefIdeal.τ Cert.DilOutRefIdeal.sig) → Buf (Elt Ideal) ℓ) (g : Dev Cert.DilOutRefIdeal.nD → PrngReg), Pre_DilOutRefIdeal m →
    θ_run (Cert.DilOutRefIdeal.defs (F := Ideal)) (onTc (τ := Cert.DilOutRefIdeal.τ) (Cert.DilOutRefIdeal.main (F := Ideal))) ⟨m, fun _ => 0, g⟩ (fun r => (∀ c : Dev Cert.DilOutRefIdeal.nD,
      r.2.mem ((c.tc : Thread Cert.DilOutRefIdeal.nD Cert.DilOutRefIdeal.τ).loc Cert.DilOutRefIdeal.main_arg0) = m ((c.tc : Thread Cert.DilOutRefIdeal.nD Cert.DilOutRefIdeal.τ).loc Cert.DilOutRefIdeal.main_arg0)
      ∧ r.2.mem ((c.tc : Thread Cert.DilOutRefIdeal.nD Cert.DilOutRefIdeal.τ).loc Cert.DilOutRefIdeal.main_arg1) = m ((c.tc : Thread Cert.DilOutRefIdeal.nD Cert.DilOutRefIdeal.τ).loc Cert.DilOutRefIdeal.main_arg1)
      ∧ r.2.mem ((c.tc : Thread Cert.DilOutRefIdeal.nD Cert.DilOutRefIdeal.τ).loc Cert.DilOutRefIdeal.main_arg2) = m ((c.tc : Thread Cert.DilOutRefIdeal.nD Cert.DilOutRefIdeal.τ).loc Cert.DilOutRefIdeal.main_arg2)
      ∧ r.2.mem ((c.tc : Thread Cert.DilOutRefIdeal.nD Cert.DilOutRefIdeal.τ).loc Cert.DilOutRefIdeal.main_arg3) = m ((c.tc : Thread Cert.DilOutRefIdeal.nD Cert.DilOutRefIdeal.τ).loc Cert.DilOutRefIdeal.main_arg3)
      ∧ r.2.mem ((c.tc : Thread Cert.DilOutRefIdeal.nD Cert.DilOutRefIdeal.τ).loc Cert.DilOutRefIdeal.main_arg4) = m ((c.tc : Thread Cert.DilOutRefIdeal.nD Cert.DilOutRefIdeal.τ).loc Cert.DilOutRefIdeal.main_arg4)
      ∧ r.2.mem ((c.tc : Thread Cert.DilOutRefIdeal.nD Cert.DilOutRefIdeal.τ).loc Cert.DilOutRefIdeal.main_arg5) = m ((c.tc : Thread Cert.DilOutRefIdeal.nD Cert.DilOutRefIdeal.τ).loc Cert.DilOutRefIdeal.main_arg5)
      ∧ r.2.mem ((c.tc : Thread Cert.DilOutRefIdeal.nD Cert.DilOutRefIdeal.τ).loc Cert.DilOutRefIdeal.main_arg6) = m ((c.tc : Thread Cert.DilOutRefIdeal.nD Cert.DilOutRefIdeal.τ).loc Cert.DilOutRefIdeal.main_arg6)
      ∧ r.2.mem ((c.tc : Thread Cert.DilOutRefIdeal.nD Cert.DilOutRefIdeal.τ).loc Cert.DilOutRefIdeal.main_arg7) = m ((c.tc : Thread Cert.DilOutRefIdeal.nD Cert.DilOutRefIdeal.τ).loc Cert.DilOutRefIdeal.main_arg7)
      ∧ r.2.mem ((c.tc : Thread Cert.DilOutRefIdeal.nD Cert.DilOutRefIdeal.τ).loc Cert.DilOutRefIdeal.main_arg8) = m ((c.tc : Thread Cert.DilOutRefIdeal.nD Cert.DilOutRefIdeal.τ).loc Cert.DilOutRefIdeal.main_arg8)
      ∧ r.2.mem ((c.tc : Thread Cert.DilOutRefIdeal.nD Cert.DilOutRefIdeal.τ).loc Cert.DilOutRefIdeal.main_arg9) = m ((c.tc : Thread Cert.DilOutRefIdeal.nD Cert.DilOutRefIdeal.τ).loc Cert.DilOutRefIdeal.main_arg9)
      ∧ r.2.mem ((c.tc : Thread Cert.DilOutRefIdeal.nD Cert.DilOutRefIdeal.τ).loc Cert.DilOutRefIdeal.main_arg10) = m ((c.tc : Thread Cert.DilOutRefIdeal.nD Cert.DilOutRefIdeal.τ).loc Cert.DilOutRefIdeal.main_arg10))
      ∧ r.2.sem = fun _ => 0)

def preserves_Kernel_KernelIdeal : Prop :=
  IdealRules.named_const.Statement Cert.KernelIdeal.κ "log2_e" .f32 0x3FB8AA3B#32 (((Real.log 2)⁻¹ : ℝ) : EReal)
  ∧ IdealRules.named_const.Statement Cert.KernelIdeal.κ "dead" .f32 0xC3200000#32 ⊥

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_SbProj_SbProjIdeal : Prop :=
  IdealRules.named_const.Statement Cert.SbProjIdeal.κ "q_scale_log2" .f32 0x3E38AA3B#32 (((Real.log 256)⁻¹ : ℝ) : EReal)

def algebraic_SbProjIdeal_SbProjRefIdeal [hSbProjIdeal : Cert.SbProjIdeal.Facts] [hSbProjRefIdeal : Cert.SbProjRefIdeal.Facts] : Prop :=
  ∀ (m : (ℓ : Loc Cert.SbProjIdeal.nD Cert.SbProjIdeal.τ Cert.SbProjIdeal.sig) → Buf (Elt Ideal) ℓ) (g : Dev Cert.SbProjIdeal.nD → PrngReg)
    (m' : (ℓ : Loc Cert.SbProjRefIdeal.nD Cert.SbProjRefIdeal.τ Cert.SbProjRefIdeal.sig) → Buf (Elt Ideal) ℓ) (g' : Dev Cert.SbProjRefIdeal.nD → PrngReg), Pre_SbProjIdeal m →
    (∀ c : Dev Cert.SbProjIdeal.nD,
      m' ((c.tc : Thread Cert.SbProjRefIdeal.nD Cert.SbProjRefIdeal.τ).loc Cert.SbProjRefIdeal.main_arg0) = m ((c.tc : Thread Cert.SbProjIdeal.nD Cert.SbProjIdeal.τ).loc Cert.SbProjIdeal.main_arg0)
      ∧ m' ((c.tc : Thread Cert.SbProjRefIdeal.nD Cert.SbProjRefIdeal.τ).loc Cert.SbProjRefIdeal.main_arg1) = m ((c.tc : Thread Cert.SbProjIdeal.nD Cert.SbProjIdeal.τ).loc Cert.SbProjIdeal.main_arg1)) →
    ∃ (v0 : (c : Dev Cert.SbProjIdeal.nD) → Buf (Elt Ideal) ((c.tc : Thread Cert.SbProjIdeal.nD Cert.SbProjIdeal.τ).loc Cert.SbProjIdeal.main_v2_0)) (v1 : (c : Dev Cert.SbProjIdeal.nD) → Buf (Elt Ideal) ((c.tc : Thread Cert.SbProjIdeal.nD Cert.SbProjIdeal.τ).loc Cert.SbProjIdeal.main_v2_1)) (v2 : (c : Dev Cert.SbProjIdeal.nD) → Buf (Elt Ideal) ((c.tc : Thread Cert.SbProjIdeal.nD Cert.SbProjIdeal.τ).loc Cert.SbProjIdeal.main_v2_2)) (v3 : (c : Dev Cert.SbProjIdeal.nD) → Buf (Elt Ideal) ((c.tc : Thread Cert.SbProjIdeal.nD Cert.SbProjIdeal.τ).loc Cert.SbProjIdeal.main_v2_3)),
      θ_run (Cert.SbProjIdeal.defs (F := Ideal)) (onTc (τ := Cert.SbProjIdeal.τ) (Cert.SbProjIdeal.main (F := Ideal))) ⟨m, fun _ => 0, g⟩ (fun r => ∀ c : Dev Cert.SbProjIdeal.nD,
          r.2.mem ((c.tc : Thread Cert.SbProjIdeal.nD Cert.SbProjIdeal.τ).loc Cert.SbProjIdeal.main_v2_0) = v0 c
          ∧ r.2.mem ((c.tc : Thread Cert.SbProjIdeal.nD Cert.SbProjIdeal.τ).loc Cert.SbProjIdeal.main_v2_1) = v1 c
          ∧ r.2.mem ((c.tc : Thread Cert.SbProjIdeal.nD Cert.SbProjIdeal.τ).loc Cert.SbProjIdeal.main_v2_2) = v2 c
          ∧ r.2.mem ((c.tc : Thread Cert.SbProjIdeal.nD Cert.SbProjIdeal.τ).loc Cert.SbProjIdeal.main_v2_3) = v3 c
          ∧ r.2.mem ((c.tc : Thread Cert.SbProjIdeal.nD Cert.SbProjIdeal.τ).loc Cert.SbProjIdeal.main_arg0) = m ((c.tc : Thread Cert.SbProjIdeal.nD Cert.SbProjIdeal.τ).loc Cert.SbProjIdeal.main_arg0)
          ∧ r.2.mem ((c.tc : Thread Cert.SbProjIdeal.nD Cert.SbProjIdeal.τ).loc Cert.SbProjIdeal.main_arg1) = m ((c.tc : Thread Cert.SbProjIdeal.nD Cert.SbProjIdeal.τ).loc Cert.SbProjIdeal.main_arg1))
      ∧ θ_run (Cert.SbProjRefIdeal.defs (F := Ideal)) (onTc (τ := Cert.SbProjRefIdeal.τ) (Cert.SbProjRefIdeal.main (F := Ideal))) ⟨m', fun _ => 0, g'⟩ (fun r => ∀ c : Dev Cert.SbProjRefIdeal.nD,
          r.2.mem ((c.tc : Thread Cert.SbProjRefIdeal.nD Cert.SbProjRefIdeal.τ).loc Cert.SbProjRefIdeal.main_v11) = v0 c
          ∧ r.2.mem ((c.tc : Thread Cert.SbProjRefIdeal.nD Cert.SbProjRefIdeal.τ).loc Cert.SbProjRefIdeal.main_v13) = v1 c
          ∧ r.2.mem ((c.tc : Thread Cert.SbProjRefIdeal.nD Cert.SbProjRefIdeal.τ).loc Cert.SbProjRefIdeal.main_v15) = v2 c
          ∧ r.2.mem ((c.tc : Thread Cert.SbProjRefIdeal.nD Cert.SbProjRefIdeal.τ).loc Cert.SbProjRefIdeal.main_v16) = v3 c
          ∧ r.2.mem ((c.tc : Thread Cert.SbProjRefIdeal.nD Cert.SbProjRefIdeal.τ).loc Cert.SbProjRefIdeal.main_arg0) = m' ((c.tc : Thread Cert.SbProjRefIdeal.nD Cert.SbProjRefIdeal.τ).loc Cert.SbProjRefIdeal.main_arg0)
          ∧ r.2.mem ((c.tc : Thread Cert.SbProjRefIdeal.nD Cert.SbProjRefIdeal.τ).loc Cert.SbProjRefIdeal.main_arg1) = m' ((c.tc : Thread Cert.SbProjRefIdeal.nD Cert.SbProjRefIdeal.τ).loc Cert.SbProjRefIdeal.main_arg1))

def preserves_OutLn_OutLnIdeal : Prop :=
  True

def algebraic_OutLnIdeal_OutLnRefIdeal [hOutLnIdeal : Cert.OutLnIdeal.Facts] [hOutLnRefIdeal : Cert.OutLnRefIdeal.Facts] : Prop :=
  ∀ (m : (ℓ : Loc Cert.OutLnIdeal.nD Cert.OutLnIdeal.τ Cert.OutLnIdeal.sig) → Buf (Elt Ideal) ℓ) (g : Dev Cert.OutLnIdeal.nD → PrngReg)
    (m' : (ℓ : Loc Cert.OutLnRefIdeal.nD Cert.OutLnRefIdeal.τ Cert.OutLnRefIdeal.sig) → Buf (Elt Ideal) ℓ) (g' : Dev Cert.OutLnRefIdeal.nD → PrngReg), Pre_OutLnIdeal m →
    (∀ c : Dev Cert.OutLnIdeal.nD,
      m' ((c.tc : Thread Cert.OutLnRefIdeal.nD Cert.OutLnRefIdeal.τ).loc Cert.OutLnRefIdeal.main_arg0) = m ((c.tc : Thread Cert.OutLnIdeal.nD Cert.OutLnIdeal.τ).loc Cert.OutLnIdeal.main_arg0)
      ∧ m' ((c.tc : Thread Cert.OutLnRefIdeal.nD Cert.OutLnRefIdeal.τ).loc Cert.OutLnRefIdeal.main_arg1) = m ((c.tc : Thread Cert.OutLnIdeal.nD Cert.OutLnIdeal.τ).loc Cert.OutLnIdeal.main_arg1)
      ∧ m' ((c.tc : Thread Cert.OutLnRefIdeal.nD Cert.OutLnRefIdeal.τ).loc Cert.OutLnRefIdeal.main_arg2) = m ((c.tc : Thread Cert.OutLnIdeal.nD Cert.OutLnIdeal.τ).loc Cert.OutLnIdeal.main_arg2)
      ∧ m' ((c.tc : Thread Cert.OutLnRefIdeal.nD Cert.OutLnRefIdeal.τ).loc Cert.OutLnRefIdeal.main_arg3) = m ((c.tc : Thread Cert.OutLnIdeal.nD Cert.OutLnIdeal.τ).loc Cert.OutLnIdeal.main_arg3)
      ∧ m' ((c.tc : Thread Cert.OutLnRefIdeal.nD Cert.OutLnRefIdeal.τ).loc Cert.OutLnRefIdeal.main_arg4) = m ((c.tc : Thread Cert.OutLnIdeal.nD Cert.OutLnIdeal.τ).loc Cert.OutLnIdeal.main_arg4)
      ∧ m' ((c.tc : Thread Cert.OutLnRefIdeal.nD Cert.OutLnRefIdeal.τ).loc Cert.OutLnRefIdeal.main_arg5) = m ((c.tc : Thread Cert.OutLnIdeal.nD Cert.OutLnIdeal.τ).loc Cert.OutLnIdeal.main_arg5)) →
    ∃ (v0 : (c : Dev Cert.OutLnIdeal.nD) → Buf (Elt Ideal) ((c.tc : Thread Cert.OutLnIdeal.nD Cert.OutLnIdeal.τ).loc Cert.OutLnIdeal.main_v6)),
      θ_run (Cert.OutLnIdeal.defs (F := Ideal)) (onTc (τ := Cert.OutLnIdeal.τ) (Cert.OutLnIdeal.main (F := Ideal))) ⟨m, fun _ => 0, g⟩ (fun r => ∀ c : Dev Cert.OutLnIdeal.nD,
          r.2.mem ((c.tc : Thread Cert.OutLnIdeal.nD Cert.OutLnIdeal.τ).loc Cert.OutLnIdeal.main_v6) = v0 c
          ∧ r.2.mem ((c.tc : Thread Cert.OutLnIdeal.nD Cert.OutLnIdeal.τ).loc Cert.OutLnIdeal.main_arg0) = m ((c.tc : Thread Cert.OutLnIdeal.nD Cert.OutLnIdeal.τ).loc Cert.OutLnIdeal.main_arg0)
          ∧ r.2.mem ((c.tc : Thread Cert.OutLnIdeal.nD Cert.OutLnIdeal.τ).loc Cert.OutLnIdeal.main_arg1) = m ((c.tc : Thread Cert.OutLnIdeal.nD Cert.OutLnIdeal.τ).loc Cert.OutLnIdeal.main_arg1)
          ∧ r.2.mem ((c.tc : Thread Cert.OutLnIdeal.nD Cert.OutLnIdeal.τ).loc Cert.OutLnIdeal.main_arg2) = m ((c.tc : Thread Cert.OutLnIdeal.nD Cert.OutLnIdeal.τ).loc Cert.OutLnIdeal.main_arg2)
          ∧ r.2.mem ((c.tc : Thread Cert.OutLnIdeal.nD Cert.OutLnIdeal.τ).loc Cert.OutLnIdeal.main_arg3) = m ((c.tc : Thread Cert.OutLnIdeal.nD Cert.OutLnIdeal.τ).loc Cert.OutLnIdeal.main_arg3)
          ∧ r.2.mem ((c.tc : Thread Cert.OutLnIdeal.nD Cert.OutLnIdeal.τ).loc Cert.OutLnIdeal.main_arg4) = m ((c.tc : Thread Cert.OutLnIdeal.nD Cert.OutLnIdeal.τ).loc Cert.OutLnIdeal.main_arg4)
          ∧ r.2.mem ((c.tc : Thread Cert.OutLnIdeal.nD Cert.OutLnIdeal.τ).loc Cert.OutLnIdeal.main_arg5) = m ((c.tc : Thread Cert.OutLnIdeal.nD Cert.OutLnIdeal.τ).loc Cert.OutLnIdeal.main_arg5))
      ∧ θ_run (Cert.OutLnRefIdeal.defs (F := Ideal)) (onTc (τ := Cert.OutLnRefIdeal.τ) (Cert.OutLnRefIdeal.main (F := Ideal))) ⟨m', fun _ => 0, g'⟩ (fun r => ∀ c : Dev Cert.OutLnRefIdeal.nD,
          r.2.mem ((c.tc : Thread Cert.OutLnRefIdeal.nD Cert.OutLnRefIdeal.τ).loc Cert.OutLnRefIdeal.main_v30) = v0 c
          ∧ r.2.mem ((c.tc : Thread Cert.OutLnRefIdeal.nD Cert.OutLnRefIdeal.τ).loc Cert.OutLnRefIdeal.main_arg0) = m' ((c.tc : Thread Cert.OutLnRefIdeal.nD Cert.OutLnRefIdeal.τ).loc Cert.OutLnRefIdeal.main_arg0)
          ∧ r.2.mem ((c.tc : Thread Cert.OutLnRefIdeal.nD Cert.OutLnRefIdeal.τ).loc Cert.OutLnRefIdeal.main_arg1) = m' ((c.tc : Thread Cert.OutLnRefIdeal.nD Cert.OutLnRefIdeal.τ).loc Cert.OutLnRefIdeal.main_arg1)
          ∧ r.2.mem ((c.tc : Thread Cert.OutLnRefIdeal.nD Cert.OutLnRefIdeal.τ).loc Cert.OutLnRefIdeal.main_arg2) = m' ((c.tc : Thread Cert.OutLnRefIdeal.nD Cert.OutLnRefIdeal.τ).loc Cert.OutLnRefIdeal.main_arg2)
          ∧ r.2.mem ((c.tc : Thread Cert.OutLnRefIdeal.nD Cert.OutLnRefIdeal.τ).loc Cert.OutLnRefIdeal.main_arg3) = m' ((c.tc : Thread Cert.OutLnRefIdeal.nD Cert.OutLnRefIdeal.τ).loc Cert.OutLnRefIdeal.main_arg3)
          ∧ r.2.mem ((c.tc : Thread Cert.OutLnRefIdeal.nD Cert.OutLnRefIdeal.τ).loc Cert.OutLnRefIdeal.main_arg4) = m' ((c.tc : Thread Cert.OutLnRefIdeal.nD Cert.OutLnRefIdeal.τ).loc Cert.OutLnRefIdeal.main_arg4)
          ∧ r.2.mem ((c.tc : Thread Cert.OutLnRefIdeal.nD Cert.OutLnRefIdeal.τ).loc Cert.OutLnRefIdeal.main_arg5) = m' ((c.tc : Thread Cert.OutLnRefIdeal.nD Cert.OutLnRefIdeal.τ).loc Cert.OutLnRefIdeal.main_arg5))

def preserves_MobaProj_MobaProjIdeal : Prop :=
  IdealRules.named_const.Statement Cert.MobaProjIdeal.κ "q_scale_log2" .f32 0x3E38AA3B#32 (((Real.log 256)⁻¹ : ℝ) : EReal)

def algebraic_MobaProjIdeal_MobaProjRefIdeal [hMobaProjIdeal : Cert.MobaProjIdeal.Facts] [hMobaProjRefIdeal : Cert.MobaProjRefIdeal.Facts] : Prop :=
  ∀ (m : (ℓ : Loc Cert.MobaProjIdeal.nD Cert.MobaProjIdeal.τ Cert.MobaProjIdeal.sig) → Buf (Elt Ideal) ℓ) (g : Dev Cert.MobaProjIdeal.nD → PrngReg)
    (m' : (ℓ : Loc Cert.MobaProjRefIdeal.nD Cert.MobaProjRefIdeal.τ Cert.MobaProjRefIdeal.sig) → Buf (Elt Ideal) ℓ) (g' : Dev Cert.MobaProjRefIdeal.nD → PrngReg), Pre_MobaProjIdeal m →
    (∀ c : Dev Cert.MobaProjIdeal.nD,
      m' ((c.tc : Thread Cert.MobaProjRefIdeal.nD Cert.MobaProjRefIdeal.τ).loc Cert.MobaProjRefIdeal.main_arg0) = m ((c.tc : Thread Cert.MobaProjIdeal.nD Cert.MobaProjIdeal.τ).loc Cert.MobaProjIdeal.main_arg0)
      ∧ m' ((c.tc : Thread Cert.MobaProjRefIdeal.nD Cert.MobaProjRefIdeal.τ).loc Cert.MobaProjRefIdeal.main_arg1) = m ((c.tc : Thread Cert.MobaProjIdeal.nD Cert.MobaProjIdeal.τ).loc Cert.MobaProjIdeal.main_arg1)) →
    ∃ (v0 : (c : Dev Cert.MobaProjIdeal.nD) → Buf (Elt Ideal) ((c.tc : Thread Cert.MobaProjIdeal.nD Cert.MobaProjIdeal.τ).loc Cert.MobaProjIdeal.main_v41_0)) (v1 : (c : Dev Cert.MobaProjIdeal.nD) → Buf (Elt Ideal) ((c.tc : Thread Cert.MobaProjIdeal.nD Cert.MobaProjIdeal.τ).loc Cert.MobaProjIdeal.main_v41_1)) (v2 : (c : Dev Cert.MobaProjIdeal.nD) → Buf (Elt Ideal) ((c.tc : Thread Cert.MobaProjIdeal.nD Cert.MobaProjIdeal.τ).loc Cert.MobaProjIdeal.main_v41_2)) (v3 : (c : Dev Cert.MobaProjIdeal.nD) → Buf (Elt Ideal) ((c.tc : Thread Cert.MobaProjIdeal.nD Cert.MobaProjIdeal.τ).loc Cert.MobaProjIdeal.main_v41_3)) (v4 : (c : Dev Cert.MobaProjIdeal.nD) → Buf (Elt Ideal) ((c.tc : Thread Cert.MobaProjIdeal.nD Cert.MobaProjIdeal.τ).loc Cert.MobaProjIdeal.main_v41_4)),
      θ_run (Cert.MobaProjIdeal.defs (F := Ideal)) (onTc (τ := Cert.MobaProjIdeal.τ) (Cert.MobaProjIdeal.main (F := Ideal))) ⟨m, fun _ => 0, g⟩ (fun r => ∀ c : Dev Cert.MobaProjIdeal.nD,
          r.2.mem ((c.tc : Thread Cert.MobaProjIdeal.nD Cert.MobaProjIdeal.τ).loc Cert.MobaProjIdeal.main_v41_0) = v0 c
          ∧ r.2.mem ((c.tc : Thread Cert.MobaProjIdeal.nD Cert.MobaProjIdeal.τ).loc Cert.MobaProjIdeal.main_v41_1) = v1 c
          ∧ r.2.mem ((c.tc : Thread Cert.MobaProjIdeal.nD Cert.MobaProjIdeal.τ).loc Cert.MobaProjIdeal.main_v41_2) = v2 c
          ∧ r.2.mem ((c.tc : Thread Cert.MobaProjIdeal.nD Cert.MobaProjIdeal.τ).loc Cert.MobaProjIdeal.main_v41_3) = v3 c
          ∧ r.2.mem ((c.tc : Thread Cert.MobaProjIdeal.nD Cert.MobaProjIdeal.τ).loc Cert.MobaProjIdeal.main_v41_4) = v4 c
          ∧ r.2.mem ((c.tc : Thread Cert.MobaProjIdeal.nD Cert.MobaProjIdeal.τ).loc Cert.MobaProjIdeal.main_arg0) = m ((c.tc : Thread Cert.MobaProjIdeal.nD Cert.MobaProjIdeal.τ).loc Cert.MobaProjIdeal.main_arg0)
          ∧ r.2.mem ((c.tc : Thread Cert.MobaProjIdeal.nD Cert.MobaProjIdeal.τ).loc Cert.MobaProjIdeal.main_arg1) = m ((c.tc : Thread Cert.MobaProjIdeal.nD Cert.MobaProjIdeal.τ).loc Cert.MobaProjIdeal.main_arg1))
      ∧ θ_run (Cert.MobaProjRefIdeal.defs (F := Ideal)) (onTc (τ := Cert.MobaProjRefIdeal.τ) (Cert.MobaProjRefIdeal.main (F := Ideal))) ⟨m', fun _ => 0, g'⟩ (fun r => ∀ c : Dev Cert.MobaProjRefIdeal.nD,
          r.2.mem ((c.tc : Thread Cert.MobaProjRefIdeal.nD Cert.MobaProjRefIdeal.τ).loc Cert.MobaProjRefIdeal.main_v73) = v0 c
          ∧ r.2.mem ((c.tc : Thread Cert.MobaProjRefIdeal.nD Cert.MobaProjRefIdeal.τ).loc Cert.MobaProjRefIdeal.main_v75) = v1 c
          ∧ r.2.mem ((c.tc : Thread Cert.MobaProjRefIdeal.nD Cert.MobaProjRefIdeal.τ).loc Cert.MobaProjRefIdeal.main_v77) = v2 c
          ∧ r.2.mem ((c.tc : Thread Cert.MobaProjRefIdeal.nD Cert.MobaProjRefIdeal.τ).loc Cert.MobaProjRefIdeal.main_v78) = v3 c
          ∧ r.2.mem ((c.tc : Thread Cert.MobaProjRefIdeal.nD Cert.MobaProjRefIdeal.τ).loc Cert.MobaProjRefIdeal.main_v79) = v4 c
          ∧ r.2.mem ((c.tc : Thread Cert.MobaProjRefIdeal.nD Cert.MobaProjRefIdeal.τ).loc Cert.MobaProjRefIdeal.main_arg0) = m' ((c.tc : Thread Cert.MobaProjRefIdeal.nD Cert.MobaProjRefIdeal.τ).loc Cert.MobaProjRefIdeal.main_arg0)
          ∧ r.2.mem ((c.tc : Thread Cert.MobaProjRefIdeal.nD Cert.MobaProjRefIdeal.τ).loc Cert.MobaProjRefIdeal.main_arg1) = m' ((c.tc : Thread Cert.MobaProjRefIdeal.nD Cert.MobaProjRefIdeal.τ).loc Cert.MobaProjRefIdeal.main_arg1))

def preserves_SwaProj_SwaProjIdeal : Prop :=
  True

def algebraic_SwaProjIdeal_SwaProjRefIdeal [hSwaProjIdeal : Cert.SwaProjIdeal.Facts] [hSwaProjRefIdeal : Cert.SwaProjRefIdeal.Facts] : Prop :=
  ∀ (m : (ℓ : Loc Cert.SwaProjIdeal.nD Cert.SwaProjIdeal.τ Cert.SwaProjIdeal.sig) → Buf (Elt Ideal) ℓ) (g : Dev Cert.SwaProjIdeal.nD → PrngReg)
    (m' : (ℓ : Loc Cert.SwaProjRefIdeal.nD Cert.SwaProjRefIdeal.τ Cert.SwaProjRefIdeal.sig) → Buf (Elt Ideal) ℓ) (g' : Dev Cert.SwaProjRefIdeal.nD → PrngReg), Pre_SwaProjIdeal m →
    (∀ c : Dev Cert.SwaProjIdeal.nD,
      m' ((c.tc : Thread Cert.SwaProjRefIdeal.nD Cert.SwaProjRefIdeal.τ).loc Cert.SwaProjRefIdeal.main_arg0) = m ((c.tc : Thread Cert.SwaProjIdeal.nD Cert.SwaProjIdeal.τ).loc Cert.SwaProjIdeal.main_arg0)
      ∧ m' ((c.tc : Thread Cert.SwaProjRefIdeal.nD Cert.SwaProjRefIdeal.τ).loc Cert.SwaProjRefIdeal.main_arg1) = m ((c.tc : Thread Cert.SwaProjIdeal.nD Cert.SwaProjIdeal.τ).loc Cert.SwaProjIdeal.main_arg1)) →
    ∃ (v0 : (c : Dev Cert.SwaProjIdeal.nD) → Buf (Elt Ideal) ((c.tc : Thread Cert.SwaProjIdeal.nD Cert.SwaProjIdeal.τ).loc Cert.SwaProjIdeal.main_v41_0)) (v1 : (c : Dev Cert.SwaProjIdeal.nD) → Buf (Elt Ideal) ((c.tc : Thread Cert.SwaProjIdeal.nD Cert.SwaProjIdeal.τ).loc Cert.SwaProjIdeal.main_v41_1)) (v2 : (c : Dev Cert.SwaProjIdeal.nD) → Buf (Elt Ideal) ((c.tc : Thread Cert.SwaProjIdeal.nD Cert.SwaProjIdeal.τ).loc Cert.SwaProjIdeal.main_v41_2)) (v3 : (c : Dev Cert.SwaProjIdeal.nD) → Buf (Elt Ideal) ((c.tc : Thread Cert.SwaProjIdeal.nD Cert.SwaProjIdeal.τ).loc Cert.SwaProjIdeal.main_v41_3)),
      θ_run (Cert.SwaProjIdeal.defs (F := Ideal)) (onTc (τ := Cert.SwaProjIdeal.τ) (Cert.SwaProjIdeal.main (F := Ideal))) ⟨m, fun _ => 0, g⟩ (fun r => ∀ c : Dev Cert.SwaProjIdeal.nD,
          r.2.mem ((c.tc : Thread Cert.SwaProjIdeal.nD Cert.SwaProjIdeal.τ).loc Cert.SwaProjIdeal.main_v41_0) = v0 c
          ∧ r.2.mem ((c.tc : Thread Cert.SwaProjIdeal.nD Cert.SwaProjIdeal.τ).loc Cert.SwaProjIdeal.main_v41_1) = v1 c
          ∧ r.2.mem ((c.tc : Thread Cert.SwaProjIdeal.nD Cert.SwaProjIdeal.τ).loc Cert.SwaProjIdeal.main_v41_2) = v2 c
          ∧ r.2.mem ((c.tc : Thread Cert.SwaProjIdeal.nD Cert.SwaProjIdeal.τ).loc Cert.SwaProjIdeal.main_v41_3) = v3 c
          ∧ r.2.mem ((c.tc : Thread Cert.SwaProjIdeal.nD Cert.SwaProjIdeal.τ).loc Cert.SwaProjIdeal.main_arg0) = m ((c.tc : Thread Cert.SwaProjIdeal.nD Cert.SwaProjIdeal.τ).loc Cert.SwaProjIdeal.main_arg0)
          ∧ r.2.mem ((c.tc : Thread Cert.SwaProjIdeal.nD Cert.SwaProjIdeal.τ).loc Cert.SwaProjIdeal.main_arg1) = m ((c.tc : Thread Cert.SwaProjIdeal.nD Cert.SwaProjIdeal.τ).loc Cert.SwaProjIdeal.main_arg1))
      ∧ θ_run (Cert.SwaProjRefIdeal.defs (F := Ideal)) (onTc (τ := Cert.SwaProjRefIdeal.τ) (Cert.SwaProjRefIdeal.main (F := Ideal))) ⟨m', fun _ => 0, g'⟩ (fun r => ∀ c : Dev Cert.SwaProjRefIdeal.nD,
          r.2.mem ((c.tc : Thread Cert.SwaProjRefIdeal.nD Cert.SwaProjRefIdeal.τ).loc Cert.SwaProjRefIdeal.main_v66) = v0 c
          ∧ r.2.mem ((c.tc : Thread Cert.SwaProjRefIdeal.nD Cert.SwaProjRefIdeal.τ).loc Cert.SwaProjRefIdeal.main_v68) = v1 c
          ∧ r.2.mem ((c.tc : Thread Cert.SwaProjRefIdeal.nD Cert.SwaProjRefIdeal.τ).loc Cert.SwaProjRefIdeal.main_v70) = v2 c
          ∧ r.2.mem ((c.tc : Thread Cert.SwaProjRefIdeal.nD Cert.SwaProjRefIdeal.τ).loc Cert.SwaProjRefIdeal.main_v71) = v3 c
          ∧ r.2.mem ((c.tc : Thread Cert.SwaProjRefIdeal.nD Cert.SwaProjRefIdeal.τ).loc Cert.SwaProjRefIdeal.main_arg0) = m' ((c.tc : Thread Cert.SwaProjRefIdeal.nD Cert.SwaProjRefIdeal.τ).loc Cert.SwaProjRefIdeal.main_arg0)
          ∧ r.2.mem ((c.tc : Thread Cert.SwaProjRefIdeal.nD Cert.SwaProjRefIdeal.τ).loc Cert.SwaProjRefIdeal.main_arg1) = m' ((c.tc : Thread Cert.SwaProjRefIdeal.nD Cert.SwaProjRefIdeal.τ).loc Cert.SwaProjRefIdeal.main_arg1))

def preserves_DilOut_DilOutIdeal : Prop :=
  True

def algebraic_DilOutIdeal_DilOutRefIdeal [hDilOutIdeal : Cert.DilOutIdeal.Facts] [hDilOutRefIdeal : Cert.DilOutRefIdeal.Facts] : Prop :=
  ∀ (m : (ℓ : Loc Cert.DilOutIdeal.nD Cert.DilOutIdeal.τ Cert.DilOutIdeal.sig) → Buf (Elt Ideal) ℓ) (g : Dev Cert.DilOutIdeal.nD → PrngReg)
    (m' : (ℓ : Loc Cert.DilOutRefIdeal.nD Cert.DilOutRefIdeal.τ Cert.DilOutRefIdeal.sig) → Buf (Elt Ideal) ℓ) (g' : Dev Cert.DilOutRefIdeal.nD → PrngReg), Pre_DilOutIdeal m →
    (∀ c : Dev Cert.DilOutIdeal.nD,
      m' ((c.tc : Thread Cert.DilOutRefIdeal.nD Cert.DilOutRefIdeal.τ).loc Cert.DilOutRefIdeal.main_arg0) = m ((c.tc : Thread Cert.DilOutIdeal.nD Cert.DilOutIdeal.τ).loc Cert.DilOutIdeal.main_arg0)
      ∧ m' ((c.tc : Thread Cert.DilOutRefIdeal.nD Cert.DilOutRefIdeal.τ).loc Cert.DilOutRefIdeal.main_arg1) = m ((c.tc : Thread Cert.DilOutIdeal.nD Cert.DilOutIdeal.τ).loc Cert.DilOutIdeal.main_arg1)
      ∧ m' ((c.tc : Thread Cert.DilOutRefIdeal.nD Cert.DilOutRefIdeal.τ).loc Cert.DilOutRefIdeal.main_arg2) = m ((c.tc : Thread Cert.DilOutIdeal.nD Cert.DilOutIdeal.τ).loc Cert.DilOutIdeal.main_arg2)
      ∧ m' ((c.tc : Thread Cert.DilOutRefIdeal.nD Cert.DilOutRefIdeal.τ).loc Cert.DilOutRefIdeal.main_arg3) = m ((c.tc : Thread Cert.DilOutIdeal.nD Cert.DilOutIdeal.τ).loc Cert.DilOutIdeal.main_arg3)
      ∧ m' ((c.tc : Thread Cert.DilOutRefIdeal.nD Cert.DilOutRefIdeal.τ).loc Cert.DilOutRefIdeal.main_arg4) = m ((c.tc : Thread Cert.DilOutIdeal.nD Cert.DilOutIdeal.τ).loc Cert.DilOutIdeal.main_arg4)
      ∧ m' ((c.tc : Thread Cert.DilOutRefIdeal.nD Cert.DilOutRefIdeal.τ).loc Cert.DilOutRefIdeal.main_arg5) = m ((c.tc : Thread Cert.DilOutIdeal.nD Cert.DilOutIdeal.τ).loc Cert.DilOutIdeal.main_arg5)
      ∧ m' ((c.tc : Thread Cert.DilOutRefIdeal.nD Cert.DilOutRefIdeal.τ).loc Cert.DilOutRefIdeal.main_arg6) = m ((c.tc : Thread Cert.DilOutIdeal.nD Cert.DilOutIdeal.τ).loc Cert.DilOutIdeal.main_arg6)
      ∧ m' ((c.tc : Thread Cert.DilOutRefIdeal.nD Cert.DilOutRefIdeal.τ).loc Cert.DilOutRefIdeal.main_arg7) = m ((c.tc : Thread Cert.DilOutIdeal.nD Cert.DilOutIdeal.τ).loc Cert.DilOutIdeal.main_arg7)
      ∧ m' ((c.tc : Thread Cert.DilOutRefIdeal.nD Cert.DilOutRefIdeal.τ).loc Cert.DilOutRefIdeal.main_arg8) = m ((c.tc : Thread Cert.DilOutIdeal.nD Cert.DilOutIdeal.τ).loc Cert.DilOutIdeal.main_arg8)
      ∧ m' ((c.tc : Thread Cert.DilOutRefIdeal.nD Cert.DilOutRefIdeal.τ).loc Cert.DilOutRefIdeal.main_arg9) = m ((c.tc : Thread Cert.DilOutIdeal.nD Cert.DilOutIdeal.τ).loc Cert.DilOutIdeal.main_arg9)
      ∧ m' ((c.tc : Thread Cert.DilOutRefIdeal.nD Cert.DilOutRefIdeal.τ).loc Cert.DilOutRefIdeal.main_arg10) = m ((c.tc : Thread Cert.DilOutIdeal.nD Cert.DilOutIdeal.τ).loc Cert.DilOutIdeal.main_arg10)) →
    ∃ (v0 : (c : Dev Cert.DilOutIdeal.nD) → Buf (Elt Ideal) ((c.tc : Thread Cert.DilOutIdeal.nD Cert.DilOutIdeal.τ).loc Cert.DilOutIdeal.main_v22)),
      θ_run (Cert.DilOutIdeal.defs (F := Ideal)) (onTc (τ := Cert.DilOutIdeal.τ) (Cert.DilOutIdeal.main (F := Ideal))) ⟨m, fun _ => 0, g⟩ (fun r => ∀ c : Dev Cert.DilOutIdeal.nD,
          r.2.mem ((c.tc : Thread Cert.DilOutIdeal.nD Cert.DilOutIdeal.τ).loc Cert.DilOutIdeal.main_v22) = v0 c
          ∧ r.2.mem ((c.tc : Thread Cert.DilOutIdeal.nD Cert.DilOutIdeal.τ).loc Cert.DilOutIdeal.main_arg0) = m ((c.tc : Thread Cert.DilOutIdeal.nD Cert.DilOutIdeal.τ).loc Cert.DilOutIdeal.main_arg0)
          ∧ r.2.mem ((c.tc : Thread Cert.DilOutIdeal.nD Cert.DilOutIdeal.τ).loc Cert.DilOutIdeal.main_arg1) = m ((c.tc : Thread Cert.DilOutIdeal.nD Cert.DilOutIdeal.τ).loc Cert.DilOutIdeal.main_arg1)
          ∧ r.2.mem ((c.tc : Thread Cert.DilOutIdeal.nD Cert.DilOutIdeal.τ).loc Cert.DilOutIdeal.main_arg2) = m ((c.tc : Thread Cert.DilOutIdeal.nD Cert.DilOutIdeal.τ).loc Cert.DilOutIdeal.main_arg2)
          ∧ r.2.mem ((c.tc : Thread Cert.DilOutIdeal.nD Cert.DilOutIdeal.τ).loc Cert.DilOutIdeal.main_arg3) = m ((c.tc : Thread Cert.DilOutIdeal.nD Cert.DilOutIdeal.τ).loc Cert.DilOutIdeal.main_arg3)
          ∧ r.2.mem ((c.tc : Thread Cert.DilOutIdeal.nD Cert.DilOutIdeal.τ).loc Cert.DilOutIdeal.main_arg4) = m ((c.tc : Thread Cert.DilOutIdeal.nD Cert.DilOutIdeal.τ).loc Cert.DilOutIdeal.main_arg4)
          ∧ r.2.mem ((c.tc : Thread Cert.DilOutIdeal.nD Cert.DilOutIdeal.τ).loc Cert.DilOutIdeal.main_arg5) = m ((c.tc : Thread Cert.DilOutIdeal.nD Cert.DilOutIdeal.τ).loc Cert.DilOutIdeal.main_arg5)
          ∧ r.2.mem ((c.tc : Thread Cert.DilOutIdeal.nD Cert.DilOutIdeal.τ).loc Cert.DilOutIdeal.main_arg6) = m ((c.tc : Thread Cert.DilOutIdeal.nD Cert.DilOutIdeal.τ).loc Cert.DilOutIdeal.main_arg6)
          ∧ r.2.mem ((c.tc : Thread Cert.DilOutIdeal.nD Cert.DilOutIdeal.τ).loc Cert.DilOutIdeal.main_arg7) = m ((c.tc : Thread Cert.DilOutIdeal.nD Cert.DilOutIdeal.τ).loc Cert.DilOutIdeal.main_arg7)
          ∧ r.2.mem ((c.tc : Thread Cert.DilOutIdeal.nD Cert.DilOutIdeal.τ).loc Cert.DilOutIdeal.main_arg8) = m ((c.tc : Thread Cert.DilOutIdeal.nD Cert.DilOutIdeal.τ).loc Cert.DilOutIdeal.main_arg8)
          ∧ r.2.mem ((c.tc : Thread Cert.DilOutIdeal.nD Cert.DilOutIdeal.τ).loc Cert.DilOutIdeal.main_arg9) = m ((c.tc : Thread Cert.DilOutIdeal.nD Cert.DilOutIdeal.τ).loc Cert.DilOutIdeal.main_arg9)
          ∧ r.2.mem ((c.tc : Thread Cert.DilOutIdeal.nD Cert.DilOutIdeal.τ).loc Cert.DilOutIdeal.main_arg10) = m ((c.tc : Thread Cert.DilOutIdeal.nD Cert.DilOutIdeal.τ).loc Cert.DilOutIdeal.main_arg10))
      ∧ θ_run (Cert.DilOutRefIdeal.defs (F := Ideal)) (onTc (τ := Cert.DilOutRefIdeal.τ) (Cert.DilOutRefIdeal.main (F := Ideal))) ⟨m', fun _ => 0, g'⟩ (fun r => ∀ c : Dev Cert.DilOutRefIdeal.nD,
          r.2.mem ((c.tc : Thread Cert.DilOutRefIdeal.nD Cert.DilOutRefIdeal.τ).loc Cert.DilOutRefIdeal.main_v54) = v0 c
          ∧ r.2.mem ((c.tc : Thread Cert.DilOutRefIdeal.nD Cert.DilOutRefIdeal.τ).loc Cert.DilOutRefIdeal.main_arg0) = m' ((c.tc : Thread Cert.DilOutRefIdeal.nD Cert.DilOutRefIdeal.τ).loc Cert.DilOutRefIdeal.main_arg0)
          ∧ r.2.mem ((c.tc : Thread Cert.DilOutRefIdeal.nD Cert.DilOutRefIdeal.τ).loc Cert.DilOutRefIdeal.main_arg1) = m' ((c.tc : Thread Cert.DilOutRefIdeal.nD Cert.DilOutRefIdeal.τ).loc Cert.DilOutRefIdeal.main_arg1)
          ∧ r.2.mem ((c.tc : Thread Cert.DilOutRefIdeal.nD Cert.DilOutRefIdeal.τ).loc Cert.DilOutRefIdeal.main_arg2) = m' ((c.tc : Thread Cert.DilOutRefIdeal.nD Cert.DilOutRefIdeal.τ).loc Cert.DilOutRefIdeal.main_arg2)
          ∧ r.2.mem ((c.tc : Thread Cert.DilOutRefIdeal.nD Cert.DilOutRefIdeal.τ).loc Cert.DilOutRefIdeal.main_arg3) = m' ((c.tc : Thread Cert.DilOutRefIdeal.nD Cert.DilOutRefIdeal.τ).loc Cert.DilOutRefIdeal.main_arg3)
          ∧ r.2.mem ((c.tc : Thread Cert.DilOutRefIdeal.nD Cert.DilOutRefIdeal.τ).loc Cert.DilOutRefIdeal.main_arg4) = m' ((c.tc : Thread Cert.DilOutRefIdeal.nD Cert.DilOutRefIdeal.τ).loc Cert.DilOutRefIdeal.main_arg4)
          ∧ r.2.mem ((c.tc : Thread Cert.DilOutRefIdeal.nD Cert.DilOutRefIdeal.τ).loc Cert.DilOutRefIdeal.main_arg5) = m' ((c.tc : Thread Cert.DilOutRefIdeal.nD Cert.DilOutRefIdeal.τ).loc Cert.DilOutRefIdeal.main_arg5)
          ∧ r.2.mem ((c.tc : Thread Cert.DilOutRefIdeal.nD Cert.DilOutRefIdeal.τ).loc Cert.DilOutRefIdeal.main_arg6) = m' ((c.tc : Thread Cert.DilOutRefIdeal.nD Cert.DilOutRefIdeal.τ).loc Cert.DilOutRefIdeal.main_arg6)
          ∧ r.2.mem ((c.tc : Thread Cert.DilOutRefIdeal.nD Cert.DilOutRefIdeal.τ).loc Cert.DilOutRefIdeal.main_arg7) = m' ((c.tc : Thread Cert.DilOutRefIdeal.nD Cert.DilOutRefIdeal.τ).loc Cert.DilOutRefIdeal.main_arg7)
          ∧ r.2.mem ((c.tc : Thread Cert.DilOutRefIdeal.nD Cert.DilOutRefIdeal.τ).loc Cert.DilOutRefIdeal.main_arg8) = m' ((c.tc : Thread Cert.DilOutRefIdeal.nD Cert.DilOutRefIdeal.τ).loc Cert.DilOutRefIdeal.main_arg8)
          ∧ r.2.mem ((c.tc : Thread Cert.DilOutRefIdeal.nD Cert.DilOutRefIdeal.τ).loc Cert.DilOutRefIdeal.main_arg9) = m' ((c.tc : Thread Cert.DilOutRefIdeal.nD Cert.DilOutRefIdeal.τ).loc Cert.DilOutRefIdeal.main_arg9)
          ∧ r.2.mem ((c.tc : Thread Cert.DilOutRefIdeal.nD Cert.DilOutRefIdeal.τ).loc Cert.DilOutRefIdeal.main_arg10) = m' ((c.tc : Thread Cert.DilOutRefIdeal.nD Cert.DilOutRefIdeal.τ).loc Cert.DilOutRefIdeal.main_arg10))

def Claim : Prop :=
  ∃ (hKernel : Cert.Kernel.Facts) (hKernelIdeal : Cert.KernelIdeal.Facts) (hReferenceIdeal : Cert.ReferenceIdeal.Facts) (hSbProj : Cert.SbProj.Facts) (hSbProjIdeal : Cert.SbProjIdeal.Facts) (hSbProjRefIdeal : Cert.SbProjRefIdeal.Facts) (hOutLn : Cert.OutLn.Facts) (hOutLnIdeal : Cert.OutLnIdeal.Facts) (hOutLnRefIdeal : Cert.OutLnRefIdeal.Facts) (hMobaProj : Cert.MobaProj.Facts) (hMobaProjIdeal : Cert.MobaProjIdeal.Facts) (hMobaProjRefIdeal : Cert.MobaProjRefIdeal.Facts) (hSwaProj : Cert.SwaProj.Facts) (hSwaProjIdeal : Cert.SwaProjIdeal.Facts) (hSwaProjRefIdeal : Cert.SwaProjRefIdeal.Facts) (hDilOut : Cert.DilOut.Facts) (hDilOutIdeal : Cert.DilOutIdeal.Facts) (hDilOutRefIdeal : Cert.DilOutRefIdeal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_SbProj (hSbProj := hSbProj)
    ∧ quiescent_SbProjIdeal (hSbProjIdeal := hSbProjIdeal)
    ∧ quiescent_SbProjRefIdeal (hSbProjRefIdeal := hSbProjRefIdeal)
    ∧ quiescent_OutLn (hOutLn := hOutLn)
    ∧ quiescent_OutLnIdeal (hOutLnIdeal := hOutLnIdeal)
    ∧ quiescent_OutLnRefIdeal (hOutLnRefIdeal := hOutLnRefIdeal)
    ∧ quiescent_MobaProj (hMobaProj := hMobaProj)
    ∧ quiescent_MobaProjIdeal (hMobaProjIdeal := hMobaProjIdeal)
    ∧ quiescent_MobaProjRefIdeal (hMobaProjRefIdeal := hMobaProjRefIdeal)
    ∧ quiescent_SwaProj (hSwaProj := hSwaProj)
    ∧ quiescent_SwaProjIdeal (hSwaProjIdeal := hSwaProjIdeal)
    ∧ quiescent_SwaProjRefIdeal (hSwaProjRefIdeal := hSwaProjRefIdeal)
    ∧ quiescent_DilOut (hDilOut := hDilOut)
    ∧ quiescent_DilOutIdeal (hDilOutIdeal := hDilOutIdeal)
    ∧ quiescent_DilOutRefIdeal (hDilOutRefIdeal := hDilOutRefIdeal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_SbProj_SbProjIdeal
    ∧ algebraic_SbProjIdeal_SbProjRefIdeal (hSbProjIdeal := hSbProjIdeal) (hSbProjRefIdeal := hSbProjRefIdeal)
    ∧ preserves_OutLn_OutLnIdeal
    ∧ algebraic_OutLnIdeal_OutLnRefIdeal (hOutLnIdeal := hOutLnIdeal) (hOutLnRefIdeal := hOutLnRefIdeal)
    ∧ preserves_MobaProj_MobaProjIdeal
    ∧ algebraic_MobaProjIdeal_MobaProjRefIdeal (hMobaProjIdeal := hMobaProjIdeal) (hMobaProjRefIdeal := hMobaProjRefIdeal)
    ∧ preserves_SwaProj_SwaProjIdeal
    ∧ algebraic_SwaProjIdeal_SwaProjRefIdeal (hSwaProjIdeal := hSwaProjIdeal) (hSwaProjRefIdeal := hSwaProjRefIdeal)
    ∧ preserves_DilOut_DilOutIdeal
    ∧ algebraic_DilOutIdeal_DilOutRefIdeal (hDilOutIdeal := hDilOutIdeal) (hDilOutRefIdeal := hDilOutRefIdeal)
-- ==== Pre_finite_qk.lean ====
abbrev S4x8192x1024 : Shape := ⟨3, ![4, 8192, 1024]⟩
abbrev S_ : Shape := ⟨0, ![]⟩

class Facts : Prop where
  bcast_S_S4x8192x1024 : S_.BroadcastsInDim S4x8192x1024 (![] : Fin 0 → Fin S4x8192x1024.rank)

variable [Facts]

def fn {F : FTy → Type} [FloatOps F] (main_arg0 : FVec F S4x8192x1024 .f32) (main_arg1 : FVec F S4x8192x1024 .f32) (main_arg2 : FVec F S4x8192x1024 .f32) : IVec S4x8192x1024 1 × IVec S4x8192x1024 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_v3 : FVec F S4x8192x1024 .f32 := Host.absf main_arg1
  let main_cst_0 : FVec F S_ .f32 := constant S_ .f32 0x7F800000#32
  let main_v4 : FVec F S4x8192x1024 .f32 := broadcastInDim S4x8192x1024 ![] bcast_S_S4x8192x1024 main_cst_0
  let main_v5 : IVec S4x8192x1024 1 := cmpf .olt main_v3 main_v4
  (main_v2, main_v5)
-- ==== Kernel.lean ====
abbrev S4x8192x1024 : Shape := ⟨3, ![4, 8192, 1024]⟩
abbrev S_ : Shape := ⟨0, ![]⟩
abbrev S1x512x128 : Shape := ⟨3, ![1, 512, 128]⟩
abbrev S1x8192x128 : Shape := ⟨3, ![1, 8192, 128]⟩
abbrev S2x512x1024 : Shape := ⟨3, ![2, 512, 1024]⟩
abbrev S128x512 : Shape := ⟨2, ![128, 512]⟩
abbrev S512x128 : Shape := ⟨2, ![512, 128]⟩
abbrev S128x1024 : Shape := ⟨2, ![128, 1024]⟩
abbrev S264x256 : Shape := ⟨2, ![264, 256]⟩
abbrev S512x1024 : Shape := ⟨2, ![512, 1024]⟩
abbrev S256x1024 : Shape := ⟨2, ![256, 1024]⟩
abbrev S264x1024 : Shape := ⟨2, ![264, 1024]⟩
abbrev S1x256x1024 : Shape := ⟨3, ![1, 256, 1024]⟩
abbrev S1x1024 : Shape := ⟨2, ![1, 1024]⟩
abbrev S1x1x1024 : Shape := ⟨3, ![1, 1, 1024]⟩
abbrev S1 : Shape := ⟨1, ![1]⟩
abbrev S1x1x1 : Shape := ⟨3, ![1, 1, 1]⟩

abbrev nBuf : Space → Nat
  | .hbm => 13
  | .vmem => 9
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S4x8192x1024, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S4x8192x1024, .f32⟩
  | .hbm, ⟨8, _⟩ => ⟨S4x8192x1024, .f32⟩
  | .hbm, ⟨9, _⟩ => ⟨S4x8192x1024, .bf16⟩
  | .hbm, ⟨10, _⟩ => ⟨S4x8192x1024, .bf16⟩
  | .hbm, ⟨11, _⟩ => ⟨S4x8192x1024, .bf16⟩
  | .hbm, ⟨12, _⟩ => ⟨S4x8192x1024, .f32⟩
  | .local _ .vmem, ⟨0, _⟩ => ⟨S1x512x128, .bf16⟩
  | .local _ .vmem, ⟨1, _⟩ => ⟨S1x512x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x512x128, .f32⟩
  | .local _ .vmem, ⟨7, _⟩ => ⟨S1x512x128, .f32⟩
  | .local _ .vmem, ⟨8, _⟩ => ⟨S2x512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 16], ![false, false, false]⟩

def k0_mult1 (i : grid0.Coords) : BitVec 32 :=
  let arg2 : BitVec 32 := BitVec.ofNat 32 (i 2).val
  let c512_i32 : BitVec 32 := 512#32
  let v34 : BitVec 32 := Scalar.muli arg2 c512_i32
  v34
def k0_off1 (i : grid0.Coords) : Fin 3 → Nat :=
  let c0_8 : Index := 0#32
  let arg2 : BitVec 32 := BitVec.ofNat 32 (i 2).val
  let c512_i32 : BitVec 32 := 512#32
  let v34 : BitVec 32 := Scalar.muli arg2 c512_i32
  let v35 : BitVec 32 := v34
  let v36 : Index := Scalar.indexCast v35
  let c0_9 : Index := 0#32
  ![0, v36.toNat, 0]
def k0_off2 (i : grid0.Coords) : Fin 3 → Nat :=
  let arg2 : BitVec 32 := BitVec.ofNat 32 (i 2).val
  let c2_i32 : BitVec 32 := 2#32
  let c0_i32 : BitVec 32 := 0#32
  let v24 : BitVec 1 := Scalar.cmpi .eq c2_i32 c0_i32
  let c1_i32 : BitVec 32 := 1#32
  let v25 : BitVec 32 := Scalar.select v24 c1_i32 c2_i32
  let v26 : BitVec 32 := Scalar.remsi arg2 v25
  let c0_i32_6 : BitVec 32 := 0#32
  let v28 : BitVec 1 := Scalar.cmpi .slt v26 c0_i32_6
  let c0_i32_7 : BitVec 32 := 0#32
  let v29 : BitVec 1 := Scalar.cmpi .slt v25 c0_i32_7
  let v30 : BitVec 1 := Scalar.xori v28 v29
  let c0_i32_5 : BitVec 32 := 0#32
  let v27 : BitVec 1 := Scalar.cmpi .ne v26 c0_i32_5
  let v31 : BitVec 1 := Scalar.andi v30 v27
  let v32 : BitVec 32 := Scalar.addi v26 v25
  let v33 : BitVec 32 := Scalar.select v31 v32 v26
  let v68 : Index := Scalar.indexCast v33
  let c0_18 : Index := 0#32
  let c0_19 : Index := 0#32
  ![v68.toNat, 0, 0]
def k0_off3 (i : grid0.Coords) : Fin 3 → Nat :=
  let arg2 : BitVec 32 := BitVec.ofNat 32 (i 2).val
  let c2_i32 : BitVec 32 := 2#32
  let c0_i32 : BitVec 32 := 0#32
  let v24 : BitVec 1 := Scalar.cmpi .eq c2_i32 c0_i32
  let c1_i32 : BitVec 32 := 1#32
  let v25 : BitVec 32 := Scalar.select v24 c1_i32 c2_i32
  let v26 : BitVec 32 := Scalar.remsi arg2 v25
  let c0_i32_6 : BitVec 32 := 0#32
  let v28 : BitVec 1 := Scalar.cmpi .slt v26 c0_i32_6
  let c0_i32_7 : BitVec 32 := 0#32
  let v29 : BitVec 1 := Scalar.cmpi .slt v25 c0_i32_7
  let v30 : BitVec 1 := Scalar.xori v28 v29
  let c0_i32_5 : BitVec 32 := 0#32
  let v27 : BitVec 1 := Scalar.cmpi .ne v26 c0_i32_5
  let v31 : BitVec 1 := Scalar.andi v30 v27
  let v32 : BitVec 32 := Scalar.addi v26 v25
  let v33 : BitVec 32 := Scalar.select v31 v32 v26
  let v78 : Index := Scalar.indexCast v33
  let c256 : Index := 256#32
  let c0_21 : Index := 0#32
  ![v78.toNat, 256, 0]
@[reducible] def k0_t1_loop (i : grid0.Coords) : Scf.Loop 32 :=
  let c0_i32_31 : BitVec 32 := 0#32
  let arg2 : BitVec 32 := BitVec.ofNat 32 (i 2).val
  let c2_i32 : BitVec 32 := 2#32
  let c0_i32 : BitVec 32 := 0#32
  let v24 : BitVec 1 := Scalar.cmpi .eq c2_i32 c0_i32
  let c1_i32 : BitVec 32 := 1#32
  let v25 : BitVec 32 := Scalar.select v24 c1_i32 c2_i32
  let v26 : BitVec 32 := Scalar.remsi arg2 v25
  let c0_i32_6 : BitVec 32 := 0#32
  let v28 : BitVec 1 := Scalar.cmpi .slt v26 c0_i32_6
  let c0_i32_7 : BitVec 32 := 0#32
  let v29 : BitVec 1 := Scalar.cmpi .slt v25 c0_i32_7
  let v30 : BitVec 1 := Scalar.xori v28 v29
  let c0_i32_5 : BitVec 32 := 0#32
  let v27 : BitVec 1 := Scalar.cmpi .ne v26 c0_i32_5
  let v31 : BitVec 1 := Scalar.andi v30 v27
  let v32 : BitVec 32 := Scalar.addi v26 v25
  let v33 : BitVec 32 := Scalar.select v31 v32 v26
  let v103 : BitVec 32 := Scalar.subi v33 c0_i32_31
  let c1_i32_32 : BitVec 32 := 1#32
  let v105 : BitVec 32 := Scalar.divsi v103 c1_i32_32
  let v106 : BitVec 32 := Scalar.muli v105 c1_i32_32
  let v107 : BitVec 32 := Scalar.addi c0_i32_31 v106
  let c1_i32_33 : BitVec 32 := 1#32
  ⟨c0_i32_31, v107, c1_i32_33⟩
def k0_mult2 (i : grid0.Coords) : BitVec 32 :=
  let arg2 : BitVec 32 := BitVec.ofNat 32 (i 2).val
  let c512_i32_44 : BitVec 32 := 512#32
  let v130 : BitVec 32 := Scalar.muli arg2 c512_i32_44
  v130
def k0_off4 (i : grid0.Coords) : Fin 3 → Nat :=
  let c0_50 : Index := 0#32
  let arg2 : BitVec 32 := BitVec.ofNat 32 (i 2).val
  let c512_i32_44 : BitVec 32 := 512#32
  let v130 : BitVec 32 := Scalar.muli arg2 c512_i32_44
  let v131 : BitVec 32 := v130
  let v147 : Index := Scalar.indexCast v131
  let c0_51 : Index := 0#32
  ![0, v147.toNat, 0]
def k0_mult3 (i : grid0.Coords) : BitVec 32 :=
  let arg2 : BitVec 32 := BitVec.ofNat 32 (i 2).val
  let c1_i32_53 : BitVec 32 := 1#32
  let v155 : BitVec 32 := Scalar.subi arg2 c1_i32_53
  let c512_i32_54 : BitVec 32 := 512#32
  let v156 : BitVec 32 := Scalar.muli v155 c512_i32_54
  v156
def k0_off5 (i : grid0.Coords) : Fin 3 → Nat :=
  let c0_55 : Index := 0#32
  let arg2 : BitVec 32 := BitVec.ofNat 32 (i 2).val
  let c1_i32_53 : BitVec 32 := 1#32
  let v155 : BitVec 32 := Scalar.subi arg2 c1_i32_53
  let c512_i32_54 : BitVec 32 := 512#32
  let v156 : BitVec 32 := Scalar.muli v155 c512_i32_54
  let v157 : BitVec 32 := v156
  let v158 : Index := Scalar.indexCast v157
  let c0_56 : Index := 0#32
  ![0, v158.toNat, 0]
@[reducible] def k0_t2_loop (i : grid0.Coords) : Scf.Loop 32 :=
  let c0_i32_31 : BitVec 32 := 0#32
  let arg2 : BitVec 32 := BitVec.ofNat 32 (i 2).val
  let c2_i32 : BitVec 32 := 2#32
  let c0_i32 : BitVec 32 := 0#32
  let v24 : BitVec 1 := Scalar.cmpi .eq c2_i32 c0_i32
  let c1_i32 : BitVec 32 := 1#32
  let v25 : BitVec 32 := Scalar.select v24 c1_i32 c2_i32
  let v26 : BitVec 32 := Scalar.remsi arg2 v25
  let c0_i32_6 : BitVec 32 := 0#32
  let v28 : BitVec 1 := Scalar.cmpi .slt v26 c0_i32_6
  let c0_i32_7 : BitVec 32 := 0#32
  let v29 : BitVec 1 := Scalar.cmpi .slt v25 c0_i32_7
  let v30 : BitVec 1 := Scalar.xori v28 v29
  let c0_i32_5 : BitVec 32 := 0#32
  let v27 : BitVec 1 := Scalar.cmpi .ne v26 c0_i32_5
  let v31 : BitVec 1 := Scalar.andi v30 v27
  let v32 : BitVec 32 := Scalar.addi v26 v25
  let v33 : BitVec 32 := Scalar.select v31 v32 v26
  let v103 : BitVec 32 := Scalar.subi v33 c0_i32_31
  let c1_i32_32 : BitVec 32 := 1#32
  let v105 : BitVec 32 := Scalar.divsi v103 c1_i32_32
  let v106 : BitVec 32 := Scalar.muli v105 c1_i32_32
  let v107 : BitVec 32 := Scalar.addi c0_i32_31 v106
  let v104 : BitVec 32 := Scalar.addi c0_i32_31 v103
  let c1_i32_34 : BitVec 32 := 1#32
  ⟨v107, v104, c1_i32_34⟩
def k0_mult4 (i : grid0.Coords) : BitVec 32 :=
  let arg2 : BitVec 32 := BitVec.ofNat 32 (i 2).val
  let c512_i32_44 : BitVec 32 := 512#32
  let v130 : BitVec 32 := Scalar.muli arg2 c512_i32_44
  v130
def k0_off6 (i : grid0.Coords) : Fin 3 → Nat :=
  let c0_50 : Index := 0#32
  let arg2 : BitVec 32 := BitVec.ofNat 32 (i 2).val
  let c512_i32_44 : BitVec 32 := 512#32
  let v130 : BitVec 32 := Scalar.muli arg2 c512_i32_44
  let v131 : BitVec 32 := v130
  let v147 : Index := Scalar.indexCast v131
  let c0_51 : Index := 0#32
  ![0, v147.toNat, 0]
def k0_mult5 (i : grid0.Coords) : BitVec 32 :=
  let arg2 : BitVec 32 := BitVec.ofNat 32 (i 2).val
  let c1_i32_53 : BitVec 32 := 1#32
  let v155 : BitVec 32 := Scalar.subi arg2 c1_i32_53
  let c512_i32_54 : BitVec 32 := 512#32
  let v156 : BitVec 32 := Scalar.muli v155 c512_i32_54
  v156
def k0_off7 (i : grid0.Coords) : Fin 3 → Nat :=
  let c0_55 : Index := 0#32
  let arg2 : BitVec 32 := BitVec.ofNat 32 (i 2).val
  let c1_i32_53 : BitVec 32 := 1#32
  let v155 : BitVec 32 := Scalar.subi arg2 c1_i32_53
  let c512_i32_54 : BitVec 32 := 512#32
  let v156 : BitVec 32 := Scalar.muli v155 c512_i32_54
  let v157 : BitVec 32 := v156
  let v158 : Index := Scalar.indexCast v157
  let c0_56 : Index := 0#32
  ![0, v158.toNat, 0]
def k0_mult6 (i : grid0.Coords) (arg8 : BitVec 32) : BitVec 32 :=
  let arg2 : BitVec 32 := BitVec.ofNat 32 (i 2).val
  let c2_i32 : BitVec 32 := 2#32
  let c0_i32 : BitVec 32 := 0#32
  let v24 : BitVec 1 := Scalar.cmpi .eq c2_i32 c0_i32
  let c1_i32 : BitVec 32 := 1#32
  let v25 : BitVec 32 := Scalar.select v24 c1_i32 c2_i32
  let v26 : BitVec 32 := Scalar.remsi arg2 v25
  let c0_i32_6 : BitVec 32 := 0#32
  let v28 : BitVec 1 := Scalar.cmpi .slt v26 c0_i32_6
  let c0_i32_7 : BitVec 32 := 0#32
  let v29 : BitVec 1 := Scalar.cmpi .slt v25 c0_i32_7
  let v30 : BitVec 1 := Scalar.xori v28 v29
  let c0_i32_5 : BitVec 32 := 0#32
  let v27 : BitVec 1 := Scalar.cmpi .ne v26 c0_i32_5
  let v31 : BitVec 1 := Scalar.andi v30 v27
  let v32 : BitVec 32 := Scalar.addi v26 v25
  let v33 : BitVec 32 := Scalar.select v31 v32 v26
  let v130 : BitVec 32 := Scalar.subi arg2 v33
  let c2_i32_44 : BitVec 32 := 2#32
  let v131 : BitVec 32 := Scalar.muli c2_i32_44 arg8
  let v132 : BitVec 32 := Scalar.subi v130 v131
  let c512_i32_50 : BitVec 32 := 512#32
  let v146 : BitVec 32 := Scalar.muli v132 c512_i32_50
  v146
def k0_cond1 (v139 : BitVec 1) : BitVec 1 :=
  let v140 : BitVec 32 := Scalar.extui v139
  let c0_i32_47 : BitVec 32 := 0#32
  let v141 : BitVec 1 := Scalar.cmpi .sgt v140 c0_i32_47
  let v142 : BitVec 32 := Scalar.extui v141
  let c0_i32_48 : BitVec 32 := 0#32
  let v143 : BitVec 1 := Scalar.cmpi .ne v142 c0_i32_48
  v143

def k0_off8 (i : grid0.Coords) (arg8 : BitVec 32) : Fin 3 → Nat :=
  let c0_57 : Index := 0#32
  let arg2 : BitVec 32 := BitVec.ofNat 32 (i 2).val
  let c2_i32 : BitVec 32 := 2#32
  let c0_i32 : BitVec 32 := 0#32
  let v24 : BitVec 1 := Scalar.cmpi .eq c2_i32 c0_i32
  let c1_i32 : BitVec 32 := 1#32
  let v25 : BitVec 32 := Scalar.select v24 c1_i32 c2_i32
  let v26 : BitVec 32 := Scalar.remsi arg2 v25
  let c0_i32_6 : BitVec 32 := 0#32
  let v28 : BitVec 1 := Scalar.cmpi .slt v26 c0_i32_6
  let c0_i32_7 : BitVec 32 := 0#32
  let v29 : BitVec 1 := Scalar.cmpi .slt v25 c0_i32_7
  let v30 : BitVec 1 := Scalar.xori v28 v29
  let c0_i32_5 : BitVec 32 := 0#32
  let v27 : BitVec 1 := Scalar.cmpi .ne v26 c0_i32_5
  let v31 : BitVec 1 := Scalar.andi v30 v27
  let v32 : BitVec 32 := Scalar.addi v26 v25
  let v33 : BitVec 32 := Scalar.select v31 v32 v26
  let v130 : BitVec 32 := Scalar.subi arg2 v33
  let c2_i32_44 : BitVec 32 := 2#32
  let v131 : BitVec 32 := Scalar.muli c2_i32_44 arg8
  let v132 : BitVec 32 := Scalar.subi v130 v131
  let c512_i32_50 : BitVec 32 := 512#32
  let v146 : BitVec 32 := Scalar.muli v132 c512_i32_50
  let v147 : BitVec 32 := v146
  let v163 : Index := Scalar.indexCast v147
  let c0_58 : Index := 0#32
  ![0, v163.toNat, 0]
def k0_mult7 (i : grid0.Coords) (arg8 : BitVec 32) : BitVec 32 :=
  let arg2 : BitVec 32 := BitVec.ofNat 32 (i 2).val
  let c2_i32 : BitVec 32 := 2#32
  let c0_i32 : BitVec 32 := 0#32
  let v24 : BitVec 1 := Scalar.cmpi .eq c2_i32 c0_i32
  let c1_i32 : BitVec 32 := 1#32
  let v25 : BitVec 32 := Scalar.select v24 c1_i32 c2_i32
  let v26 : BitVec 32 := Scalar.remsi arg2 v25
  let c0_i32_6 : BitVec 32 := 0#32
  let v28 : BitVec 1 := Scalar.cmpi .slt v26 c0_i32_6
  let c0_i32_7 : BitVec 32 := 0#32
  let v29 : BitVec 1 := Scalar.cmpi .slt v25 c0_i32_7
  let v30 : BitVec 1 := Scalar.xori v28 v29
  let c0_i32_5 : BitVec 32 := 0#32
  let v27 : BitVec 1 := Scalar.cmpi .ne v26 c0_i32_5
  let v31 : BitVec 1 := Scalar.andi v30 v27
  let v32 : BitVec 32 := Scalar.addi v26 v25
  let v33 : BitVec 32 := Scalar.select v31 v32 v26
  let v130 : BitVec 32 := Scalar.subi arg2 v33
  let c2_i32_44 : BitVec 32 := 2#32
  let v131 : BitVec 32 := Scalar.muli c2_i32_44 arg8
  let v132 : BitVec 32 := Scalar.subi v130 v131
  let c1_i32_60 : BitVec 32 := 1#32
  let v171 : BitVec 32 := Scalar.subi v132 c1_i32_60
  let c512_i32_61 : BitVec 32 := 512#32
  let v172 : BitVec 32 := Scalar.muli v171 c512_i32_61
  v172
def k0_off9 (i : grid0.Coords) (arg8 : BitVec 32) : Fin 3 → Nat :=
  let c0_62 : Index := 0#32
  let arg2 : BitVec 32 := BitVec.ofNat 32 (i 2).val
  let c2_i32 : BitVec 32 := 2#32
  let c0_i32 : BitVec 32 := 0#32
  let v24 : BitVec 1 := Scalar.cmpi .eq c2_i32 c0_i32
  let c1_i32 : BitVec 32 := 1#32
  let v25 : BitVec 32 := Scalar.select v24 c1_i32 c2_i32
  let v26 : BitVec 32 := Scalar.remsi arg2 v25
  let c0_i32_6 : BitVec 32 := 0#32
  let v28 : BitVec 1 := Scalar.cmpi .slt v26 c0_i32_6
  let c0_i32_7 : BitVec 32 := 0#32
  let v29 : BitVec 1 := Scalar.cmpi .slt v25 c0_i32_7
  let v30 : BitVec 1 := Scalar.xori v28 v29
  let c0_i32_5 : BitVec 32 := 0#32
  let v27 : BitVec 1 := Scalar.cmpi .ne v26 c0_i32_5
  let v31 : BitVec 1 := Scalar.andi v30 v27
  let v32 : BitVec 32 := Scalar.addi v26 v25
  let v33 : BitVec 32 := Scalar.select v31 v32 v26
  let v130 : BitVec 32 := Scalar.subi arg2 v33
  let c2_i32_44 : BitVec 32 := 2#32
  let v131 : BitVec 32 := Scalar.muli c2_i32_44 arg8
  let v132 : BitVec 32 := Scalar.subi v130 v131
  let c1_i32_60 : BitVec 32 := 1#32
  let v171 : BitVec 32 := Scalar.subi v132 c1_i32_60
  let c512_i32_61 : BitVec 32 := 512#32
  let v172 : BitVec 32 := Scalar.muli v171 c512_i32_61
  let v173 : BitVec 32 := v172
  let v174 : Index := Scalar.indexCast v173
  let c0_63 : Index := 0#32
  ![0, v174.toNat, 0]
def k0_mult8 (i : grid0.Coords) (arg8 : BitVec 32) : BitVec 32 :=
  let arg2 : BitVec 32 := BitVec.ofNat 32 (i 2).val
  let c2_i32 : BitVec 32 := 2#32
  let c0_i32 : BitVec 32 := 0#32
  let v24 : BitVec 1 := Scalar.cmpi .eq c2_i32 c0_i32
  let c1_i32 : BitVec 32 := 1#32
  let v25 : BitVec 32 := Scalar.select v24 c1_i32 c2_i32
  let v26 : BitVec 32 := Scalar.remsi arg2 v25
  let c0_i32_6 : BitVec 32 := 0#32
  let v28 : BitVec 1 := Scalar.cmpi .slt v26 c0_i32_6
  let c0_i32_7 : BitVec 32 := 0#32
  let v29 : BitVec 1 := Scalar.cmpi .slt v25 c0_i32_7
  let v30 : BitVec 1 := Scalar.xori v28 v29
  let c0_i32_5 : BitVec 32 := 0#32
  let v27 : BitVec 1 := Scalar.cmpi .ne v26 c0_i32_5
  let v31 : BitVec 1 := Scalar.andi v30 v27
  let v32 : BitVec 32 := Scalar.addi v26 v25
  let v33 : BitVec 32 := Scalar.select v31 v32 v26
  let v130 : BitVec 32 := Scalar.subi arg2 v33
  let c2_i32_44 : BitVec 32 := 2#32
  let v131 : BitVec 32 := Scalar.muli c2_i32_44 arg8
  let v132 : BitVec 32 := Scalar.subi v130 v131
  let c1_i32_80 : BitVec 32 := 1#32
  let v222 : BitVec 32 := Scalar.subi v132 c1_i32_80
  let c512_i32_81 : BitVec 32 := 512#32
  let v223 : BitVec 32 := Scalar.muli v222 c512_i32_81
  v223
def k0_cond2 (v216 : BitVec 1) : BitVec 1 :=
  let v217 : BitVec 32 := Scalar.extui v216
  let c0_i32_78 : BitVec 32 := 0#32
  let v218 : BitVec 1 := Scalar.cmpi .sgt v217 c0_i32_78
  let v219 : BitVec 32 := Scalar.extui v218
  let c0_i32_79 : BitVec 32 := 0#32
  let v220 : BitVec 1 := Scalar.cmpi .ne v219 c0_i32_79
  v220

def k0_off10 (i : grid0.Coords) (arg8 : BitVec 32) (c1_i32_80 : BitVec 32) : Fin 3 → Nat :=
  let c0_88 : Index := 0#32
  let arg2 : BitVec 32 := BitVec.ofNat 32 (i 2).val
  let c2_i32 : BitVec 32 := 2#32
  let c0_i32 : BitVec 32 := 0#32
  let v24 : BitVec 1 := Scalar.cmpi .eq c2_i32 c0_i32
  let c1_i32 : BitVec 32 := 1#32
  let v25 : BitVec 32 := Scalar.select v24 c1_i32 c2_i32
  let v26 : BitVec 32 := Scalar.remsi arg2 v25
  let c0_i32_6 : BitVec 32 := 0#32
  let v28 : BitVec 1 := Scalar.cmpi .slt v26 c0_i32_6
  let c0_i32_7 : BitVec 32 := 0#32
  let v29 : BitVec 1 := Scalar.cmpi .slt v25 c0_i32_7
  let v30 : BitVec 1 := Scalar.xori v28 v29
  let c0_i32_5 : BitVec 32 := 0#32
  let v27 : BitVec 1 := Scalar.cmpi .ne v26 c0_i32_5
  let v31 : BitVec 1 := Scalar.andi v30 v27
  let v32 : BitVec 32 := Scalar.addi v26 v25
  let v33 : BitVec 32 := Scalar.select v31 v32 v26
  let v130 : BitVec 32 := Scalar.subi arg2 v33
  let c2_i32_44 : BitVec 32 := 2#32
  let v131 : BitVec 32 := Scalar.muli c2_i32_44 arg8
  let v132 : BitVec 32 := Scalar.subi v130 v131
  let v222 : BitVec 32 := Scalar.subi v132 c1_i32_80
  let c512_i32_81 : BitVec 32 := 512#32
  let v223 : BitVec 32 := Scalar.muli v222 c512_i32_81
  let v224 : BitVec 32 := v223
  let v240 : Index := Scalar.indexCast v224
  let c0_89 : Index := 0#32
  ![0, v240.toNat, 0]
def k0_mult9 (i : grid0.Coords) (arg8 : BitVec 32) : BitVec 32 :=
  let arg2 : BitVec 32 := BitVec.ofNat 32 (i 2).val
  let c2_i32 : BitVec 32 := 2#32
  let c0_i32 : BitVec 32 := 0#32
  let v24 : BitVec 1 := Scalar.cmpi .eq c2_i32 c0_i32
  let c1_i32 : BitVec 32 := 1#32
  let v25 : BitVec 32 := Scalar.select v24 c1_i32 c2_i32
  let v26 : BitVec 32 := Scalar.remsi arg2 v25
  let c0_i32_6 : BitVec 32 := 0#32
  let v28 : BitVec 1 := Scalar.cmpi .slt v26 c0_i32_6
  let c0_i32_7 : BitVec 32 := 0#32
  let v29 : BitVec 1 := Scalar.cmpi .slt v25 c0_i32_7
  let v30 : BitVec 1 := Scalar.xori v28 v29
  let c0_i32_5 : BitVec 32 := 0#32
  let v27 : BitVec 1 := Scalar.cmpi .ne v26 c0_i32_5
  let v31 : BitVec 1 := Scalar.andi v30 v27
  let v32 : BitVec 32 := Scalar.addi v26 v25
  let v33 : BitVec 32 := Scalar.select v31 v32 v26
  let v130 : BitVec 32 := Scalar.subi arg2 v33
  let c2_i32_44 : BitVec 32 := 2#32
  let v131 : BitVec 32 := Scalar.muli c2_i32_44 arg8
  let v132 : BitVec 32 := Scalar.subi v130 v131
  let c2_i32_91 : BitVec 32 := 2#32
  let v248 : BitVec 32 := Scalar.subi v132 c2_i32_91
  let c512_i32_92 : BitVec 32 := 512#32
  let v249 : BitVec 32 := Scalar.muli v248 c512_i32_92
  v249
def k0_mult10 (i : grid0.Coords) (arg8 : BitVec 32) : BitVec 32 :=
  let arg2 : BitVec 32 := BitVec.ofNat 32 (i 2).val
  let c2_i32 : BitVec 32 := 2#32
  let c0_i32 : BitVec 32 := 0#32
  let v24 : BitVec 1 := Scalar.cmpi .eq c2_i32 c0_i32
  let c1_i32 : BitVec 32 := 1#32
  let v25 : BitVec 32 := Scalar.select v24 c1_i32 c2_i32
  let v26 : BitVec 32 := Scalar.remsi arg2 v25
  let c0_i32_6 : BitVec 32 := 0#32
  let v28 : BitVec 1 := Scalar.cmpi .slt v26 c0_i32_6
  let c0_i32_7 : BitVec 32 := 0#32
  let v29 : BitVec 1 := Scalar.cmpi .slt v25 c0_i32_7
  let v30 : BitVec 1 := Scalar.xori v28 v29
  let c0_i32_5 : BitVec 32 := 0#32
  let v27 : BitVec 1 := Scalar.cmpi .ne v26 c0_i32_5
  let v31 : BitVec 1 := Scalar.andi v30 v27
  let v32 : BitVec 32 := Scalar.addi v26 v25
  let v33 : BitVec 32 := Scalar.select v31 v32 v26
  let v130 : BitVec 32 := Scalar.subi arg2 v33
  let c2_i32_44 : BitVec 32 := 2#32
  let v131 : BitVec 32 := Scalar.muli c2_i32_44 arg8
  let v132 : BitVec 32 := Scalar.subi v130 v131
  let c1_i32_80 : BitVec 32 := 1#32
  let v222 : BitVec 32 := Scalar.subi v132 c1_i32_80
  let c512_i32_81 : BitVec 32 := 512#32
  let v223 : BitVec 32 := Scalar.muli v222 c512_i32_81
  v223
def k0_off11 (i : grid0.Coords) (arg8 : BitVec 32) : Fin 3 → Nat :=
  let c0_88 : Index := 0#32
  let arg2 : BitVec 32 := BitVec.ofNat 32 (i 2).val
  let c2_i32 : BitVec 32 := 2#32
  let c0_i32 : BitVec 32 := 0#32
  let v24 : BitVec 1 := Scalar.cmpi .eq c2_i32 c0_i32
  let c1_i32 : BitVec 32 := 1#32
  let v25 : BitVec 32 := Scalar.select v24 c1_i32 c2_i32
  let v26 : BitVec 32 := Scalar.remsi arg2 v25
  let c0_i32_6 : BitVec 32 := 0#32
  let v28 : BitVec 1 := Scalar.cmpi .slt v26 c0_i32_6
  let c0_i32_7 : BitVec 32 := 0#32
  let v29 : BitVec 1 := Scalar.cmpi .slt v25 c0_i32_7
  let v30 : BitVec 1 := Scalar.xori v28 v29
  let c0_i32_5 : BitVec 32 := 0#32
  let v27 : BitVec 1 := Scalar.cmpi .ne v26 c0_i32_5
  let v31 : BitVec 1 := Scalar.andi v30 v27
  let v32 : BitVec 32 := Scalar.addi v26 v25
  let v33 : BitVec 32 := Scalar.select v31 v32 v26
  let v130 : BitVec 32 := Scalar.subi arg2 v33
  let c2_i32_44 : BitVec 32 := 2#32
  let v131 : BitVec 32 := Scalar.muli c2_i32_44 arg8
  let v132 : BitVec 32 := Scalar.subi v130 v131
  let c1_i32_80 : BitVec 32 := 1#32
  let v222 : BitVec 32 := Scalar.subi v132 c1_i32_80
  let c512_i32_81 : BitVec 32 := 512#32
  let v223 : BitVec 32 := Scalar.muli v222 c512_i32_81
  let v224 : BitVec 32 := v223
  let v240 : Index := Scalar.indexCast v224
  let c0_89 : Index := 0#32
  ![0, v240.toNat, 0]

def k0_chk2 (i : grid0.Coords) (arg8 : BitVec 32) (v139 : BitVec 1) (v216 : BitVec 1) : Prop :=
  (∀ (k0_h1 : k0_cond1 v139 = 1#1), ∀ (k0_h2 : k0_cond2 v216 = 1#1), 512 ∣ (k0_mult8 i arg8).toNat) ∧
  (∀ (k0_h1 : k0_cond1 v139 = 1#1), ∀ (k0_h2 : k0_cond2 v216 = 1#1), ∀ (r : Fin 2), ∀ a, (k0_off10 i arg8 (BitVec.ofNat 32 (1 + r.val))) a + S1x512x128.size a ≤ S1x8192x128.size a) ∧
  (∀ (k0_h1 : k0_cond1 v139 = 1#1), ∀ (k0_h2 : k0_cond2 v216 = 1#1), 512 ∣ (k0_mult9 i arg8).toNat) ∧
  (∀ (k0_h1 : k0_cond1 v139 = 1#1), ∀ (k0_h2 : ¬(k0_cond2 v216 = 1#1)), 512 ∣ (k0_mult10 i arg8).toNat) ∧
  (∀ (k0_h1 : k0_cond1 v139 = 1#1), ∀ (k0_h2 : ¬(k0_cond2 v216 = 1#1)), ∀ a, (k0_off11 i arg8) a + S1x512x128.size a ≤ S1x8192x128.size a)
theorem k0_mult8_dvd : ∀ (i : grid0.Coords) (arg8 : BitVec 32) (v139 : BitVec 1) (v216 : BitVec 1) (k0_hw2 : k0_chk2 i arg8 v139 v216), ∀ (k0_h1 : k0_cond1 v139 = 1#1), ∀ (k0_h2 : k0_cond2 v216 = 1#1), 512 ∣ (k0_mult8 i arg8).toNat := fun i arg8 v139 v216 k0_hw2 k0_h1 k0_h2 => k0_hw2.1 k0_h1 k0_h2
theorem k0_off10_inb : ∀ (i : grid0.Coords) (arg8 : BitVec 32) (v139 : BitVec 1) (v216 : BitVec 1) (k0_hw2 : k0_chk2 i arg8 v139 v216), ∀ (k0_h1 : k0_cond1 v139 = 1#1), ∀ (k0_h2 : k0_cond2 v216 = 1#1), ∀ (r : Fin 2), ∀ a, (k0_off10 i arg8 (BitVec.ofNat 32 (1 + r.val))) a + S1x512x128.size a ≤ S1x8192x128.size a := fun i arg8 v139 v216 k0_hw2 k0_h1 k0_h2 r => k0_hw2.2.1 k0_h1 k0_h2 r
theorem k0_mult9_dvd : ∀ (i : grid0.Coords) (arg8 : BitVec 32) (v139 : BitVec 1) (v216 : BitVec 1) (k0_hw2 : k0_chk2 i arg8 v139 v216), ∀ (k0_h1 : k0_cond1 v139 = 1#1), ∀ (k0_h2 : k0_cond2 v216 = 1#1), 512 ∣ (k0_mult9 i arg8).toNat := fun i arg8 v139 v216 k0_hw2 k0_h1 k0_h2 => k0_hw2.2.2.1 k0_h1 k0_h2
theorem k0_mult10_dvd : ∀ (i : grid0.Coords) (arg8 : BitVec 32) (v139 : BitVec 1) (v216 : BitVec 1) (k0_hw2 : k0_chk2 i arg8 v139 v216), ∀ (k0_h1 : k0_cond1 v139 = 1#1), ∀ (k0_h2 : ¬(k0_cond2 v216 = 1#1)), 512 ∣ (k0_mult10 i arg8).toNat := fun i arg8 v139 v216 k0_hw2 k0_h1 k0_h2 => k0_hw2.2.2.2.1 k0_h1 k0_h2
theorem k0_off11_inb : ∀ (i : grid0.Coords) (arg8 : BitVec 32) (v139 : BitVec 1) (v216 : BitVec 1) (k0_hw2 : k0_chk2 i arg8 v139 v216), ∀ (k0_h1 : k0_cond1 v139 = 1#1), ∀ (k0_h2 : ¬(k0_cond2 v216 = 1#1)), ∀ a, (k0_off11 i arg8) a + S1x512x128.size a ≤ S1x8192x128.size a := fun i arg8 v139 v216 k0_hw2 k0_h1 k0_h2 => k0_hw2.2.2.2.2 k0_h1 k0_h2

def k0_mult11 (i : grid0.Coords) (arg8 : BitVec 32) : BitVec 32 :=
  let arg2 : BitVec 32 := BitVec.ofNat 32 (i 2).val
  let c2_i32 : BitVec 32 := 2#32
  let c0_i32 : BitVec 32 := 0#32
  let v24 : BitVec 1 := Scalar.cmpi .eq c2_i32 c0_i32
  let c1_i32 : BitVec 32 := 1#32
  let v25 : BitVec 32 := Scalar.select v24 c1_i32 c2_i32
  let v26 : BitVec 32 := Scalar.remsi arg2 v25
  let c0_i32_6 : BitVec 32 := 0#32
  let v28 : BitVec 1 := Scalar.cmpi .slt v26 c0_i32_6
  let c0_i32_7 : BitVec 32 := 0#32
  let v29 : BitVec 1 := Scalar.cmpi .slt v25 c0_i32_7
  let v30 : BitVec 1 := Scalar.xori v28 v29
  let c0_i32_5 : BitVec 32 := 0#32
  let v27 : BitVec 1 := Scalar.cmpi .ne v26 c0_i32_5
  let v31 : BitVec 1 := Scalar.andi v30 v27
  let v32 : BitVec 32 := Scalar.addi v26 v25
  let v33 : BitVec 32 := Scalar.select v31 v32 v26
  let v130 : BitVec 32 := Scalar.subi arg2 v33
  let c2_i32_44 : BitVec 32 := 2#32
  let v131 : BitVec 32 := Scalar.muli c2_i32_44 arg8
  let v132 : BitVec 32 := Scalar.subi v130 v131
  let c512_i32_50 : BitVec 32 := 512#32
  let v146 : BitVec 32 := Scalar.muli v132 c512_i32_50
  v146
def k0_off12 (i : grid0.Coords) (arg8 : BitVec 32) : Fin 3 → Nat :=
  let c0_57 : Index := 0#32
  let arg2 : BitVec 32 := BitVec.ofNat 32 (i 2).val
  let c2_i32 : BitVec 32 := 2#32
  let c0_i32 : BitVec 32 := 0#32
  let v24 : BitVec 1 := Scalar.cmpi .eq c2_i32 c0_i32
  let c1_i32 : BitVec 32 := 1#32
  let v25 : BitVec 32 := Scalar.select v24 c1_i32 c2_i32
  let v26 : BitVec 32 := Scalar.remsi arg2 v25
  let c0_i32_6 : BitVec 32 := 0#32
  let v28 : BitVec 1 := Scalar.cmpi .slt v26 c0_i32_6
  let c0_i32_7 : BitVec 32 := 0#32
  let v29 : BitVec 1 := Scalar.cmpi .slt v25 c0_i32_7
  let v30 : BitVec 1 := Scalar.xori v28 v29
  let c0_i32_5 : BitVec 32 := 0#32
  let v27 : BitVec 1 := Scalar.cmpi .ne v26 c0_i32_5
  let v31 : BitVec 1 := Scalar.andi v30 v27
  let v32 : BitVec 32 := Scalar.addi v26 v25
  let v33 : BitVec 32 := Scalar.select v31 v32 v26
  let v130 : BitVec 32 := Scalar.subi arg2 v33
  let c2_i32_44 : BitVec 32 := 2#32
  let v131 : BitVec 32 := Scalar.muli c2_i32_44 arg8
  let v132 : BitVec 32 := Scalar.subi v130 v131
  let c512_i32_50 : BitVec 32 := 512#32
  let v146 : BitVec 32 := Scalar.muli v132 c512_i32_50
  let v147 : BitVec 32 := v146
  let v163 : Index := Scalar.indexCast v147
  let c0_58 : Index := 0#32
  ![0, v163.toNat, 0]

def k0_chk1 (i : grid0.Coords) (arg8 : BitVec 32) (v139 : BitVec 1) : Prop :=
  (∀ (k0_h1 : k0_cond1 v139 = 1#1), 512 ∣ (k0_mult6 i arg8).toNat) ∧
  (∀ (k0_h1 : k0_cond1 v139 = 1#1), ∀ a, (k0_off8 i arg8) a + S1x512x128.size a ≤ S1x8192x128.size a) ∧
  (∀ (k0_h1 : k0_cond1 v139 = 1#1), 512 ∣ (k0_mult7 i arg8).toNat) ∧
  (∀ (k0_h1 : k0_cond1 v139 = 1#1), ∀ a, (k0_off9 i arg8) a + S1x512x128.size a ≤ S1x8192x128.size a) ∧
  (∀ (k0_h1 : ¬(k0_cond1 v139 = 1#1)), 512 ∣ (k0_mult11 i arg8).toNat) ∧
  (∀ (k0_h1 : ¬(k0_cond1 v139 = 1#1)), ∀ a, (k0_off12 i arg8) a + S1x512x128.size a ≤ S1x8192x128.size a)
theorem k0_mult6_dvd : ∀ (i : grid0.Coords) (arg8 : BitVec 32) (v139 : BitVec 1) (k0_hw1 : k0_chk1 i arg8 v139), ∀ (k0_h1 : k0_cond1 v139 = 1#1), 512 ∣ (k0_mult6 i arg8).toNat := fun i arg8 v139 k0_hw1 k0_h1 => k0_hw1.1 k0_h1
theorem k0_off8_inb : ∀ (i : grid0.Coords) (arg8 : BitVec 32) (v139 : BitVec 1) (k0_hw1 : k0_chk1 i arg8 v139), ∀ (k0_h1 : k0_cond1 v139 = 1#1), ∀ a, (k0_off8 i arg8) a + S1x512x128.size a ≤ S1x8192x128.size a := fun i arg8 v139 k0_hw1 k0_h1 => k0_hw1.2.1 k0_h1
theorem k0_mult7_dvd : ∀ (i : grid0.Coords) (arg8 : BitVec 32) (v139 : BitVec 1) (k0_hw1 : k0_chk1 i arg8 v139), ∀ (k0_h1 : k0_cond1 v139 = 1#1), 512 ∣ (k0_mult7 i arg8).toNat := fun i arg8 v139 k0_hw1 k0_h1 => k0_hw1.2.2.1 k0_h1
theorem k0_off9_inb : ∀ (i : grid0.Coords) (arg8 : BitVec 32) (v139 : BitVec 1) (k0_hw1 : k0_chk1 i arg8 v139), ∀ (k0_h1 : k0_cond1 v139 = 1#1), ∀ a, (k0_off9 i arg8) a + S1x512x128.size a ≤ S1x8192x128.size a := fun i arg8 v139 k0_hw1 k0_h1 => k0_hw1.2.2.2.1 k0_h1
theorem k0_mult11_dvd : ∀ (i : grid0.Coords) (arg8 : BitVec 32) (v139 : BitVec 1) (k0_hw1 : k0_chk1 i arg8 v139), ∀ (k0_h1 : ¬(k0_cond1 v139 = 1#1)), 512 ∣ (k0_mult11 i arg8).toNat := fun i arg8 v139 k0_hw1 k0_h1 => k0_hw1.2.2.2.2.1 k0_h1
theorem k0_off12_inb : ∀ (i : grid0.Coords) (arg8 : BitVec 32) (v139 : BitVec 1) (k0_hw1 : k0_chk1 i arg8 v139), ∀ (k0_h1 : ¬(k0_cond1 v139 = 1#1)), ∀ a, (k0_off12 i arg8) a + S1x512x128.size a ≤ S1x8192x128.size a := fun i arg8 v139 k0_hw1 k0_h1 => k0_hw1.2.2.2.2.2 k0_h1

def k0_mult12 (i : grid0.Coords) (v116_0 : BitVec 32) : BitVec 32 :=
  let arg2 : BitVec 32 := BitVec.ofNat 32 (i 2).val
  let c2_i32 : BitVec 32 := 2#32
  let c0_i32 : BitVec 32 := 0#32
  let v24 : BitVec 1 := Scalar.cmpi .eq c2_i32 c0_i32
  let c1_i32 : BitVec 32 := 1#32
  let v25 : BitVec 32 := Scalar.select v24 c1_i32 c2_i32
  let v26 : BitVec 32 := Scalar.remsi arg2 v25
  let c0_i32_6 : BitVec 32 := 0#32
  let v28 : BitVec 1 := Scalar.cmpi .slt v26 c0_i32_6
  let c0_i32_7 : BitVec 32 := 0#32
  let v29 : BitVec 1 := Scalar.cmpi .slt v25 c0_i32_7
  let v30 : BitVec 1 := Scalar.xori v28 v29
  let c0_i32_5 : BitVec 32 := 0#32
  let v27 : BitVec 1 := Scalar.cmpi .ne v26 c0_i32_5
  let v31 : BitVec 1 := Scalar.andi v30 v27
  let v32 : BitVec 32 := Scalar.addi v26 v25
  let v33 : BitVec 32 := Scalar.select v31 v32 v26
  let v130 : BitVec 32 := Scalar.subi arg2 v33
  let c2_i32_44 : BitVec 32 := 2#32
  let v131 : BitVec 32 := Scalar.muli c2_i32_44 v116_0
  let v132 : BitVec 32 := Scalar.subi v130 v131
  let c512_i32_45 : BitVec 32 := 512#32
  let v133 : BitVec 32 := Scalar.muli v132 c512_i32_45
  v133
def k0_cond3 (v116_1 : BitVec 32) : BitVec 1 :=
  let c0_i32_38 : BitVec 32 := 0#32
  let v117 : BitVec 1 := Scalar.cmpi .sgt v116_1 c0_i32_38
  let v118 : BitVec 32 := Scalar.extui v117
  let c0_i32_39 : BitVec 32 := 0#32
  let v119 : BitVec 1 := Scalar.cmpi .ne v118 c0_i32_39
  v119

def k0_off13 (i : grid0.Coords) (v116_0 : BitVec 32) : Fin 3 → Nat :=
  let c0_52 : Index := 0#32
  let arg2 : BitVec 32 := BitVec.ofNat 32 (i 2).val
  let c2_i32 : BitVec 32 := 2#32
  let c0_i32 : BitVec 32 := 0#32
  let v24 : BitVec 1 := Scalar.cmpi .eq c2_i32 c0_i32
  let c1_i32 : BitVec 32 := 1#32
  let v25 : BitVec 32 := Scalar.select v24 c1_i32 c2_i32
  let v26 : BitVec 32 := Scalar.remsi arg2 v25
  let c0_i32_6 : BitVec 32 := 0#32
  let v28 : BitVec 1 := Scalar.cmpi .slt v26 c0_i32_6
  let c0_i32_7 : BitVec 32 := 0#32
  let v29 : BitVec 1 := Scalar.cmpi .slt v25 c0_i32_7
  let v30 : BitVec 1 := Scalar.xori v28 v29
  let c0_i32_5 : BitVec 32 := 0#32
  let v27 : BitVec 1 := Scalar.cmpi .ne v26 c0_i32_5
  let v31 : BitVec 1 := Scalar.andi v30 v27
  let v32 : BitVec 32 := Scalar.addi v26 v25
  let v33 : BitVec 32 := Scalar.select v31 v32 v26
  let v130 : BitVec 32 := Scalar.subi arg2 v33
  let c2_i32_44 : BitVec 32 := 2#32
  let v131 : BitVec 32 := Scalar.muli c2_i32_44 v116_0
  let v132 : BitVec 32 := Scalar.subi v130 v131
  let c512_i32_45 : BitVec 32 := 512#32
  let v133 : BitVec 32 := Scalar.muli v132 c512_i32_45
  let v134 : BitVec 32 := v133
  let v149 : Index := Scalar.indexCast v134
  let c0_53 : Index := 0#32
  ![0, v149.toNat, 0]

def k0_chk3 (i : grid0.Coords) (v116_1 : BitVec 32) (v116_0 : BitVec 32) : Prop :=
  (∀ (k0_h3 : k0_cond3 v116_1 = 1#1), 512 ∣ (k0_mult12 i v116_0).toNat) ∧
  (∀ (k0_h3 : k0_cond3 v116_1 = 1#1), ∀ a, (k0_off13 i v116_0) a + S1x512x128.size a ≤ S1x8192x128.size a)
theorem k0_mult12_dvd : ∀ (i : grid0.Coords) (v116_1 : BitVec 32) (v116_0 : BitVec 32) (k0_hw3 : k0_chk3 i v116_1 v116_0), ∀ (k0_h3 : k0_cond3 v116_1 = 1#1), 512 ∣ (k0_mult12 i v116_0).toNat := fun i v116_1 v116_0 k0_hw3 k0_h3 => k0_hw3.1 k0_h3
theorem k0_off13_inb : ∀ (i : grid0.Coords) (v116_1 : BitVec 32) (v116_0 : BitVec 32) (k0_hw3 : k0_chk3 i v116_1 v116_0), ∀ (k0_h3 : k0_cond3 v116_1 = 1#1), ∀ a, (k0_off13 i v116_0) a + S1x512x128.size a ≤ S1x8192x128.size a := fun i v116_1 v116_0 k0_hw3 k0_h3 => k0_hw3.2 k0_h3

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "dead" => some ⊥
  | "log2_e" => some (((Real.log 2)⁻¹ : ℝ) : EReal)
  | _ => none
-- ==== ReferenceIdeal.lean ====
abbrev S4x8192x1024 : Shape := ⟨3, ![4, 8192, 1024]⟩
abbrev S4x8192x16x64 : Shape := ⟨4, ![4, 8192, 16, 64]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S4x16x8192x8192 : Shape := ⟨4, ![4, 16, 8192, 8192]⟩
abbrev S_ : Shape := ⟨0, ![]⟩
abbrev S4x16x64x8192 : Shape := ⟨4, ![4, 16, 64, 8192]⟩

abbrev nBuf : Space → Nat
  | .hbm => 68
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S4x8192x1024, .f32⟩
  | .hbm, ⟨3, _⟩ => ⟨S4x8192x16x64, .f32⟩
  | .hbm, ⟨4, _⟩ => ⟨S4x8192x16x64, .f32⟩
  | .hbm, ⟨5, _⟩ => ⟨S4x8192x16x64, .f32⟩
  | .hbm, ⟨6, _⟩ => ⟨S8192, .i32⟩
  | .hbm, ⟨7, _⟩ => ⟨S1x8192, .i32⟩
  | .hbm, ⟨8, _⟩ => ⟨S8192x1, .i32⟩
  | .hbm, ⟨9, _⟩ => ⟨S8192x8192, .i32⟩
  | .hbm, ⟨10, _⟩ => ⟨S8192x8192, .i32⟩
  | .hbm, ⟨11, _⟩ => ⟨S8192x8192, .i1⟩
  | .hbm, ⟨12, _⟩ => ⟨S4x16x8192x8192, .f32⟩
  | .hbm, ⟨13, _⟩ => ⟨S_, .f32⟩
  | .hbm, ⟨14, _⟩ => ⟨S4x16x8192x8192, .f32⟩
  | .hbm, ⟨15, _⟩ => ⟨S4x16x8192x8192, .f32⟩
  | .hbm, ⟨16, _⟩ => ⟨S4x16x8192x8192, .f32⟩
  | .hbm, ⟨17, _⟩ => ⟨S4x16x8192x8192, .f32⟩
  | .hbm, ⟨18, _⟩ => ⟨S_, .f32⟩
  | .hbm, ⟨19, _⟩ => ⟨S4x16x8192x8192, .f32⟩
  | .hbm, ⟨20, _⟩ => ⟨S4x16x8192x8192, .f32⟩
  | .hbm, ⟨21, _⟩ => ⟨S4x16x8192x8192, .f32⟩
  | .hbm, ⟨22, _⟩ => ⟨S4x16x8192x8192, .f32⟩
  | .hbm, ⟨23, _⟩ => ⟨S4x16x8192x8192, .i1⟩
  | .hbm, ⟨24, _⟩ => ⟨S4x16x8192x8192, .f32⟩
  | .hbm, ⟨25, _⟩ => ⟨S4x16x8192x8192, .f32⟩
  | .hbm, ⟨26, _⟩ => ⟨S4x16x8192x8192, .f32⟩
  | .hbm, ⟨27, _⟩ => ⟨S4x16x8192x8192, .f32⟩
  | .hbm, ⟨28, _⟩ => ⟨S4x16x8192x8192, .f32⟩
  | .hbm, ⟨29, _⟩ => ⟨S4x16x8192x8192, .f32⟩
  | .hbm, ⟨30, _⟩ => ⟨S4x16x8192x8192, .f32⟩
  | .hbm, ⟨31, _⟩ => ⟨S4x16x8192x8192, .f32⟩
  | .hbm, ⟨32, _⟩ => ⟨S4x16x8192x8192, .f32⟩
  | .hbm, ⟨33, _⟩ => ⟨S_, .f32⟩
  | .hbm, ⟨34, _⟩ => ⟨S_, .f32⟩
  | .hbm, ⟨35, _⟩ => ⟨S4x16x8192x8192, .i1⟩
  | .hbm, ⟨36, _⟩ => ⟨S4x16x8192x8192, .f32⟩
  | .hbm, ⟨37, _⟩ => ⟨S4x16x8192x8192, .f32⟩
  | .hbm, ⟨38, _⟩ => ⟨S_, .f32⟩
  | .hbm, ⟨39, _⟩ => ⟨S_, .f32⟩
  | .hbm, ⟨40, _⟩ => ⟨S4x16x8192x8192, .f32⟩
  | .hbm, ⟨41, _⟩ => ⟨S4x16x8192x8192, .f32⟩
  | .hbm, ⟨42, _⟩ => ⟨S4x16x8192x8192, .f32⟩
  | .hbm, ⟨43, _⟩ => ⟨S_, .f32⟩
  | .hbm, ⟨44, _⟩ => ⟨S4x16x8192x8192, .f32⟩
  | .hbm, ⟨45, _⟩ => ⟨S4x16x8192x8192, .f32⟩
  | .hbm, ⟨46, _⟩ => ⟨S4x16x8192x8192, .f32⟩
  | .hbm, ⟨47, _⟩ => ⟨S4x16x8192x8192, .f32⟩
  | .hbm, ⟨48, _⟩ => ⟨S4x16x8192x8192, .i1⟩
  | .hbm, ⟨49, _⟩ => ⟨S4x16x8192x8192, .f32⟩
  | .hbm, ⟨50, _⟩ => ⟨S4x16x8192x8192, .f32⟩
  | .hbm, ⟨51, _⟩ => ⟨S4x16x8192x8192, .f32⟩
  | .hbm, ⟨52, _⟩ => ⟨S4x16x8192x8192, .f32⟩
  | .hbm, ⟨53, _⟩ => ⟨S4x16x8192x8192, .f32⟩
  | .hbm, ⟨54, _⟩ => ⟨S4x16x8192x8192, .f32⟩
  | .hbm, ⟨55, _⟩ => ⟨S4x16x8192x8192, .f32⟩
  | .hbm, ⟨56, _⟩ => ⟨S4x16x8192x8192, .f32⟩
  | .hbm, ⟨57, _⟩ => ⟨S4x16x8192x8192, .f32⟩
  | .hbm, ⟨58, _⟩ => ⟨S4x16x8192x8192, .f32⟩
  | .hbm, ⟨59, _⟩ => ⟨S_, .f32⟩
  | .hbm, ⟨60, _⟩ => ⟨S_, .f32⟩
  | .hbm, ⟨61, _⟩ => ⟨S4x16x8192x8192, .i1⟩
  | .hbm, ⟨62, _⟩ => ⟨S4x16x8192x8192, .f32⟩
  | .hbm, ⟨63, _⟩ => ⟨S4x16x8192x8192, .f32⟩
  | .hbm, ⟨64, _⟩ => ⟨S4x16x8192x8192, .f32⟩
  | .hbm, ⟨65, _⟩ => ⟨S4x16x64x8192, .f32⟩
  | .hbm, ⟨66, _⟩ => ⟨S4x8192x16x64, .f32⟩
  | .hbm, ⟨67, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_call0_v0 : Ref sig .tc := ⟨.hbm, 17, rfl⟩
abbrev main_call0_call0_cst : Ref sig .tc := ⟨.hbm, 18, rfl⟩
abbrev main_call0_call0_v0 : Ref sig .tc := ⟨.hbm, 19, rfl⟩
abbrev main_call0_call0_v1 : Ref sig .tc := ⟨.hbm, 20, rfl⟩
abbrev main_call0_call0_v2 : Ref sig .tc := ⟨.hbm, 21, rfl⟩
abbrev main_call0_call0_v3 : Ref sig .tc := ⟨.hbm, 22, rfl⟩
abbrev main_call0_call0_v4 : Ref sig .tc := ⟨.hbm, 23, rfl⟩
abbrev main_call0_call0_v5 : Ref sig .tc := ⟨.hbm, 24, rfl⟩
abbrev main_call0_call0_v6 : Ref sig .tc := ⟨.hbm, 25, rfl⟩
abbrev main_call0_call0_v7 : Ref sig .tc := ⟨.hbm, 26, rfl⟩
abbrev main_call0_call0_v8 : Ref sig .tc := ⟨.hbm, 27, rfl⟩
abbrev main_call0_call0_v9 : Ref sig .tc := ⟨.hbm, 28, rfl⟩
abbrev main_call0_call0_v10 : Ref sig .tc := ⟨.hbm, 29, rfl⟩
abbrev main_call0_call0_v11 : Ref sig .tc := ⟨.hbm, 30, rfl⟩
abbrev main_call0_v1 : Ref sig .tc := ⟨.hbm, 31, rfl⟩
abbrev main_v13 : Ref sig .tc := ⟨.hbm, 32, rfl⟩
abbrev main_cst_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v14 : Ref sig .tc := ⟨.hbm, 37, rfl⟩
abbrev main_call2_cst : Ref sig .tc := ⟨.hbm, 38, rfl⟩
abbrev main_call2_v0 : Ref sig .tc := ⟨.hbm, 39, rfl⟩
abbrev main_v15 : Ref sig .tc := ⟨.hbm, 40, rfl⟩
abbrev main_v16 : Ref sig .tc := ⟨.hbm, 41, rfl⟩
abbrev main_call3_v0 : Ref sig .tc := ⟨.hbm, 42, rfl⟩
abbrev main_call3_call0_cst : Ref sig .tc := ⟨.hbm, 43, rfl⟩
abbrev main_call3_call0_v0 : Ref sig .tc := ⟨.hbm, 44, rfl⟩
abbrev main_call3_call0_v1 : Ref sig .tc := ⟨.hbm, 45, rfl⟩
abbrev main_call3_call0_v2 : Ref sig .tc := ⟨.hbm, 46, rfl⟩
abbrev main_call3_call0_v3 : Ref sig .tc := ⟨.hbm, 47, rfl⟩
abbrev main_call3_call0_v4 : Ref sig .tc := ⟨.hbm, 48, rfl⟩
abbrev main_call3_call0_v5 : Ref sig .tc := ⟨.hbm, 49, rfl⟩
abbrev main_call3_call0_v6 : Ref sig .tc := ⟨.hbm, 50, rfl⟩
abbrev main_call3_call0_v7 : Ref sig .tc := ⟨.hbm, 51, rfl⟩
abbrev main_call3_call0_v8 : Ref sig .tc := ⟨.hbm, 52, rfl⟩
abbrev main_call3_call0_v9 : Ref sig .tc := ⟨.hbm, 53, rfl⟩
abbrev main_call3_call0_v10 : Ref sig .tc := ⟨.hbm, 54, rfl⟩
abbrev main_call3_call0_v11 : Ref sig .tc := ⟨.hbm, 55, rfl⟩
abbrev main_call3_v1 : Ref sig .tc := ⟨.hbm, 56, rfl⟩
abbrev main_v17 : Ref sig .tc := ⟨.hbm, 57, rfl⟩
abbrev main_v18 : Ref sig .tc := ⟨.hbm, 58, rfl⟩
abbrev main_cst_1 : Ref sig .tc := ⟨.hbm, 59, rfl⟩
abbrev main_call4_v0 : Ref sig .tc := ⟨.hbm, 60, rfl⟩
abbrev main_call4_v1 : Ref sig .tc := ⟨.hbm, 61, rfl⟩
abbrev main_call4_v2 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩

abbrev nD : Nat := 1
abbrev τ : Topo := Topo.v7x

variable {F : FTy → Type} [FloatOps F]
-- ==== SbProj.lean ====
abbrev S4x8192x1024 : Shape := ⟨3, ![4, 8192, 1024]⟩
abbrev S1024x4096 : Shape := ⟨2, ![1024, 4096]⟩
abbrev S32768x1024 : Shape := ⟨2, ![32768, 1024]⟩
abbrev S512x1024 : Shape := ⟨2, ![512, 1024]⟩
abbrev S1024x1024 : Shape := ⟨2, ![1024, 1024]⟩

abbrev nBuf : Space → Nat
  | .hbm => 8
  | .vmem => 11
  | .smem => 0
  | _ => 0

abbrev bufTy : (tb : Table) → Fin (tcTables nBuf tb) → BufTy
  | .hbm, ⟨0, _⟩ => ⟨S4x8192x1024, .f32⟩
  | .hbm, ⟨1, _⟩ => ⟨S1024x4096, .f32⟩
  | .hbm, ⟨2, _⟩ => ⟨S32768x1024, .f32⟩
  | .hbm, ⟨3, _⟩ => ⟨S1024x4096, .bf16⟩
  | .hbm, ⟨4, _⟩ => ⟨S32768x1024, .bf16⟩
  | .hbm, ⟨5, _⟩ => ⟨S32768x1024, .bf16⟩
  | .hbm, ⟨6, _⟩ => ⟨S32768x1024, .bf16⟩
  | .hbm, ⟨7, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1024x4096, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .f32⟩
  | .local _ .vmem, ⟨10, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== SbProjIdeal.lean ====
variable {F : FTy → Type} [FloatOps F] [Named F]
def κ : String → Option EReal := fun
  | "q_scale_log2" => some (((Real.log 256)⁻¹ : ℝ) : EReal)
  | _ => none
-- ==== SbProjRefIdeal.lean ====
abbrev S4x8192x1024 : Shape := ⟨3, ![4, 8192, 1024]⟩
abbrev S1024x4096 : Shape := ⟨2, ![1024, 4096]⟩
abbrev S4x8192x4096 : Shape := ⟨3, ![4, 8192, 4096]⟩
abbrev S_ : Shape := ⟨0, ![]⟩
abbrev S32768x1024 : Shape := ⟨2, ![32768, 1024]⟩

abbrev nBuf : Space → Nat
  | .hbm => 21
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024x4096, .f32⟩
  | .hbm, ⟨2, _⟩ => ⟨S4x8192x4096, .f32⟩
  | .hbm, ⟨3, _⟩ => ⟨S4x8192x1024, .f32⟩
  | .hbm, ⟨4, _⟩ => ⟨S4x8192x1024, .f32⟩
  | .hbm, ⟨5, _⟩ => ⟨S4x8192x1024, .f32⟩
  | .hbm, ⟨6, _⟩ => ⟨S4x8192x1024, .f32⟩
  | .hbm, ⟨7, _⟩ => ⟨S_, .f32⟩
  | .hbm, ⟨8, _⟩ => ⟨S4x8192x1024, .f32⟩
  | .hbm, ⟨9, _⟩ => ⟨S4x8192x1024, .f32⟩
  | .hbm, ⟨10, _⟩ => ⟨S_, .f32⟩
  | .hbm, ⟨11, _⟩ => ⟨S_, .f32⟩
  | .hbm, ⟨12, _⟩ => ⟨S4x8192x1024, .f32⟩
  | .hbm, ⟨13, _⟩ => ⟨S4x8192x1024, .f32⟩
  | .hbm, ⟨14, _⟩ => ⟨S32768x1024, .f32⟩
  | .hbm, ⟨15, _⟩ => ⟨S32768x1024, .bf16⟩
  | .hbm, ⟨16, _⟩ => ⟨S32768x1024, .f32⟩
  | .hbm, ⟨17, _⟩ => ⟨S32768x1024, .bf16⟩
  | .hbm, ⟨18, _⟩ => ⟨S32768x1024, .f32⟩
  | .hbm, ⟨19, _⟩ => ⟨S32768x1024, .bf16⟩
  | .hbm, ⟨20, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩

abbrev nD : Nat := 1
abbrev τ : Topo := Topo.v7x

variable {F : FTy → Type} [FloatOps F]
-- ==== OutLn.lean ====
abbrev S4x8192x1024 : Shape := ⟨3, ![4, 8192, 1024]⟩
abbrev S1024x1024 : Shape := ⟨2, ![1024, 1024]⟩
abbrev S1024 : Shape := ⟨1, ![1024]⟩
abbrev S32768x1024 : Shape := ⟨2, ![32768, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 13
  | .vmem => 11
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S4x8192x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S32768x1024, .f32⟩
  | .hbm, ⟨7, _⟩ => ⟨S32768x1024, .f32⟩
  | .hbm, ⟨8, _⟩ => ⟨S32768x1024, .f32⟩
  | .hbm, ⟨9, _⟩ => ⟨S1024x1024, .bf16⟩
  | .hbm, ⟨10, _⟩ => ⟨S1x1024, .f32⟩
  | .hbm, ⟨11, _⟩ => ⟨S1x1024, .f32⟩
  | .hbm, ⟨12, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutLnRefIdeal.lean ====
abbrev S4x8192x1024 : Shape := ⟨3, ![4, 8192, 1024]⟩
abbrev S1024x1024 : Shape := ⟨2, ![1024, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S32768x1024 : Shape := ⟨2, ![32768, 1024]⟩

abbrev nBuf : Space → Nat
  | .hbm => 51
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S4x8192x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S4x8192x1024, .f32⟩
  | .hbm, ⟨7, _⟩ => ⟨S4x8192x1024, .f32⟩
  | .hbm, ⟨8, _⟩ => ⟨S_, .f32⟩
  | .hbm, ⟨9, _⟩ => ⟨S4x8192x1024, .f32⟩
  | .hbm, ⟨10, _⟩ => ⟨S4x8192x1024, .f32⟩
  | .hbm, ⟨11, _⟩ => ⟨S_, .f32⟩
  | .hbm, ⟨12, _⟩ => ⟨S4x8192x1024, .f32⟩
  | .hbm, ⟨13, _⟩ => ⟨S4x8192x1024, .f32⟩
  | .hbm, ⟨14, _⟩ => ⟨S4x8192x1024, .f32⟩
  | .hbm, ⟨15, _⟩ => ⟨S4x8192x1024, .f32⟩
  | .hbm, ⟨16, _⟩ => ⟨S4x8192x1024, .f32⟩
  | .hbm, ⟨17, _⟩ => ⟨S_, .f32⟩
  | .hbm, ⟨18, _⟩ => ⟨S4x8192x1024, .f32⟩
  | .hbm, ⟨19, _⟩ => ⟨S4x8192x1024, .f32⟩
  | .hbm, ⟨20, _⟩ => ⟨S4x8192x1024, .f32⟩
  | .hbm, ⟨21, _⟩ => ⟨S_, .f32⟩
  | .hbm, ⟨22, _⟩ => ⟨S4x8192, .f32⟩
  | .hbm, ⟨23, _⟩ => ⟨S4x8192x1, .f32⟩
  | .hbm, ⟨24, _⟩ => ⟨S_, .f32⟩
  | .hbm, ⟨25, _⟩ => ⟨S4x8192x1, .f32⟩
  | .hbm, ⟨26, _⟩ => ⟨S4x8192x1, .f32⟩
  | .hbm, ⟨27, _⟩ => ⟨S4x8192x1024, .f32⟩
  | .hbm, ⟨28, _⟩ => ⟨S4x8192x1024, .f32⟩
  | .hbm, ⟨29, _⟩ => ⟨S4x8192x1024, .f32⟩
  | .hbm, ⟨30, _⟩ => ⟨S_, .f32⟩
  | .hbm, ⟨31, _⟩ => ⟨S4x8192, .f32⟩
  | .hbm, ⟨32, _⟩ => ⟨S4x8192x1, .f32⟩
  | .hbm, ⟨33, _⟩ => ⟨S_, .f32⟩
  | .hbm, ⟨34, _⟩ => ⟨S4x8192x1, .f32⟩
  | .hbm, ⟨35, _⟩ => ⟨S4x8192x1, .f32⟩
  | .hbm, ⟨36, _⟩ => ⟨S4x8192x1024, .f32⟩
  | .hbm, ⟨37, _⟩ => ⟨S4x8192x1024, .f32⟩
  | .hbm, ⟨38, _⟩ => ⟨S_, .f32⟩
  | .hbm, ⟨39, _⟩ => ⟨S4x8192x1, .f32⟩
  | .hbm, ⟨40, _⟩ => ⟨S4x8192x1, .f32⟩
  | .hbm, ⟨41, _⟩ => ⟨S4x8192x1, .f32⟩
  | .hbm, ⟨42, _⟩ => ⟨S4x8192x1024, .f32⟩
  | .hbm, ⟨43, _⟩ => ⟨S4x8192x1024, .f32⟩
  | .hbm, ⟨44, _⟩ => ⟨S1x1x1024, .f32⟩
  | .hbm, ⟨45, _⟩ => ⟨S4x8192x1024, .f32⟩
  | .hbm, ⟨46, _⟩ => ⟨S4x8192x1024, .f32⟩
  | .hbm, ⟨47, _⟩ => ⟨S1x1x1024, .f32⟩
  | .hbm, ⟨48, _⟩ => ⟨S4x8192x1024, .f32⟩
  | .hbm, ⟨49, _⟩ => ⟨S4x8192x1024, .f32⟩
  | .hbm, ⟨50, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst_0 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_cst_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩

abbrev nD : Nat := 1
abbrev τ : Topo := Topo.v7x

variable {F : FTy → Type} [FloatOps F]
-- ==== MobaProj.lean ====
abbrev S4x8192x1024 : Shape := ⟨3, ![4, 8192, 1024]⟩
abbrev S1024x4096 : Shape := ⟨2, ![1024, 4096]⟩
abbrev S128 : Shape := ⟨1, ![128]⟩
abbrev S8192 : Shape := ⟨1, ![8192]⟩
abbrev S8 : Shape := ⟨1, ![8]⟩
abbrev S_ : Shape := ⟨0, ![]⟩
abbrev S8192x1 : Shape := ⟨2, ![8192, 1]⟩
abbrev S1x8 : Shape := ⟨2, ![1, 8]⟩
abbrev S8192x8 : Shape := ⟨2, ![8192, 8]⟩
abbrev S128x1 : Shape := ⟨2, ![128, 1]⟩
abbrev S8192x128 : Shape := ⟨2, ![8192, 128]⟩
abbrev S1x128 : Shape := ⟨2, ![1, 128]⟩
abbrev S32768x1024 : Shape := ⟨2, ![32768, 1024]⟩
abbrev S64x2x1024 : Shape := ⟨3, ![64, 2, 1024]⟩
abbrev S512x1024 : Shape := ⟨2, ![512, 1024]⟩
abbrev S512x128 : Shape := ⟨2, ![512, 128]⟩
abbrev S1x2x1024 : Shape := ⟨3, ![1, 2, 1024]⟩
abbrev S1024x1024 : Shape := ⟨2, ![1024, 1024]⟩
abbrev S256x1024 : Shape := ⟨2, ![256, 1024]⟩
abbrev S1024 : Shape := ⟨1, ![1024]⟩
abbrev S1x1024 : Shape := ⟨2, ![1, 1024]⟩
abbrev S1x1x1024 : Shape := ⟨3, ![1, 1, 1024]⟩

abbrev nBuf : Space → Nat
  | .hbm => 72
  | .vmem => 19
  | .smem => 0
  | _ => 0

abbrev bufTy : (tb : Table) → Fin (tcTables nBuf tb) → BufTy
  | .hbm, ⟨0, _⟩ => ⟨S4x8192x1024, .f32⟩
  | .hbm, ⟨1, _⟩ => ⟨S1024x4096, .f32⟩
  | .hbm, ⟨2, _⟩ => ⟨S128, .i32⟩
  | .hbm, ⟨3, _⟩ => ⟨S128, .i1⟩
  | .hbm, ⟨4, _⟩ => ⟨S128, .i1⟩
  | .hbm, ⟨5, _⟩ => ⟨S128, .i1⟩
  | .hbm, ⟨6, _⟩ => ⟨S8192, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S8192x1, .f32⟩
  | .hbm, ⟨22, _⟩ => ⟨S1x8, .f32⟩
  | .hbm, ⟨23, _⟩ => ⟨S8192x8, .f32⟩
  | .hbm, ⟨24, _⟩ => ⟨S8192x8, .f32⟩
  | .hbm, ⟨25, _⟩ => ⟨S8192x8, .f32⟩
  | .hbm, ⟨26, _⟩ => ⟨S8192x8, .f32⟩
  | .hbm, ⟨27, _⟩ => ⟨S8192x8, .f32⟩
  | .hbm, ⟨28, _⟩ => ⟨S_, .i32⟩
  | .hbm, ⟨29, _⟩ => ⟨S128, .i32⟩
  | .hbm, ⟨30, _⟩ => ⟨S128, .i1⟩
  | .hbm, ⟨31, _⟩ => ⟨S_, .i32⟩
  | .hbm, ⟨32, _⟩ => ⟨S128, .i32⟩
  | .hbm, ⟨33, _⟩ => ⟨S128, .i32⟩
  | .hbm, ⟨34, _⟩ => ⟨S128, .i32⟩
  | .hbm, ⟨35, _⟩ => ⟨S128x1, .i32⟩
  | .hbm, ⟨36, _⟩ => ⟨S8192x128, .f32⟩
  | .hbm, ⟨37, _⟩ => ⟨S_, .i32⟩
  | .hbm, ⟨38, _⟩ => ⟨S128, .i32⟩
  | .hbm, ⟨39, _⟩ => ⟨S128, .i1⟩
  | .hbm, ⟨40, _⟩ => ⟨S_, .i32⟩
  | .hbm, ⟨41, _⟩ => ⟨S128, .i32⟩
  | .hbm, ⟨42, _⟩ => ⟨S128, .i32⟩
  | .hbm, ⟨43, _⟩ => ⟨S128, .i32⟩
  | .hbm, ⟨44, _⟩ => ⟨S128x1, .i32⟩
  | .hbm, ⟨45, _⟩ => ⟨S8192x128, .f32⟩
  | .hbm, ⟨46, _⟩ => ⟨S1x128, .i1⟩
  | .hbm, ⟨47, _⟩ => ⟨S_, .f32⟩
  | .hbm, ⟨48, _⟩ => ⟨S_, .f32⟩
  | .hbm, ⟨49, _⟩ => ⟨S8192x128, .i1⟩
  | .hbm, ⟨50, _⟩ => ⟨S8192x128, .f32⟩
  | .hbm, ⟨51, _⟩ => ⟨S8192x128, .f32⟩
  | .hbm, ⟨52, _⟩ => ⟨S1x128, .i1⟩
  | .hbm, ⟨53, _⟩ => ⟨S8192x128, .f32⟩
  | .hbm, ⟨54, _⟩ => ⟨S_, .f32⟩
  | .hbm, ⟨55, _⟩ => ⟨S_, .f32⟩
  | .hbm, ⟨56, _⟩ => ⟨S8192x128, .i1⟩
  | .hbm, ⟨57, _⟩ => ⟨S8192x128, .f32⟩
  | .hbm, ⟨58, _⟩ => ⟨S8192x128, .f32⟩
  | .hbm, ⟨59, _⟩ => ⟨S1x128, .i1⟩
  | .hbm, ⟨60, _⟩ => ⟨S_, .f32⟩
  | .hbm, ⟨61, _⟩ => ⟨S_, .f32⟩
  | .hbm, ⟨62, _⟩ => ⟨S8192x128, .i1⟩
  | .hbm, ⟨63, _⟩ => ⟨S8192x128, .f32⟩
  | .hbm, ⟨64, _⟩ => ⟨S8192x128, .f32⟩
  | .hbm, ⟨65, _⟩ => ⟨S32768x1024, .f32⟩
  | .hbm, ⟨66, _⟩ => ⟨S1024x4096, .bf16⟩
  | .hbm, ⟨67, _⟩ => ⟨S32768x1024, .bf16⟩
  | .hbm, ⟨68, _⟩ => ⟨S32768x1024, .bf16⟩
  | .hbm, ⟨69, _⟩ => ⟨S32768x1024, .bf16⟩
  | .hbm, ⟨70, _⟩ => ⟨S32768x1024, .f32⟩
  | .hbm, ⟨71, _⟩ => ⟨S64x2x1024, .f32⟩
  | .local _ .vmem, ⟨0, _⟩ => ⟨S512x1024, .f32⟩
  | .local _ .vmem, ⟨1, _⟩ => ⟨S512x1024, .f32⟩
  | .local _ .vmem, ⟨2, _⟩ => ⟨S1024x4096, .bf16⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .f32⟩
  | .local _ .vmem, ⟨16, _⟩ => ⟨S512x1024, .f32⟩
  | .local _ .vmem, ⟨17, _⟩ => ⟨S1x2x1024, .f32⟩
  | .local _ .vmem, ⟨18, _⟩ => ⟨S1x2x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_4 : Ref sig .tc := ⟨.hbm, 15, rfl⟩
abbrev main_v7 : Ref sig .tc := ⟨.hbm, 16, rfl⟩
abbrev main_v8 : Ref sig .tc := ⟨.hbm, 17, rfl⟩
abbrev main_cst_5 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_6 : Ref sig .tc := ⟨.hbm, 28, rfl⟩
abbrev main_v18 : Ref sig .tc := ⟨.hbm, 29, rfl⟩
abbrev main_v19 : Ref sig .tc := ⟨.hbm, 30, rfl⟩
abbrev main_c_7 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_8 : Ref sig .tc := ⟨.hbm, 37, rfl⟩
abbrev main_v25 : Ref sig .tc := ⟨.hbm, 38, rfl⟩
abbrev main_v26 : Ref sig .tc := ⟨.hbm, 39, rfl⟩
abbrev main_c_9 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_10 : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_11 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v36 : Ref sig .tc := ⟨.hbm, 58, rfl⟩
abbrev main_v37 : Ref sig .tc := ⟨.hbm, 59, rfl⟩
abbrev main_cst_12 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41_0 : Ref sig .tc := ⟨.hbm, 67, rfl⟩
abbrev main_v41_1 : Ref sig .tc := ⟨.hbm, 68, rfl⟩
abbrev main_v41_2 : Ref sig .tc := ⟨.hbm, 69, rfl⟩
abbrev main_v41_3 : Ref sig .tc := ⟨.hbm, 70, rfl⟩
abbrev main_v41_4 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x2x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MobaProjIdeal.lean ====
variable {F : FTy → Type} [FloatOps F] [Named F]
def κ : String → Option EReal := fun
  | "q_scale_log2" => some (((Real.log 256)⁻¹ : ℝ) : EReal)
  | _ => none
-- ==== MobaProjRefIdeal.lean ====
abbrev S4x8192x1024 : Shape := ⟨3, ![4, 8192, 1024]⟩
abbrev S1024x4096 : Shape := ⟨2, ![1024, 4096]⟩
abbrev S8192 : Shape := ⟨1, ![8192]⟩
abbrev S8 : Shape := ⟨1, ![8]⟩
abbrev S_ : Shape := ⟨0, ![]⟩
abbrev S8192x1 : Shape := ⟨2, ![8192, 1]⟩
abbrev S1x8 : Shape := ⟨2, ![1, 8]⟩
abbrev S8192x8 : Shape := ⟨2, ![8192, 8]⟩
abbrev S8192x1x8 : Shape := ⟨3, ![8192, 1, 8]⟩
abbrev S4x8192x4096 : Shape := ⟨3, ![4, 8192, 4096]⟩
abbrev S4x8192x16x64 : Shape := ⟨4, ![4, 8192, 16, 64]⟩
abbrev S4x8192x16x8 : Shape := ⟨4, ![4, 8192, 16, 8]⟩
abbrev S1x8192x1x8 : Shape := ⟨4, ![1, 8192, 1, 8]⟩
abbrev S4x8192x16x48 : Shape := ⟨4, ![4, 8192, 16, 48]⟩
abbrev S4x32x256x1024 : Shape := ⟨4, ![4, 32, 256, 1024]⟩
abbrev S4x32x1024 : Shape := ⟨3, ![4, 32, 1024]⟩
abbrev S32768x1024 : Shape := ⟨2, ![32768, 1024]⟩
abbrev S64x2x1024 : Shape := ⟨3, ![64, 2, 1024]⟩

abbrev nBuf : Space → Nat
  | .hbm => 90
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024x4096, .f32⟩
  | .hbm, ⟨2, _⟩ => ⟨S8192, .f32⟩
  | .hbm, ⟨3, _⟩ => ⟨S8, .f32⟩
  | .hbm, ⟨4, _⟩ => ⟨S_, .f32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S8192x1, .f32⟩
  | .hbm, ⟨18, _⟩ => ⟨S1x8, .f32⟩
  | .hbm, ⟨19, _⟩ => ⟨S8192x8, .f32⟩
  | .hbm, ⟨20, _⟩ => ⟨S8192x8, .f32⟩
  | .hbm, ⟨21, _⟩ => ⟨S8192x8, .f32⟩
  | .hbm, ⟨22, _⟩ => ⟨S8192x8, .f32⟩
  | .hbm, ⟨23, _⟩ => ⟨S8192x1x8, .f32⟩
  | .hbm, ⟨24, _⟩ => ⟨S8192x8, .f32⟩
  | .hbm, ⟨25, _⟩ => ⟨S8192x1x8, .f32⟩
  | .hbm, ⟨26, _⟩ => ⟨S4x8192x4096, .f32⟩
  | .hbm, ⟨27, _⟩ => ⟨S4x8192x1024, .f32⟩
  | .hbm, ⟨28, _⟩ => ⟨S4x8192x1024, .f32⟩
  | .hbm, ⟨29, _⟩ => ⟨S4x8192x1024, .f32⟩
  | .hbm, ⟨30, _⟩ => ⟨S4x8192x1024, .f32⟩
  | .hbm, ⟨31, _⟩ => ⟨S4x8192x16x64, .f32⟩
  | .hbm, ⟨32, _⟩ => ⟨S4x8192x16x8, .f32⟩
  | .hbm, ⟨33, _⟩ => ⟨S4x8192x16x8, .f32⟩
  | .hbm, ⟨34, _⟩ => ⟨S1x8192x1x8, .f32⟩
  | .hbm, ⟨35, _⟩ => ⟨S4x8192x16x8, .f32⟩
  | .hbm, ⟨36, _⟩ => ⟨S4x8192x16x8, .f32⟩
  | .hbm, ⟨37, _⟩ => ⟨S1x8192x1x8, .f32⟩
  | .hbm, ⟨38, _⟩ => ⟨S4x8192x16x8, .f32⟩
  | .hbm, ⟨39, _⟩ => ⟨S4x8192x16x8, .f32⟩
  | .hbm, ⟨40, _⟩ => ⟨S4x8192x16x8, .f32⟩
  | .hbm, ⟨41, _⟩ => ⟨S1x8192x1x8, .f32⟩
  | .hbm, ⟨42, _⟩ => ⟨S4x8192x16x8, .f32⟩
  | .hbm, ⟨43, _⟩ => ⟨S4x8192x16x8, .f32⟩
  | .hbm, ⟨44, _⟩ => ⟨S1x8192x1x8, .f32⟩
  | .hbm, ⟨45, _⟩ => ⟨S4x8192x16x8, .f32⟩
  | .hbm, ⟨46, _⟩ => ⟨S4x8192x16x8, .f32⟩
  | .hbm, ⟨47, _⟩ => ⟨S4x8192x16x8, .f32⟩
  | .hbm, ⟨48, _⟩ => ⟨S4x8192x16x48, .f32⟩
  | .hbm, ⟨49, _⟩ => ⟨S4x8192x16x64, .f32⟩
  | .hbm, ⟨50, _⟩ => ⟨S_, .f32⟩
  | .hbm, ⟨51, _⟩ => ⟨S4x8192x16x64, .f32⟩
  | .hbm, ⟨52, _⟩ => ⟨S4x8192x16x64, .f32⟩
  | .hbm, ⟨53, _⟩ => ⟨S_, .f32⟩
  | .hbm, ⟨54, _⟩ => ⟨S_, .f32⟩
  | .hbm, ⟨55, _⟩ => ⟨S4x8192x16x64, .f32⟩
  | .hbm, ⟨56, _⟩ => ⟨S4x8192x16x64, .f32⟩
  | .hbm, ⟨57, _⟩ => ⟨S4x8192x16x64, .f32⟩
  | .hbm, ⟨58, _⟩ => ⟨S4x8192x16x8, .f32⟩
  | .hbm, ⟨59, _⟩ => ⟨S4x8192x16x8, .f32⟩
  | .hbm, ⟨60, _⟩ => ⟨S1x8192x1x8, .f32⟩
  | .hbm, ⟨61, _⟩ => ⟨S4x8192x16x8, .f32⟩
  | .hbm, ⟨62, _⟩ => ⟨S4x8192x16x8, .f32⟩
  | .hbm, ⟨63, _⟩ => ⟨S1x8192x1x8, .f32⟩
  | .hbm, ⟨64, _⟩ => ⟨S4x8192x16x8, .f32⟩
  | .hbm, ⟨65, _⟩ => ⟨S4x8192x16x8, .f32⟩
  | .hbm, ⟨66, _⟩ => ⟨S4x8192x16x8, .f32⟩
  | .hbm, ⟨67, _⟩ => ⟨S1x8192x1x8, .f32⟩
  | .hbm, ⟨68, _⟩ => ⟨S4x8192x16x8, .f32⟩
  | .hbm, ⟨69, _⟩ => ⟨S4x8192x16x8, .f32⟩
  | .hbm, ⟨70, _⟩ => ⟨S1x8192x1x8, .f32⟩
  | .hbm, ⟨71, _⟩ => ⟨S4x8192x16x8, .f32⟩
  | .hbm, ⟨72, _⟩ => ⟨S4x8192x16x8, .f32⟩
  | .hbm, ⟨73, _⟩ => ⟨S4x8192x16x8, .f32⟩
  | .hbm, ⟨74, _⟩ => ⟨S4x8192x16x48, .f32⟩
  | .hbm, ⟨75, _⟩ => ⟨S4x8192x16x64, .f32⟩
  | .hbm, ⟨76, _⟩ => ⟨S4x32x256x1024, .f32⟩
  | .hbm, ⟨77, _⟩ => ⟨S_, .f32⟩
  | .hbm, ⟨78, _⟩ => ⟨S4x32x1024, .f32⟩
  | .hbm, ⟨79, _⟩ => ⟨S_, .f32⟩
  | .hbm, ⟨80, _⟩ => ⟨S4x32x1024, .f32⟩
  | .hbm, ⟨81, _⟩ => ⟨S4x32x1024, .f32⟩
  | .hbm, ⟨82, _⟩ => ⟨S32768x1024, .f32⟩
  | .hbm, ⟨83, _⟩ => ⟨S32768x1024, .bf16⟩
  | .hbm, ⟨84, _⟩ => ⟨S32768x1024, .f32⟩
  | .hbm, ⟨85, _⟩ => ⟨S32768x1024, .bf16⟩
  | .hbm, ⟨86, _⟩ => ⟨S32768x1024, .f32⟩
  | .hbm, ⟨87, _⟩ => ⟨S32768x1024, .bf16⟩
  | .hbm, ⟨88, _⟩ => ⟨S32768x1024, .f32⟩
  | .hbm, ⟨89, _⟩ => ⟨S64x2x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_cst_3 : Ref sig .tc := ⟨.hbm, 50, rfl⟩
abbrev main_v44 : Ref sig .tc := ⟨.hbm, 51, rfl⟩
abbrev main_v45 : Ref sig .tc := ⟨.hbm, 52, rfl⟩
abbrev main_cst_4 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_cst_5 : Ref sig .tc := ⟨.hbm, 77, rfl⟩
abbrev main_v69 : Ref sig .tc := ⟨.hbm, 78, rfl⟩
abbrev main_cst_6 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩

abbrev nD : Nat := 1
abbrev τ : Topo := Topo.v7x

variable {F : FTy → Type} [FloatOps F]
-- ==== SwaProj.lean ====
abbrev S4x8192x1024 : Shape := ⟨3, ![4, 8192, 1024]⟩
abbrev S1024x2560 : Shape := ⟨2, ![1024, 2560]⟩
abbrev S128 : Shape := ⟨1, ![128]⟩
abbrev S8192 : Shape := ⟨1, ![8192]⟩
abbrev S8 : Shape := ⟨1, ![8]⟩
abbrev S_ : Shape := ⟨0, ![]⟩
abbrev S8192x1 : Shape := ⟨2, ![8192, 1]⟩
abbrev S1x8 : Shape := ⟨2, ![1, 8]⟩
abbrev S8192x8 : Shape := ⟨2, ![8192, 8]⟩
abbrev S128x1 : Shape := ⟨2, ![128, 1]⟩
abbrev S8192x128 : Shape := ⟨2, ![8192, 128]⟩
abbrev S1x128 : Shape := ⟨2, ![1, 128]⟩
abbrev S32768x1024 : Shape := ⟨2, ![32768, 1024]⟩
abbrev S32768x256 : Shape := ⟨2, ![32768, 256]⟩
abbrev S512x1024 : Shape := ⟨2, ![512, 1024]⟩
abbrev S512x128 : Shape := ⟨2, ![512, 128]⟩
abbrev S512x256 : Shape := ⟨2, ![512, 256]⟩
abbrev S1024x1024 : Shape := ⟨2, ![1024, 1024]⟩
abbrev S1024x256 : Shape := ⟨2, ![1024, 256]⟩

abbrev nBuf : Space → Nat
  | .hbm => 71
  | .vmem => 17
  | .smem => 0
  | _ => 0

abbrev bufTy : (tb : Table) → Fin (tcTables nBuf tb) → BufTy
  | .hbm, ⟨0, _⟩ => ⟨S4x8192x1024, .f32⟩
  | .hbm, ⟨1, _⟩ => ⟨S1024x2560, .f32⟩
  | .hbm, ⟨2, _⟩ => ⟨S128, .i32⟩
  | .hbm, ⟨3, _⟩ => ⟨S128, .i1⟩
  | .hbm, ⟨4, _⟩ => ⟨S128, .i1⟩
  | .hbm, ⟨5, _⟩ => ⟨S128, .i1⟩
  | .hbm, ⟨6, _⟩ => ⟨S8192, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S8192x1, .f32⟩
  | .hbm, ⟨22, _⟩ => ⟨S1x8, .f32⟩
  | .hbm, ⟨23, _⟩ => ⟨S8192x8, .f32⟩
  | .hbm, ⟨24, _⟩ => ⟨S8192x8, .f32⟩
  | .hbm, ⟨25, _⟩ => ⟨S8192x8, .f32⟩
  | .hbm, ⟨26, _⟩ => ⟨S8192x8, .f32⟩
  | .hbm, ⟨27, _⟩ => ⟨S8192x8, .f32⟩
  | .hbm, ⟨28, _⟩ => ⟨S_, .i32⟩
  | .hbm, ⟨29, _⟩ => ⟨S128, .i32⟩
  | .hbm, ⟨30, _⟩ => ⟨S128, .i1⟩
  | .hbm, ⟨31, _⟩ => ⟨S_, .i32⟩
  | .hbm, ⟨32, _⟩ => ⟨S128, .i32⟩
  | .hbm, ⟨33, _⟩ => ⟨S128, .i32⟩
  | .hbm, ⟨34, _⟩ => ⟨S128, .i32⟩
  | .hbm, ⟨35, _⟩ => ⟨S128x1, .i32⟩
  | .hbm, ⟨36, _⟩ => ⟨S8192x128, .f32⟩
  | .hbm, ⟨37, _⟩ => ⟨S_, .i32⟩
  | .hbm, ⟨38, _⟩ => ⟨S128, .i32⟩
  | .hbm, ⟨39, _⟩ => ⟨S128, .i1⟩
  | .hbm, ⟨40, _⟩ => ⟨S_, .i32⟩
  | .hbm, ⟨41, _⟩ => ⟨S128, .i32⟩
  | .hbm, ⟨42, _⟩ => ⟨S128, .i32⟩
  | .hbm, ⟨43, _⟩ => ⟨S128, .i32⟩
  | .hbm, ⟨44, _⟩ => ⟨S128x1, .i32⟩
  | .hbm, ⟨45, _⟩ => ⟨S8192x128, .f32⟩
  | .hbm, ⟨46, _⟩ => ⟨S1x128, .i1⟩
  | .hbm, ⟨47, _⟩ => ⟨S_, .f32⟩
  | .hbm, ⟨48, _⟩ => ⟨S_, .f32⟩
  | .hbm, ⟨49, _⟩ => ⟨S8192x128, .i1⟩
  | .hbm, ⟨50, _⟩ => ⟨S8192x128, .f32⟩
  | .hbm, ⟨51, _⟩ => ⟨S8192x128, .f32⟩
  | .hbm, ⟨52, _⟩ => ⟨S1x128, .i1⟩
  | .hbm, ⟨53, _⟩ => ⟨S8192x128, .f32⟩
  | .hbm, ⟨54, _⟩ => ⟨S_, .f32⟩
  | .hbm, ⟨55, _⟩ => ⟨S_, .f32⟩
  | .hbm, ⟨56, _⟩ => ⟨S8192x128, .i1⟩
  | .hbm, ⟨57, _⟩ => ⟨S8192x128, .f32⟩
  | .hbm, ⟨58, _⟩ => ⟨S8192x128, .f32⟩
  | .hbm, ⟨59, _⟩ => ⟨S1x128, .i1⟩
  | .hbm, ⟨60, _⟩ => ⟨S_, .f32⟩
  | .hbm, ⟨61, _⟩ => ⟨S_, .f32⟩
  | .hbm, ⟨62, _⟩ => ⟨S8192x128, .i1⟩
  | .hbm, ⟨63, _⟩ => ⟨S8192x128, .f32⟩
  | .hbm, ⟨64, _⟩ => ⟨S8192x128, .f32⟩
  | .hbm, ⟨65, _⟩ => ⟨S32768x1024, .f32⟩
  | .hbm, ⟨66, _⟩ => ⟨S1024x2560, .bf16⟩
  | .hbm, ⟨67, _⟩ => ⟨S32768x1024, .bf16⟩
  | .hbm, ⟨68, _⟩ => ⟨S32768x256, .bf16⟩
  | .hbm, ⟨69, _⟩ => ⟨S32768x256, .bf16⟩
  | .hbm, ⟨70, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1024x2560, .bf16⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x1024, .bf16⟩
  | .local _ .vmem, ⟨10, _⟩ => ⟨S512x1024, .bf16⟩
  | .local _ .vmem, ⟨11, _⟩ => ⟨S512x256, .bf16⟩
  | .local _ .vmem, ⟨12, _⟩ => ⟨S512x256, .bf16⟩
  | .local _ .vmem, ⟨13, _⟩ => ⟨S512x256, .bf16⟩
  | .local _ .vmem, ⟨14, _⟩ => ⟨S512x256, .bf16⟩
  | .local _ .vmem, ⟨15, _⟩ => ⟨S512x1024, .f32⟩
  | .local _ .vmem, ⟨16, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_4 : Ref sig .tc := ⟨.hbm, 15, rfl⟩
abbrev main_v7 : Ref sig .tc := ⟨.hbm, 16, rfl⟩
abbrev main_v8 : Ref sig .tc := ⟨.hbm, 17, rfl⟩
abbrev main_cst_5 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_6 : Ref sig .tc := ⟨.hbm, 28, rfl⟩
abbrev main_v18 : Ref sig .tc := ⟨.hbm, 29, rfl⟩
abbrev main_v19 : Ref sig .tc := ⟨.hbm, 30, rfl⟩
abbrev main_c_7 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_8 : Ref sig .tc := ⟨.hbm, 37, rfl⟩
abbrev main_v25 : Ref sig .tc := ⟨.hbm, 38, rfl⟩
abbrev main_v26 : Ref sig .tc := ⟨.hbm, 39, rfl⟩
abbrev main_c_9 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_10 : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_11 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v36 : Ref sig .tc := ⟨.hbm, 58, rfl⟩
abbrev main_v37 : Ref sig .tc := ⟨.hbm, 59, rfl⟩
abbrev main_cst_12 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41_0 : Ref sig .tc := ⟨.hbm, 67, rfl⟩
abbrev main_v41_1 : Ref sig .tc := ⟨.hbm, 68, rfl⟩
abbrev main_v41_2 : Ref sig .tc := ⟨.hbm, 69, rfl⟩
abbrev main_v41_3 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== SwaProjRefIdeal.lean ====
abbrev S4x8192x1024 : Shape := ⟨3, ![4, 8192, 1024]⟩
abbrev S1024x2560 : Shape := ⟨2, ![1024, 2560]⟩
abbrev S8192 : Shape := ⟨1, ![8192]⟩
abbrev S8 : Shape := ⟨1, ![8]⟩
abbrev S_ : Shape := ⟨0, ![]⟩
abbrev S8192x1 : Shape := ⟨2, ![8192, 1]⟩
abbrev S1x8 : Shape := ⟨2, ![1, 8]⟩
abbrev S8192x8 : Shape := ⟨2, ![8192, 8]⟩
abbrev S8192x1x8 : Shape := ⟨3, ![8192, 1, 8]⟩
abbrev S4x8192x2560 : Shape := ⟨3, ![4, 8192, 2560]⟩
abbrev S4x8192x256 : Shape := ⟨3, ![4, 8192, 256]⟩
abbrev S4x8192x16x64 : Shape := ⟨4, ![4, 8192, 16, 64]⟩
abbrev S4x8192x16x8 : Shape := ⟨4, ![4, 8192, 16, 8]⟩
abbrev S1x8192x1x8 : Shape := ⟨4, ![1, 8192, 1, 8]⟩
abbrev S4x8192x16x48 : Shape := ⟨4, ![4, 8192, 16, 48]⟩
abbrev S4x8192x4x64 : Shape := ⟨4, ![4, 8192, 4, 64]⟩
abbrev S4x8192x4x8 : Shape := ⟨4, ![4, 8192, 4, 8]⟩
abbrev S4x8192x4x48 : Shape := ⟨4, ![4, 8192, 4, 48]⟩
abbrev S32768x1024 : Shape := ⟨2, ![32768, 1024]⟩
abbrev S32768x256 : Shape := ⟨2, ![32768, 256]⟩

abbrev nBuf : Space → Nat
  | .hbm => 79
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024x2560, .f32⟩
  | .hbm, ⟨2, _⟩ => ⟨S8192, .f32⟩
  | .hbm, ⟨3, _⟩ => ⟨S8, .f32⟩
  | .hbm, ⟨4, _⟩ => ⟨S_, .f32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S8192x1, .f32⟩
  | .hbm, ⟨18, _⟩ => ⟨S1x8, .f32⟩
  | .hbm, ⟨19, _⟩ => ⟨S8192x8, .f32⟩
  | .hbm, ⟨20, _⟩ => ⟨S8192x8, .f32⟩
  | .hbm, ⟨21, _⟩ => ⟨S8192x8, .f32⟩
  | .hbm, ⟨22, _⟩ => ⟨S8192x8, .f32⟩
  | .hbm, ⟨23, _⟩ => ⟨S8192x1x8, .f32⟩
  | .hbm, ⟨24, _⟩ => ⟨S8192x8, .f32⟩
  | .hbm, ⟨25, _⟩ => ⟨S8192x1x8, .f32⟩
  | .hbm, ⟨26, _⟩ => ⟨S4x8192x2560, .f32⟩
  | .hbm, ⟨27, _⟩ => ⟨S4x8192x1024, .f32⟩
  | .hbm, ⟨28, _⟩ => ⟨S4x8192x256, .f32⟩
  | .hbm, ⟨29, _⟩ => ⟨S4x8192x256, .f32⟩
  | .hbm, ⟨30, _⟩ => ⟨S4x8192x1024, .f32⟩
  | .hbm, ⟨31, _⟩ => ⟨S4x8192x16x64, .f32⟩
  | .hbm, ⟨32, _⟩ => ⟨S4x8192x16x8, .f32⟩
  | .hbm, ⟨33, _⟩ => ⟨S4x8192x16x8, .f32⟩
  | .hbm, ⟨34, _⟩ => ⟨S1x8192x1x8, .f32⟩
  | .hbm, ⟨35, _⟩ => ⟨S4x8192x16x8, .f32⟩
  | .hbm, ⟨36, _⟩ => ⟨S4x8192x16x8, .f32⟩
  | .hbm, ⟨37, _⟩ => ⟨S1x8192x1x8, .f32⟩
  | .hbm, ⟨38, _⟩ => ⟨S4x8192x16x8, .f32⟩
  | .hbm, ⟨39, _⟩ => ⟨S4x8192x16x8, .f32⟩
  | .hbm, ⟨40, _⟩ => ⟨S4x8192x16x8, .f32⟩
  | .hbm, ⟨41, _⟩ => ⟨S1x8192x1x8, .f32⟩
  | .hbm, ⟨42, _⟩ => ⟨S4x8192x16x8, .f32⟩
  | .hbm, ⟨43, _⟩ => ⟨S4x8192x16x8, .f32⟩
  | .hbm, ⟨44, _⟩ => ⟨S1x8192x1x8, .f32⟩
  | .hbm, ⟨45, _⟩ => ⟨S4x8192x16x8, .f32⟩
  | .hbm, ⟨46, _⟩ => ⟨S4x8192x16x8, .f32⟩
  | .hbm, ⟨47, _⟩ => ⟨S4x8192x16x8, .f32⟩
  | .hbm, ⟨48, _⟩ => ⟨S4x8192x16x48, .f32⟩
  | .hbm, ⟨49, _⟩ => ⟨S4x8192x16x64, .f32⟩
  | .hbm, ⟨50, _⟩ => ⟨S_, .f32⟩
  | .hbm, ⟨51, _⟩ => ⟨S4x8192x16x64, .f32⟩
  | .hbm, ⟨52, _⟩ => ⟨S4x8192x16x64, .f32⟩
  | .hbm, ⟨53, _⟩ => ⟨S4x8192x4x64, .f32⟩
  | .hbm, ⟨54, _⟩ => ⟨S4x8192x4x8, .f32⟩
  | .hbm, ⟨55, _⟩ => ⟨S4x8192x4x8, .f32⟩
  | .hbm, ⟨56, _⟩ => ⟨S1x8192x1x8, .f32⟩
  | .hbm, ⟨57, _⟩ => ⟨S4x8192x4x8, .f32⟩
  | .hbm, ⟨58, _⟩ => ⟨S4x8192x4x8, .f32⟩
  | .hbm, ⟨59, _⟩ => ⟨S1x8192x1x8, .f32⟩
  | .hbm, ⟨60, _⟩ => ⟨S4x8192x4x8, .f32⟩
  | .hbm, ⟨61, _⟩ => ⟨S4x8192x4x8, .f32⟩
  | .hbm, ⟨62, _⟩ => ⟨S4x8192x4x8, .f32⟩
  | .hbm, ⟨63, _⟩ => ⟨S1x8192x1x8, .f32⟩
  | .hbm, ⟨64, _⟩ => ⟨S4x8192x4x8, .f32⟩
  | .hbm, ⟨65, _⟩ => ⟨S4x8192x4x8, .f32⟩
  | .hbm, ⟨66, _⟩ => ⟨S1x8192x1x8, .f32⟩
  | .hbm, ⟨67, _⟩ => ⟨S4x8192x4x8, .f32⟩
  | .hbm, ⟨68, _⟩ => ⟨S4x8192x4x8, .f32⟩
  | .hbm, ⟨69, _⟩ => ⟨S4x8192x4x8, .f32⟩
  | .hbm, ⟨70, _⟩ => ⟨S4x8192x4x48, .f32⟩
  | .hbm, ⟨71, _⟩ => ⟨S4x8192x4x64, .f32⟩
  | .hbm, ⟨72, _⟩ => ⟨S32768x1024, .f32⟩
  | .hbm, ⟨73, _⟩ => ⟨S32768x1024, .bf16⟩
  | .hbm, ⟨74, _⟩ => ⟨S32768x256, .f32⟩
  | .hbm, ⟨75, _⟩ => ⟨S32768x256, .bf16⟩
  | .hbm, ⟨76, _⟩ => ⟨S32768x256, .f32⟩
  | .hbm, ⟨77, _⟩ => ⟨S32768x256, .bf16⟩
  | .hbm, ⟨78, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_cst_3 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩

abbrev nD : Nat := 1
abbrev τ : Topo := Topo.v7x

variable {F : FTy → Type} [FloatOps F]
-- ==== DilOut.lean ====
abbrev S4x8192x1024 : Shape := ⟨3, ![4, 8192, 1024]⟩
abbrev S4x8192x16 : Shape := ⟨3, ![4, 8192, 16]⟩
abbrev S1024x1024 : Shape := ⟨2, ![1024, 1024]⟩
abbrev S1024 : Shape := ⟨1, ![1024]⟩
abbrev S32768x1024 : Shape := ⟨2, ![32768, 1024]⟩
abbrev S8192x4096 : Shape := ⟨2, ![8192, 4096]⟩
abbrev S2048x16384 : Shape := ⟨2, ![2048, 16384]⟩
abbrev S_ : Shape := ⟨0, ![]⟩
abbrev S4x8192x128 : Shape := ⟨3, ![4, 8192, 128]⟩
abbrev S32768x128 : Shape := ⟨2, ![32768, 128]⟩
abbrev S8192x512 : Shape := ⟨2, ![8192, 512]⟩
abbrev S2048x2048 : Shape := ⟨2, ![2048, 2048]⟩
abbrev S256x1024 : Shape := ⟨2, ![256, 1024]⟩
abbrev S1x1024 : Shape := ⟨2, ![1, 1024]⟩
abbrev S64x4096 : Shape := ⟨2, ![64, 4096]⟩
abbrev S16x16384 : Shape := ⟨2, ![16, 16384]⟩
abbrev S256x128 : Shape := ⟨2, ![256, 128]⟩
abbrev S64x512 : Shape := ⟨2, ![64, 512]⟩
abbrev S16x2048 : Shape := ⟨2, ![16, 2048]⟩
abbrev S8x256x128 : Shape := ⟨3, ![8, 256, 128]⟩
abbrev S1x256x128 : Shape := ⟨3, ![1, 256, 128]⟩
abbrev S64x128 : Shape := ⟨2, ![64, 128]⟩
abbrev S1x64x128 : Shape := ⟨3, ![1, 64, 128]⟩
abbrev S16x128 : Shape := ⟨2, ![16, 128]⟩
abbrev S1x16x128 : Shape := ⟨3, ![1, 16, 128]⟩
abbrev S256x256 : Shape := ⟨2, ![256, 256]⟩
abbrev S256 : Shape := ⟨1, ![256]⟩
abbrev S256x1 : Shape := ⟨2, ![256, 1]⟩

abbrev nBuf : Space → Nat
  | .hbm => 42
  | .vmem => 24
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S4x8192x1024, .f32⟩
  | .hbm, ⟨3, _⟩ => ⟨S4x8192x16, .f32⟩
  | .hbm, ⟨4, _⟩ => ⟨S4x8192x16, .f32⟩
  | .hbm, ⟨5, _⟩ => ⟨S4x8192x16, .f32⟩
  | .hbm, ⟨6, _⟩ => ⟨S4x8192x1024, .f32⟩
  | .hbm, ⟨7, _⟩ => ⟨S4x8192x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S32768x1024, .f32⟩
  | .hbm, ⟨12, _⟩ => ⟨S8192x4096, .f32⟩
  | .hbm, ⟨13, _⟩ => ⟨S2048x16384, .f32⟩
  | .hbm, ⟨14, _⟩ => ⟨S_, .i32⟩
  | .hbm, ⟨15, _⟩ => ⟨S_, .f32⟩
  | .hbm, ⟨16, _⟩ => ⟨S4x8192x128, .f32⟩
  | .hbm, ⟨17, _⟩ => ⟨S32768x128, .f32⟩
  | .hbm, ⟨18, _⟩ => ⟨S_, .i32⟩
  | .hbm, ⟨19, _⟩ => ⟨S_, .f32⟩
  | .hbm, ⟨20, _⟩ => ⟨S4x8192x128, .f32⟩
  | .hbm, ⟨21, _⟩ => ⟨S8192x512, .f32⟩
  | .hbm, ⟨22, _⟩ => ⟨S_, .i32⟩
  | .hbm, ⟨23, _⟩ => ⟨S_, .f32⟩
  | .hbm, ⟨24, _⟩ => ⟨S4x8192x128, .f32⟩
  | .hbm, ⟨25, _⟩ => ⟨S2048x2048, .f32⟩
  | .hbm, ⟨26, _⟩ => ⟨S32768x1024, .f32⟩
  | .hbm, ⟨27, _⟩ => ⟨S32768x1024, .f32⟩
  | .hbm, ⟨28, _⟩ => ⟨S1024x1024, .bf16⟩
  | .hbm, ⟨29, _⟩ => ⟨S256x1024, .i32⟩
  | .hbm, ⟨30, _⟩ => ⟨S_, .i32⟩
  | .hbm, ⟨31, _⟩ => ⟨S256x1024, .i32⟩
  | .hbm, ⟨32, _⟩ => ⟨S256x1024, .i32⟩
  | .hbm, ⟨33, _⟩ => ⟨S256x1024, .i32⟩
  | .hbm, ⟨34, _⟩ => ⟨S_, .i32⟩
  | .hbm, ⟨35, _⟩ => ⟨S256x1024, .i32⟩
  | .hbm, ⟨36, _⟩ => ⟨S256x1024, .i32⟩
  | .hbm, ⟨37, _⟩ => ⟨S256x1024, .i1⟩
  | .hbm, ⟨38, _⟩ => ⟨S256x1024, .bf16⟩
  | .hbm, ⟨39, _⟩ => ⟨S1x1024, .f32⟩
  | .hbm, ⟨40, _⟩ => ⟨S1x1024, .f32⟩
  | .hbm, ⟨41, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S64x4096, .f32⟩
  | .local _ .vmem, ⟨3, _⟩ => ⟨S64x4096, .f32⟩
  | .local _ .vmem, ⟨4, _⟩ => ⟨S16x16384, .f32⟩
  | .local _ .vmem, ⟨5, _⟩ => ⟨S16x16384, .f32⟩
  | .local _ .vmem, ⟨6, _⟩ => ⟨S256x128, .f32⟩
  | .local _ .vmem, ⟨7, _⟩ => ⟨S256x128, .f32⟩
  | .local _ .vmem, ⟨8, _⟩ => ⟨S64x512, .f32⟩
  | .local _ .vmem, ⟨9, _⟩ => ⟨S64x512, .f32⟩
  | .local _ .vmem, ⟨10, _⟩ => ⟨S16x2048, .f32⟩
  | .local _ .vmem, ⟨11, _⟩ => ⟨S16x2048, .f32⟩
  | .local _ .vmem, ⟨12, _⟩ => ⟨S256x1024, .bf16⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S1024x1024, .bf16⟩
  | .local _ .vmem, ⟨18, _⟩ => ⟨S1x1024, .f32⟩
  | .local _ .vmem, ⟨19, _⟩ => ⟨S1x1024, .f32⟩
  | .local _ .vmem, ⟨20, _⟩ => ⟨S256x1024, .f32⟩
  | .local _ .vmem, ⟨21, _⟩ => ⟨S256x1024, .f32⟩
  | .local _ .vmem, ⟨22, _⟩ => ⟨S8x256x128, .f32⟩
  | .local _ .vmem, ⟨23, _⟩ => ⟨S1x256x128, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_call0_v0 : Ref sig .tc := ⟨.hbm, 15, rfl⟩
abbrev main_v3 : Ref sig .tc := ⟨.hbm, 16, rfl⟩
abbrev main_v4 : Ref sig .tc := ⟨.hbm, 17, rfl⟩
abbrev main_c_0 : Ref sig .tc := ⟨.hbm, 18, rfl⟩
abbrev main_call1_v0 : Ref sig .tc := ⟨.hbm, 19, rfl⟩
abbrev main_v5 : Ref sig .tc := ⟨.hbm, 20, rfl⟩
abbrev main_v6 : Ref sig .tc := ⟨.hbm, 21, rfl⟩
abbrev main_c_1 : Ref sig .tc := ⟨.hbm, 22, rfl⟩
abbrev main_call2_v0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c_3 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x16384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== DilOutRefIdeal.lean ====
abbrev S4x8192x1024 : Shape := ⟨3, ![4, 8192, 1024]⟩
abbrev S4x8192x16 : Shape := ⟨3, ![4, 8192, 16]⟩
abbrev S1024x1024 : Shape := ⟨2, ![1024, 1024]⟩
abbrev S1024 : Shape := ⟨1, ![1024]⟩
abbrev S1x4x8192x16 : Shape := ⟨4, ![1, 4, 8192, 16]⟩
abbrev S3x4x8192x16 : Shape := ⟨4, ![3, 4, 8192, 16]⟩
abbrev S_ : Shape := ⟨0, ![]⟩
abbrev S4x8192x16x64 : Shape := ⟨4, ![4, 8192, 16, 64]⟩
abbrev S1x4x8192x16x64 : Shape := ⟨5, ![1, 4, 8192, 16, 64]⟩
abbrev S3x4x8192x16x64 : Shape := ⟨5, ![3, 4, 8192, 16, 64]⟩
abbrev S4x8192 : Shape := ⟨2, ![4, 8192]⟩
abbrev S4x8192x1 : Shape := ⟨3, ![4, 8192, 1]⟩
abbrev S1x1x1024 : Shape := ⟨3, ![1, 1, 1024]⟩
abbrev S32768x1024 : Shape := ⟨2, ![32768, 1024]⟩

abbrev nBuf : Space → Nat
  | .hbm => 83
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S4x8192x1024, .f32⟩
  | .hbm, ⟨3, _⟩ => ⟨S4x8192x16, .f32⟩
  | .hbm, ⟨4, _⟩ => ⟨S4x8192x16, .f32⟩
  | .hbm, ⟨5, _⟩ => ⟨S4x8192x16, .f32⟩
  | .hbm, ⟨6, _⟩ => ⟨S4x8192x1024, .f32⟩
  | .hbm, ⟨7, _⟩ => ⟨S4x8192x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S1x4x8192x16, .f32⟩
  | .hbm, ⟨12, _⟩ => ⟨S1x4x8192x16, .f32⟩
  | .hbm, ⟨13, _⟩ => ⟨S1x4x8192x16, .f32⟩
  | .hbm, ⟨14, _⟩ => ⟨S3x4x8192x16, .f32⟩
  | .hbm, ⟨15, _⟩ => ⟨S_, .f32⟩
  | .hbm, ⟨16, _⟩ => ⟨S4x8192x16, .f32⟩
  | .hbm, ⟨17, _⟩ => ⟨S_, .f32⟩
  | .hbm, ⟨18, _⟩ => ⟨S4x8192x16, .f32⟩
  | .hbm, ⟨19, _⟩ => ⟨S4x8192x16, .f32⟩
  | .hbm, ⟨20, _⟩ => ⟨S1x4x8192x16, .f32⟩
  | .hbm, ⟨21, _⟩ => ⟨S3x4x8192x16, .f32⟩
  | .hbm, ⟨22, _⟩ => ⟨S3x4x8192x16, .f32⟩
  | .hbm, ⟨23, _⟩ => ⟨S3x4x8192x16, .f32⟩
  | .hbm, ⟨24, _⟩ => ⟨S_, .f32⟩
  | .hbm, ⟨25, _⟩ => ⟨S4x8192x16, .f32⟩
  | .hbm, ⟨26, _⟩ => ⟨S1x4x8192x16, .f32⟩
  | .hbm, ⟨27, _⟩ => ⟨S3x4x8192x16, .f32⟩
  | .hbm, ⟨28, _⟩ => ⟨S3x4x8192x16, .f32⟩
  | .hbm, ⟨29, _⟩ => ⟨S4x8192x16x64, .f32⟩
  | .hbm, ⟨30, _⟩ => ⟨S4x8192x16x64, .f32⟩
  | .hbm, ⟨31, _⟩ => ⟨S4x8192x16x64, .f32⟩
  | .hbm, ⟨32, _⟩ => ⟨S1x4x8192x16x64, .f32⟩
  | .hbm, ⟨33, _⟩ => ⟨S1x4x8192x16x64, .f32⟩
  | .hbm, ⟨34, _⟩ => ⟨S1x4x8192x16x64, .f32⟩
  | .hbm, ⟨35, _⟩ => ⟨S3x4x8192x16x64, .f32⟩
  | .hbm, ⟨36, _⟩ => ⟨S4x8192x16x64, .f32⟩
  | .hbm, ⟨37, _⟩ => ⟨S4x8192x1024, .f32⟩
  | .hbm, ⟨38, _⟩ => ⟨S4x8192x1024, .f32⟩
  | .hbm, ⟨39, _⟩ => ⟨S4x8192x1024, .f32⟩
  | .hbm, ⟨40, _⟩ => ⟨S_, .f32⟩
  | .hbm, ⟨41, _⟩ => ⟨S4x8192x1024, .f32⟩
  | .hbm, ⟨42, _⟩ => ⟨S4x8192x1024, .f32⟩
  | .hbm, ⟨43, _⟩ => ⟨S_, .f32⟩
  | .hbm, ⟨44, _⟩ => ⟨S4x8192x1024, .f32⟩
  | .hbm, ⟨45, _⟩ => ⟨S4x8192x1024, .f32⟩
  | .hbm, ⟨46, _⟩ => ⟨S4x8192x1024, .f32⟩
  | .hbm, ⟨47, _⟩ => ⟨S4x8192x1024, .f32⟩
  | .hbm, ⟨48, _⟩ => ⟨S4x8192x1024, .f32⟩
  | .hbm, ⟨49, _⟩ => ⟨S_, .f32⟩
  | .hbm, ⟨50, _⟩ => ⟨S4x8192x1024, .f32⟩
  | .hbm, ⟨51, _⟩ => ⟨S4x8192x1024, .f32⟩
  | .hbm, ⟨52, _⟩ => ⟨S4x8192x1024, .f32⟩
  | .hbm, ⟨53, _⟩ => ⟨S_, .f32⟩
  | .hbm, ⟨54, _⟩ => ⟨S4x8192, .f32⟩
  | .hbm, ⟨55, _⟩ => ⟨S4x8192x1, .f32⟩
  | .hbm, ⟨56, _⟩ => ⟨S_, .f32⟩
  | .hbm, ⟨57, _⟩ => ⟨S4x8192x1, .f32⟩
  | .hbm, ⟨58, _⟩ => ⟨S4x8192x1, .f32⟩
  | .hbm, ⟨59, _⟩ => ⟨S4x8192x1024, .f32⟩
  | .hbm, ⟨60, _⟩ => ⟨S4x8192x1024, .f32⟩
  | .hbm, ⟨61, _⟩ => ⟨S4x8192x1024, .f32⟩
  | .hbm, ⟨62, _⟩ => ⟨S_, .f32⟩
  | .hbm, ⟨63, _⟩ => ⟨S4x8192, .f32⟩
  | .hbm, ⟨64, _⟩ => ⟨S4x8192x1, .f32⟩
  | .hbm, ⟨65, _⟩ => ⟨S_, .f32⟩
  | .hbm, ⟨66, _⟩ => ⟨S4x8192x1, .f32⟩
  | .hbm, ⟨67, _⟩ => ⟨S4x8192x1, .f32⟩
  | .hbm, ⟨68, _⟩ => ⟨S4x8192x1024, .f32⟩
  | .hbm, ⟨69, _⟩ => ⟨S4x8192x1024, .f32⟩
  | .hbm, ⟨70, _⟩ => ⟨S_, .f32⟩
  | .hbm, ⟨71, _⟩ => ⟨S4x8192x1, .f32⟩
  | .hbm, ⟨72, _⟩ => ⟨S4x8192x1, .f32⟩
  | .hbm, ⟨73, _⟩ => ⟨S4x8192x1, .f32⟩
  | .hbm, ⟨74, _⟩ => ⟨S4x8192x1024, .f32⟩
  | .hbm, ⟨75, _⟩ => ⟨S4x8192x1024, .f32⟩
  | .hbm, ⟨76, _⟩ => ⟨S1x1x1024, .f32⟩
  | .hbm, ⟨77, _⟩ => ⟨S4x8192x1024, .f32⟩
  | .hbm, ⟨78, _⟩ => ⟨S4x8192x1024, .f32⟩
  | .hbm, ⟨79, _⟩ => ⟨S1x1x1024, .f32⟩
  | .hbm, ⟨80, _⟩ => ⟨S4x8192x1024, .f32⟩
  | .hbm, ⟨81, _⟩ => ⟨S4x8192x1024, .f32⟩
  | .hbm, ⟨82, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_2 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_3 : Ref sig .tc := ⟨.hbm, 53, rfl⟩
abbrev main_v30 : Ref sig .tc := ⟨.hbm, 54, rfl⟩
abbrev main_v31 : Ref sig .tc := ⟨.hbm, 55, rfl⟩
abbrev main_cst_4 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_5 : Ref sig .tc := ⟨.hbm, 62, rfl⟩
abbrev main_v37 : Ref sig .tc := ⟨.hbm, 63, rfl⟩
abbrev main_v38 : Ref sig .tc := ⟨.hbm, 64, rfl⟩
abbrev main_cst_6 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_7 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩

abbrev nD : Nat := 1
abbrev τ : Topo := Topo.v7x

variable {F : FTy → Type} [FloatOps F]
-- ==== Proof.K.Model.lean ====
/-
  What one run of the kernel computes, as a function of the query tile and of the key and value rows it sees: the
  tiles are weighed from the diagonal down, each weighed tile is gathered into the running sum before the next.
-/
module

public import proofs.«01_k».proof.Proof.K.Words

@[expose] public section

set_option maxRecDepth 16384

noncomputable section

namespace Cert.Kernel.Sb

open Cert.Kernel Cert.Kernel.Gen
open Idealize.ShloMosaic Idealize.ShloMosaic.TcCoe
open Idealize.ShloMosaic.View (ld)

variable {F : FTy → Type} [FloatOps F]

/-- The threshold under which nothing more is read. -/
abbrev dead : F .f32 := Scalar.ofBits .f32 0xC3200000#32

/-- The rows of one tile. -/
def slab (x : S1x8192x128.Idx → Elt F .bf16) (j : ℕ) : Vec F S1x512x128 .bf16 :=
  ld x (Rect.unit (s := S1x8192x128) ![0, 512 * (j % 16), 0] S1x512x128.size
    (slab_inb _ (j % 16) (by omega) rfl))

theorem ld_slab (x : S1x8192x128.Idx → Elt F .bf16) {off : Fin 3 → ℕ} {j : ℕ} (hj : j ≤ 15) (h : off = ![0, 512 * j, 0])
    (inb : ∀ a, off a + S1x512x128.size a ≤ S1x8192x128.size a) :
    ld x (Rect.unit (s := S1x8192x128) off S1x512x128.size inb) = slab x j := by
  have h' : off = ![0, 512 * (j % 16), 0] := by rw [h, Nat.mod_eq_of_lt (by omega)]
  subst h'; rfl

/-- The state between two tiles: a tile weighed but not yet gathered (its two halves `gA`, `gB` and their sums), and
    the carried sums of the tiles gathered. -/
structure St (F : FTy → Type) where
  sA : FVec F S1x1024 .f32
  sB : FVec F S1x1024 .f32
  c : FVec F S1x1024 .f32
  acc : FVec F S128x1024 .f32
  gA : Vec F S1x256x1024 .f32
  gB : Vec F S1x256x1024 .f32

section
variable (q2 : FVec F S128x1024 .bf16)

/-- The rows of a tile below the diagonal, weighed. -/
def wgA (kb : Vec F S1x512x128 .bf16) : Vec F S1x256x1024 .f32 :=
  k0_pay57 k0_pay39 (k0_pay29 q2 kb) (k0_pay30 q2 kb) (k0_pay31 q2 kb)
def wgB (kb : Vec F S1x512x128 .bf16) : Vec F S1x256x1024 .f32 :=
  k0_pay60 k0_pay39 (k0_pay29 q2 kb) (k0_pay30 q2 kb) (k0_pay31 q2 kb)
def wsA (kb : Vec F S1x512x128 .bf16) : FVec F S1x1024 .f32 :=
  k0_pay58 k0_pay39 (k0_pay29 q2 kb) (k0_pay30 q2 kb) (k0_pay31 q2 kb)
def wsB (kb : Vec F S1x512x128 .bf16) : FVec F S1x1024 .f32 :=
  k0_pay61 k0_pay39 (k0_pay29 q2 kb) (k0_pay30 q2 kb) (k0_pay31 q2 kb)

/-- The carried sum after a weighed tile is gathered. -/
def cN (s : St F) : FVec F S1x1024 .f32 := k0_pay27 s.sA s.sB s.c
/-- The weighted values after a weighed tile is gathered. -/
def aN (s : St F) (vb : Vec F S1x512x128 .bf16) : FVec F S128x1024 .f32 := k0_pay28 s.sB s.c s.acc s.gB s.gA vb

/-- Gather the weighed tile with its values `vb`, then weigh the next with the keys `kb`. -/
def next (kb vb : Vec F S1x512x128 .bf16) (s : St F) : St F :=
  ⟨wsA q2 kb, wsB q2 kb, cN s, aN s vb, wgA q2 kb, wgB q2 kb⟩

/-- The diagonal tile, weighed. -/
def first (kb : Vec F S1x512x128 .bf16) : St F :=
  ⟨k0_pay48 q2 k0_pay39 (k0_pay40 kb), k0_pay51 q2 k0_pay39 (k0_pay40 kb), k0_pay52, k0_pay53,
    k0_pay47 q2 k0_pay39 (k0_pay40 kb), k0_pay50 q2 k0_pay39 (k0_pay40 kb)⟩

/-- Whether anything is left to read under the carried sum. -/
def alive (c : FVec F S1x1024 .f32) : Prop := Scalar.cmpf .ogt (k0_pay70 c) (dead (F := F)) = 1#1

open Classical in
/-- The double trips from trip `n`, at most `k` of them: whether the last ran to its end, the next trip, and the state. -/
def loop (K V : ℕ → Vec F S1x512x128 .bf16) (J : ℕ → ℕ) : ℕ → ℕ → St F → Bool × ℕ × St F
  | 0, n, s => (true, n, s)
  | k + 1, n, s =>
    if alive (cN s) then
      let s1 := next q2 (K (J n - 1)) (V (J n)) s
      if alive (cN s1) then loop K V J k (n + 1) (next q2 (K (J n - 2)) (V (J n - 1)) s1)
      else (false, n + 1, { s1 with c := cN s1, acc := aN s1 (V (J n - 1)) })
    else (false, n + 1, { s with c := cN s, acc := aN s (V (J n)) })

open Classical in
/-- The double trips, run if anything is left to read before the first. -/
def loop0 (K V : ℕ → Vec F S1x512x128 .bf16) (J : ℕ → ℕ) (N : ℕ) (s : St F) : Bool × ℕ × St F :=
  if alive s.c then loop q2 K V J N 0 s else (false, 0, s)

/-- The state before the double trips: the diagonal tile, and the one below when the tile number is odd. -/
def start (K V : ℕ → Vec F S1x512x128 .bf16) (i : ℕ) : St F :=
  if i % 2 = 1 then next q2 (K (i - 1)) (V i) (first q2 (K i)) else first q2 (K i)

/-- The sum after the last tile. -/
def total (K V : ℕ → Vec F S1x512x128 .bf16) (J : ℕ → ℕ) (N i : ℕ) : FVec F S128x1024 .f32 :=
  let r := loop0 q2 K V J N (start q2 K V i)
  if r.1 then aN r.2.2 (V (J r.2.1)) else r.2.2.acc

end

/-- What the kernel stores for query tile `i`. -/
def OUT (i : grid0.Coords) (x0 : Vec F S1x512x128 .bf16) (x1 x2 : S1x8192x128.Idx → Elt F .bf16) : Vec F S1x512x128 .f32 :=
  k0_pay1 (total (k0_pay38 x0) (slab x1) (slab x2) (tJ i) (tN i) (tI i)) (k0_pay72 (iota .tc S128x512 32 [0] iota_S128x512_d0_w32))

/-! ## The same values under the names of the other places that compute them -/

section
variable (q2 : FVec F S128x1024 .bf16) (kb : Vec F S1x512x128 .bf16)

theorem pay6_eq : k0_pay6 k0_pay39 (k0_pay82 q2 kb) (k0_pay83 q2 kb) (k0_pay84 q2 kb) (Scalar.ofBits .f32 0x3FB8AA3B#32) = wgA q2 kb := rfl
theorem pay9_eq : k0_pay9 k0_pay39 (k0_pay82 q2 kb) (k0_pay83 q2 kb) (k0_pay84 q2 kb) (Scalar.ofBits .f32 0x3FB8AA3B#32) = wgB q2 kb := rfl
theorem pay7_eq : k0_pay7 k0_pay39 (k0_pay82 q2 kb) (k0_pay83 q2 kb) (k0_pay84 q2 kb) (Scalar.ofBits .f32 0x3FB8AA3B#32) = wsA q2 kb := rfl
theorem pay10_eq : k0_pay10 k0_pay39 (k0_pay82 q2 kb) (k0_pay83 q2 kb) (k0_pay84 q2 kb) (Scalar.ofBits .f32 0x3FB8AA3B#32) = wsB q2 kb := rfl
theorem pay15_eq : k0_pay15 k0_pay39 (k0_pay76 q2 kb) (k0_pay77 q2 kb) (k0_pay78 q2 kb) = wgA q2 kb := rfl
theorem pay18_eq : k0_pay18 k0_pay39 (k0_pay76 q2 kb) (k0_pay77 q2 kb) (k0_pay78 q2 kb) = wgB q2 kb := rfl
theorem pay16_eq : k0_pay16 k0_pay39 (k0_pay76 q2 kb) (k0_pay77 q2 kb) (k0_pay78 q2 kb) = wsA q2 kb := rfl
theorem pay19_eq : k0_pay19 k0_pay39 (k0_pay76 q2 kb) (k0_pay77 q2 kb) (k0_pay78 q2 kb) = wsB q2 kb := rfl

variable (s : St F) (vb : Vec F S1x512x128 .bf16)

theorem pay80_eq : k0_pay80 s.sA s.sB s.c = cN s := rfl
theorem pay24_eq : k0_pay24 s.sA s.sB s.c = cN s := rfl
theorem pay74_eq : k0_pay74 s.c s.sA s.sB = cN s := rfl
theorem pay2_eq : k0_pay2 s.sA s.sB s.c = k0_pay70 (cN s) := rfl
theorem pay75_eq : k0_pay75 s.c s.acc s.sB s.gB s.gA vb = aN s vb := rfl
theorem pay81_eq : k0_pay81 s.sB s.c s.acc s.gB s.gA vb = aN s vb := rfl
theorem pay25_eq : k0_pay25 s.sB s.c s.acc s.gB s.gA vb = aN s vb := rfl
theorem pay71_eq : k0_pay71 s.sB s.c s.acc s.gB s.gA vb = aN s vb := rfl

theorem pay74_next : k0_pay74 (cN s) (wsA q2 kb) (wsB q2 kb) = cN (next q2 kb vb s) := rfl
theorem pay75_next (vb' : Vec F S1x512x128 .bf16) : k0_pay75 (cN s) (aN s vb) (wsB q2 kb) (wgB q2 kb) (wgA q2 kb) vb' = aN (next q2 kb vb s) vb' := rfl

variable (c : FVec F S1x1024 .f32) (acc : FVec F S128x1024 .f32)

theorem pay11_eq : k0_pay11 k0_pay39 (cN s) (k0_pay82 q2 kb) (k0_pay83 q2 kb) (k0_pay84 q2 kb) (Scalar.ofBits .f32 0x3FB8AA3B#32)
    = k0_pay70 (cN (next q2 kb vb s)) := rfl
theorem pay21_eq : k0_pay21 k0_pay39 (cN s) (k0_pay82 q2 kb) (k0_pay83 q2 kb) (k0_pay84 q2 kb) (Scalar.ofBits .f32 0x3FB8AA3B#32)
    = cN (next q2 kb vb s) := rfl
theorem pay22_eq (vb' : Vec F S1x512x128 .bf16) : k0_pay22 k0_pay39 (cN s) (aN s vb) (k0_pay82 q2 kb) (k0_pay83 q2 kb) (k0_pay84 q2 kb) (Scalar.ofBits .f32 0x3FB8AA3B#32)
    (wgB q2 kb) (wgA q2 kb) vb' = aN (next q2 kb vb s) vb' := rfl

end

end Cert.Kernel.Sb
-- ==== Proof.KI.Kit.lean ====
/-
  What every module about this program's kernel shares: the arrays as the kernel finds them, the windows' blocks, the
  staging memrefs, and the passage from the kernel's run to the frame claim.
-/
module

public import proofs.«01_k».proof.Proof.Gen.KernelIdeal
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The host operations before the kernel -/

abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) (cfgs (F := F)) 0 defs₀ 𝒱₀ m (main (F := F)) (V m) :=
  Pipeline.hmain_prefix (cfgs (F := F)) 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ (cfg0 (F := F)) c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ (cfg0 (F := F)) c) (hA : dat.A 2 = V m c (Pipeline.arrRef spec0 2))
    (hafter : ∀ t, dat.after 2 t = iblk m c 2 t) (t : Fin (cfg0 (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (dats : (p : Fin 1) → (c : Dev nD) → Dat τ (Elt F) Unit ℕ (UR sig nD τ) ℕ ((cfgs (F := F)) p) c)
    (hA : ∀ c w, (dats 0 c).A w = V m c (Pipeline.arrRef spec0 w))
    (h : θ_run defs (onTc (τ := τ) (main (F := F))) (s₀ m ρ) (Pipeline.FramePost (cfgs (F := F)) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of (win := spec0) main_arg0 (by decide) (by decide))).trans (V_main_arg0 m c),
      ((h c).2 main_arg1 (Pipeline.mem_restRefs_of (win := spec0) main_arg1 (by decide) (by decide))).trans (V_main_arg1 m c),
      ((h c).2 main_arg2 (Pipeline.mem_restRefs_of (win := spec0) main_arg2 (by decide) (by decide))).trans (V_main_arg2 m c)⟩) h

/-! ## The kernel body on any staging memrefs: a subtype the run finds -/

/-- One staging buffer of output window 3, through which its contents are stated (`View.read_writes_of_cover`: the
    choice does not matter). -/
abbrev VO0_3 : View sig .tc .vmem S1x512x128 .f32 := (Memref.whole cc0_stg3_0 : Memref sig .tc .vmem S1x512x128 .f32).view
/-- Each window's current staging memref at point `t`, spelled as the pipeline passes it (`bodyAt0`), and its wholeness. -/
abbrev ms0_0 (t : Fin (cfg0 (F := F)).N) : Memref sig .tc .vmem S1x512x128 .bf16 := win0_0.stage ((cfg0 (F := F)).slots t 0)
abbrev hs0_0 (t : Fin (cfg0 (F := F)).N) : (ms0_0 t).IsWhole := hstage0_0 (((cfg0 (F := F)).slots t 0).cast nbuf0_0)
abbrev ms0_1 (t : Fin (cfg0 (F := F)).N) : Memref sig .tc .vmem S1x8192x128 .bf16 := win0_1.stage ((cfg0 (F := F)).slots t 1)
abbrev hs0_1 (t : Fin (cfg0 (F := F)).N) : (ms0_1 t).IsWhole := hstage0_1 (((cfg0 (F := F)).slots t 1).cast nbuf0_1)
abbrev ms0_2 (t : Fin (cfg0 (F := F)).N) : Memref sig .tc .vmem S1x8192x128 .bf16 := win0_2.stage ((cfg0 (F := F)).slots t 2)
abbrev hs0_2 (t : Fin (cfg0 (F := F)).N) : (ms0_2 t).IsWhole := hstage0_2 (((cfg0 (F := F)).slots t 2).cast nbuf0_2)
abbrev ms0_3 (t : Fin (cfg0 (F := F)).N) : Memref sig .tc .vmem S1x512x128 .f32 := win0_3.stage ((cfg0 (F := F)).slots t 3)
abbrev hs0_3 (t : Fin (cfg0 (F := F)).N) : (ms0_3 t).IsWhole := hstage0_3 (((cfg0 (F := F)).slots t 3).cast nbuf0_3)
/-- The scratch operands: whole scoped buffers of the kernel's own, passed beside the windows. -/
abbrev scM0_0 : Memref sig .tc .vmem S2x512x1024 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Sb

end
-- ==== Proof.KI.Words.lean ====
/-
  The kernel's index words in closed form: the row offset of each tile it reads, the number of double
  trips, and the parity of the query tile.
-/
module

public import proofs.«01_k».proof.Proof.KI.Kit

@[expose] public section

set_option maxRecDepth 16384

noncomputable section

namespace Cert.KernelIdeal.Sb

open Cert.KernelIdeal Cert.KernelIdeal.Gen
open Idealize.ShloMosaic

/-- The number of the query tile. -/
abbrev tI (i : grid0.Coords) : ℕ := (i 2).val

theorem tI_lt (i : grid0.Coords) : tI i < 16 := (i 2).isLt

/-- The number of the tile a double trip begins at. -/
abbrev tJ (i : grid0.Coords) (n : ℕ) : ℕ := tI i - tI i % 2 - 2 * n

/-- The number of double trips. -/
abbrev tN (i : grid0.Coords) : ℕ := tI i / 2

section
variable (i : grid0.Coords) (n : ℕ)

theorem off8_eq (h : n ≤ tN i) : k0_off8 i (BitVec.ofNat 32 n) = ![0, 512 * tJ i n, 0] := by
  have hn : n < 8 := by have := tI_lt i; unfold tN at h; omega
  unfold k0_off8 tJ; unfold tN at h; unfold tI at *
  generalize i 2 = a at *
  revert h; obtain ⟨n', rfl⟩ : ∃ n' : Fin 8, n = n'.val := ⟨⟨n, hn⟩, rfl⟩
  revert a n'; decide +kernel

theorem off12_eq (h : n ≤ tN i) : k0_off12 i (BitVec.ofNat 32 n) = ![0, 512 * tJ i n, 0] := off8_eq i n h

theorem off13_eq (h : n ≤ tN i) : k0_off13 i (BitVec.ofNat 32 n) = ![0, 512 * tJ i n, 0] := off8_eq i n h

theorem off9_eq (h : n < tN i) : k0_off9 i (BitVec.ofNat 32 n) = ![0, 512 * (tJ i n - 1), 0] := by
  have hn : n < 8 := by have := tI_lt i; unfold tN at h; omega
  unfold k0_off9 tJ; unfold tN at h; unfold tI at *
  generalize i 2 = a at *
  revert h; obtain ⟨n', rfl⟩ : ∃ n' : Fin 8, n = n'.val := ⟨⟨n, hn⟩, rfl⟩
  revert a n'; decide +kernel

theorem off10_1_eq (h : n < tN i) : k0_off10 i (BitVec.ofNat 32 n) 1#32 = ![0, 512 * (tJ i n - 1), 0] := off9_eq i n h

theorem off11_eq (h : n < tN i) : k0_off11 i (BitVec.ofNat 32 n) = ![0, 512 * (tJ i n - 1), 0] := off9_eq i n h

theorem off10_2_eq (h : n < tN i) : k0_off10 i (BitVec.ofNat 32 n) 2#32 = ![0, 512 * (tJ i n - 2), 0] := by
  have hn : n < 8 := by have := tI_lt i; unfold tN at h; omega
  unfold k0_off10 tJ; unfold tN at h; unfold tI at *
  generalize i 2 = a at *
  revert h; obtain ⟨n', rfl⟩ : ∃ n' : Fin 8, n = n'.val := ⟨⟨n, hn⟩, rfl⟩
  revert a n'; decide +kernel

theorem tJ_le (n : ℕ) : tJ i n ≤ 15 := by have := tI_lt i; unfold tJ; omega

theorem slab_inb (off : Fin 3 → ℕ) (j : ℕ) (hj : j ≤ 15) (h : off = ![0, 512 * j, 0]) :
    ∀ a, off a + S1x512x128.size a ≤ S1x8192x128.size a := by
  subst h; intro a; fin_cases a <;> simp [S1x512x128, S1x8192x128] <;> omega

theorem mult_dvd (off : Fin 3 → ℕ) (w : BitVec 32) (j : ℕ) (h : off = ![0, 512 * j, 0]) (hw : off 1 = w.toNat) : 512 ∣ w.toNat := by
  rw [← hw, h]; exact ⟨j, rfl⟩

theorem chk1_ok (v : BitVec 1) (h : n < tN i) : k0_chk1 i (BitVec.ofNat 32 n) v := by
  have h8 := off8_eq i n h.le
  have h9 := off9_eq i n h
  have h12 := off12_eq i n h.le
  have hj := tJ_le i n
  exact ⟨fun _ => mult_dvd _ _ _ h8 rfl, fun _ => slab_inb _ _ hj h8, fun _ => mult_dvd _ _ _ h9 rfl,
    fun _ => slab_inb _ _ (by omega) h9, fun _ => mult_dvd _ _ _ h12 rfl, fun _ => slab_inb _ _ hj h12⟩

theorem chk2_ok (v w : BitVec 1) (h : n < tN i) : k0_chk2 i (BitVec.ofNat 32 n) v w := by
  have h10 := off10_1_eq i n h
  have h10' := off10_2_eq i n h
  have h11 := off11_eq i n h
  have hj := tJ_le i n
  refine ⟨fun _ _ => mult_dvd _ _ _ h10 rfl, fun _ _ r => ?_, fun _ _ => mult_dvd _ _ _ h10' rfl,
    fun _ _ => mult_dvd _ _ _ h11 rfl, fun _ _ => slab_inb _ _ (by omega) h11⟩
  match r with
  | 0 => exact slab_inb _ _ (by omega) h10
  | 1 => exact slab_inb _ _ (by omega) h10'

theorem chk3_ok (v : BitVec 32) (h : n ≤ tN i) : k0_chk3 i v (BitVec.ofNat 32 n) := by
  have h13 := off13_eq i n h
  exact ⟨fun _ => mult_dvd _ _ _ h13 rfl, fun _ => slab_inb _ _ (tJ_le i n) h13⟩

theorem off2_eq : k0_off2 i = ![tI i % 2, 0, 0] := by
  unfold k0_off2; unfold tI; generalize i 2 = a; revert a; decide +kernel

theorem off3_eq : k0_off3 i = ![tI i % 2, 256, 0] := by
  unfold k0_off3; unfold tI; generalize i 2 = a; revert a; decide +kernel

theorem off5_eq (h : tI i % 2 = 1) : k0_off5 i = ![0, 512 * (tI i - 1), 0] := by
  unfold k0_off5; unfold tI at *; generalize i 2 = a at *; revert a; decide +kernel

theorem trips1_eq : (k0_t1_loop i).trips = tI i % 2 := by
  unfold k0_t1_loop; unfold tI; generalize i 2 = a; revert a; decide +kernel

theorem trips2_eq : (k0_t2_loop i).trips = 0 := by
  have := (k0_t2_abs i).2.1; omega

/-- The word the double trips run under. -/
@[reducible] def wTest (i : grid0.Coords) (arg8 arg9 : BitVec 32) : BitVec 1 :=
  let arg2 : BitVec 32 := BitVec.ofNat 32 (i 2).val
  let v24 : BitVec 1 := Scalar.cmpi .eq 2#32 0#32
  let v25 : BitVec 32 := Scalar.select v24 1#32 2#32
  let v26 : BitVec 32 := Scalar.remsi arg2 v25
  let v28 : BitVec 1 := Scalar.cmpi .slt v26 0#32
  let v29 : BitVec 1 := Scalar.cmpi .slt v25 0#32
  let v30 : BitVec 1 := Scalar.xori v28 v29
  let v27 : BitVec 1 := Scalar.cmpi .ne v26 0#32
  let v31 : BitVec 1 := Scalar.andi v30 v27
  let v32 : BitVec 32 := Scalar.addi v26 v25
  let v33 : BitVec 32 := Scalar.select v31 v32 v26
  let v85 : BitVec 32 := Scalar.subi arg2 v33
  let v87 : BitVec 1 := Scalar.cmpi .sgt v85 0#32
  let v88 : BitVec 32 := Scalar.extui v87
  let v89 : BitVec 1 := Scalar.cmpi .slt v85 0#32
  let v90 : BitVec 32 := Scalar.extui v89
  let v91 : BitVec 32 := Scalar.subi v88 v90
  let v92 : BitVec 1 := Scalar.cmpi .sgt 2#32 0#32
  let v93 : BitVec 32 := Scalar.extui v92
  let v94 : BitVec 1 := Scalar.cmpi .slt 2#32 0#32
  let v95 : BitVec 32 := Scalar.extui v94
  let v96 : BitVec 32 := Scalar.subi v93 v95
  let v97 : BitVec 1 := Scalar.cmpi .ne v91 v96
  let v98 : BitVec 32 := Scalar.remsi v85 2#32
  let v99 : BitVec 1 := Scalar.cmpi .ne v98 0#32
  let v100 : BitVec 1 := Scalar.andi v97 v99
  let v86 : BitVec 32 := Scalar.divsi v85 2#32
  let v101 : BitVec 32 := Scalar.subi v86 1#32
  let v102 : BitVec 32 := Scalar.select v100 v101 v86
  let v130 : BitVec 1 := Scalar.cmpi .slt arg8 v102
  let v131 : BitVec 1 := Scalar.cmpi .sgt arg9 0#32
  let v132 : BitVec 1 := Scalar.andi v130 v131
  v132

theorem test_true (n : ℕ) (h : n < tN i) : wTest i (BitVec.ofNat 32 n) 1#32 = 1#1 := by
  have hn : n < 8 := by have := tI_lt i; unfold tN at h; omega
  unfold wTest; unfold tN at h; unfold tI at *
  generalize i 2 = a at *
  revert h; obtain ⟨n', rfl⟩ : ∃ n' : Fin 8, n = n'.val := ⟨⟨n, hn⟩, rfl⟩
  revert a n'; decide +kernel

theorem test_false (n : ℕ) (h : n = tN i) : ¬ wTest i (BitVec.ofNat 32 n) 1#32 = 1#1 := by
  subst h; unfold wTest; unfold tN; unfold tI at *
  generalize i 2 = a at *
  revert a; decide +kernel

theorem and_dead (a : BitVec 1) : ¬ Scalar.andi a (Scalar.cmpi .sgt 0#32 0#32) = 1#1 := by
  revert a; decide +kernel

theorem test_dead (n : ℕ) : ¬ wTest i (BitVec.ofNat 32 n) 0#32 = 1#1 := and_dead _

theorem cond1_iff (v : BitVec 1) : k0_cond1 v = 1#1 ↔ v = 1#1 := by revert v; decide +kernel
theorem cond2_iff (v : BitVec 1) : k0_cond2 v = 1#1 ↔ v = 1#1 := by revert v; decide +kernel

end

end Cert.KernelIdeal.Sb
-- ==== Proof.KI.Model.lean ====
/-
  What one run of the kernel computes, as a function of the query tile and of the key and value rows it sees: the
  tiles are weighed from the diagonal down, each weighed tile is gathered into the running sum before the next.
-/
module

public import proofs.«01_k».proof.Proof.KI.Words

@[expose] public section

set_option maxRecDepth 16384

noncomputable section

namespace Cert.KernelIdeal.Sb

open Cert.KernelIdeal Cert.KernelIdeal.Gen
open Idealize.ShloMosaic Idealize.ShloMosaic.TcCoe
open Idealize.ShloMosaic.View (ld)

variable {F : FTy → Type} [FloatOps F] [Named F]

/-- The threshold under which nothing more is read. -/
abbrev dead : F .f32 := Named.named κ "dead" 0xC3200000#32

/-- The rows of one tile. -/
def slab (x : S1x8192x128.Idx → Elt F .bf16) (j : ℕ) : Vec F S1x512x128 .bf16 :=
  ld x (Rect.unit (s := S1x8192x128) ![0, 512 * (j % 16), 0] S1x512x128.size
    (slab_inb _ (j % 16) (by omega) rfl))

theorem ld_slab (x : S1x8192x128.Idx → Elt F .bf16) {off : Fin 3 → ℕ} {j : ℕ} (hj : j ≤ 15) (h : off = ![0, 512 * j, 0])
    (inb : ∀ a, off a + S1x512x128.size a ≤ S1x8192x128.size a) :
    ld x (Rect.unit (s := S1x8192x128) off S1x512x128.size inb) = slab x j := by
  have h' : off = ![0, 512 * (j % 16), 0] := by rw [h, Nat.mod_eq_of_lt (by omega)]
  subst h'; rfl

/-- The state between two tiles: a tile weighed but not yet gathered (its two halves `gA`, `gB` and their sums), and
    the carried sums of the tiles gathered. -/
structure St (F : FTy → Type) where
  sA : FVec F S1x1024 .f32
  sB : FVec F S1x1024 .f32
  c : FVec F S1x1024 .f32
  acc : FVec F S128x1024 .f32
  gA : Vec F S1x256x1024 .f32
  gB : Vec F S1x256x1024 .f32

section
variable (q2 : FVec F S128x1024 .bf16)

/-- The rows of a tile below the diagonal, weighed. -/
def wgA (kb : Vec F S1x512x128 .bf16) : Vec F S1x256x1024 .f32 :=
  k0_pay57 k0_pay39 (k0_pay29 q2 kb) (k0_pay30 q2 kb) (k0_pay31 q2 kb)
def wgB (kb : Vec F S1x512x128 .bf16) : Vec F S1x256x1024 .f32 :=
  k0_pay60 k0_pay39 (k0_pay29 q2 kb) (k0_pay30 q2 kb) (k0_pay31 q2 kb)
def wsA (kb : Vec F S1x512x128 .bf16) : FVec F S1x1024 .f32 :=
  k0_pay58 k0_pay39 (k0_pay29 q2 kb) (k0_pay30 q2 kb) (k0_pay31 q2 kb)
def wsB (kb : Vec F S1x512x128 .bf16) : FVec F S1x1024 .f32 :=
  k0_pay61 k0_pay39 (k0_pay29 q2 kb) (k0_pay30 q2 kb) (k0_pay31 q2 kb)

/-- The carried sum after a weighed tile is gathered. -/
def cN (s : St F) : FVec F S1x1024 .f32 := k0_pay27 s.sA s.sB s.c
/-- The weighted values after a weighed tile is gathered. -/
def aN (s : St F) (vb : Vec F S1x512x128 .bf16) : FVec F S128x1024 .f32 := k0_pay28 s.sB s.c s.acc s.gB s.gA vb

/-- Gather the weighed tile with its values `vb`, then weigh the next with the keys `kb`. -/
def next (kb vb : Vec F S1x512x128 .bf16) (s : St F) : St F :=
  ⟨wsA q2 kb, wsB q2 kb, cN s, aN s vb, wgA q2 kb, wgB q2 kb⟩

/-- The diagonal tile, weighed. -/
def first (kb : Vec F S1x512x128 .bf16) : St F :=
  ⟨k0_pay48 q2 k0_pay39 (k0_pay40 kb), k0_pay51 q2 k0_pay39 (k0_pay40 kb), k0_pay52, k0_pay53,
    k0_pay47 q2 k0_pay39 (k0_pay40 kb), k0_pay50 q2 k0_pay39 (k0_pay40 kb)⟩

/-- Whether anything is left to read under the carried sum. -/
def alive (c : FVec F S1x1024 .f32) : Prop := Scalar.cmpf .ogt (k0_pay70 c) (dead (F := F)) = 1#1

open Classical in
/-- The double trips from trip `n`, at most `k` of them: whether the last ran to its end, the next trip, and the state. -/
def loop (K V : ℕ → Vec F S1x512x128 .bf16) (J : ℕ → ℕ) : ℕ → ℕ → St F → Bool × ℕ × St F
  | 0, n, s => (true, n, s)
  | k + 1, n, s =>
    if alive (cN s) then
      let s1 := next q2 (K (J n - 1)) (V (J n)) s
      if alive (cN s1) then loop K V J k (n + 1) (next q2 (K (J n - 2)) (V (J n - 1)) s1)
      else (false, n + 1, { s1 with c := cN s1, acc := aN s1 (V (J n - 1)) })
    else (false, n + 1, { s with c := cN s, acc := aN s (V (J n)) })

open Classical in
/-- The double trips, run if anything is left to read before the first. -/
def loop0 (K V : ℕ → Vec F S1x512x128 .bf16) (J : ℕ → ℕ) (N : ℕ) (s : St F) : Bool × ℕ × St F :=
  if alive s.c then loop q2 K V J N 0 s else (false, 0, s)

/-- The state before the double trips: the diagonal tile, and the one below when the tile number is odd. -/
def start (K V : ℕ → Vec F S1x512x128 .bf16) (i : ℕ) : St F :=
  if i % 2 = 1 then next q2 (K (i - 1)) (V i) (first q2 (K i)) else first q2 (K i)

/-- The sum after the last tile. -/
def total (K V : ℕ → Vec F S1x512x128 .bf16) (J : ℕ → ℕ) (N i : ℕ) : FVec F S128x1024 .f32 :=
  let r := loop0 q2 K V J N (start q2 K V i)
  if r.1 then aN r.2.2 (V (J r.2.1)) else r.2.2.acc

end

/-- What the kernel stores for query tile `i`. -/
def OUT (i : grid0.Coords) (x0 : Vec F S1x512x128 .bf16) (x1 x2 : S1x8192x128.Idx → Elt F .bf16) : Vec F S1x512x128 .f32 :=
  k0_pay1 (total (k0_pay38 x0) (slab x1) (slab x2) (tJ i) (tN i) (tI i)) (k0_pay72 (iota .tc S128x512 32 [0] iota_S128x512_d0_w32))

/-! ## The same values under the names of the other places that compute them -/

section
variable (q2 : FVec F S128x1024 .bf16) (kb : Vec F S1x512x128 .bf16)

theorem pay6_eq : k0_pay6 k0_pay39 (k0_pay82 q2 kb) (k0_pay83 q2 kb) (k0_pay84 q2 kb) (Named.named κ "log2_e" 0x3FB8AA3B#32) = wgA q2 kb := rfl
theorem pay9_eq : k0_pay9 k0_pay39 (k0_pay82 q2 kb) (k0_pay83 q2 kb) (k0_pay84 q2 kb) (Named.named κ "log2_e" 0x3FB8AA3B#32) = wgB q2 kb := rfl
theorem pay7_eq : k0_pay7 k0_pay39 (k0_pay82 q2 kb) (k0_pay83 q2 kb) (k0_pay84 q2 kb) (Named.named κ "log2_e" 0x3FB8AA3B#32) = wsA q2 kb := rfl
theorem pay10_eq : k0_pay10 k0_pay39 (k0_pay82 q2 kb) (k0_pay83 q2 kb) (k0_pay84 q2 kb) (Named.named κ "log2_e" 0x3FB8AA3B#32) = wsB q2 kb := rfl
theorem pay15_eq : k0_pay15 k0_pay39 (k0_pay76 q2 kb) (k0_pay77 q2 kb) (k0_pay78 q2 kb) = wgA q2 kb := rfl
theorem pay18_eq : k0_pay18 k0_pay39 (k0_pay76 q2 kb) (k0_pay77 q2 kb) (k0_pay78 q2 kb) = wgB q2 kb := rfl
theorem pay16_eq : k0_pay16 k0_pay39 (k0_pay76 q2 kb) (k0_pay77 q2 kb) (k0_pay78 q2 kb) = wsA q2 kb := rfl
theorem pay19_eq : k0_pay19 k0_pay39 (k0_pay76 q2 kb) (k0_pay77 q2 kb) (k0_pay78 q2 kb) = wsB q2 kb := rfl

variable (s : St F) (vb : Vec F S1x512x128 .bf16)

theorem pay80_eq : k0_pay80 s.sA s.sB s.c = cN s := rfl
theorem pay24_eq : k0_pay24 s.sA s.sB s.c = cN s := rfl
theorem pay74_eq : k0_pay74 s.c s.sA s.sB = cN s := rfl
theorem pay2_eq : k0_pay2 s.sA s.sB s.c = k0_pay70 (cN s) := rfl
theorem pay75_eq : k0_pay75 s.c s.acc s.sB s.gB s.gA vb = aN s vb := rfl
theorem pay81_eq : k0_pay81 s.sB s.c s.acc s.gB s.gA vb = aN s vb := rfl
theorem pay25_eq : k0_pay25 s.sB s.c s.acc s.gB s.gA vb = aN s vb := rfl
theorem pay71_eq : k0_pay71 s.sB s.c s.acc s.gB s.gA vb = aN s vb := rfl

theorem pay74_next : k0_pay74 (cN s) (wsA q2 kb) (wsB q2 kb) = cN (next q2 kb vb s) := rfl
theorem pay75_next (vb' : Vec F S1x512x128 .bf16) : k0_pay75 (cN s) (aN s vb) (wsB q2 kb) (wgB q2 kb) (wgA q2 kb) vb' = aN (next q2 kb vb s) vb' := rfl

variable (c : FVec F S1x1024 .f32) (acc : FVec F S128x1024 .f32)

theorem pay11_eq : k0_pay11 k0_pay39 (cN s) (k0_pay82 q2 kb) (k0_pay83 q2 kb) (k0_pay84 q2 kb) (Named.named κ "log2_e" 0x3FB8AA3B#32)
    = k0_pay70 (cN (next q2 kb vb s)) := rfl
theorem pay21_eq : k0_pay21 k0_pay39 (cN s) (k0_pay82 q2 kb) (k0_pay83 q2 kb) (k0_pay84 q2 kb) (Named.named κ "log2_e" 0x3FB8AA3B#32)
    = cN (next q2 kb vb s) := rfl
theorem pay22_eq (vb' : Vec F S1x512x128 .bf16) : k0_pay22 k0_pay39 (cN s) (aN s vb) (k0_pay82 q2 kb) (k0_pay83 q2 kb) (k0_pay84 q2 kb) (Named.named κ "log2_e" 0x3FB8AA3B#32)
    (wgB q2 kb) (wgA q2 kb) vb' = aN (next q2 kb vb s) vb' := rfl

end

end Cert.KernelIdeal.Sb
-- ==== Proof.KI.Body.lean ====
/-
  The double trips of the kernel body, by induction on the trips left.
-/
module

public import proofs.«01_k».proof.Proof.KI.Model

@[expose] public section

set_option maxRecDepth 16384

noncomputable section

namespace Cert.KernelIdeal.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.View (ld)

variable {F : FTy → Type} [FloatOps F] [Named F]

local notation "𝕄" => MT nD τ sig Unit (Elt F) ℕ (UR sig nD τ) ℕ

abbrev 𝒱₀ : Variants := Variants.nat

/-! ## What a load reads after stores -/

section Reads
variable {sp : Space} {s : Shape} {e : EltTy} (v : View sig .tc sp s e)

theorem readAt_hit (f : v.ty.Contents (Elt F)) (r : Rect s) (w : r.shape.Idx → Elt F e) (L : List (View.Piece (Elt F) s e)) :
    v.readAt (Elt F) r.toLoadRect (v.writes (Elt F) f (⟨r, w⟩ :: L)) = w :=
  funext fun x => View.read_writes_cons_emb v f r w L x

theorem readAt_skip (f : v.ty.Contents (Elt F)) (r r' : Rect s) (w : r.shape.Idx → Elt F e) (L : List (View.Piece (Elt F) s e))
    (h : Disjoint r.set r'.set) :
    v.readAt (Elt F) r'.toLoadRect (v.writes (Elt F) f (⟨r, w⟩ :: L)) = v.readAt (Elt F) r'.toLoadRect (v.writes (Elt F) f L) :=
  funext fun x => View.read_writes_cons_miss v f ⟨r, w⟩ L (r'.idx x) (Finset.disjoint_right.mp h (r'.toLoadRect.idx_mem x))
end Reads

/-- The four pieces of the scratch. -/
abbrev rA0 : Rect S2x512x1024 := Rect.unit (s := S2x512x1024) ![0, 0, 0] S1x256x1024.size inb_S2x512x1024_S1x256x1024_0_0_0
abbrev rB0 : Rect S2x512x1024 := Rect.unit (s := S2x512x1024) ![0, 256, 0] S1x256x1024.size inb_S2x512x1024_S1x256x1024_0_256_0
abbrev rA1 : Rect S2x512x1024 := Rect.unit (s := S2x512x1024) ![1, 0, 0] S1x256x1024.size inb_S2x512x1024_S1x256x1024_1_0_0
abbrev rB1 : Rect S2x512x1024 := Rect.unit (s := S2x512x1024) ![1, 256, 0] S1x256x1024.size inb_S2x512x1024_S1x256x1024_1_256_0

theorem dis_B0_A0 : Disjoint rB0.set rA0.set := Rect.disjoint_of_separated _ _ 1 (by decide)
theorem dis_B1_A1 : Disjoint rB1.set rA1.set := Rect.disjoint_of_separated _ _ 1 (by decide)

theorem cov_B [∀ e, Nonempty (Elt F e)] (v : View sig .tc .vmem S2x512x1024 .f32) (wB : rB1.shape.Idx → Elt F .f32) (wA : rA1.shape.Idx → Elt F .f32) :
    v.readCov (Val := Elt F) [⟨rB1, wB⟩, ⟨rA1, wA⟩] rB1.toLoadRect = wB := readAt_hit v v.junk rB1 wB _
theorem cov_A [∀ e, Nonempty (Elt F e)] (v : View sig .tc .vmem S2x512x1024 .f32) (wB : rB1.shape.Idx → Elt F .f32) (wA : rA1.shape.Idx → Elt F .f32) :
    v.readCov (Val := Elt F) [⟨rB1, wB⟩, ⟨rA1, wA⟩] rA1.toLoadRect = wA :=
  (readAt_skip v v.junk rB1 rA1 wB [⟨rA1, wA⟩] dis_B1_A1).trans (readAt_hit v v.junk rA1 wA [])

/-! ## The double trips -/

section While
variable (c : Dev nD) (i : grid0.Coords) (arg7 : Memref sig .tc .vmem S2x512x1024 .f32) (harg7 : arg7.IsWhole)
  (arg5 : Memref sig .tc .vmem S1x8192x128 .bf16) (harg5 : arg5.IsWhole) (arg4 : Memref sig .tc .vmem S1x8192x128 .bf16) (harg4 : arg4.IsWhole)
  (q2 : FVec F S128x1024 .bf16)
  (X4 : arg4.view.ty.Contents (Elt F)) (X5 : arg5.view.ty.Contents (Elt F))

/-- The scratch holds the weighed tile of `s`. -/
def scr (s : St F) (X : arg7.view.ty.Contents (Elt F)) : Prop :=
  arg7.view.readAt (Elt F) rA0.toLoadRect X = s.gA ∧ arg7.view.readAt (Elt F) rB0.toLoadRect X = s.gB

/-- The word a Boolean is carried as. -/
def bw (b : Bool) : BitVec 32 := if b then 1#32 else 0#32

abbrev Kr : ℕ → Vec F S1x512x128 .bf16 := slab (arg4.view.read (Elt F) X4)
abbrev Vr : ℕ → Vec F S1x512x128 .bf16 := slab (arg5.view.read (Elt F) X5)

abbrev Ret (F : FTy → Type) := BitVec 32 × BitVec 32 × FVec F S1x1024 .f32 × FVec F S1x1024 .f32 × FVec F S1x1024 .f32 × FVec F S128x1024 .f32

def wSpec (k n : ℕ) (s : St F) : sWPT 𝕄 (Ret F) := do
  sWPT.consume (iprop((arg4.view.loc (c : Thread nD τ) ↦[arg4.view.set]{fullShare} X4) ∗ (arg5.view.loc (c : Thread nD τ) ↦[arg5.view.set]{fullShare} X5)
    ∗ (∃ X, (arg7.view.loc (c : Thread nD τ) ↦[arg7.view.set]{fullShare} X) ∗ ⌜scr arg7 s X⌝)) : sProp 𝕄)
  let r := loop q2 (Kr arg4 X4) (Vr arg5 X5) (tJ i) k n s
  sWPT.produce (iprop((arg4.view.loc (c : Thread nD τ) ↦[arg4.view.set]{fullShare} X4) ∗ (arg5.view.loc (c : Thread nD τ) ↦[arg5.view.set]{fullShare} X5)
    ∗ (∃ X, (arg7.view.loc (c : Thread nD τ) ↦[arg7.view.set]{fullShare} X) ∗ ⌜r.1 = true → scr arg7 r.2.2 X⌝)) : sProp 𝕄)
  pure (BitVec.ofNat 32 r.2.1, bw r.1, r.2.2.sA, r.2.2.sB, r.2.2.c, r.2.2.acc)

theorem wSpec_apply (k n : ℕ) (s : St F) (K : Ret F → sProp 𝕄) : wSpec c i arg7 arg5 arg4 q2 X4 X5 k n s K =
  iprop(((arg4.view.loc (c : Thread nD τ) ↦[arg4.view.set]{fullShare} X4) ∗ (arg5.view.loc (c : Thread nD τ) ↦[arg5.view.set]{fullShare} X5)
    ∗ (∃ X, (arg7.view.loc (c : Thread nD τ) ↦[arg7.view.set]{fullShare} X) ∗ ⌜scr arg7 s X⌝)) ∗
   (((arg4.view.loc (c : Thread nD τ) ↦[arg4.view.set]{fullShare} X4) ∗ (arg5.view.loc (c : Thread nD τ) ↦[arg5.view.set]{fullShare} X5)
    ∗ (∃ X, (arg7.view.loc (c : Thread nD τ) ↦[arg7.view.set]{fullShare} X) ∗ ⌜(loop q2 (Kr arg4 X4) (Vr arg5 X5) (tJ i) k n s).1 = true → scr arg7 (loop q2 (Kr arg4 X4) (Vr arg5 X5) (tJ i) k n s).2.2 X⌝)) -∗
     K (BitVec.ofNat 32 (loop q2 (Kr arg4 X4) (Vr arg5 X5) (tJ i) k n s).2.1, bw (loop q2 (Kr arg4 X4) (Vr arg5 X5) (tJ i) k n s).1, (loop q2 (Kr arg4 X4) (Vr arg5 X5) (tJ i) k n s).2.2.sA, (loop q2 (Kr arg4 X4) (Vr arg5 X5) (tJ i) k n s).2.2.sB, (loop q2 (Kr arg4 X4) (Vr arg5 X5) (tJ i) k n s).2.2.c, (loop q2 (Kr arg4 X4) (Vr arg5 X5) (tJ i) k n s).2.2.acc))) := rfl

theorem rd_slab (m : Memref sig .tc .vmem S1x8192x128 .bf16) (X : m.view.ty.Contents (Elt F)) {j : ℕ} (hj : j ≤ 15) {off : Fin 3 → ℕ} (h : off = ![0, 512 * j, 0])
    (inb : ∀ a, off a + S1x512x128.size a ≤ S1x8192x128.size a) :
    m.view.readAt (Elt F) (Rect.unit (s := S1x8192x128) off S1x512x128.size inb).toLoadRect X = slab (m.view.read (Elt F) X) j := ld_slab _ hj h inb

theorem addi_one (n : ℕ) : Scalar.addi (BitVec.ofNat 32 n) 1#32 = BitVec.ofNat 32 (n + 1) := (BitVec.ofNat_add n 1).symm

/-- A double trip entered with the word off returns what it was given. -/
def dSpec (n : ℕ) (s : St F) : sWPT 𝕄 (Ret F) := pure (BitVec.ofNat 32 n, bw false, s.sA, s.sB, s.c, s.acc)

theorem dSpec_apply (n : ℕ) (s : St F) (K : Ret F → sProp 𝕄) : dSpec n s K = K (BitVec.ofNat 32 n, bw false, s.sA, s.sB, s.c, s.acc) := rfl

theorem dSpec_le (E : Set ℕ) (v : ℕ) (n : ℕ) (s : St F) (K : Ret F → sProp 𝕄) : dSpec n s K
      ⊢ wp frame (wpE (defs₀ (F := F)) 𝒱₀ (c : Thread nD τ) (some v)) E
          (defs₀ (F := F) .tc 1 ⟨i, arg7, harg7, arg5, harg5, arg4, harg4, q2, k0_pay39, BitVec.ofNat 32 n, 0#32, s.sA, s.sB, s.c, s.acc⟩) K := by
  rw [dSpec_apply]
  show K (BitVec.ofNat 32 n, 0#32, s.sA, s.sB, s.c, s.acc) ⊢ wp frame (wpE (defs₀ (F := F)) 𝒱₀ (c : Thread nD τ) (some v)) E
    (cc0_while1 i arg7 harg7 arg5 harg5 arg4 harg4 q2 k0_pay39 (BitVec.ofNat 32 n) 0#32 s.sA s.sB s.c s.acc) K
  simp only [cc0_while1_eq_skeleton]; unfold cc0_while1_skel
  rw [if_neg (test_dead i n)]
  iintro Hk
  sl_step
  iexact Hk

set_option maxHeartbeats 1000000 in
theorem wSpec_le (E : Set ℕ) : ∀ k n, n + k = tN i → ∀ (s : St F) K, wSpec c i arg7 arg5 arg4 q2 X4 X5 k n s K
      ⊢ wp frame (wpE (defs₀ (F := F)) 𝒱₀ (c : Thread nD τ) (some k)) E
          (defs₀ (F := F) .tc 1 ⟨i, arg7, harg7, arg5, harg5, arg4, harg4, q2, k0_pay39, BitVec.ofNat 32 n, 1#32, s.sA, s.sB, s.c, s.acc⟩) K := by
  intro k
  induction k with
  | zero =>
    intro n hn s K
    rw [wSpec_apply]
    show _ ⊢ wp frame (wpE (defs₀ (F := F)) 𝒱₀ (c : Thread nD τ) (some 0)) E
      (cc0_while1 i arg7 harg7 arg5 harg5 arg4 harg4 q2 k0_pay39 (BitVec.ofNat 32 n) 1#32 s.sA s.sB s.c s.acc) K
    simp only [cc0_while1_eq_skeleton]; unfold cc0_while1_skel
    rw [if_neg (test_false i n hn)]
    iintro ⟨⟨H4, H5, %X, H7, %hX⟩, Hk⟩
    simp only [loop, bw, if_true]
    sl_step
    iapply Hk
    isplitl [H4]; · iexact H4
    isplitl [H5]; · iexact H5
    iexists X
    isplitl [H7]; · iexact H7
    ipureintro; exact fun _ => hX
  | succ k ih =>
    intro n hn s K
    rw [wSpec_apply]
    show _ ⊢ wp frame (wpE (defs₀ (F := F)) 𝒱₀ (c : Thread nD τ) (some (k+1))) E
      (cc0_while1 i arg7 harg7 arg5 harg5 arg4 harg4 q2 k0_pay39 (BitVec.ofNat 32 n) 1#32 s.sA s.sB s.c s.acc) K
    simp only [cc0_while1_eq_skeleton]; unfold cc0_while1_skel
    rw [if_pos (test_true i n (by omega))]
    iintro ⟨⟨H4, H5, %X, H7, %hX⟩, Hk⟩
    have h1 := chk1_ok i n (Scalar.cmpf .ogt (k0_pay2 s.sA s.sB s.c) (Named.named κ "dead" 0xC3200000#32)) (by omega)
    by_cases hal : alive (cN s)
    · have hc1 := (cond1_iff (Scalar.cmpf .ogt (k0_pay2 s.sA s.sB s.c) (Named.named κ "dead" 0xC3200000#32))).mpr hal
      have h2 : ∀ w, k0_chk2 i (BitVec.ofNat 32 n) (Scalar.cmpf .ogt (k0_pay2 s.sA s.sB s.c) (Named.named κ "dead" 0xC3200000#32)) w := fun w => chk2_ok i n _ w (by omega)
      have hkb : arg4.view.readAt (Elt F) (Rect.unit (s := S1x8192x128) (k0_off9 i (BitVec.ofNat 32 n)) S1x512x128.size (k0_off9_inb i _ _ h1 hc1)).toLoadRect X4
          = Kr arg4 X4 (tJ i n - 1) := ld_slab _ (by have := tJ_le i n; omega) (off9_eq i n (by omega)) _
      have hvb : arg5.view.readAt (Elt F) (Rect.unit (s := S1x8192x128) (k0_off8 i (BitVec.ofNat 32 n)) S1x512x128.size (k0_off8_inb i _ _ h1 hc1)).toLoadRect X5
          = Vr arg5 X5 (tJ i n) := ld_slab _ (tJ_le i n) (off8_eq i n (by omega)) _
      by_cases hal2 : alive (cN (next q2 (Kr arg4 X4 (tJ i n - 1)) (Vr arg5 X5 (tJ i n)) s))
      · obtain ⟨hXA, hXB⟩ := hX
        sl_exec
        have hc2' : k0_cond2 (wSpec_le.sl.v216 i arg4 q2 X4 n s) = 1#1 := by
          delta wSpec_le.sl.v216 wSpec_le.sl.r wSpec_le.sl.r_2 wSpec_le.sl.r_3 wSpec_le.sl.r_4 wSpec_le.sl.cst_68 wSpec_le.sl.cst_46
          exact (cond2_iff _).mpr hal2
        have hvb2 : arg5.view.readAt (Elt F) (Rect.unit (s := S1x8192x128) (k0_off10 i (BitVec.ofNat 32 n) 1#32) S1x512x128.size (k0_off10_inb i _ _ _ (h2 (wSpec_le.sl.v216 i arg4 q2 X4 n s)) hc1 hc2' 0)).toLoadRect X5
          = Vr arg5 X5 (tJ i n - 1) := ld_slab _ (by have := tJ_le i n; omega) (off10_1_eq i n (by omega)) _
        have hkb2 : arg4.view.readAt (Elt F) (Rect.unit (s := S1x8192x128) (k0_off10 i (BitVec.ofNat 32 n) 2#32) S1x512x128.size (k0_off10_inb i _ _ _ (h2 (wSpec_le.sl.v216 i arg4 q2 X4 n s)) hc1 hc2' 1)).toLoadRect X4
          = Kr arg4 X4 (tJ i n - 2) := ld_slab _ (by have := tJ_le i n; omega) (off10_2_eq i n (by omega)) _
        rw [k0_part6_eq_skeleton]; unfold k0_part6_skel
        sl_exec
        delta wSpec_le.sl.v225 wSpec_le.sl.v232 wSpec_le.sl.r wSpec_le.sl.r_1 wSpec_le.sl.r_2 wSpec_le.sl.r_3 wSpec_le.sl.r_4 wSpec_le.sl.cst_68 wSpec_le.sl.v145
        rw [cov_B, cov_A]
        rw [pay6_eq, pay7_eq, pay9_eq, pay10_eq, pay15_eq, pay16_eq, pay18_eq, pay19_eq, pay80_eq, pay81_eq,
          pay74_next (vb := Vr arg5 X5 (tJ i n)), pay75_next, addi_one]
        have hL : loop q2 (Kr arg4 X4) (Vr arg5 X5) (tJ i) (k+1) n s = loop q2 (Kr arg4 X4) (Vr arg5 X5) (tJ i) k (n+1)
            (next q2 (Kr arg4 X4 (tJ i n - 2)) (Vr arg5 X5 (tJ i n - 1)) (next q2 (Kr arg4 X4 (tJ i n - 1)) (Vr arg5 X5 (tJ i n)) s)) := by
          simp only [loop, if_pos hal, if_pos hal2]
        rw [hL]
        iapply (wp_call_spec 𝒱₀ (c : Thread nD τ) (some (k+1)) E
          (wSpec c i arg7 arg5 arg4 q2 X4 X5 k (n+1) (next q2 (Kr arg4 X4 (tJ i n - 2)) (Vr arg5 X5 (tJ i n - 1)) (next q2 (Kr arg4 X4 (tJ i n - 1)) (Vr arg5 X5 (tJ i n)) s)))
          k (fun u hu => by cases hu; exact Nat.lt_succ_self k) (ih (n+1) (by omega) _))
        rw [wSpec_apply]
        isplitl [H4 H5 H7]
        · isplitl [H4]; · iexact H4
          isplitl [H5]; · iexact H5
          iexists _
          isplitl [H7]; · iexact H7
          ipureintro
          exact ⟨(readAt_skip _ _ rB0 rA0 _ _ dis_B0_A0).trans (readAt_hit _ _ rA0 _ _), readAt_hit _ _ rB0 _ _⟩
        · iintro ⟨H4, H5, %X', H7, %hX'⟩
          sl_step
          iapply Hk
          isplitl [H4]; · iexact H4
          isplitl [H5]; · iexact H5
          iexists X'
          isplitl [H7]; · iexact H7
          ipureintro; exact hX'
      · obtain ⟨hXA, hXB⟩ := hX
        sl_exec
        have hc2' : ¬ k0_cond2 (wSpec_le.sl.v216 i arg4 q2 X4 n s) = 1#1 := by
          delta wSpec_le.sl.v216 wSpec_le.sl.r wSpec_le.sl.r_2 wSpec_le.sl.r_3 wSpec_le.sl.r_4 wSpec_le.sl.cst_68 wSpec_le.sl.cst_46
          exact fun h => hal2 ((cond2_iff _).mp h)
        rw [k0_part6_eq_skeleton]; unfold k0_part6_skel
        clear ih
        sl_exec
        delta wSpec_le.sl.v241 wSpec_le.sl.v225_1 wSpec_le.sl.v232_1 wSpec_le.sl.r_5 wSpec_le.sl.r_6 wSpec_le.sl.r_7 wSpec_le.sl.r_8 wSpec_le.sl.r_9 wSpec_le.sl.cst_68_1 wSpec_le.sl.v145_1
        rw [cov_B, cov_A, rd_slab arg5 X5 (j := tJ i n - 1) (by have := tJ_le i n; omega) (off11_eq i n (by omega))]
        rw [pay6_eq, pay7_eq, pay9_eq, pay10_eq, pay80_eq, pay81_eq,
          pay21_eq (vb := Vr arg5 X5 (tJ i n)), pay22_eq, addi_one]
        have hL : loop q2 (Kr arg4 X4) (Vr arg5 X5) (tJ i) (k+1) n s = (false, n + 1,
            { next q2 (Kr arg4 X4 (tJ i n - 1)) (Vr arg5 X5 (tJ i n)) s with
              c := cN (next q2 (Kr arg4 X4 (tJ i n - 1)) (Vr arg5 X5 (tJ i n)) s),
              acc := aN (next q2 (Kr arg4 X4 (tJ i n - 1)) (Vr arg5 X5 (tJ i n)) s) (Vr arg5 X5 (tJ i n - 1)) }) := by
          simp only [loop, if_pos hal, if_neg hal2]
        rw [hL]
        iapply (wp_call_spec 𝒱₀ (c : Thread nD τ) (some (k+1)) E (dSpec (n+1) { next q2 (Kr arg4 X4 (tJ i n - 1)) (Vr arg5 X5 (tJ i n)) s with
              c := cN (next q2 (Kr arg4 X4 (tJ i n - 1)) (Vr arg5 X5 (tJ i n)) s),
              acc := aN (next q2 (Kr arg4 X4 (tJ i n - 1)) (Vr arg5 X5 (tJ i n)) s) (Vr arg5 X5 (tJ i n - 1)) })
          k (fun u hu => by cases hu; exact Nat.lt_succ_self k) (dSpec_le c i arg7 harg7 arg5 harg5 arg4 harg4 q2 E k (n+1) _))
        rw [dSpec_apply]
        sl_step
        iapply Hk
        isplitl [H4]; · iexact H4
        isplitl [H5]; · iexact H5
        iexists _
        isplitl [H7]; · iexact H7
        ipureintro; exact fun h => nomatch h
    · have hc1 : ¬ k0_cond1 (Scalar.cmpf .ogt (k0_pay2 s.sA s.sB s.c) (Named.named κ "dead" 0xC3200000#32)) = 1#1 :=
        fun h => hal ((cond1_iff _).mp h)
      obtain ⟨hXA, hXB⟩ := hX
      clear ih
      sl_exec
      delta wSpec_le.sl.v145_2
      rw [rd_slab arg5 X5 (tJ_le i n) (off12_eq i n (by omega)), pay24_eq, pay25_eq, addi_one]
      have hL : loop q2 (Kr arg4 X4) (Vr arg5 X5) (tJ i) (k+1) n s = (false, n + 1,
          { s with c := cN s, acc := aN s (Vr arg5 X5 (tJ i n)) }) := by
        simp only [loop, if_neg hal]
      rw [hL]
      iapply (wp_call_spec 𝒱₀ (c : Thread nD τ) (some (k+1)) E (dSpec (n+1) { s with c := cN s, acc := aN s (Vr arg5 X5 (tJ i n)) })
        k (fun u hu => by cases hu; exact Nat.lt_succ_self k) (dSpec_le c i arg7 harg7 arg5 harg5 arg4 harg4 q2 E k (n+1) _))
      rw [dSpec_apply]
      sl_step
      iapply Hk
      isplitl [H4]; · iexact H4
      isplitl [H5]; · iexact H5
      iexists _
      isplitl [H7]; · iexact H7
      ipureintro; exact fun h => nomatch h
end While

end Cert.KernelIdeal.Sb
-- ==== Proof.KI.Kern.lean ====
/-
  One run of the kernel body: the counted loop, the double trips, the last tile, and the whole.
-/
module

public import proofs.«01_k».proof.Proof.KI.Body
public import Idealize.ShloMosaic.Lib.VecWindow

@[expose] public section

set_option maxRecDepth 16384

noncomputable section

namespace Cert.KernelIdeal.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.View (ld)

variable {F : FTy → Type} [FloatOps F] [Named F]

local notation "𝕄" => MT nD τ sig Unit (Elt F) ℕ (UR sig nD τ) ℕ

theorem eq_zero_of_ne_one {v : BitVec 1} (h : ¬ v = 1#1) : v = 0#1 := by revert v; decide

theorem ret_then {E' : Type → Type} {α β : Type} (a : α) (k : α → Prog E' β) : (Prog.ret a).bind k = k a := rfl

section Kern
variable (c : Dev nD) (i : grid0.Coords) (arg3 : Memref sig .tc .vmem S1x512x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x512x128 .f32) (harg6 : arg6.IsWhole) (arg7 : Memref sig .tc .vmem S2x512x1024 .f32) (harg7 : arg7.IsWhole)
  (q2 : FVec F S128x1024 .bf16)
  (X4 : arg4.view.ty.Contents (Elt F)) (X5 : arg5.view.ty.Contents (Elt F))

/-- The second slot of the scratch holds the weighed tile of `s`. -/
def scr1 (s : St F) (X : arg7.view.ty.Contents (Elt F)) : Prop :=
  arg7.view.readAt (Elt F) rA1.toLoadRect X = s.gA ∧ arg7.view.readAt (Elt F) rB1.toLoadRect X = s.gB

/-- The state carried into trip `k` of the single trips. -/
def S1 (k : ℕ) : St F := if k = 0 then first q2 (Kr arg4 X4 (tI i)) else
  next q2 (Kr arg4 X4 (tI i - 1)) (Vr arg5 X5 (tI i)) (first q2 (Kr arg4 X4 (tI i)))

/-- What holds before single trip `k`. -/
def I1 (k : ℕ) (acc : FVec F S1x1024 .f32 × FVec F S1x1024 .f32 × FVec F S1x1024 .f32 × FVec F S128x1024 .f32) (X : arg7.view.ty.Contents (Elt F)) : Prop :=
  acc = ((S1 i arg4 arg5 q2 X4 X5 k).sA, (S1 i arg4 arg5 q2 X4 X5 k).sB, (S1 i arg4 arg5 q2 X4 X5 k).c, (S1 i arg4 arg5 q2 X4 X5 k).acc)
  ∧ (k = tI i % 2 → scr arg7 (S1 i arg4 arg5 q2 X4 X5 k) X) ∧ (k < tI i % 2 → scr1 arg7 (S1 i arg4 arg5 q2 X4 X5 k) X)

abbrev inv1 (k : ℕ) (acc : FVec F S1x1024 .f32 × FVec F S1x1024 .f32 × FVec F S1x1024 .f32 × FVec F S128x1024 .f32) : sProp 𝕄 :=
  iprop((arg4.view.loc (c : Thread nD τ) ↦[arg4.view.set]{fullShare} X4) ∗ (arg5.view.loc (c : Thread nD τ) ↦[arg5.view.set]{fullShare} X5)
    ∗ (∃ X, (arg7.view.loc (c : Thread nD τ) ↦[arg7.view.set]{fullShare} X) ∗ ⌜I1 i arg4 arg5 arg7 q2 X4 X5 k acc X⌝))

theorem step1 (E : Set ℕ) (arg2 v0 v33 v72 v82) (k : Fin (k0_t1_loop i).trips) (acc) :
    inv1 c i arg4 arg5 arg7 q2 X4 X5 k acc ⊢ wp frame (wpE (defs₀ (F := F)) 𝒱₀ (c : Thread nD τ) none) E
      (k0_t1_body (F := F) i arg3 harg3 arg4 harg4 arg5 harg5 arg6 harg6 arg7 harg7 arg2 v0 q2 k0_pay39 v33 v72 v82 k acc)
      (inv1 c i arg4 arg5 arg7 q2 X4 X5 (k.val + 1)) := by
  have hk : k.val < tI i % 2 := lt_of_lt_of_eq k.isLt (trips1_eq i)
  have ho : tI i % 2 = 1 := by omega
  have hk0 : k.val = 0 := by omega
  obtain ⟨a9, a10, a11, a12⟩ := acc
  iintro ⟨H4, H5, %X, H7, %hI⟩
  obtain ⟨hacc, -, hs⟩ := hI
  obtain ⟨hXA, hXB⟩ := hs hk
  rw [hk0] at hXA hXB hacc
  simp only [S1, if_true] at hXA hXB hacc
  cases hacc
  have hkb : arg4.view.readAt (Elt F) (Rect.unit (s := S1x8192x128) (k0_off5 i) S1x512x128.size (k0_off5_inb i k)).toLoadRect X4
      = Kr arg4 X4 (tI i - 1) := rd_slab arg4 X4 (j := tI i - 1) (by have := tI_lt i; omega) (off5_eq i ho) _
  have hvb : arg5.view.readAt (Elt F) (Rect.unit (s := S1x8192x128) (k0_off4 i) S1x512x128.size (k0_off4_inb i)).toLoadRect X5
      = Vr arg5 X5 (tI i) := rd_slab arg5 X5 (j := tI i) (by have := tI_lt i; omega) (k0_off4_eq i) _
  unfold k0_t1_body
  sl_exec
  delta step1.sl.v145 step1.sl.v154 step1.sl.v161 step1.sl.v166 step1.sl.v170
  sl_step
  isplitl [H4]; · iexact H4
  isplitl [H5]; · iexact H5
  iexists _
  isplitl [H7]; · iexact H7
  ipureintro
  have hS : S1 i arg4 arg5 q2 X4 X5 (k.val + 1) = next q2 (Kr arg4 X4 (tI i - 1)) (Vr arg5 X5 (tI i)) (first q2 (Kr arg4 X4 (tI i))) := if_neg (by omega)
  unfold I1
  rw [hS]
  refine ⟨rfl, fun _ => ⟨(readAt_skip _ _ rB0 rA0 _ _ dis_B0_A0).trans (readAt_hit _ _ rA0 _ _), readAt_hit _ _ rB0 _ _⟩, fun h => absurd h (by omega)⟩

/-- What stands before the last tile: the double trips' result. -/
abbrev R0 : Bool × ℕ × St F := loop0 q2 (Kr arg4 X4) (Vr arg5 X5) (tJ i) (tN i) (start q2 (Kr arg4 X4) (Vr arg5 X5) (tI i))

theorem loop_le (K V : ℕ → Vec F S1x512x128 .bf16) (J : ℕ → ℕ) : ∀ k n (s : St F), (loop q2 K V J k n s).2.1 ≤ n + k := by
  intro k
  induction k with
  | zero => intro n s; exact le_rfl
  | succ k ih =>
    intro n s
    simp only [loop]
    split
    · split
      · refine (ih _ _).trans (by omega)
      · show n + 1 ≤ _; omega
    · show n + 1 ≤ _; omega

theorem cond3_bw (b : Bool) : k0_cond3 (bw b) = 1#1 ↔ b = true := by revert b; decide +kernel

theorem S1_trips : S1 i arg4 arg5 q2 X4 X5 (tI i % 2) = start q2 (Kr arg4 X4) (Vr arg5 X5) (tI i) := by
  unfold S1 start
  by_cases h : tI i % 2 = 1
  · rw [if_neg (by omega), if_pos h]
  · rw [if_pos (by omega), if_neg h]

theorem part5 (E : Set ℕ) (arg2 v0 v33) (K : (Σ' (v120 : FVec F S128x1024 .f32), IVec S128x512 1) → sProp 𝕄) :
    iprop(inv1 c i arg4 arg5 arg7 q2 X4 X5 0 ((first q2 (Kr arg4 X4 (tI i))).sA, (first q2 (Kr arg4 X4 (tI i))).sB, k0_pay52, k0_pay53) ∗
      (((arg4.view.loc (c : Thread nD τ) ↦[arg4.view.set]{fullShare} X4) ∗ (arg5.view.loc (c : Thread nD τ) ↦[arg5.view.set]{fullShare} X5)
        ∗ (∃ X, (arg7.view.loc (c : Thread nD τ) ↦[arg7.view.set]{fullShare} X))) -∗
        K ⟨total q2 (Kr arg4 X4) (Vr arg5 X5) (tJ i) (tN i) (tI i), k0_pay72 v0⟩)) ⊢
    wp frame (wpE (defs₀ (F := F)) 𝒱₀ (c : Thread nD τ) none) E
      (k0_part5 (F := F) i arg3 harg3 arg4 harg4 arg5 harg5 arg6 harg6 arg7 harg7 arg2 v0 q2 k0_pay39 v33
        (first q2 (Kr arg4 X4 (tI i))).sA (first q2 (Kr arg4 X4 (tI i))).sB) K := by
  rw [k0_part5_eq_skeleton]; unfold k0_part5_skel
  iintro ⟨HI, Hk⟩
  iapply (Scf.wp_for_bind Idealize.ShloMosaic.frame (wpE (defs₀ (F := F)) 𝒱₀ (c : Thread nD τ) none) E (k0_t1_loop i).lb (k0_t1_loop i).ub (k0_t1_loop i).st (k0_t1_ok i) _ _ (inv1 c i arg4 arg5 arg7 q2 X4 X5) (step1 c i arg3 harg3 arg4 harg4 arg5 harg5 arg6 harg6 arg7 harg7 q2 X4 X5 E _ _ _ _ _)) $$ HI
  iintro %acc HI
  icases HI with ⟨H4, H5, %X, H7, %hI⟩
  obtain ⟨rfl, hs, -⟩ := hI
  have hT : Scf.trips (k0_t1_loop i).lb (k0_t1_loop i).ub (k0_t1_loop i).st = tI i % 2 := trips1_eq i
  have hs := hs hT
  rw [hT, S1_trips] at *
  generalize hs0 : start q2 (Kr arg4 X4) (Vr arg5 X5) (tI i) = s0 at *
  dsimp only
  iapply (Scf.wp_for_bind Idealize.ShloMosaic.frame (wpE (defs₀ (F := F)) 𝒱₀ (c : Thread nD τ) none) E (k0_t2_loop i).lb (k0_t2_loop i).ub (k0_t2_loop i).st (k0_t2_ok i) _ _
    (fun _ acc => iprop(⌜acc = (s0.sA, s0.sB, s0.c, s0.acc)⌝)) (fun k acc => absurd k.isLt (by have := trips2_eq i; intro h; exact absurd (lt_of_lt_of_eq h this) (by omega)))) $$ []
  · ipureintro; rfl
  iintro %acc %hacc
  subst hacc
  dsimp only
  by_cases hal : alive s0.c
  · have hw : Scalar.extui (Scalar.cmpf .ogt (k0_pay70 s0.c) (Named.named κ "dead" 0xC3200000#32)) = 1#32 := by
      rw [show Scalar.cmpf .ogt (k0_pay70 s0.c) (Named.named κ "dead" 0xC3200000#32) = 1#1 from hal]; rfl
    have hT0 : total q2 (Kr arg4 X4) (Vr arg5 X5) (tJ i) (tN i) (tI i) =
        if (loop q2 (Kr arg4 X4) (Vr arg5 X5) (tJ i) (tN i) 0 s0).1 then
          aN (loop q2 (Kr arg4 X4) (Vr arg5 X5) (tJ i) (tN i) 0 s0).2.2 (Vr arg5 X5 (tJ i (loop q2 (Kr arg4 X4) (Vr arg5 X5) (tJ i) (tN i) 0 s0).2.1))
        else (loop q2 (Kr arg4 X4) (Vr arg5 X5) (tJ i) (tN i) 0 s0).2.2.acc := by
      unfold total loop0; rw [hs0, if_pos hal]
    have hle := loop_le q2 (Kr arg4 X4) (Vr arg5 X5) (tJ i) (tN i) 0 s0
    rw [hw, hT0]
    iapply (wp_call_spec 𝒱₀ (c : Thread nD τ) none E (wSpec c i arg7 arg5 arg4 q2 X4 X5 (tN i) 0 s0) (tN i) (fun u hu => nomatch hu)
      (wSpec_le c i arg7 harg7 arg5 harg5 arg4 harg4 q2 X4 X5 E (tN i) 0 (by omega) s0))
    rw [wSpec_apply]
    generalize loop q2 (Kr arg4 X4) (Vr arg5 X5) (tJ i) (tN i) 0 s0 = r at *
    isplitl [H4 H5 H7]
    · isplitl [H4]; · iexact H4
      isplitl [H5]; · iexact H5
      iexists _
      isplitl [H7]; · iexact H7
      ipureintro; exact hs
    iintro ⟨H4, H5, %X', H7, %hX'⟩
    rw [ret_then]
    dsimp only
    have hc3 := chk3_ok i r.2.1 (bw r.1) (by omega)
    by_cases hr : r.1 = true
    · obtain ⟨hXA, hXB⟩ := hX' hr
      have h3 := (cond3_bw r.1).mpr hr
      have hvb : arg5.view.readAt (Elt F) (Rect.unit (s := S1x8192x128) (k0_off13 i (BitVec.ofNat 32 r.2.1)) S1x512x128.size (k0_off13_inb i _ _ hc3 h3)).toLoadRect X5
          = Vr arg5 X5 (tJ i r.2.1) := rd_slab arg5 X5 (tJ_le i _) (off13_eq i _ (by omega)) _
      rw [if_pos hr]
      sl_exec
      rw [pay71_eq]
      sl_step
      iapply Hk
      isplitl [H4]; · iexact H4
      isplitl [H5]; · iexact H5
      iexists _
      iexact H7
    · have h3 : ¬ k0_cond3 (bw r.1) = 1#1 := fun h => hr ((cond3_bw r.1).mp h)
      rw [if_neg hr]
      sl_exec
      sl_step
      iapply Hk
      isplitl [H4]; · iexact H4
      isplitl [H5]; · iexact H5
      iexists _
      iexact H7
  · have hw : Scalar.extui (Scalar.cmpf .ogt (k0_pay70 s0.c) (Named.named κ "dead" 0xC3200000#32)) = 0#32 := by
      rw [show Scalar.cmpf .ogt (k0_pay70 s0.c) (Named.named κ "dead" 0xC3200000#32) = 0#1 from eq_zero_of_ne_one hal]; rfl
    have hT0 : total q2 (Kr arg4 X4) (Vr arg5 X5) (tJ i) (tN i) (tI i) = s0.acc := by
      unfold total loop0; rw [hs0, if_neg hal]; rfl
    rw [hw, hT0]
    iapply (wp_call_spec 𝒱₀ (c : Thread nD τ) none E (dSpec 0 s0) 0 (fun u hu => nomatch hu)
      (dSpec_le c i arg7 harg7 arg5 harg5 arg4 harg4 q2 E 0 0 s0))
    rw [dSpec_apply, ret_then]
    dsimp only
    have hc3 := chk3_ok i 0 (bw false) (by omega)
    have h3 : ¬ k0_cond3 (bw false) = 1#1 := fun h => Bool.noConfusion ((cond3_bw false).mp h)
    sl_exec
    sl_step
    iapply Hk
    isplitl [H4]; · iexact H4
    isplitl [H5]; · iexact H5
    iexists _
    iexact H7

/-- The slot of the diagonal tile, as the kernel computes it. -/
def w33 : BitVec 32 :=
  let arg2 : BitVec 32 := BitVec.ofNat 32 (i 2).val
  let v24 : BitVec 1 := Scalar.cmpi .eq 2#32 0#32
  let v25 : BitVec 32 := Scalar.select v24 1#32 2#32
  let v26 : BitVec 32 := Scalar.remsi arg2 v25
  let v27 : BitVec 1 := Scalar.cmpi .ne v26 0#32
  let v28 : BitVec 1 := Scalar.cmpi .slt v26 0#32
  let v29 : BitVec 1 := Scalar.cmpi .slt v25 0#32
  let v30 : BitVec 1 := Scalar.xori v28 v29
  let v31 : BitVec 1 := Scalar.andi v30 v27
  let v32 : BitVec 32 := Scalar.addi v26 v25
  Scalar.select v31 v32 v26

theorem part3 (X3 : arg3.view.ty.Contents (Elt F)) (E : Set ℕ)
  (K : (Σ' (arg2 : BitVec 32) (v0 : IVec S128x512 32) (v13 : FVec F S128x1024 .bf16) (v23 : FVec F S264x256 .bf16) (v33 : BitVec 32), FVec F S512x128 .bf16) → sProp 𝕄) :
  iprop((arg3.view.loc (c : Thread nD τ) ↦[arg3.view.set]{fullShare} X3) ∗ (arg4.view.loc (c : Thread nD τ) ↦[arg4.view.set]{fullShare} X4) ∗
    (((arg3.view.loc (c : Thread nD τ) ↦[arg3.view.set]{fullShare} X3) ∗ (arg4.view.loc (c : Thread nD τ) ↦[arg4.view.set]{fullShare} X4)) -∗
      K ⟨BitVec.ofNat 32 (i 2).val, iota .tc S128x512 32 [0] iota_S128x512_d0_w32, k0_pay38 (arg3.view.read (Elt F) X3), k0_pay39, w33 i, k0_pay40 (Kr arg4 X4 (tI i))⟩)) ⊢
  wp frame (wpE (defs₀ (F := F)) 𝒱₀ (c : Thread nD τ) none) E
    (k0_part3 (F := F) i arg3 harg3 arg4 harg4 arg5 harg5 arg6 harg6 arg7 harg7) K := by
  rw [k0_part3_eq_skeleton]; unfold k0_part3_skel
  have hkb : arg4.view.readAt (Elt F) (Rect.unit (s := S1x8192x128) (k0_off1 i) S1x512x128.size (k0_off1_inb i)).toLoadRect X4
    = Kr arg4 X4 (tI i) := rd_slab arg4 X4 (j := tI i) (by have := tI_lt i; omega) (k0_off1_eq i) _
  iintro ⟨H3, H4, Hk⟩
  sl_exec
  rw [View.readAt_full]
  rw [show part3.sl.v33 i = w33 i from rfl]
  delta part3.sl.v0
  sl_step
  iapply Hk
  isplitl [H3]; · iexact H3
  iexact H4

theorem part4 (v33 : BitVec 32) (v38 : FVec F S512x128 .bf16) (X : arg7.view.ty.Contents (Elt F)) (E : Set ℕ) (K : (Σ' (v72 : FVec F S1x1024 .f32), FVec F S1x1024 .f32) → sProp 𝕄) :
    iprop((arg7.view.loc (c : Thread nD τ) ↦[arg7.view.set]{fullShare} X) ∗
      ((∃ f, (arg7.view.loc (c : Thread nD τ) ↦[arg7.view.set]{fullShare} f) ∗ ⌜f = arg7.view.writes (Elt F) X
          [⟨Rect.unit (s := S2x512x1024) (k0_off3 i) S1x256x1024.size (k0_off3_inb i), k0_pay50 q2 k0_pay39 v38⟩,
           ⟨Rect.unit (s := S2x512x1024) (k0_off2 i) S1x256x1024.size (k0_off2_inb i), k0_pay47 q2 k0_pay39 v38⟩]⌝) -∗
        K ⟨k0_pay48 q2 k0_pay39 v38, k0_pay51 q2 k0_pay39 v38⟩)) ⊢
    wp frame (wpE (defs₀ (F := F)) 𝒱₀ (c : Thread nD τ) none) E
      (k0_part4 (F := F) i arg3 harg3 arg4 harg4 arg5 harg5 arg6 harg6 arg7 harg7 q2 k0_pay39 v33 v38) K := by
  rw [k0_part4_eq_skeleton]; unfold k0_part4_skel
  iintro ⟨H7, Hk⟩
  sl_exec
  sl_step
  iapply Hk
  iexists _
  isplitl [H7]; · iexact H7
  ipureintro; rfl

/-- A load where the store before the last was made. -/
theorem readAt_two {sp : Space} {s : Shape} {e : EltTy} (v : View sig .tc sp s e) (f : v.ty.Contents (Elt F)) (off off' size : Fin s.rank → ℕ) (o o' : Fin s.rank → ℕ)
    (h : off = o) (h' : off' = o') (inb : ∀ a, off a + size a ≤ s.size a) (inb' : ∀ a, off' a + size a ≤ s.size a)
    (jnb : ∀ a, o a + size a ≤ s.size a) (jnb' : ∀ a, o' a + size a ≤ s.size a)
    (w : (Rect.unit off size inb).shape.Idx → Elt F e) (w' : (Rect.unit off' size inb').shape.Idx → Elt F e)
    (hd : Disjoint (Rect.unit o' size jnb').set (Rect.unit o size jnb).set) :
    v.readAt (Elt F) (Rect.unit o size jnb).toLoadRect (v.writes (Elt F) f [⟨Rect.unit off' size inb', w'⟩, ⟨Rect.unit off size inb, w⟩]) = w
    ∧ v.readAt (Elt F) (Rect.unit o' size jnb').toLoadRect (v.writes (Elt F) f [⟨Rect.unit off' size inb', w'⟩, ⟨Rect.unit off size inb, w⟩]) = w' := by
  subst h; subst h'
  exact ⟨(readAt_skip v f _ _ w' _ hd).trans (readAt_hit v f _ w _), readAt_hit v f _ w' _⟩

theorem I1_zero (X : arg7.view.ty.Contents (Elt F)) : I1 i arg4 arg5 arg7 q2 X4 X5 0
    ((first q2 (Kr arg4 X4 (tI i))).sA, (first q2 (Kr arg4 X4 (tI i))).sB, k0_pay52, k0_pay53) (arg7.view.writes (Elt F) X
          [⟨Rect.unit (s := S2x512x1024) (k0_off3 i) S1x256x1024.size (k0_off3_inb i), k0_pay50 q2 k0_pay39 (k0_pay40 (Kr arg4 X4 (tI i)))⟩,
           ⟨Rect.unit (s := S2x512x1024) (k0_off2 i) S1x256x1024.size (k0_off2_inb i), k0_pay47 q2 k0_pay39 (k0_pay40 (Kr arg4 X4 (tI i)))⟩]) := by
  have hS : S1 i arg4 arg5 q2 X4 X5 0 = first q2 (Kr arg4 X4 (tI i)) := if_pos rfl
  unfold I1
  rw [hS]
  refine ⟨rfl, fun h => ?_, fun h => ?_⟩
  · exact readAt_two arg7.view X _ _ S1x256x1024.size ![0, 0, 0] ![0, 256, 0] (by rw [off2_eq, ← h]) (by rw [off3_eq, ← h]) _ _ _ _ _ _ dis_B0_A0
  · have h1 : tI i % 2 = 1 := by omega
    exact readAt_two arg7.view X _ _ S1x256x1024.size ![1, 0, 0] ![1, 256, 0] (by rw [off2_eq, h1]) (by rw [off3_eq, h1]) _ _ _ _ _ _ dis_B1_A1

/-- One run of the body: from the query tile and the rows of keys and values it stores `OUT`. -/
theorem kernelRun (x0 : Vec F S1x512x128 .bf16) (x1 : Vec F S1x8192x128 .bf16) (x2 : Vec F S1x8192x128 .bf16) (E : Set ℕ) (K : PUnit → sProp 𝕄) :
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare (OUT i x0 x1 x2) ∗ (∃ d, owns (c : Thread nD τ) arg7 fullShare d)) -∗ K ⟨⟩))
          ⊢ wp frame (wpE (defs₀ (F := F)) 𝒱₀ (c : Thread nD τ) none) E (cc0_sb_attn i arg3 harg3 arg4 harg4 arg5 harg5 arg6 harg6 arg7 harg7) K := by
  simp only [cc0_sb_attn_eq_skeleton]; unfold cc0_sb_attn_skel
  unfold owns
  iintro ⟨⟨%f0, %hf0, H0⟩, ⟨%f1, %hf1, H1⟩, ⟨%f2, %hf2, H2⟩, ⟨%d3, %f3, -, H3⟩, ⟨%ds0, %fs0, -, HS0⟩, Hk⟩
  rw [wp_bind]
  iapply (part3 c i arg3 harg3 arg4 harg4 arg5 harg5 arg6 harg6 arg7 harg7 f1 f0 E _)
  isplitl [H0]; · iexact H0
  isplitl [H1]; · iexact H1
  iintro ⟨H0, H1⟩
  dsimp only
  rw [wp_bind]
  iapply (part4 c i arg3 harg3 arg4 harg4 arg5 harg5 arg6 harg6 arg7 harg7 _ (w33 i) _ fs0 E _)
  isplitl [HS0]; · iexact HS0
  iintro ⟨%f7, HS0, %hf7⟩
  subst hf7
  dsimp only
  rw [wp_bind]
  iapply (part5 c i arg3 harg3 arg4 harg4 arg5 harg5 arg6 harg6 arg7 harg7 (k0_pay38 (arg3.view.read (Elt F) f0)) f1 f2 E _ _ (w33 i) _)
  isplitl [H1 H2 HS0]
  · isplitl [H1]; · iexact H1
    isplitl [H2]; · iexact H2
    iexists _
    isplitl [HS0]; · iexact HS0
    ipureintro
    exact I1_zero i arg4 arg5 arg7 _ f1 f2 fs0
  iintro ⟨H1, H2, %f7, HS0⟩
  dsimp only
  sl_exec
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    subst hf0; subst hf1; subst hf2
    exact View.read_writes_full _ _ _ _ _
  iexists (arg7.view.read (Elt F) f7); iexists f7; isplitr; · ipureintro; rfl
  iexact HS0

end Kern

end Cert.KernelIdeal.Sb
-- ==== Proof.KI.Run.lean ====
/-
  The kernel launched: at every grid point the body stores `OUT` of its query tile and of the rows of keys and values,
  so @main runs to its end, the argument arrays unchanged.
-/
module

public import proofs.«01_k».proof.Proof.KI.Kern
public import Idealize.ShloMosaic.Lib.Claim

@[expose] public section

set_option maxRecDepth 16384

noncomputable section

namespace Cert.KernelIdeal.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the output's staging buffer holds after the body at point `t`. -/
def outsAt (c : Dev nD) (t : Fin (cfg0 (F := F)).N) : Vec F S1x512x128 .f32 :=
  OUT (grid0.coords t) (iblk m c 0 t) (iblk m c 1 t) (iblk m c 2 t)

/-- The proof data of the pipeline on core `c`. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt m c t)
  Φ _ := Pipeline.ΦA spec0 c
  q _ := fullShare
  owed _ := 0

theorem A_eq (c : Dev nD) (w : Fin (cfg0 (F := F)).W) : (dats m 0 c).A w = V m c (Pipeline.arrRef spec0 w) := by
  dsimp only [dats]

theorem after0_0 (c : Dev nD) (t : Fin (cfg0 (F := F)).N) : (dats m 0 c).after 0 t = iblk m c 0 t := by dsimp only [dats]; try rfl
theorem after0_1 (c : Dev nD) (t : Fin (cfg0 (F := F)).N) : (dats m 0 c).after 1 t = iblk m c 1 t := by dsimp only [dats]; try rfl
theorem after0_2 (c : Dev nD) (t : Fin (cfg0 (F := F)).N) : (dats m 0 c).after 2 t = iblk m c 2 t := by dsimp only [dats]; try rfl
theorem after0_3 (c : Dev nD) (t : Fin (cfg0 (F := F)).N) : (dats m 0 c).after 3 t = (outsAt m c t) := by dsimp only [dats]; try rfl

theorem before0_0 (c : Dev nD) (t : Fin (cfg0 (F := F)).N) (d) : (dats m 0 c).before 0 t d = iblk m c 0 t :=
  before0_0_of m (dats m 0 c) (A_eq m c 0) (after0_0 m c) t d
theorem before0_1 (c : Dev nD) (t : Fin (cfg0 (F := F)).N) (d) : (dats m 0 c).before 1 t d = iblk m c 1 t :=
  before0_1_of m (dats m 0 c) (A_eq m c 1) (after0_1 m c) t d
theorem before0_2 (c : Dev nD) (t : Fin (cfg0 (F := F)).N) (d) : (dats m 0 c).before 2 t d = iblk m c 2 t :=
  before0_2_of m (dats m 0 c) (A_eq m c 2) (after0_2 m c) t d

/-- What the body is called with at point `t`, -/
def bodyPre (c : Dev nD) (t : Fin (cfg0 (F := F)).N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

theorem sound_body (c : Dev nD) (t : Fin (cfg0 (F := F)).N) :
    bodyPre m c t ⊢ wp frame (wpE (defs₀ (F := F)) 𝒱₀ c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  unfold outsAt
  iintro ⟨⟨HS0, Hg⟩, Ho, ⟨%d0, H0⟩, ⟨%d1, H1⟩, ⟨%d2, H2⟩, ⟨%d3, H3⟩⟩
  iapply (kernelRun c (grid0.coords t) _ _ _ _ _ _ _ _ _ _ (iblk m c 0 t) (iblk m c 1 t) (iblk m c 2 t) Set.univ _)
  isplitl [H0]; · iexact H0
  isplitl [H1]; · iexact H1
  isplitl [H2]; · iexact H2
  isplitl [H3]; · iexists _; iexact H3
  isplitl [HS0]; · iexact HS0
  iintro ⟨H0, H1, H2, H3, HS0⟩
  isplitl [HS0 Hg]
  · isplitl [HS0]; · iexact HS0
    iexact Hg
  isplitl [Ho]; · iexact Ho
  isplitl [H0]; · iexact H0
  isplitl [H1]; · iexact H1
  isplitl [H2]; · iexact H2
  iexact H3

theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

set_option backward.isDefEq.respectTransparency.types false in
/-- @main runs to the pipeline's final arrays, every counter at zero. -/
theorem run_main_quiescent : θ_run defs (onTc (τ := τ) (main (F := F))) (s₀ m ρ) (fun r => (Pipeline.FramePost (cfgs (F := F)) (dats m) 0 (V m)) r ∧ r.2.sem = fun _ => 0) :=
  Pipeline.θ_run_frame (Q' := _) (cfgs (F := F)) (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := A_eq m) (hΦ := fun _ _ => rfl)

theorem run_main : θ_run defs (onTc (τ := τ) (main (F := F))) (s₀ m ρ) (Pipeline.FramePost (cfgs (F := F)) (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- @main runs to its end with the argument arrays unchanged and every counter at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Sb

end
-- ==== Proof.Val.Math.lean ====
/-
  The log-sigmoid in base two and in base e, as real numbers and as the extended reals the programs compute with.
-/
module

public import Idealize.ShloMosaic.PureOps.Ideal
public import Idealize.ShloMosaic.PureOps.Ideal.Laws

@[expose] public section

noncomputable section

namespace Cert.Sb

open Idealize.ShloMosaic

/-- The logarithm to base two of the logistic function of `z · log 2`. -/
def b2 (z : ℝ) : ℝ := min z 0 - Real.log (1 + (2 : ℝ) ^ (-|z|)) * (Real.log 2)⁻¹

/-- The same of the logistic function's complement. -/
def m2 (z : ℝ) : ℝ := b2 z - z

/-- The natural logarithm of the logistic function. -/
def ls (z : ℝ) : ℝ := -(max (-z) 0 + Real.log (1 + Real.exp (-|z|)))

theorem log2_pos : 0 < Real.log 2 := Real.log_pos (by norm_num)

theorem two_rpow (x : ℝ) : (2 : ℝ) ^ (x * (Real.log 2)⁻¹) = Real.exp x := by
  rw [Real.rpow_def_of_pos (by norm_num)]
  congr 1
  field_simp [log2_pos.ne']

theorem b2_eq (z : ℝ) : b2 (z * (Real.log 2)⁻¹) = ls z * (Real.log 2)⁻¹ := by
  have hL : 0 < (Real.log 2)⁻¹ := inv_pos.mpr log2_pos
  unfold b2 ls
  rw [abs_mul, abs_of_pos hL, ← neg_mul, two_rpow]
  have h : min (z * (Real.log 2)⁻¹) 0 = -(max (-z) 0) * (Real.log 2)⁻¹ := by
    rw [show (0:ℝ) = 0 * (Real.log 2)⁻¹ by ring, ← min_mul_of_nonneg _ _ hL.le, ← min_neg_neg]
    simp
  rw [h]; ring

theorem m2_eq (z : ℝ) : m2 (z * (Real.log 2)⁻¹) = ls (-z) * (Real.log 2)⁻¹ := by
  unfold m2
  rw [b2_eq, ← sub_mul]
  congr 1
  unfold ls
  rw [neg_neg, abs_neg]
  rcases le_total z 0 with h | h
  · rw [max_eq_left (by linarith), max_eq_right h]; ring
  · rw [max_eq_right (by linarith), max_eq_left h]; ring

theorem exp2_coe (x : ℝ) : Ideal.exp2 (x : EReal) = (((2 : ℝ) ^ x : ℝ) : EReal) := rfl
theorem exp_coe (x : ℝ) : Ideal.exp (x : EReal) = ((Real.exp x : ℝ) : EReal) := rfl
theorem log_coe {x : ℝ} (h : 0 < x) : Ideal.log (x : EReal) = ((Real.log x : ℝ) : EReal) := if_neg (not_le.mpr h)
theorem coe_max (x y : ℝ) : ((max x y : ℝ) : EReal) = max (x : EReal) (y : EReal) := EReal.coe_strictMono.monotone.map_max
theorem coe_min (x y : ℝ) : ((min x y : ℝ) : EReal) = min (x : EReal) (y : EReal) := EReal.coe_strictMono.monotone.map_min
theorem abs_coe (x : ℝ) : max (x : EReal) (-(x : EReal)) = ((|x| : ℝ) : EReal) := by
  rw [← EReal.coe_neg, ← coe_max]; rfl

/-- The kernel's log-sigmoid of a real number. -/
theorem lb_coe (z : ℝ) : min (z : EReal) 0 - Ideal.log (1 + Ideal.exp2 (0 - max (z : EReal) (-(z : EReal)))) * (((Real.log 2)⁻¹ : ℝ) : EReal)
    = ((b2 z : ℝ) : EReal) := by
  rw [abs_coe, ← EReal.coe_zero, ← EReal.coe_sub, exp2_coe, ← EReal.coe_one, ← EReal.coe_add,
    log_coe (by positivity), ← EReal.coe_mul, ← coe_min, ← EReal.coe_sub, zero_sub]
  rfl

/-- The reference's softplus of a real number. -/
theorem softplus_coe (z : ℝ) : max (z : EReal) 0 + Ideal.log1p (Ideal.exp (-(max (z : EReal) (-(z : EReal)))))
    = ((-ls (-z) : ℝ) : EReal) := by
  unfold Ideal.log1p
  rw [abs_coe, ← EReal.coe_neg, exp_coe, ← EReal.coe_zero, ← EReal.coe_one, ← EReal.coe_add,
    log_coe (by positivity), ← coe_max, ← EReal.coe_add]
  unfold ls
  rw [neg_neg, neg_neg, abs_neg]

theorem coe_sum {ι : Type*} (s : Finset ι) (f : ι → ℝ) : ((∑ x ∈ s, f x : ℝ) : EReal) = ∑ x ∈ s, (f x : EReal) :=
  map_sum (⟨⟨Real.toEReal, EReal.coe_zero⟩, EReal.coe_add⟩ : ℝ →+ EReal) f s

end Cert.Sb
-- ==== Proof.Val.Tile.lean ====
/-
  One tile weighed and gathered, read at a column: the sums of the log-weights are the sums of a sequence of real
  numbers over intervals of rows.
-/
module

public import proofs.«01_k».proof.Proof.KI.Model
public import proofs.«01_k».proof.Proof.Val.Math
public import Idealize.ShloMosaic.Lib.Pointwise
public import Idealize.ShloMosaic.PureOps.IdealRules

@[expose] public section

set_option maxRecDepth 16384

noncomputable section

namespace Cert.KernelIdeal.Sb

open Cert.KernelIdeal Cert.KernelIdeal.Gen Cert.Sb
open Idealize.ShloMosaic

/-! ## Words of small numbers -/

theorem toInt_small {n : ℕ} (h : n < 2048) : (BitVec.ofNat 32 n).toInt = n := by
  have e : (BitVec.ofNat 32 n).toNat = n := by rw [BitVec.toNat_ofNat]; omega
  rw [BitVec.toInt_eq_toNat_of_lt (by rw [e]; omega), e]

theorem slt_small {a b : ℕ} (ha : a < 2048) (hb : b < 2048) :
    IntOp.cmpi .slt (BitVec.ofNat 32 a) (BitVec.ofNat 32 b) = BitVec.ofBool (decide (a < b)) := by
  show BitVec.ofBool (BitVec.slt _ _) = _
  rw [BitVec.slt, toInt_small ha, toInt_small hb]; congr 1; simp

theorem sgt_small {a b : ℕ} (ha : a < 2048) (hb : b < 2048) :
    IntOp.cmpi .sgt (BitVec.ofNat 32 a) (BitVec.ofNat 32 b) = BitVec.ofBool (decide (b < a)) := slt_small hb ha

theorem sge_small {a b : ℕ} (ha : a < 2048) (hb : b < 2048) :
    IntOp.cmpi .sge (BitVec.ofNat 32 a) (BitVec.ofNat 32 b) = BitVec.ofBool (decide (b ≤ a)) := by
  show BitVec.ofBool (BitVec.sle _ _) = _
  rw [BitVec.sle, toInt_small ha, toInt_small hb]; congr 1; simp

theorem and_511 {c : ℕ} (h : c < 1024) : IntOp.andi (BitVec.ofNat 32 c) 511#32 = BitVec.ofNat 32 (c % 512) := by
  apply BitVec.eq_of_toNat_eq
  show ((BitVec.ofNat 32 c) &&& 511#32).toNat = _
  rw [BitVec.toNat_and, BitVec.toNat_ofNat, BitVec.toNat_ofNat, BitVec.toNat_ofNat,
    show (511 % 2 ^ 32 : ℕ) = 2 ^ 9 - 1 by norm_num, Nat.and_two_pow_sub_one_eq_mod]
  omega

theorem ori_bool (a b : Bool) : IntOp.ori (BitVec.ofBool a) (BitVec.ofBool b) = BitVec.ofBool (a || b) := by
  revert a b; decide

theorem select_bool {α : Type} (p : Prop) [Decidable p] (a b : α) : Scalar.select (BitVec.ofBool (decide p)) a b = if p then a else b := by
  by_cases h : p <;> simp [h, Scalar.select]

/-- The query's column: a row lies before the query of column `c`. -/
theorem sel_diag {α : Type} {r c : ℕ} (hr : r < 1024) (hc : c < 1024) (a b : α) :
    Scalar.select (IntOp.cmpi .slt (BitVec.ofNat 32 r) (IntOp.andi (BitVec.ofNat 32 c) 511#32)) a b = if r < c % 512 then a else b := by
  rw [and_511 hc, slt_small (by omega) (by omega), select_bool]

/-- The strict-suffix matrix: row `r` below 256 takes the later rows, row 256 takes all. -/
theorem sel_sfx {α : Type} {x r : ℕ} (hx : x < 256) (hr : r < 264) (a b : α) :
    Scalar.select (IntOp.ori (IntOp.cmpi .sgt (BitVec.ofNat 32 x) (BitVec.ofNat 32 r)) (IntOp.cmpi .sge (BitVec.ofNat 32 r) 256#32)) a b
      = if r < x ∨ 256 ≤ r then a else b := by
  rw [sgt_small (by omega) (by omega), sge_small (by omega) (by omega), ori_bool, ← Bool.decide_or, select_bool]

/-- A sum over the later rows of a block of 256. -/
theorem sum_later (f : ℕ → EReal) (base r : ℕ) (hr : r < 256) :
    ∑ x : Fin 256, (if r < x.val ∨ 256 ≤ r then f (base + x.val) else 0) = ∑ s ∈ Finset.Ico (base + r + 1) (base + 256), f s := by
  rw [Fin.sum_univ_eq_sum_range (fun x => if r < x ∨ 256 ≤ r then f (base + x) else 0) 256, ← Finset.sum_filter,
    show base + r + 1 = (r + 1) + base by omega, show base + 256 = 256 + base by omega, ← Finset.sum_Ico_add f (r + 1) 256 base]
  refine Finset.sum_congr (Finset.ext fun x => ?_) fun _ _ => rfl
  simp only [Finset.mem_filter, Finset.mem_range, Finset.mem_Ico]; omega

/-- A sum over a block of rows. -/
theorem sum_block (f : ℕ → EReal) (base n : ℕ) : ∑ x : Fin n, f (base + x.val) = ∑ s ∈ Finset.Ico base (base + n), f s := by
  rw [Fin.sum_univ_eq_sum_range (fun x => f (base + x)) n, Finset.range_eq_Ico, Finset.sum_Ico_add f 0 n base, zero_add, add_comm n]

/-! ## The two named constants -/

theorem log2_e_eq : Named.named (F := Ideal) (φ := .f32) κ "log2_e" 0x3FB8AA3B#32 = (((Real.log 2)⁻¹ : ℝ) : EReal) :=
  IdealRules.named_const.ideal_named_scalar _ _ _ _ rfl

theorem dead_eq : dead (F := Ideal) = (⊥ : EReal) := IdealRules.named_const.ideal_named_scalar _ _ _ _ rfl

theorem neg_inf : Ideal.ofBits .f32 0xFF800000#32 = (⊥ : EReal) := by
  simp [Ideal.ofBits, Ideal.ieee]

/-- The kernel's log-sigmoid of a real number. -/
theorem lb_eq (z : ℝ) : min (z : EReal) 0 - Ideal.log (1 + FloatOps.exp2 (F := Ideal) (φ := .f32) (0 - FloatOps.absf (F := Ideal) (φ := .f32) (z : EReal)))
    * Named.named (F := Ideal) (φ := .f32) κ "log2_e" 0x3FB8AA3B#32 = ((b2 z : ℝ) : EReal) := by
  rw [log2_e_eq]; exact lb_coe z

/-! ## One column -/

/-- The log-weight that row `s` passes on to the rows before it, for a query at position `T`. -/
def Mw (ζ : ℕ → ℝ) (T s : ℕ) : ℝ := if s < T then m2 (ζ s) else 0
/-- The row's own log-weight. -/
def Lw (ζ : ℕ → ℝ) (T s : ℕ) : EReal := if s < T then ((b2 (ζ s) : ℝ) : EReal) else ⊥
/-- What the rows from `a` to `b` pass on. -/
def Sw (ζ : ℕ → ℝ) (T a b : ℕ) : ℝ := ∑ s ∈ Finset.Ico a b, Mw ζ T s

theorem Sw_coe (ζ : ℕ → ℝ) (T a b : ℕ) : ((Sw ζ T a b : ℝ) : EReal) = ∑ s ∈ Finset.Ico a b, ((Mw ζ T s : ℝ) : EReal) := coe_sum _ _

theorem Sw_add (ζ : ℕ → ℝ) (T : ℕ) {a b c : ℕ} (h : a ≤ b) (h' : b ≤ c) : Sw ζ T a b + Sw ζ T b c = Sw ζ T a c :=
  Finset.sum_Ico_consecutive _ h h'

section
variable (q2 : FVec Ideal S128x1024 .bf16) (kb vb : Vec Ideal S1x512x128 .bf16) (ζ : ℕ → ℝ) (T j : ℕ) (c : Fin 1024)

/-- The scores of tile `j` in column `c` are the real numbers `ζ`. -/
def Sc : Prop := ∀ r : Fin 512, (∑ d : Fin 128, kb (ix3 0 r d) * q2 (ix2 d c) : EReal) = ((ζ (512 * j + r.val) : ℝ) : EReal)

variable {q2 kb ζ T j c}

theorem m2_coe (z : ℝ) : ((b2 z : ℝ) : EReal) - (z : EReal) = ((m2 z : ℝ) : EReal) := (EReal.coe_sub _ _).symm

theorem Mw_lt {s : ℕ} (h : s < T) : Mw ζ T s = m2 (ζ s) := if_pos h
theorem Lw_lt {s : ℕ} (h : s < T) : Lw ζ T s = ((b2 (ζ s) : ℝ) : EReal) := if_pos h

/-- A tile's strict suffix sum, as the product with the strict-suffix matrix computes it. -/
theorem later (base r : ℕ) (hr : r < 256) (g : Fin 256 → EReal) (hg : ∀ x : Fin 256, g x = ((Mw ζ T (base + x.val) : ℝ) : EReal)) :
    ∑ x : Fin 256, Scalar.select (IntOp.ori (IntOp.cmpi .sgt (BitVec.ofNat 32 x.val) (BitVec.ofNat 32 r)) (IntOp.cmpi .sge (BitVec.ofNat 32 r) 256#32)) (g x) 0
      = ((Sw ζ T (base + r + 1) (base + 256) : ℝ) : EReal) := by
  rw [Sw_coe, ← sum_later _ _ _ hr]
  refine Finset.sum_congr rfl fun x _ => ?_
  rw [sel_sfx x.isLt (by omega), hg x]

/-- A tile's whole sum, as the product with the matrix's last rows computes it. -/
theorem whole (base : ℕ) (g : Fin 256 → EReal) (hg : ∀ x : Fin 256, g x = ((Mw ζ T (base + x.val) : ℝ) : EReal)) :
    ∑ x : Fin 256, Scalar.select (IntOp.ori (IntOp.cmpi .sgt (BitVec.ofNat 32 x.val) 256#32) (IntOp.cmpi .sge 256#32 256#32)) (g x) 0
      = ((Sw ζ T base (base + 256) : ℝ) : EReal) := by
  rw [Sw_coe, ← sum_block]
  refine Finset.sum_congr rfl fun x _ => ?_
  rw [sel_sfx x.isLt (by omega), if_pos (Or.inr le_rfl), hg x]

section below
variable (h : Sc q2 kb ζ j c) (hT : 512 * j + 512 ≤ T)
include h hT

theorem wgA_val (r : Fin 256) :
    wgA q2 kb (ix3 0 r c) = Lw ζ T (512 * j + r) + ((Sw ζ T (512 * j + r + 1) (512 * j + 256) : ℝ) : EReal) := by
  unfold wgA
  unfold_payloads
  pointwise
  simp only [h _, lb_eq, m2_coe]
  rw [Lw_lt (by omega)]
  exact congrArg _ (later _ _ r.isLt _ fun x => by rw [Mw_lt (by omega)])

theorem wgB_val (r : Fin 256) :
    wgB q2 kb (ix3 0 r c) = Lw ζ T (512 * j + 256 + r) + ((Sw ζ T (512 * j + 256 + r + 1) (512 * j + 256 + 256) : ℝ) : EReal) := by
  unfold wgB
  unfold_payloads
  pointwise
  simp only [h _, lb_eq, m2_coe]
  rw [Lw_lt (by omega), ← add_assoc]
  exact congrArg _ (later _ _ r.isLt _ fun x => by rw [Mw_lt (by omega), ← add_assoc])

theorem wsA_val : wsA q2 kb (ix2 0 c) = ((Sw ζ T (512 * j) (512 * j + 256) : ℝ) : EReal) := by
  unfold wsA
  unfold_payloads
  pointwise
  simp only [h _, lb_eq, m2_coe]
  exact whole _ _ fun x => by rw [Mw_lt (by omega)]

theorem wsB_val : wsB q2 kb (ix2 0 c) = ((Sw ζ T (512 * j + 256) (512 * j + 256 + 256) : ℝ) : EReal) := by
  unfold wsB
  unfold_payloads
  pointwise
  simp only [h _, lb_eq, m2_coe]
  exact whole _ _ fun x => by rw [Mw_lt (by omega), ← add_assoc]

end below

theorem swap_sel {α : Type} (p q : BitVec 1) (a b : α) : Scalar.select p (Scalar.select q a b) b = Scalar.select q (Scalar.select p a b) b := by
  unfold Scalar.select; split <;> split <;> rfl

section diagonal
variable (h : Sc q2 kb ζ j c) (hT : T = 512 * j + c.val % 512)
include h hT

theorem mask_M (x : ℕ) : (if x < c.val % 512 then ((m2 (ζ (512 * j + x)) : ℝ) : EReal) else 0) = ((Mw ζ T (512 * j + x) : ℝ) : EReal) := by
  unfold Mw
  by_cases hx : x < c.val % 512
  · rw [if_pos hx, if_pos (by omega)]
  · rw [if_neg hx, if_neg (by omega), EReal.coe_zero]

theorem mask_L (x : ℕ) : (if x < c.val % 512 then ((b2 (ζ (512 * j + x)) : ℝ) : EReal) else ⊥) = Lw ζ T (512 * j + x) := by
  unfold Lw
  by_cases hx : x < c.val % 512
  · rw [if_pos hx, if_pos (by omega)]
  · rw [if_neg hx, if_neg (by omega)]

theorem first_gA (r : Fin 256) :
    (first q2 kb).gA (ix3 0 r c) = Lw ζ T (512 * j + r) + ((Sw ζ T (512 * j + r + 1) (512 * j + 256) : ℝ) : EReal) := by
  unfold first
  unfold_payloads
  pointwise
  simp only [h _, lb_eq, m2_coe, neg_inf]
  simp only [swap_sel (IntOp.cmpi .slt _ _)]
  rw [sel_diag (by omega) c.isLt, mask_L h hT]
  exact congrArg _ (later _ _ r.isLt _ fun x => by rw [sel_diag (by omega) c.isLt, mask_M h hT])

theorem first_gB (r : Fin 256) :
    (first q2 kb).gB (ix3 0 r c) = Lw ζ T (512 * j + 256 + r) + ((Sw ζ T (512 * j + 256 + r + 1) (512 * j + 256 + 256) : ℝ) : EReal) := by
  unfold first
  unfold_payloads
  pointwise
  simp only [h _, lb_eq, m2_coe, neg_inf]
  simp only [swap_sel (IntOp.cmpi .slt _ _)]
  rw [sel_diag (by omega) c.isLt, mask_L h hT, ← add_assoc]
  exact congrArg _ (later _ _ r.isLt _ fun x => by rw [sel_diag (by omega) c.isLt, mask_M h hT, ← add_assoc])

theorem first_sA : (first q2 kb).sA (ix2 0 c) = ((Sw ζ T (512 * j) (512 * j + 256) : ℝ) : EReal) := by
  unfold first
  unfold_payloads
  pointwise
  simp only [h _, lb_eq, m2_coe, neg_inf]
  simp only [swap_sel (IntOp.cmpi .slt _ _)]
  exact whole _ _ fun x => by rw [sel_diag (by omega) c.isLt, mask_M h hT]

theorem first_sB : (first q2 kb).sB (ix2 0 c) = ((Sw ζ T (512 * j + 256) (512 * j + 256 + 256) : ℝ) : EReal) := by
  unfold first
  unfold_payloads
  pointwise
  simp only [h _, lb_eq, m2_coe, neg_inf]
  simp only [swap_sel (IntOp.cmpi .slt _ _)]
  exact whole _ _ fun x => by rw [sel_diag (by omega) c.isLt, mask_M h hT, ← add_assoc]

end diagonal

theorem first_c : (first q2 kb).c (ix2 0 c) = 0 := by
  unfold first
  unfold_payloads
  pointwise

theorem first_acc (d : Fin 128) : (first q2 kb).acc (ix2 d c) = 0 := by
  unfold first
  unfold_payloads
  pointwise

variable (s : St Ideal)

theorem cN_val : cN s (ix2 0 c) = s.c (ix2 0 c) + s.sB (ix2 0 c) + s.sA (ix2 0 c) := by
  unfold cN
  unfold_payloads
  pointwise

theorem aN_val (d : Fin 128) : aN s vb (ix2 d c) = s.acc (ix2 d c) +
      (∑ x : Fin 256, vb (ix3 0 ⟨x.val, by omega⟩ d) * Ideal.exp2 (s.gA (ix3 0 x c) + (s.c (ix2 0 c) + s.sB (ix2 0 c))) +
        ∑ x : Fin 256, vb (ix3 0 ⟨256 + x.val, by omega⟩ d) * Ideal.exp2 (s.gB (ix3 0 x c) + s.c (ix2 0 c))) := by
  unfold aN
  unfold_payloads
  pointwise
  rfl

theorem slab_val (x : S1x8192x128.Idx → Elt Ideal .bf16) (hj : j < 16) (r : Fin 512) (d : Fin 128) :
    slab x j (ix3 0 r d) = x (ix3 0 ⟨512 * j + r.val, by omega⟩ d) := by
  pointwise [slab]
  simp only [Nat.mod_eq_of_lt hj]

/-- A carried sum with a real entry leaves the loop running: the threshold is minus infinity. -/
theorem alive_of (x : FVec Ideal S1x1024 .f32) (hx : ∃ c : Fin 1024, ∃ y : ℝ, x (ix2 0 c) = (y : EReal)) : alive x := by
  obtain ⟨c, y, hy⟩ := hx
  pointwise [alive, k0_pay70]
  rw [decide_eq_true]
  · rfl
  · rw [dead_eq]
    refine (Finset.lt_fold_max _).mpr (Or.inr ⟨(0, c), Finset.mem_univ _, ?_⟩)
    show ⊥ < x (ix2 0 c)
    rw [hy]; exact EReal.bot_lt_coe y

end

end Cert.KernelIdeal.Sb
-- ==== Proof.Val.State.lean ====
/-
  All tiles of one query tile: after tile `j` is weighed the state holds the log-weights of its rows and the weighted
  values of all later rows; when the first tile has been gathered the sum is over all rows.
-/
module

public import proofs.«01_k».proof.Proof.Val.Tile

@[expose] public section

set_option maxRecDepth 16384

noncomputable section

namespace Cert.KernelIdeal.Sb

open Cert.KernelIdeal Cert.KernelIdeal.Gen Cert.Sb
open Idealize.ShloMosaic

/-- The weight of row `s` for a query at position `T`. -/
def Ww (ζ : ℕ → ℝ) (T s : ℕ) : EReal := Ideal.exp2 (Lw ζ T s + ((Sw ζ T (s + 1) 8192 : ℝ) : EReal))

/-- A row at or past the query has weight zero. -/
theorem Ww_zero {ζ : ℕ → ℝ} {T s : ℕ} (h : T ≤ s) : Ww ζ T s = 0 := by
  unfold Ww Lw
  rw [if_neg (by omega), EReal.bot_add]; rfl

/-- What rows at or past the query pass on is zero. -/
theorem Sw_zero {ζ : ℕ → ℝ} {T a b : ℕ} (h : T ≤ a) : Sw ζ T a b = 0 :=
  Finset.sum_eq_zero fun s hs => if_neg (by have := (Finset.mem_Ico.mp hs).1; omega)

/-- The weighted values of the rows from `a` on, in dimension `d`. -/
def Aw (V : ℕ → Fin 128 → EReal) (ζ : ℕ → ℝ) (T a : ℕ) (d : Fin 128) : EReal :=
  ∑ s ∈ Finset.Ico a 8192, V s d * Ww ζ T s

section
variable (V : ℕ → Fin 128 → EReal) (ζ : Fin 1024 → ℕ → ℝ) (T : Fin 1024 → ℕ)

/-- The state when tile `j` is weighed and all later tiles are gathered. -/
structure Inv (j : ℕ) (s : St Ideal) : Prop where
  hj : j < 16
  hA : ∀ c, s.sA (ix2 0 c) = ((Sw (ζ c) (T c) (512 * j) (512 * j + 256) : ℝ) : EReal)
  hB : ∀ c, s.sB (ix2 0 c) = ((Sw (ζ c) (T c) (512 * j + 256) (512 * j + 256 + 256) : ℝ) : EReal)
  hc : ∀ c, s.c (ix2 0 c) = ((Sw (ζ c) (T c) (512 * j + 512) 8192 : ℝ) : EReal)
  gA : ∀ c (r : Fin 256), s.gA (ix3 0 r c) = Lw (ζ c) (T c) (512 * j + r) + ((Sw (ζ c) (T c) (512 * j + r + 1) (512 * j + 256) : ℝ) : EReal)
  gB : ∀ c (r : Fin 256), s.gB (ix3 0 r c) = Lw (ζ c) (T c) (512 * j + 256 + r) + ((Sw (ζ c) (T c) (512 * j + 256 + r + 1) (512 * j + 256 + 256) : ℝ) : EReal)
  acc : ∀ c d, s.acc (ix2 d c) = Aw V (ζ c) (T c) (512 * j + 512) d

variable {V ζ T} {j : ℕ} {s : St Ideal}

/-- The carried sum after tile `j` is gathered. -/
theorem Inv.cN (h : Inv V ζ T j s) (c : Fin 1024) : cN s (ix2 0 c) = ((Sw (ζ c) (T c) (512 * j) 8192 : ℝ) : EReal) := by
  have := h.hj
  rw [cN_val, h.hc, h.hB, h.hA, ← EReal.coe_add, ← EReal.coe_add, ← Sw_add (ζ c) (T c) (a := 512 * j) (b := 512 * j + 256) (c := 8192) (by omega) (by omega),
    ← Sw_add (ζ c) (T c) (a := 512 * j + 256) (b := 512 * j + 512) (c := 8192) (by omega) (by omega)]
  congr 1
  show _ = _ + (Sw (ζ c) (T c) (512 * j + 256) (512 * j + 256 + 256) + _)
  ring

/-- So the loop goes on. -/
theorem Inv.alive (h : Inv V ζ T j s) : alive (Sb.cN s) := alive_of _ ⟨0, _, h.cN 0⟩
theorem Inv.alive_c (h : Inv V ζ T j s) : Sb.alive s.c := alive_of _ ⟨0, _, h.hc 0⟩

/-- The weighted values after tile `j` is gathered. -/
theorem Inv.aN (h : Inv V ζ T j s) {vb : Vec Ideal S1x512x128 .bf16} (hv : ∀ (r : Fin 512) d, vb (ix3 0 r d) = V (512 * j + r) d)
    (c : Fin 1024) (d : Fin 128) : aN s vb (ix2 d c) = Aw V (ζ c) (T c) (512 * j) d := by
  have := h.hj
  have eA : ∀ x : Fin 256, vb (ix3 0 ⟨x.val, by omega⟩ d) * Ideal.exp2 (s.gA (ix3 0 x c) + (s.c (ix2 0 c) + s.sB (ix2 0 c)))
      = V (512 * j + x.val) d * Ww (ζ c) (T c) (512 * j + x.val) := fun x => by
    rw [hv, h.gA, h.hc, h.hB, ← EReal.coe_add, add_assoc, ← EReal.coe_add]
    unfold Ww
    rw [← Sw_add (ζ c) (T c) (a := 512 * j + x + 1) (b := 512 * j + 256) (c := 8192) (by omega) (by omega),
      ← Sw_add (ζ c) (T c) (a := 512 * j + 256) (b := 512 * j + 512) (c := 8192) (by omega) (by omega)]
    rw [add_comm (Sw (ζ c) (T c) (512 * j + 512) 8192)]
  have eB : ∀ x : Fin 256, vb (ix3 0 ⟨256 + x.val, by omega⟩ d) * Ideal.exp2 (s.gB (ix3 0 x c) + s.c (ix2 0 c))
      = V (512 * j + 256 + x.val) d * Ww (ζ c) (T c) (512 * j + 256 + x.val) := fun x => by
    rw [hv, h.gB, h.hc, add_assoc, ← EReal.coe_add]
    unfold Ww
    rw [← Sw_add (ζ c) (T c) (a := 512 * j + 256 + x + 1) (b := 512 * j + 512) (c := 8192) (by omega) (by omega),
      show 512 * j + (256 + x.val) = 512 * j + 256 + x.val from (add_assoc _ _ _).symm]
  rw [aN_val, h.acc, Finset.sum_congr rfl fun x _ => eA x, Finset.sum_congr rfl fun x _ => eB x,
    sum_block (fun s => V s d * Ww (ζ c) (T c) s) (512 * j) 256, sum_block (fun s => V s d * Ww (ζ c) (T c) s) (512 * j + 256) 256,
    Finset.sum_Ico_consecutive _ (by omega) (by omega), add_comm]
  exact Finset.sum_Ico_consecutive _ (by omega) (by omega)

variable {q2 : FVec Ideal S128x1024 .bf16} {K VV : ℕ → Vec Ideal S1x512x128 .bf16} {i : ℕ}
variable (hK : ∀ j < 16, ∀ c, Sc q2 (K j) (ζ c) j c) (hV : ∀ j < 16, ∀ (r : Fin 512) d, VV j (ix3 0 r d) = V (512 * j + r) d)
  (hT : ∀ c, T c = 512 * i + c.val % 512) (hi : i < 16)

include hK hT hi in
theorem inv_first : Inv V ζ T i (first q2 (K i)) where
  hj := hi
  hA c := first_sA (hK i hi c) (hT c)
  hB c := first_sB (hK i hi c) (hT c)
  hc c := by rw [first_c, Sw_zero (by rw [hT]; omega), EReal.coe_zero]
  gA c r := first_gA (hK i hi c) (hT c) r
  gB c r := first_gB (hK i hi c) (hT c) r
  acc c d := by
    rw [first_acc]
    exact (Finset.sum_eq_zero fun s hs => by
      rw [Ww_zero (by rw [hT]; have := (Finset.mem_Ico.mp hs).1; omega), mul_zero]).symm

include hK hV hT in
theorem inv_next (h : Inv V ζ T (j + 1) s) (hij : j + 1 ≤ i) : Inv V ζ T j (next q2 (K j) (VV (j + 1)) s) where
  hj := by have := h.hj; omega
  hA c := wsA_val (hK j (by have := h.hj; omega) c) (by rw [hT]; omega)
  hB c := wsB_val (hK j (by have := h.hj; omega) c) (by rw [hT]; omega)
  hc c := h.cN c
  gA c r := wgA_val (hK j (by have := h.hj; omega) c) (by rw [hT]; omega) r
  gB c r := wgB_val (hK j (by have := h.hj; omega) c) (by rw [hT]; omega) r
  acc c d := h.aN (hV _ h.hj) c d

include hK hV hT in
/-- The double trips run to the end. -/
theorem loop_inv (J : ℕ → ℕ) (N : ℕ) (hJ : ∀ n, n ≤ N → J n = 2 * (N - n)) (hN : 2 * N ≤ i) : ∀ (k n : ℕ) (s : St Ideal), k + n = N → Inv V ζ T (J n) s →
    ∃ s', loop q2 K VV J k n s = (true, N, s') ∧ Inv V ζ T 0 s' := by
  intro k
  induction k with
  | zero =>
    intro n s hn h
    obtain rfl : n = N := by omega
    refine ⟨s, rfl, ?_⟩
    rw [hJ n le_rfl, Nat.sub_self] at h; exact h
  | succ k ih =>
    intro n s hn h
    have e : J n = 2 * (N - (n + 1)) + 1 + 1 := by rw [hJ n (by omega)]; omega
    have hal := h.alive
    rw [e] at h
    have h1 := inv_next hK hV hT h (by omega)
    have h2 := inv_next hK hV hT h1 (by omega)
    simp only [loop]
    rw [if_pos hal, e, show 2 * (N - (n + 1)) + 1 + 1 - 1 = 2 * (N - (n + 1)) + 1 from rfl, if_pos h1.alive,
      show 2 * (N - (n + 1)) + 1 + 1 - 2 = 2 * (N - (n + 1)) from rfl]
    exact ih (n + 1) _ (by omega) (by rw [hJ (n + 1) (by omega)]; exact h2)

include hK hV hT hi in
/-- All tiles gathered: the sum is over all rows. -/
theorem total_val (J : ℕ → ℕ) (hJ : ∀ n, n ≤ i / 2 → J n = i - i % 2 - 2 * n) (c : Fin 1024) (d : Fin 128) :
    total q2 K VV J (i / 2) i (ix2 d c) = Aw V (ζ c) (T c) 0 d := by
  have hst : Inv V ζ T (J 0) (start q2 K VV i) := by
    rw [hJ 0 (by omega)]
    unfold start
    by_cases ho : i % 2 = 1
    · obtain ⟨j, rfl⟩ : ∃ j, i = j + 1 := ⟨i - 1, by omega⟩
      rw [if_pos ho, ho]
      exact inv_next hK hV hT (inv_first hK hT hi) le_rfl
    · rw [if_neg ho, show i % 2 = 0 by omega]
      exact inv_first hK hT hi
  obtain ⟨s', hl, hs⟩ := loop_inv hK hV hT J (i / 2) (fun n hn => by rw [hJ n hn]; omega) (by omega) (i / 2) 0 _ rfl hst
  unfold total
  have h0 : loop0 q2 K VV J (i / 2) (start q2 K VV i) = (true, i / 2, s') := by
    unfold loop0; rw [if_pos hst.alive_c, hl]
  have hJN : J (i / 2) = 0 := by rw [hJ _ le_rfl]; omega
  simp only [h0, if_true, hJN]
  exact hs.aN (hV 0 (by omega)) c d

end

end Cert.KernelIdeal.Sb
-- ==== Proof.Val.Out.lean ====
/-
  What the kernel stores for a query tile, in terms of the real queries and keys of its blocks.
-/
module

public import proofs.«01_k».proof.Proof.Val.State

@[expose] public section

set_option maxRecDepth 16384

noncomputable section

namespace Cert.KernelIdeal.Sb

open Cert.KernelIdeal Cert.KernelIdeal.Gen Cert.Sb
open Idealize.ShloMosaic

/-- The score of row `s` for column `c` of the tile: the column's half of the query with the row's key. -/
def sc (a : Fin 512 → Fin 128 → ℝ) (kk : ℕ → Fin 128 → ℝ) (c : Fin 1024) (s : ℕ) : ℝ :=
  ∑ d : Fin 128, kk s d * (if d.val / 64 = c.val / 512 then a ⟨c.val % 512, Nat.mod_lt _ (by decide)⟩ d else 0)

/-- Only 64 dimensions count. -/
theorem sc_eq (a : Fin 512 → Fin 128 → ℝ) (kk : ℕ → Fin 128 → ℝ) (r : Fin 512) (h : ℕ) (hh : h < 2) (s : ℕ) :
    sc a kk ⟨512 * h + r.val, by omega⟩ s = ∑ x : Fin 64, kk s ⟨64 * h + x.val, by omega⟩ * a r ⟨64 * h + x.val, by omega⟩ := by
  unfold sc
  have e1 : (512 * h + r.val) / 512 = h := by omega
  have e2 : (512 * h + r.val) % 512 = r.val := by omega
  simp only [e1, e2, mul_ite, mul_zero]
  rw [← Finset.sum_filter]
  refine (Finset.sum_bij (fun (x : Fin 64) _ => (⟨64 * h + x.val, by omega⟩ : Fin 128)) ?_ ?_ ?_ ?_).symm
  · intro x _
    simp only [Finset.mem_filter, Finset.mem_univ, true_and]
    omega
  · intro x _ y _ e
    have := Fin.mk.inj e
    exact Fin.ext (by omega)
  · intro y hy
    have := (Finset.mem_filter.mp hy).2
    exact ⟨⟨y.val - 64 * h, by omega⟩, Finset.mem_univ _, Fin.ext (by show 64 * h + (y.val - 64 * h) = y.val; omega)⟩
  · intro x _; rfl

/-- The transposed queries: each column keeps its half of the dimensions. -/
theorem q2_val {x : Vec Ideal S1x512x128 .bf16} {a : Fin 512 → Fin 128 → ℝ} (h : ∀ r d, x (ix3 0 r d) = ((a r d : ℝ) : EReal))
    (d : Fin 128) (c : Fin 1024) : k0_pay38 x (ix2 d c)
      = ((if d.val / 64 = c.val / 512 then a ⟨c.val % 512, Nat.mod_lt _ (by decide)⟩ d else 0 : ℝ) : EReal) := by
  unfold_payloads
  pointwise
  by_cases hc : c.val < 512
  · rw [dif_pos hc, slt_small (a := d.val) (b := 64) (by omega) (by omega), h]
    have e1 : c.val / 512 = 0 := by omega
    have e2 : c.val % 512 = c.val := by omega
    simp only [e1, e2, select_bool]
    by_cases hd : d.val < 64
    · rw [if_pos (by omega), if_pos (by omega)]
    · rw [if_neg (by omega), if_neg (by omega), EReal.coe_zero]
  · rw [dif_neg hc, sge_small (a := d.val) (b := 64) (by omega) (by omega), h]
    have e1 : c.val / 512 = 1 := by omega
    have e2 : c.val % 512 = c.val - 512 := by omega
    simp only [e1, e2, select_bool]
    by_cases hd : d.val < 64
    · rw [if_neg (by omega), if_neg (by omega), EReal.coe_zero]
    · have e3 : d.val / 64 = 1 := by omega
      rw [if_pos (by omega)]
      exact (congrArg _ (if_pos e3)).symm

theorem out_sel (i : grid0.Coords) (x0 : Vec Ideal S1x512x128 .bf16) (x1 x2 : S1x8192x128.Idx → Elt Ideal .bf16) (r : Fin 512) (d : Fin 128) :
    OUT i x0 x1 x2 (ix3 0 r d)
      = total (k0_pay38 x0) (slab x1) (slab x2) (tJ i) (tN i) (tI i) (ix2 d ⟨512 * (d.val / 64) + r.val, by omega⟩) := by
  unfold OUT
  generalize total (k0_pay38 x0) (slab x1) (slab x2) (tJ i) (tN i) (tI i) = acc
  unfold_payloads
  pointwise
  rw [slt_small (a := d.val) (b := 64) (by omega) (by omega), select_bool]
  by_cases hd : d.val < 64
  · rw [if_pos (by omega)]
    congr 2
    apply Fin.ext
    show r.val = 512 * (d.val / 64) + r.val
    omega
  · rw [if_neg (by omega)]
    congr 2
    apply Fin.ext
    show 512 + r.val = 512 * (d.val / 64) + r.val
    omega

/-- The values' rows, past the end zero. -/
def rows (x : S1x8192x128.Idx → Elt Ideal .bf16) (s : ℕ) (d : Fin 128) : EReal := if h : s < 8192 then x (ix3 0 ⟨s, h⟩ d) else 0

theorem OUT_val (i : grid0.Coords) {x0 : Vec Ideal S1x512x128 .bf16} {x1 : S1x8192x128.Idx → Elt Ideal .bf16} (x2 : S1x8192x128.Idx → Elt Ideal .bf16)
    {a : Fin 512 → Fin 128 → ℝ} {kk : ℕ → Fin 128 → ℝ} (h0 : ∀ r d, x0 (ix3 0 r d) = ((a r d : ℝ) : EReal))
    (h1 : ∀ (s : Fin 8192) d, x1 (ix3 0 s d) = ((kk s d : ℝ) : EReal)) (r : Fin 512) (d : Fin 128) :
    OUT i x0 x1 x2 (ix3 0 r d) = Aw (rows x2) (sc a kk ⟨512 * (d.val / 64) + r.val, by omega⟩) (512 * (i 2).val + r.val) 0 d := by
  rw [out_sel]
  have hi : (i 2).val < 16 := (i 2).isLt
  refine (total_val (V := rows x2) (ζ := sc a kk) (T := fun c => 512 * (i 2).val + c.val % 512) ?_ ?_ (fun _ => rfl) hi
    (tJ i) ?_ _ d).trans ?_
  · intro j hj c r
    rw [show sc a kk c (512 * j + r.val) = _ from rfl, sc, coe_sum]
    refine Finset.sum_congr rfl fun d _ => ?_
    rw [slab_val _ hj, h1, q2_val h0, EReal.coe_mul]
  · intro j hj r d
    rw [slab_val _ hj, rows, dif_pos (by omega)]
  · intro n _; rfl
  · simp only
    congr 2
    omega

end Cert.KernelIdeal.Sb
-- ==== Proof.Val.Cum.lean ====
/-
  The reference's running sum from the right, read at an index: the window from the position on.
-/
module

public import Idealize.ShloMosaic.Lib.Pointwise
public import Idealize.ShloMosaic.PureOps.Ideal

@[expose] public section

set_option maxRecDepth 16384

noncomputable section

namespace Cert.Sb

open Idealize.ShloMosaic

theorem foldl_add_sum {N : ℕ} (f : Fin N → EReal) (v : EReal) : (List.finRange N).foldl (fun r n => r + f n) v = v + ∑ n, f n := by
  have key : ∀ (l : List (Fin N)) (v : EReal), l.foldl (fun r n => r + f n) v = v + (l.map f).sum := by
    intro l
    induction l with
    | nil => intro v; simp
    | cons a l ih => intro v; rw [List.foldl_cons, ih, List.map_cons, List.sum_cons, add_assoc]
  rw [key, ← List.ofFn_eq_map, List.sum_ofFn]

variable {A B C L : ℕ}

theorem sum_window (f : (⟨4, ![1, 1, 1, L]⟩ : Shape).Idx → EReal) : ∑ w, f w = ∑ k : Fin L, f (ix4 0 0 0 k) := by
  refine (Fintype.sum_bijective (fun k : Fin L => (ix4 0 0 0 k : (⟨4, ![1, 1, 1, L]⟩ : Shape).Idx)) ⟨?_, ?_⟩ _ _ fun _ => rfl).symm
  · intro x y h
    exact congrFun h 3
  · intro w
    refine ⟨w 3, ?_⟩
    funext p
    match p with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl

/-- The sum over the window of `L` positions that starts at `s`, those past the end counted zero. -/
theorem revcum (x : FVec Ideal ⟨4, ![A, B, C, L]⟩ .f32) (init : FVec Ideal ⟨0, ![]⟩ .f32) {hi : ℕ} (hinit : ∀ i, init i = 0)
    (h : (⟨4, ![A, B, C, L]⟩ : Shape).ReduceWindows (![1, 1, 1, L] : Fin 4 → ℕ) ![1, 1, 1, 1] ![0, 0, 0, 0] ![0, 0, 0, hi] ⟨4, ![A, B, C, L]⟩)
    (hu : 0 < (⟨0, ![]⟩ : Shape).numel) (a : Fin A) (b : Fin B) (c : Fin C) (s : Fin L) :
    Host.reduceWindowAdd ![1, 1, 1, L] ![1, 1, 1, 1] ![0, 0, 0, 0] ![0, 0, 0, hi] x init h hu (ix4 a b c s)
      = ∑ k : Fin L, if hk : s.val + k.val < L then x (ix4 a b c ⟨s.val + k.val, hk⟩) else 0 := by
  show Host.reduceWindow (· + ·) ![1, 1, 1, L] ![1, 1, 1, 1] ![0, 0, 0, 0] ![0, 0, 0, hi] x
    (fun _ : (⟨0, ![]⟩ : Shape).Idx => init (Shape.Idx.first hu)) h hu (ix4 a b c s) = _
  unfold Host.reduceWindow
  dsimp only
  rw [hinit]
  refine (foldl_add_sum _ 0).trans ?_
  rw [zero_add]
  refine (Fintype.sum_equiv (⟨4, ![1, 1, 1, L]⟩ : Shape).rowMajor.symm _ (fun w : (⟨4, ![1, 1, 1, L]⟩ : Shape).Idx =>
    if hin : ∀ p, (![0, 0, 0, 0] : Fin 4 → ℕ) p ≤ (ix4 a b c s (p.cast h.1.symm)).val * (![1, 1, 1, 1] : Fin 4 → ℕ) p + (w p).val
        ∧ (ix4 a b c s (p.cast h.1.symm)).val * (![1, 1, 1, 1] : Fin 4 → ℕ) p + (w p).val - (![0, 0, 0, 0] : Fin 4 → ℕ) p < (⟨4, ![A, B, C, L]⟩ : Shape).size p
      then x (fun p => ⟨_, (hin p).2⟩) else (0 : EReal)) fun n => by congr).trans ?_
  rw [sum_window]
  refine Finset.sum_congr rfl fun k _ => ?_
  by_cases hk : s.val + k.val < L
  · rw [dif_pos hk, dif_pos]
    · congr 1
      funext p
      apply Fin.ext
      match p with
      | ⟨0, _⟩ => show a.val * 1 + 0 - 0 = a.val; omega
      | ⟨1, _⟩ => show b.val * 1 + 0 - 0 = b.val; omega
      | ⟨2, _⟩ => show c.val * 1 + 0 - 0 = c.val; omega
      | ⟨3, _⟩ => show s.val * 1 + k.val - 0 = s.val + k.val; omega
    · intro p
      match p with
      | ⟨0, _⟩ => show 0 ≤ a.val * 1 + 0 ∧ a.val * 1 + 0 - 0 < A; have := a.isLt; omega
      | ⟨1, _⟩ => show 0 ≤ b.val * 1 + 0 ∧ b.val * 1 + 0 - 0 < B; have := b.isLt; omega
      | ⟨2, _⟩ => show 0 ≤ c.val * 1 + 0 ∧ c.val * 1 + 0 - 0 < C; have := c.isLt; omega
      | ⟨3, _⟩ => show 0 ≤ s.val * 1 + k.val ∧ s.val * 1 + k.val - 0 < L; omega
  · rw [dif_neg hk, dif_neg]
    intro hin
    have h3 : 0 ≤ s.val * 1 + k.val ∧ s.val * 1 + k.val - 0 < L := hin 3
    omega

end Cert.Sb
-- ==== Proof.Val.Ref.lean ====
/-
  The reference's result at an index, for finite queries and keys: the values weighted by the exponential of the row's
  log-sigmoid and of what the later rows pass on.
-/
module

public import proofs.«01_k».proof.Proof.Gen.ReferenceIdeal.Run
public import proofs.«01_k».proof.Proof.Val.Cum
public import proofs.«01_k».proof.Proof.Val.Math
public import Idealize.ShloMosaic.Lib.IdealHost

@[expose] public section

set_option maxRecDepth 16384

noncomputable section

namespace Cert.ReferenceIdeal.Value

open Cert.ReferenceIdeal Cert.ReferenceIdeal.Gen Cert.Sb
open Idealize.ShloMosaic Idealize.ShloMosaic.TcCoe

variable (q k v : FVec Ideal S4x8192x1024 .f32)

/-- The scores. -/
def scores : FVec Ideal S4x16x8192x8192 .f32 :=
  mulf (Host.dotGeneral dot_S4x8192x16x64_S4x8192x16x64_S4x16x8192x8192_3_3_1_1_02_02 none
    (shapeCast S4x8192x16x64 q shapeCasts_S4x8192x1024_S4x8192x16x64) (shapeCast S4x8192x16x64 k shapeCasts_S4x8192x1024_S4x8192x16x64))
    (broadcastInDim S4x16x8192x8192 ![] bcast_S_S4x16x8192x8192 (constant S_ .f32 0x3E000000#32))

/-- Zero at every index. -/
def zeros : FVec Ideal S4x16x8192x8192 .f32 := broadcastInDim S4x16x8192x8192 ![] bcast_S_S4x16x8192x8192 (constant S_ .f32 0x00000000#32)

/-- Minus the logarithm of `1 + exp`. -/
def nsp (x : FVec Ideal S4x16x8192x8192 .f32) : FVec Ideal S4x16x8192x8192 .f32 :=
  Host.negf (select (cmpf .une (subf x zeros) (subf x zeros)) (addf x zeros)
    (addf (maximumf x zeros) (Host.log1p (Host.exp (Host.negf (Host.absf (subf x zeros)))))))

/-- Row before query. -/
def bef : IVec S4x16x8192x8192 1 :=
  broadcastInDim S4x16x8192x8192 ![2, 3] bcast_S8192x8192_S4x16x8192x8192_2_3
    (cmpi .slt (broadcastInDim S8192x8192 ![0, 1] bcast_S1x8192_S8192x8192_0_1 (broadcastInDim S1x8192 ![1] bcast_S8192_S1x8192_1 (iotaInDim S8192 32 0)))
      (broadcastInDim S8192x8192 ![0, 1] bcast_S8192x1_S8192x8192_0_1 (broadcastInDim S8192x1 ![0] bcast_S8192_S8192x1_0 (iotaInDim S8192 32 0))))

/-- What each row passes on. -/
def pass (z : FVec Ideal S4x16x8192x8192 .f32) : FVec Ideal S4x16x8192x8192 .f32 :=
  select bef (nsp (Host.negf (Host.negf z))) (broadcastInDim S4x16x8192x8192 ![] bcast_S_S4x16x8192x8192 (id (constant S_ .f32 0x00000000#32)))

/-- The running sum from the right. -/
def cum (x : FVec Ideal S4x16x8192x8192 .f32) : FVec Ideal S4x16x8192x8192 .f32 :=
  Host.reduceWindowAdd ![1, 1, 1, 8192] ![1, 1, 1, 1] ![0, 0, 0, 0] ![0, 0, 0, 8191] x
    (broadcastInDim S_ ![] bcast_S_S_ (constant S_ .f32 0x00000000#32))
    reduceWindows_S4x16x8192x8192_S4x16x8192x8192_w1s1p0_0_w1s1p0_0_w1s1p0_0_w8192s1p0_8191 h_S_

/-- The log-weights. -/
def logw (z l c : FVec Ideal S4x16x8192x8192 .f32) : FVec Ideal S4x16x8192x8192 .f32 :=
  select bef (addf (nsp (Host.negf z)) (subf c l))
    (broadcastInDim S4x16x8192x8192 ![] bcast_S_S4x16x8192x8192 (id (constant S_ .f32 0xFF800000#32)))

/-- The weighted values. -/
def wsum (w : FVec Ideal S4x16x8192x8192 .f32) : FVec Ideal S4x8192x1024 .f32 :=
  shapeCast S4x8192x1024 (transpose S4x8192x16x64 [0, 3, 1, 2]
    (Host.dotGeneral dot_S4x8192x16x64_S4x16x8192x8192_S4x16x64x8192_1_3_3_2_02_01 none
      (shapeCast S4x8192x16x64 v shapeCasts_S4x8192x1024_S4x8192x16x64) (Host.exp w)) transposes_S4x16x64x8192_S4x8192x16x64_0_3_1_2)
    shapeCasts_S4x8192x16x64_S4x8192x1024

def refOut : FVec Ideal S4x8192x1024 .f32 := wsum v (logw (scores q k) (pass (scores q k)) (cum (pass (scores q k))))

theorem res_eq (m : (ℓ : Loc nD τ sig) → Buf (Elt Ideal) ℓ) (c : Dev nD) : res_main_v23 m c
    = refOut (m ((c.tc : Thread nD τ).loc main_arg0)) (m ((c.tc : Thread nD τ).loc main_arg1)) (m ((c.tc : Thread nD τ).loc main_arg2)) := rfl

theorem eighth : Ideal.ofBits .f32 0x3E000000#32 = (((1 : ℝ) / 8 : ℝ) : EReal) := by
  simp [Ideal.ofBits, Ideal.ieee, -EReal.coe_mul]; norm_num

theorem minus_inf : Ideal.ofBits .f32 0xFF800000#32 = (⊥ : EReal) := by
  simp [Ideal.ofBits, Ideal.ieee]

theorem toInt_pos {a : ℕ} (h : a < 8192) : (BitVec.ofNat 32 a).toInt = a := by
  rw [BitVec.toInt_eq_toNat_of_lt, BitVec.toNat_ofNat, Nat.mod_eq_of_lt (by omega)]
  rw [BitVec.toNat_ofNat, Nat.mod_eq_of_lt (by omega)]; omega

section
variable (b : Fin 4) (h : Fin 16) (t s : Fin 8192)

theorem scores_at : scores q k (ix4 b h t s)
    = (∑ x : Fin 64, q (ix3 b t ⟨h.val * 64 + x.val, by omega⟩) * k (ix3 b s ⟨h.val * 64 + x.val, by omega⟩)) * (((1 : ℝ) / 8 : ℝ) : EReal) := by
  rw [← eighth]
  unfold scores
  pointwise

theorem bef_at : bef (ix4 b h t s) = BitVec.ofBool (decide (s.val < t.val)) := by
  unfold bef
  pointwise
  show BitVec.ofBool (BitVec.slt _ _) = _
  rw [BitVec.slt, toInt_pos s.isLt, toInt_pos t.isLt]; congr 1; simp

theorem pick {α : Type} (x y : α) : Scalar.select (bef (ix4 b h t s)) x y = if s.val < t.val then x else y := by
  rw [bef_at]
  by_cases hs : s.val < t.val <;> simp [hs, Scalar.select]

theorem nsp_at (x : FVec Ideal S4x16x8192x8192 .f32) (y : ℝ) (hx : x (ix4 b h t s) = (y : EReal)) : nsp x (ix4 b h t s) = ((ls (-y) : ℝ) : EReal) := by
  unfold nsp zeros
  pointwise
  rw [hx, if_neg (fun hn => hn rfl)]
  refine (congrArg _ (softplus_coe y)).trans ?_
  rw [← EReal.coe_neg, neg_neg]

theorem wsum_at (w : FVec Ideal S4x16x8192x8192 .f32) (e : Fin 1024) :
    wsum v w (ix3 b t e) = ∑ x : Fin 8192, v (ix3 b x e) * Ideal.exp (w (ix4 b ⟨e.val / 64, by omega⟩ t x)) := by
  unfold wsum
  pointwise

/-- What row `s` passes on to the query `t`. -/
def passed (z : ℕ → ℝ) (t s : ℕ) : ℝ := if s < t then ls (-z s) else 0

theorem pass_at (z : FVec Ideal S4x16x8192x8192 .f32) (y : ℕ → ℝ) (hz : z (ix4 b h t s) = ((y s : ℝ) : EReal)) :
    pass z (ix4 b h t s) = ((passed y t s : ℝ) : EReal) := by
  unfold pass passed
  pointwise
  rw [pick, nsp_at b h t s _ (y s) (by pointwise; rw [hz, neg_neg])]
  split
  · rfl
  · exact Ideal.ofBits_zero_f32

theorem cum_at (x : FVec Ideal S4x16x8192x8192 .f32) (f : ℕ → ℝ) (hx : ∀ s : Fin 8192, x (ix4 b h t s) = ((f s : ℝ) : EReal)) :
    cum x (ix4 b h t s) = ((∑ r ∈ Finset.Ico s.val 8192, f r : ℝ) : EReal) := by
  unfold cum
  refine (revcum x _ (fun i => Ideal.ofBits_zero_f32) _ _ b h t s).trans ?_
  rw [coe_sum]
  have e : ∀ k : Fin 8192, (if hk : s.val + k.val < 8192 then x (ix4 b h t ⟨s.val + k.val, hk⟩) else 0)
      = if s.val + k.val < 8192 then ((f (s.val + k.val) : ℝ) : EReal) else 0 := fun k => by
    split
    · rw [hx]
    · rfl
  rw [Finset.sum_congr rfl fun k _ => e k, Fin.sum_univ_eq_sum_range (fun k => if s.val + k < 8192 then ((f (s.val + k) : ℝ) : EReal) else 0) 8192,
    ← Finset.sum_filter, Finset.sum_Ico_eq_sum_range]
  refine Finset.sum_congr ?_ fun _ _ => rfl
  ext k
  have := s.isLt
  simp only [Finset.mem_filter, Finset.mem_range]
  omega

/-- The weight of row `s` for the query `t`. -/
def weight (z : ℕ → ℝ) (t s : ℕ) : ℝ := if s < t then Real.exp (ls (z s) + ∑ r ∈ Finset.Ico (s + 1) 8192, passed z t r) else 0

theorem logw_at (z l c : FVec Ideal S4x16x8192x8192 .f32) (y : ℕ → ℝ) (hz : ∀ s : Fin 8192, z (ix4 b h t s) = ((y s : ℝ) : EReal)) :
    Ideal.exp (logw z (pass z) (cum (pass z)) (ix4 b h t s)) = ((weight y t s : ℝ) : EReal) := by
  unfold logw weight
  pointwise
  rw [pick, nsp_at b h t s _ (-y s) (by pointwise; rw [hz]; rfl), cum_at b h t s _ (passed y t) (fun s => pass_at b h t s z y (hz s)),
    pass_at b h t s z y (hz s), neg_neg, ← EReal.coe_sub, ← EReal.coe_add, Finset.sum_eq_sum_Ico_succ_bot s.isLt]
  split
  · rw [exp_coe, add_sub_cancel_left]
  · exact (congrArg Ideal.exp minus_inf).trans rfl

end

/-- The reference's result for real scores `z`. -/
theorem refOut_at (b : Fin 4) (t : Fin 8192) (e : Fin 1024) (z : ℕ → ℝ)
    (hz : ∀ s : Fin 8192, scores q k (ix4 b ⟨e.val / 64, by omega⟩ t s) = ((z s : ℝ) : EReal)) :
    refOut q k v (ix3 b t e) = ∑ x : Fin 8192, v (ix3 b x e) * ((weight z t x : ℝ) : EReal) := by
  unfold refOut
  rw [wsum_at]
  exact Finset.sum_congr rfl fun x _ => by rw [logw_at b _ t x (scores q k) (pass (scores q k)) (cum (pass (scores q k))) z hz]

end Cert.ReferenceIdeal.Value
-- ==== Proof.Val.Final.lean ====
/-
  The kernel's result array is the reference's, for finite queries and keys.
-/
module

public import proofs.«01_k».proof.Proof.Val.Out
public import proofs.«01_k».proof.Proof.Val.Ref
public import proofs.«01_k».proof.Proof.KI.Run
public import Idealize.ShloMosaic.Lib.Pipeline.ValueKit.Geometry

@[expose] public section

set_option maxRecDepth 16384

noncomputable section

namespace Cert.KernelIdeal.Sb

open Cert.KernelIdeal Cert.KernelIdeal.Gen Cert.Sb
open Cert.ReferenceIdeal.Value (weight passed refOut scores)
open Idealize.ShloMosaic Idealize.ShloMosaic.TcCoe Idealize.SL.Sem

/-! ## The weights of both programs -/

theorem Sw_scaled (z : ℕ → ℝ) (T a b : ℕ) :
    Sw (fun s => z s * (Real.log 2)⁻¹) T a b = (∑ s ∈ Finset.Ico a b, passed z T s) * (Real.log 2)⁻¹ := by
  unfold Sw
  rw [Finset.sum_mul]
  refine Finset.sum_congr rfl fun s _ => ?_
  unfold Mw passed
  split
  · exact m2_eq _
  · rw [zero_mul]

/-- Base two with scores divided by `log 2` weighs as base `e`. -/
theorem Ww_scaled (z : ℕ → ℝ) (T s : ℕ) : Ww (fun s => z s * (Real.log 2)⁻¹) T s = ((weight z T s : ℝ) : EReal) := by
  by_cases h : s < T
  · unfold Ww weight
    rw [Lw_lt h, if_pos h, Sw_scaled, b2_eq, ← EReal.coe_add, ← add_mul, exp2_coe, two_rpow]
  · rw [Ww_zero (not_lt.mp h)]
    unfold weight
    rw [if_neg h, EReal.coe_zero]

/-! ## The arrays as the kernel finds them -/

/-- The scaled queries. -/
def scaled (q : FVec Ideal S4x8192x1024 .f32) : FVec Ideal S4x8192x1024 .bf16 :=
  truncf .bf16 (mulf q (broadcastInDim S4x8192x1024 ![] bcast_S_S4x8192x1024
    (Host.divf (constant S_ .f32 0x3E000000#32) (Host.log (constant S_ .f32 0x40000000#32))))) bitsLt_bf16_f32

theorem two : Ideal.ofBits .f32 0x40000000#32 = ((2 : ℝ) : EReal) := by
  simp [Ideal.ofBits, Ideal.ieee, -EReal.coe_mul]; norm_num

theorem scaled_at (q : FVec Ideal S4x8192x1024 .f32) (b : Fin 4) (t : Fin 8192) (e : Fin 1024) :
    scaled q (ix3 b t e) = q (ix3 b t e) * (((1 : ℝ) / 8 * (Real.log 2)⁻¹ : ℝ) : EReal) := by
  unfold scaled
  pointwise
  rw [Cert.ReferenceIdeal.Value.eighth, two, log_coe (by norm_num), Ideal.div_coe (ne_of_gt log2_pos), ← EReal.coe_mul, one_div (Real.log 2)]

variable (m : (ℓ : Loc nD τ sig) → Buf (Elt Ideal) ℓ) (c : Dev nD)

theorem V_v4 : V m c main_v4 = scaled (m ((c : Thread nD τ).loc main_arg0)) := by
  unfold V
  simp only [hostOps0]
  after_results_simp <;> rfl

theorem V_v5 : V m c main_v5 = m ((c : Thread nD τ).loc main_arg1) := by
  unfold V
  simp only [hostOps0]
  after_results_simp <;> rfl

theorem V_v6 : V m c main_v6 = m ((c : Thread nD τ).loc main_arg2) := by
  unfold V
  simp only [hostOps0]
  after_results_simp <;> rfl

/-! ## The blocks -/

theorem ind0 : ∀ t : Fin (cfg0 (F := Ideal)).N, win0_0.index t = ![(grid0.coords t 0).val, (grid0.coords t 2).val, (grid0.coords t 1).val] :=
  (by decide +kernel : ∀ t : Fin grid0.N, _)
theorem ind1 : ∀ t : Fin (cfg0 (F := Ideal)).N, win0_1.index t = ![(grid0.coords t 0).val, 0, (grid0.coords t 1).val] :=
  (by decide +kernel : ∀ t : Fin grid0.N, _)
theorem ind2 : ∀ t : Fin (cfg0 (F := Ideal)).N, win0_2.index t = ![(grid0.coords t 0).val, 0, (grid0.coords t 1).val] :=
  (by decide +kernel : ∀ t : Fin grid0.N, _)
theorem ind3 : ∀ t : Fin (cfg0 (F := Ideal)).N, win0_3.index t = ![(grid0.coords t 0).val, (grid0.coords t 2).val, (grid0.coords t 1).val] :=
  (by decide +kernel : ∀ t : Fin grid0.N, _)

theorem lt0 (t : Fin (cfg0 (F := Ideal)).N) : (grid0.coords t 0).val < 4 := (grid0.coords t 0).isLt
theorem lt1 (t : Fin (cfg0 (F := Ideal)).N) : (grid0.coords t 1).val < 8 := (grid0.coords t 1).isLt
theorem lt2 (t : Fin (cfg0 (F := Ideal)).N) : (grid0.coords t 2).val < 16 := (grid0.coords t 2).isLt

/-- A point's batch element; a lane of its pair of heads; a row of its query tile. -/
def bt (t : Fin (cfg0 (F := Ideal)).N) : Fin 4 := ⟨(grid0.coords t 0).val, lt0 t⟩
def ln (t : Fin (cfg0 (F := Ideal)).N) (d : Fin 128) : Fin 1024 := ⟨(grid0.coords t 1).val * 128 + d.val, by have := lt1 t; omega⟩
def rw' (t : Fin (cfg0 (F := Ideal)).N) (r : Fin 512) : Fin 8192 := ⟨(grid0.coords t 2).val * 512 + r.val, by have := lt2 t; omega⟩

theorem blk0 (t : Fin (cfg0 (F := Ideal)).N) (r : Fin 512) (d : Fin 128) : iblk m c 0 t (ix3 0 r d) = V m c main_v4 (ix3 (bt t) (rw' t r) (ln t d)) := by
  blk_simp [iblk]
  congr 1
  blk_ext [ind0]
  all_goals rfl

theorem blk1 (t : Fin (cfg0 (F := Ideal)).N) (r : Fin 8192) (d : Fin 128) : iblk m c 1 t (ix3 0 r d) = V m c main_v5 (ix3 (bt t) r (ln t d)) := by
  blk_simp [iblk]
  congr 1
  blk_ext [ind1]
  all_goals rfl

theorem emb3 (t : Fin (cfg0 (F := Ideal)).N) (r : Fin 512) (d : Fin 128) : (win0_3.blk t).view.emb (ix3 0 r d) = ix3 (bt t) (rw' t r) (ln t d) := by
  blk_ext [ind3]
  all_goals rfl

theorem blk2 (t : Fin (cfg0 (F := Ideal)).N) (r : Fin 8192) (d : Fin 128) : iblk m c 2 t (ix3 0 r d) = V m c main_v6 (ix3 (bt t) r (ln t d)) := by
  blk_simp [iblk]
  congr 1
  blk_ext [ind2]
  all_goals rfl

/-! ## The result -/

/-- The reference's score of row `s` for the query at position `t` in the head of dimension `e`. -/
def zr (qr kr : (⟨3, ![4, 8192, 1024]⟩ : Shape).Idx → ℝ) (b : Fin 4) (t : Fin 8192) (e : Fin 1024) (s : ℕ) : ℝ :=
  if h : s < 8192 then (∑ x : Fin 64, qr (ix3 b t ⟨e.val / 64 * 64 + x.val, by omega⟩) * kr (ix3 b ⟨s, h⟩ ⟨e.val / 64 * 64 + x.val, by omega⟩)) * (1 / 8) else 0

variable {m c}

section
variable {q k v : FVec Ideal S4x8192x1024 .f32} {qr kr : (⟨3, ![4, 8192, 1024]⟩ : Shape).Idx → ℝ}
  (hq : ∀ i, q i = ((qr i : ℝ) : EReal)) (hk : ∀ i, k i = ((kr i : ℝ) : EReal))

include hq hk in
theorem scores_real (b : Fin 4) (t : Fin 8192) (e : Fin 1024) (s : Fin 8192) :
    scores q k (ix4 b ⟨e.val / 64, by omega⟩ t s) = ((zr qr kr b t e s.val : ℝ) : EReal) := by
  rw [Cert.ReferenceIdeal.Value.scores_at, zr, dif_pos s.isLt, EReal.coe_mul, coe_sum]
  congr 1
  exact Finset.sum_congr rfl fun x _ => by rw [hq, hk, EReal.coe_mul]

include hq hk in
/-- What a point of the grid stores is its block of the reference's result. -/
theorem point (t : Fin (cfg0 (F := Ideal)).N) (hq0 : m ((c : Thread nD τ).loc main_arg0) = q) (hk0 : m ((c : Thread nD τ).loc main_arg1) = k)
    (hv0 : m ((c : Thread nD τ).loc main_arg2) = v) (r : Fin 512) (d : Fin 128) :
    outsAt m c t (ix3 0 r d) = refOut q k v (ix3 (bt t) (rw' t r) (ln t d)) := by
  have h0 : ∀ r d, iblk m c 0 t (ix3 0 r d) = ((qr (ix3 (bt t) (rw' t r) (ln t d)) * (1 / 8 * (Real.log 2)⁻¹) : ℝ) : EReal) := fun r d => by
    rw [blk0, V_v4, scaled_at, hq0, hq, ← EReal.coe_mul]
  have h1 : ∀ (s : Fin 8192) d, iblk m c 1 t (ix3 0 s d)
      = (((if h : s.val < 8192 then kr (ix3 (bt t) ⟨s.val, h⟩ (ln t d)) else 0 : ℝ)) : EReal) := fun s d => by
    rw [blk1, V_v5, hk0, hk, dif_pos s.isLt]
  have h2 : ∀ (s : Fin 8192) d, iblk m c 2 t (ix3 0 s d) = v (ix3 (bt t) s (ln t d)) := fun s d => by
    rw [blk2, V_v6, hv0]
  rw [Cert.ReferenceIdeal.Value.refOut_at q k v (bt t) (rw' t r) (ln t d) (zr qr kr (bt t) (rw' t r) (ln t d))
    (fun s => scores_real hq hk (bt t) (rw' t r) (ln t d) s)]
  unfold outsAt
  rw [OUT_val (grid0.coords t) (iblk m c 2 t) (a := fun r d => qr (ix3 (bt t) (rw' t r) (ln t d)) * (1 / 8 * (Real.log 2)⁻¹))
    (kk := fun s d => if h : s < 8192 then kr (ix3 (bt t) ⟨s, h⟩ (ln t d)) else 0) h0 h1 r d]
  have hz : ∀ s, sc (fun r d => qr (ix3 (bt t) (rw' t r) (ln t d)) * (1 / 8 * (Real.log 2)⁻¹))
      (fun s d => if h : s < 8192 then kr (ix3 (bt t) ⟨s, h⟩ (ln t d)) else 0) ⟨512 * (d.val / 64) + r.val, by omega⟩ s
      = zr qr kr (bt t) (rw' t r) (ln t d) s * (Real.log 2)⁻¹ := fun s => by
    rw [sc_eq _ _ r (d.val / 64) (by omega) s]
    unfold zr
    by_cases h : s < 8192
    · rw [dif_pos h, Finset.sum_mul, Finset.sum_mul]
      refine Finset.sum_congr rfl fun x _ => ?_
      rw [dif_pos h]
      have e : ln t ⟨64 * (d.val / 64) + x.val, by omega⟩ = ⟨(ln t d).val / 64 * 64 + x.val, by omega⟩ := by
        apply Fin.ext
        show (grid0.coords t 1).val * 128 + (64 * (d.val / 64) + x.val) = ((grid0.coords t 1).val * 128 + d.val) / 64 * 64 + x.val
        omega
      rw [e]; ring
    · rw [dif_neg h, zero_mul]
      exact Finset.sum_eq_zero fun x _ => by rw [dif_neg h, zero_mul]
  rw [show sc _ _ _ = fun s => zr qr kr (bt t) (rw' t r) (ln t d) s * (Real.log 2)⁻¹ from funext hz]
  unfold Aw
  rw [Nat.Ico_zero_eq_range, ← Fin.sum_univ_eq_sum_range (fun s => rows (iblk m c 2 t) s d * Ww (fun s => zr qr kr (bt t) (rw' t r) (ln t d) s * (Real.log 2)⁻¹)
    (512 * (grid0.coords t 2).val + r.val) s) 8192]
  refine Finset.sum_congr rfl fun x _ => ?_
  rw [Ww_scaled, rows, dif_pos x.isLt, h2]
  rw [show 512 * (grid0.coords t 2).val + r.val = (rw' t r).val from by show _ = (grid0.coords t 2).val * 512 + r.val; rw [mul_comm]]

include hq hk in
/-- The kernel's result array is the reference's. -/
theorem final (hq0 : m ((c : Thread nD τ).loc main_arg0) = q) (hk0 : m ((c : Thread nD τ).loc main_arg1) = k)
    (hv0 : m ((c : Thread nD τ).loc main_arg2) = v) : (dats m 0 c).arrAt 3 (cfg0 (F := Ideal)).N = refOut q k v := by
  refine (dats m 0 c).arrAt_eq_of_covers 3 _ (by decide +kernel) fun t hf y => ?_
  blk_simp
  rw [after0_3]
  have hy : y = ix3 0 (y 1) (y 2) := by
    funext p
    match p with
    | ⟨0, _⟩ => exact Subsingleton.elim (α := Fin 1) _ _
    | ⟨1, _⟩ => rfl
    | ⟨2, _⟩ => rfl
  rw [hy]
  refine (point hq hk t hq0 hk0 hv0 (y 1) (y 2)).trans ?_
  exact congrArg (refOut q k v) (emb3 t (y 1) (y 2)).symm

end

end Cert.KernelIdeal.Sb
-- ==== Proof.Val.SbProj.lean ====
/-
  The stick-breaking layer's projection: what one grid point stores, and the four result arrays against the reference's.
-/
module

public import proofs.«01_k».proof.Proof.Gen.SbProjIdeal.Value
public import proofs.«01_k».proof.Proof.Gen.SbProjRefIdeal.Run
public import Idealize.ShloMosaic.Lib.Pointwise
public import Idealize.ShloMosaic.Lib.IdealHost
public import Idealize.ShloMosaic.Lib.Pipeline.ValueKit

@[expose] public section

set_option maxRecDepth 16384

noncomputable section

namespace Cert.SbProjIdeal.Val

open Cert.SbProjIdeal Cert.SbProjIdeal.Gen
open Idealize.ShloMosaic Idealize.ShloMosaic.TcCoe Idealize.SL.Sem

section
variable (x0 : Vec Ideal S512x1024 .f32) (w : Vec Ideal S1024x1024 .bf16) (p : Fin 512) (j : Fin 1024)

theorem pay2_at : k0_pay2 x0 w (ix2 p j) = (∑ k : Fin 1024, x0 (ix2 p k) * w (ix2 k j)) * (((Real.log 256)⁻¹ : ℝ) : EReal) := by
  unfold_payloads
  pointwise
  rfl

theorem pay3_at : k0_pay3 x0 w (ix2 p j) = ∑ k : Fin 1024, x0 (ix2 p k) * w (ix2 k j) := by
  unfold_payloads
  pointwise

theorem pay4_at : k0_pay4 x0 w (ix2 p j) = ∑ k : Fin 1024, x0 (ix2 p k) * w (ix2 k j) := by
  unfold_payloads
  pointwise

theorem pay5_at : k0_pay5 x0 w (ix2 p j) = ∑ k : Fin 1024, x0 (ix2 p k) * w (ix2 k j) := by
  unfold_payloads
  pointwise
end

/-- A row of the flattened activations. -/
theorem rows_at (x : FVec Ideal S4x8192x1024 .f32) (r : Fin 32768) (k : Fin 1024) :
    shapeCast S32768x1024 x shapeCasts_S4x8192x1024_S32768x1024 (ix2 r k)
      = x (ix3 (⟨r.val / 8192, by omega⟩ : Fin 4) (⟨r.val % 8192, by omega⟩ : Fin 8192) k) := by
  pointwise

/-- The four column ranges of the weights. -/
theorem ld1 (w : Vec Ideal S1024x4096 .bf16) (k j : Fin 1024) : View.ld w r0_1 (ix2 k j) = w (ix2 k (⟨j.val, by omega⟩ : Fin 4096)) := by
  refine congrArg w (funext fun a => Fin.ext ?_)
  match a with
  | ⟨0, _⟩ => show 0 + 1 * k.val = k.val; omega
  | ⟨1, _⟩ => show 0 + 1 * j.val = j.val; omega
theorem ld2 (w : Vec Ideal S1024x4096 .bf16) (k j : Fin 1024) : View.ld w r0_2 (ix2 k j) = w (ix2 k (⟨1024 + j.val, by omega⟩ : Fin 4096)) := by
  refine congrArg w (funext fun a => Fin.ext ?_)
  match a with
  | ⟨0, _⟩ => show 0 + 1 * k.val = k.val; omega
  | ⟨1, _⟩ => show 1024 + 1 * j.val = 1024 + j.val; omega
theorem ld3 (w : Vec Ideal S1024x4096 .bf16) (k j : Fin 1024) : View.ld w r0_3 (ix2 k j) = w (ix2 k (⟨2048 + j.val, by omega⟩ : Fin 4096)) := by
  refine congrArg w (funext fun a => Fin.ext ?_)
  match a with
  | ⟨0, _⟩ => show 0 + 1 * k.val = k.val; omega
  | ⟨1, _⟩ => show 2048 + 1 * j.val = 2048 + j.val; omega
theorem ld4 (w : Vec Ideal S1024x4096 .bf16) (k j : Fin 1024) : View.ld w r0_4 (ix2 k j) = w (ix2 k (⟨3072 + j.val, by omega⟩ : Fin 4096)) := by
  refine congrArg w (funext fun a => Fin.ext ?_)
  match a with
  | ⟨0, _⟩ => show 0 + 1 * k.val = k.val; omega
  | ⟨1, _⟩ => show 3072 + 1 * j.val = 3072 + j.val; omega

variable (m : (ℓ : Loc nD τ sig) → Buf (Elt Ideal) ℓ) (c : Dev nD)

/-- The activations' rows and the weights, as the kernel finds them. -/
theorem V_x (r : Fin 32768) (k : Fin 1024) : V m c main_v0 (ix2 r k)
    = m ((c : Thread nD τ).loc main_arg0) (ix3 (⟨r.val / 8192, by omega⟩ : Fin 4) (⟨r.val % 8192, by omega⟩ : Fin 8192) k) := by
  have h : V m c main_v0 = shapeCast S32768x1024 (m ((c : Thread nD τ).loc main_arg0)) shapeCasts_S4x8192x1024_S32768x1024 := by
    unfold V
    simp only [hostOps0]
    after_results_simp <;> rfl
  rw [h]
  exact rows_at _ r k

theorem V_w : V m c main_v1 = m ((c : Thread nD τ).loc main_arg1) := by
  unfold V
  simp only [hostOps0]
  after_results_simp <;> rfl

theorem ind0 : ∀ t : Fin cfg0.N, win0_0.index t = ![(grid0.coords t 0).val, 0] :=
  (by decide +kernel : ∀ t : Fin grid0.N, _)
theorem ind1 : ∀ t : Fin cfg0.N, win0_1.index t = ![0, 0] :=
  (by decide +kernel : ∀ t : Fin grid0.N, _)
theorem ind2 : ∀ t : Fin cfg0.N, win0_2.index t = ![(grid0.coords t 0).val, 0] :=
  (by decide +kernel : ∀ t : Fin grid0.N, _)
theorem ind3 : ∀ t : Fin cfg0.N, win0_3.index t = ![(grid0.coords t 0).val, 0] :=
  (by decide +kernel : ∀ t : Fin grid0.N, _)
theorem ind4 : ∀ t : Fin cfg0.N, win0_4.index t = ![(grid0.coords t 0).val, 0] :=
  (by decide +kernel : ∀ t : Fin grid0.N, _)
theorem ind5 : ∀ t : Fin cfg0.N, win0_5.index t = ![(grid0.coords t 0).val, 0] :=
  (by decide +kernel : ∀ t : Fin grid0.N, _)

theorem lt0 (t : Fin cfg0.N) : (grid0.coords t 0).val < 64 := (grid0.coords t 0).isLt

/-- A row of a point's tile. -/
def row (t : Fin cfg0.N) (p : Fin 512) : Fin 32768 := ⟨(grid0.coords t 0).val * 512 + p.val, by have := lt0 t; omega⟩

theorem blk0 (t : Fin cfg0.N) (p : Fin 512) (k : Fin 1024) : iblk m c 0 t (ix2 p k) = V m c main_v0 (ix2 (row t p) k) := by
  blk_simp [iblk]
  congr 1
  blk_ext [ind0]
  all_goals rfl

theorem blk1 (t : Fin cfg0.N) (k : Fin 1024) (j : Fin 4096) : iblk m c 1 t (ix2 k j) = V m c main_v1 (ix2 k j) := by
  blk_simp [iblk]
  congr 1
  blk_ext [ind1]
  all_goals rfl

/-- An element of the product of the activations and the weights. -/
def prod (x : FVec Ideal S4x8192x1024 .f32) (w : FVec Ideal S1024x4096 .f32) (r : Fin 32768) (j : Fin 4096) : EReal :=
  ∑ k : Fin 1024, x (ix3 (⟨r.val / 8192, by omega⟩ : Fin 4) (⟨r.val % 8192, by omega⟩ : Fin 8192) k) * w (ix2 k j)

/-- The same element from a tile's rows. -/
def tile (x0 : Vec Ideal S512x1024 .f32) (x1 : Vec Ideal S1024x4096 .bf16) (p : Fin 512) (j : Fin 4096) : EReal :=
  ∑ k : Fin 1024, x0 (ix2 p k) * x1 (ix2 k j)

theorem tile_eq (t : Fin cfg0.N) (p : Fin 512) (j : Fin 4096) : tile (iblk m c 0 t) (iblk m c 1 t) p j
      = prod (m ((c : Thread nD τ).loc main_arg0)) (m ((c : Thread nD τ).loc main_arg1)) (row t p) j := by
  unfold tile prod
  refine Finset.sum_congr rfl fun k _ => ?_
  rw [blk0, blk1, V_x, V_w]

/-- The four results. -/
def col (o : ℕ) (h : o + 1024 ≤ 4096) (j : Fin 1024) : Fin 4096 := ⟨o + j.val, by omega⟩
def out2 (x : FVec Ideal S4x8192x1024 .f32) (w : FVec Ideal S1024x4096 .f32) : FVec Ideal S32768x1024 .bf16 :=
  fun i => prod x w (i 0) (Fin.castLE (by norm_num) (i 1 : Fin 1024)) * (((Real.log 256)⁻¹ : ℝ) : EReal)
def out3 (x : FVec Ideal S4x8192x1024 .f32) (w : FVec Ideal S1024x4096 .f32) : FVec Ideal S32768x1024 .bf16 :=
  fun i => prod x w (i 0) (col 1024 (by norm_num) (i 1))
def out4 (x : FVec Ideal S4x8192x1024 .f32) (w : FVec Ideal S1024x4096 .f32) : FVec Ideal S32768x1024 .bf16 :=
  fun i => prod x w (i 0) (col 2048 (by norm_num) (i 1))
def out5 (x : FVec Ideal S4x8192x1024 .f32) (w : FVec Ideal S1024x4096 .f32) : FVec Ideal S32768x1024 .f32 :=
  fun i => prod x w (i 0) (col 3072 (by norm_num) (i 1))

theorem pair (n0 n1 : ℕ) (i : (⟨2, ![n0, n1]⟩ : Shape).Idx) : i = ix2 (i 0) (i 1) := by
  funext a
  match a with
  | ⟨0, _⟩ => rfl
  | ⟨1, _⟩ => rfl

/-- Arrays of the launch. -/
abbrev ax : FVec Ideal S4x8192x1024 .f32 := m ((c : Thread nD τ).loc main_arg0)
abbrev aw : FVec Ideal S1024x4096 .f32 := m ((c : Thread nD τ).loc main_arg1)

theorem emb2 (t : Fin cfg0.N) (p : Fin 512) (j : Fin 1024) : (win0_2.blk t).view.emb (ix2 p j) = ix2 (row t p) j := by
  blk_ext [ind2]
  all_goals rfl

theorem pay2_tile (x0 : Vec Ideal S512x1024 .f32) (x1 : Vec Ideal S1024x4096 .bf16) (p : Fin 512) (j : Fin 1024) :
    k0_pay2 x0 (View.ld x1 r0_1) (ix2 p j) = tile x0 x1 p (Fin.castLE (by norm_num) j) * (((Real.log 256)⁻¹ : ℝ) : EReal) := by
  rw [pay2_at]
  exact congrArg (· * (((Real.log 256)⁻¹ : ℝ) : EReal)) (Finset.sum_congr rfl fun k _ => congrArg (x0 (ix2 p k) * ·) (ld1 x1 k j))

theorem point2 (t : Fin cfg0.N) (p : Fin 512) (j : Fin 1024) :
    k0_pay2 (iblk m c 0 t) (View.ld (iblk m c 1 t) r0_1) (ix2 p j) = out2 (ax m c) (aw m c) (ix2 (row t p) j) :=
  (pay2_tile _ _ p j).trans (congrArg (· * (((Real.log 256)⁻¹ : ℝ) : EReal)) (tile_eq m c t p (Fin.castLE (by norm_num) j)))

theorem final2 : (dats m 0 c).arrAt 2 cfg0.N = out2 (ax m c) (aw m c) := by
  refine (dats m 0 c).arrAt_eq_of_covers 2 _ (by decide +kernel) fun t hf y => ?_
  blk_simp
  rw [after0_2]
  frame_out
  obtain ⟨p, j, rfl⟩ : ∃ (p : Fin 512) (j : Fin 1024), y = ix2 p j := ⟨y 0, y 1, pair 512 1024 y⟩
  exact (point2 m c t p j).trans (congrArg (out2 (ax m c) (aw m c)) (emb2 t p j).symm)

theorem emb3 (t : Fin cfg0.N) (p : Fin 512) (j : Fin 1024) : (win0_3.blk t).view.emb (ix2 p j) = ix2 (row t p) j := by
  blk_ext [ind3]
  all_goals rfl

theorem pay3_tile (x0 : Vec Ideal S512x1024 .f32) (x1 : Vec Ideal S1024x4096 .bf16) (p : Fin 512) (j : Fin 1024) :
    k0_pay3 x0 (View.ld x1 r0_2) (ix2 p j) = tile x0 x1 p (col 1024 (by norm_num) j) := by
  rw [pay3_at]
  exact (Finset.sum_congr rfl fun k _ => congrArg (x0 (ix2 p k) * ·) (ld2 x1 k j))

theorem point3 (t : Fin cfg0.N) (p : Fin 512) (j : Fin 1024) :
    k0_pay3 (iblk m c 0 t) (View.ld (iblk m c 1 t) r0_2) (ix2 p j) = out3 (ax m c) (aw m c) (ix2 (row t p) j) :=
  (pay3_tile _ _ p j).trans ((tile_eq m c t p (col 1024 (by norm_num) j)))

theorem final3 : (dats m 0 c).arrAt 3 cfg0.N = out3 (ax m c) (aw m c) := by
  refine (dats m 0 c).arrAt_eq_of_covers 3 _ (by decide +kernel) fun t hf y => ?_
  blk_simp
  rw [after0_3]
  frame_out
  obtain ⟨p, j, rfl⟩ : ∃ (p : Fin 512) (j : Fin 1024), y = ix2 p j := ⟨y 0, y 1, pair 512 1024 y⟩
  exact (point3 m c t p j).trans (congrArg (out3 (ax m c) (aw m c)) (emb3 t p j).symm)

theorem emb4 (t : Fin cfg0.N) (p : Fin 512) (j : Fin 1024) : (win0_4.blk t).view.emb (ix2 p j) = ix2 (row t p) j := by
  blk_ext [ind4]
  all_goals rfl

theorem pay4_tile (x0 : Vec Ideal S512x1024 .f32) (x1 : Vec Ideal S1024x4096 .bf16) (p : Fin 512) (j : Fin 1024) :
    k0_pay4 x0 (View.ld x1 r0_3) (ix2 p j) = tile x0 x1 p (col 2048 (by norm_num) j) := by
  rw [pay4_at]
  exact (Finset.sum_congr rfl fun k _ => congrArg (x0 (ix2 p k) * ·) (ld3 x1 k j))

theorem point4 (t : Fin cfg0.N) (p : Fin 512) (j : Fin 1024) :
    k0_pay4 (iblk m c 0 t) (View.ld (iblk m c 1 t) r0_3) (ix2 p j) = out4 (ax m c) (aw m c) (ix2 (row t p) j) :=
  (pay4_tile _ _ p j).trans ((tile_eq m c t p (col 2048 (by norm_num) j)))

theorem final4 : (dats m 0 c).arrAt 4 cfg0.N = out4 (ax m c) (aw m c) := by
  refine (dats m 0 c).arrAt_eq_of_covers 4 _ (by decide +kernel) fun t hf y => ?_
  blk_simp
  rw [after0_4]
  frame_out
  obtain ⟨p, j, rfl⟩ : ∃ (p : Fin 512) (j : Fin 1024), y = ix2 p j := ⟨y 0, y 1, pair 512 1024 y⟩
  exact (point4 m c t p j).trans (congrArg (out4 (ax m c) (aw m c)) (emb4 t p j).symm)

theorem emb5 (t : Fin cfg0.N) (p : Fin 512) (j : Fin 1024) : (win0_5.blk t).view.emb (ix2 p j) = ix2 (row t p) j := by
  blk_ext [ind5]
  all_goals rfl

theorem pay5_tile (x0 : Vec Ideal S512x1024 .f32) (x1 : Vec Ideal S1024x4096 .bf16) (p : Fin 512) (j : Fin 1024) :
    k0_pay5 x0 (View.ld x1 r0_4) (ix2 p j) = tile x0 x1 p (col 3072 (by norm_num) j) := by
  rw [pay5_at]
  exact (Finset.sum_congr rfl fun k _ => congrArg (x0 (ix2 p k) * ·) (ld4 x1 k j))

theorem point5 (t : Fin cfg0.N) (p : Fin 512) (j : Fin 1024) :
    k0_pay5 (iblk m c 0 t) (View.ld (iblk m c 1 t) r0_4) (ix2 p j) = out5 (ax m c) (aw m c) (ix2 (row t p) j) :=
  (pay5_tile _ _ p j).trans ((tile_eq m c t p (col 3072 (by norm_num) j)))

theorem final5 : (dats m 0 c).arrAt 5 cfg0.N = out5 (ax m c) (aw m c) := by
  refine (dats m 0 c).arrAt_eq_of_covers 5 _ (by decide +kernel) fun t hf y => ?_
  blk_simp
  rw [after0_5]
  frame_out
  obtain ⟨p, j, rfl⟩ : ∃ (p : Fin 512) (j : Fin 1024), y = ix2 p j := ⟨y 0, y 1, pair 512 1024 y⟩
  exact (point5 m c t p j).trans (congrArg (out5 (ax m c) (aw m c)) (emb5 t p j).symm)

end Cert.SbProjIdeal.Val

namespace Cert.SbProjRefIdeal.Val

open Cert.SbProjRefIdeal Cert.SbProjRefIdeal.Gen Cert.SbProjIdeal.Val
open Idealize.ShloMosaic Idealize.ShloMosaic.TcCoe Idealize.SL.Sem

variable (x : FVec Ideal S4x8192x1024 .f32) (w : FVec Ideal S1024x4096 .f32)

theorem eighth : Ideal.ofBits .f32 0x3E000000#32 = (((1 : ℝ) / 8 : ℝ) : EReal) := by
  simp [Ideal.ofBits, Ideal.ieee, -EReal.coe_mul]; norm_num
theorem two : Ideal.ofBits .f32 0x40000000#32 = ((2 : ℝ) : EReal) := by
  simp [Ideal.ofBits, Ideal.ieee, -EReal.coe_mul]; norm_num

theorem log256 : (Real.log 256)⁻¹ = 1 / 8 * (1 / Real.log 2) := by
  rw [show (256 : ℝ) = 2 ^ 8 by norm_num, Real.log_pow]
  push_cast
  rw [mul_inv, one_div, one_div]

theorem scaling (a : EReal) : Ideal.div (a * (((1 : ℝ) / 8 : ℝ) : EReal)) (Ideal.log ((2 : ℝ) : EReal)) = a * (((Real.log 256)⁻¹ : ℝ) : EReal) := by
  rw [log256, show Ideal.log ((2 : ℝ) : EReal) = ((Real.log 2 : ℝ) : EReal) from if_neg (not_le.mpr (by norm_num)), Ideal.div_coe (Real.log_pos (by norm_num)).ne', mul_assoc, ← EReal.coe_mul]

section
abbrev prd : FVec Ideal S4x8192x4096 .f32 := Host.dotGeneral dot_S4x8192x1024_S1024x4096_S4x8192x4096_2_0_01_1_n_n none x w

theorem ref2 : truncf .bf16 (shapeCast S32768x1024 (Host.divf (mulf (extractStridedSlice S4x8192x1024 ![0, 0, 0] (prd x w) slices_S4x8192x4096_S4x8192x1024_0_0_0) (broadcastInDim S4x8192x1024 ![] bcast_S_S4x8192x1024 (constant S_ .f32 0x3E000000#32))) (broadcastInDim S4x8192x1024 ![] bcast_S_S4x8192x1024 (Host.log (constant S_ .f32 0x40000000#32)))) shapeCasts_S4x8192x1024_S32768x1024) bitsLt_bf16_f32 = out2 x w := by
  funext i
  obtain ⟨r, j, rfl⟩ : ∃ (r : Fin 32768) (j : Fin 1024), i = ix2 r j := ⟨i 0, i 1, pair _ _ i⟩
  pointwise
  rw [eighth, two]
  exact scaling _

theorem ref3 : truncf .bf16 (shapeCast S32768x1024 (extractStridedSlice S4x8192x1024 ![0, 0, 1024] (prd x w) slices_S4x8192x4096_S4x8192x1024_0_0_1024) shapeCasts_S4x8192x1024_S32768x1024) bitsLt_bf16_f32 = out3 x w := by
  funext i
  obtain ⟨r, j, rfl⟩ : ∃ (r : Fin 32768) (j : Fin 1024), i = ix2 r j := ⟨i 0, i 1, pair _ _ i⟩
  pointwise
  unfold out3 prod col
  rfl

theorem ref4 : truncf .bf16 (shapeCast S32768x1024 (extractStridedSlice S4x8192x1024 ![0, 0, 2048] (prd x w) slices_S4x8192x4096_S4x8192x1024_0_0_2048) shapeCasts_S4x8192x1024_S32768x1024) bitsLt_bf16_f32 = out4 x w := by
  funext i
  obtain ⟨r, j, rfl⟩ : ∃ (r : Fin 32768) (j : Fin 1024), i = ix2 r j := ⟨i 0, i 1, pair _ _ i⟩
  pointwise
  unfold out4 prod col
  rfl

theorem ref5 : shapeCast S32768x1024 (extractStridedSlice S4x8192x1024 ![0, 0, 3072] (prd x w) slices_S4x8192x4096_S4x8192x1024_0_0_3072) shapeCasts_S4x8192x1024_S32768x1024 = out5 x w := by
  funext i
  obtain ⟨r, j, rfl⟩ : ∃ (r : Fin 32768) (j : Fin 1024), i = ix2 r j := ⟨i 0, i 1, pair _ _ i⟩
  pointwise
  unfold out5 prod col
  rfl

end

end Cert.SbProjRefIdeal.Val
-- ==== Proof.Val.OutLn.lean ====
/-
  The output block (gate, projection, residual and layer norm): what one grid point stores, and the result against the reference's.
-/
module

public import proofs.«01_k».proof.Proof.Gen.OutLnIdeal.Value
public import proofs.«01_k».proof.Proof.Gen.OutLnRefIdeal.Run
public import Idealize.ShloMosaic.Lib.Pointwise
public import Idealize.ShloMosaic.Lib.IdealHost
public import Idealize.ShloMosaic.Lib.Pipeline.ValueKit

@[expose] public section

set_option maxRecDepth 16384

noncomputable section

namespace Cert.OutLnIdeal.Val

open Cert.OutLnIdeal Cert.OutLnIdeal.Gen
open Idealize.ShloMosaic Idealize.ShloMosaic.TcCoe Idealize.SL.Sem

/-- A row before the normalisation: the residual, scaled, plus the gated row times the weights. -/
def resid (y z x : Fin 1024 → EReal) (w : FVec Ideal S1024x1024 .bf16) (j : Fin 1024) : EReal :=
  Ideal.ofBits FTy.f32 1071072509#32 * x j + ∑ k, y k * (z k * Ideal.logistic (z k)) * w (ix2 k j)

/-- A row's mean. -/
def mean (r : Fin 1024 → EReal) : EReal := Ideal.div (∑ k, r k) (Ideal.ofBits FTy.f32 1149239296#32)

/-- The layer norm of a row. -/
def norm (r : Fin 1024 → EReal) (g b : EReal) (j : Fin 1024) : EReal :=
  (r j - mean r) * Ideal.rsqrt (mean (fun k => (r k - mean r) * (r k - mean r)) + Ideal.ofBits FTy.f32 925353388#32) * g + b

section
variable (x0 x1 x2 : Vec Ideal S256x1024 .f32) (w : Vec Ideal S1024x1024 .bf16) (g b : Vec Ideal S1x1024 .f32) (p : Fin 256) (j : Fin 1024)

theorem pay_at : k0_pay1 x0 x1 x2 w g b (ix2 p j)
    = norm (resid (fun k => x0 (ix2 p k)) (fun k => x1 (ix2 p k)) (fun k => x2 (ix2 p k)) w) (g (ix2 0 j)) (b (ix2 0 j)) j := by
  unfold_payloads
  pointwise
  rfl

end

/-- A row of a flattened array. -/
theorem rows_at (x : FVec Ideal S4x8192x1024 .f32) (r : Fin 32768) (k : Fin 1024) :
    shapeCast S32768x1024 x shapeCasts_S4x8192x1024_S32768x1024 (ix2 r k)
      = x (ix3 (⟨r.val / 8192, by omega⟩ : Fin 4) (⟨r.val % 8192, by omega⟩ : Fin 8192) k) := by
  pointwise
theorem line_at (x : FVec Ideal S1024 .f32) (k : Fin 1024) :
    shapeCast S1x1024 x shapeCasts_S1024_S1x1024 (ix2 0 k) = x (ix1 k) := by
  pointwise

variable (m : (ℓ : Loc nD τ sig) → Buf (Elt Ideal) ℓ) (c : Dev nD)

theorem V_y (r : Fin 32768) (k : Fin 1024) : V m c main_v0 (ix2 r k)
    = m ((c : Thread nD τ).loc main_arg0) (ix3 (⟨r.val / 8192, by omega⟩ : Fin 4) (⟨r.val % 8192, by omega⟩ : Fin 8192) k) := by
  have h : V m c main_v0 = shapeCast S32768x1024 (m ((c : Thread nD τ).loc main_arg0)) shapeCasts_S4x8192x1024_S32768x1024 := by
    unfold V
    simp only [hostOps0]
    after_results_simp <;> rfl
  rw [h]
  exact rows_at _ r k
theorem V_z (r : Fin 32768) (k : Fin 1024) : V m c main_v1 (ix2 r k)
    = m ((c : Thread nD τ).loc main_arg1) (ix3 (⟨r.val / 8192, by omega⟩ : Fin 4) (⟨r.val % 8192, by omega⟩ : Fin 8192) k) := by
  have h : V m c main_v1 = shapeCast S32768x1024 (m ((c : Thread nD τ).loc main_arg1)) shapeCasts_S4x8192x1024_S32768x1024 := by
    unfold V
    simp only [hostOps0]
    after_results_simp <;> rfl
  rw [h]
  exact rows_at _ r k
theorem V_x (r : Fin 32768) (k : Fin 1024) : V m c main_v2 (ix2 r k)
    = m ((c : Thread nD τ).loc main_arg2) (ix3 (⟨r.val / 8192, by omega⟩ : Fin 4) (⟨r.val % 8192, by omega⟩ : Fin 8192) k) := by
  have h : V m c main_v2 = shapeCast S32768x1024 (m ((c : Thread nD τ).loc main_arg2)) shapeCasts_S4x8192x1024_S32768x1024 := by
    unfold V
    simp only [hostOps0]
    after_results_simp <;> rfl
  rw [h]
  exact rows_at _ r k
theorem V_w : V m c main_v3 = m ((c : Thread nD τ).loc main_arg3) := by
  unfold V
  simp only [hostOps0]
  after_results_simp <;> rfl
theorem V_g (k : Fin 1024) : V m c main_v4 (ix2 0 k) = m ((c : Thread nD τ).loc main_arg4) (ix1 k) := by
  have h : V m c main_v4 = shapeCast S1x1024 (m ((c : Thread nD τ).loc main_arg4)) shapeCasts_S1024_S1x1024 := by
    unfold V
    simp only [hostOps0]
    after_results_simp <;> rfl
  rw [h]
  exact line_at _ k
theorem V_b (k : Fin 1024) : V m c main_v5 (ix2 0 k) = m ((c : Thread nD τ).loc main_arg5) (ix1 k) := by
  have h : V m c main_v5 = shapeCast S1x1024 (m ((c : Thread nD τ).loc main_arg5)) shapeCasts_S1024_S1x1024 := by
    unfold V
    simp only [hostOps0]
    after_results_simp <;> rfl
  rw [h]
  exact line_at _ k
theorem ind0 : ∀ t : Fin cfg0.N, win0_0.index t = ![(grid0.coords t 0).val, 0] :=
  (by decide +kernel : ∀ t : Fin grid0.N, _)
theorem ind1 : ∀ t : Fin cfg0.N, win0_1.index t = ![(grid0.coords t 0).val, 0] :=
  (by decide +kernel : ∀ t : Fin grid0.N, _)
theorem ind2 : ∀ t : Fin cfg0.N, win0_2.index t = ![(grid0.coords t 0).val, 0] :=
  (by decide +kernel : ∀ t : Fin grid0.N, _)
theorem ind3 : ∀ t : Fin cfg0.N, win0_3.index t = ![0, 0] :=
  (by decide +kernel : ∀ t : Fin grid0.N, _)
theorem ind4 : ∀ t : Fin cfg0.N, win0_4.index t = ![0, 0] :=
  (by decide +kernel : ∀ t : Fin grid0.N, _)
theorem ind5 : ∀ t : Fin cfg0.N, win0_5.index t = ![0, 0] :=
  (by decide +kernel : ∀ t : Fin grid0.N, _)
theorem ind6 : ∀ t : Fin cfg0.N, win0_6.index t = ![(grid0.coords t 0).val, 0] :=
  (by decide +kernel : ∀ t : Fin grid0.N, _)

theorem lt0 (t : Fin cfg0.N) : (grid0.coords t 0).val < 128 := (grid0.coords t 0).isLt

/-- A row of a point's tile. -/
def row (t : Fin cfg0.N) (p : Fin 256) : Fin 32768 := ⟨(grid0.coords t 0).val * 256 + p.val, by have := lt0 t; omega⟩

theorem blk0 (t : Fin cfg0.N) (p : Fin 256) (k : Fin 1024) : iblk m c 0 t (ix2 p k) = V m c main_v0 (ix2 (row t p) k) := by
  blk_simp [iblk]
  congr 1
  blk_ext [ind0]
  all_goals rfl
theorem blk1 (t : Fin cfg0.N) (p : Fin 256) (k : Fin 1024) : iblk m c 1 t (ix2 p k) = V m c main_v1 (ix2 (row t p) k) := by
  blk_simp [iblk]
  congr 1
  blk_ext [ind1]
  all_goals rfl
theorem blk2 (t : Fin cfg0.N) (p : Fin 256) (k : Fin 1024) : iblk m c 2 t (ix2 p k) = V m c main_v2 (ix2 (row t p) k) := by
  blk_simp [iblk]
  congr 1
  blk_ext [ind2]
  all_goals rfl
theorem blk3 (t : Fin cfg0.N) (k j : Fin 1024) : iblk m c 3 t (ix2 k j) = V m c main_v3 (ix2 k j) := by
  blk_simp [iblk]
  congr 1
  blk_ext [ind3]
  all_goals rfl
theorem blk4 (t : Fin cfg0.N) (j : Fin 1024) : iblk m c 4 t (ix2 0 j) = V m c main_v4 (ix2 0 j) := by
  blk_simp [iblk]
  congr 1
  blk_ext [ind4]
  all_goals rfl
theorem blk5 (t : Fin cfg0.N) (j : Fin 1024) : iblk m c 5 t (ix2 0 j) = V m c main_v5 (ix2 0 j) := by
  blk_simp [iblk]
  congr 1
  blk_ext [ind5]
  all_goals rfl

/-- A row of an activation. -/
def line (x : FVec Ideal S4x8192x1024 .f32) (r : Fin 32768) (k : Fin 1024) : EReal :=
  x (ix3 (⟨r.val / 8192, by omega⟩ : Fin 4) (⟨r.val % 8192, by omega⟩ : Fin 8192) k)

/-- The result. -/
def out (y z x : FVec Ideal S4x8192x1024 .f32) (w : FVec Ideal S1024x1024 .f32) (g b : FVec Ideal S1024 .f32) : FVec Ideal S32768x1024 .f32 :=
  fun i => norm (resid (line y (i 0)) (line z (i 0)) (line x (i 0)) w) (g (ix1 (i 1 : Fin 1024))) (b (ix1 (i 1 : Fin 1024))) (i 1)

theorem pair (n0 n1 : ℕ) (i : (⟨2, ![n0, n1]⟩ : Shape).Idx) : i = ix2 (i 0) (i 1) := by
  funext a
  match a with
  | ⟨0, _⟩ => rfl
  | ⟨1, _⟩ => rfl

/-- Arrays of the launch. -/
abbrev ay : FVec Ideal S4x8192x1024 .f32 := m ((c : Thread nD τ).loc main_arg0)
abbrev az : FVec Ideal S4x8192x1024 .f32 := m ((c : Thread nD τ).loc main_arg1)
abbrev ax : FVec Ideal S4x8192x1024 .f32 := m ((c : Thread nD τ).loc main_arg2)
abbrev aw : FVec Ideal S1024x1024 .f32 := m ((c : Thread nD τ).loc main_arg3)
abbrev ag : FVec Ideal S1024 .f32 := m ((c : Thread nD τ).loc main_arg4)
abbrev ab : FVec Ideal S1024 .f32 := m ((c : Thread nD τ).loc main_arg5)

theorem emb6 (t : Fin cfg0.N) (p : Fin 256) (j : Fin 1024) : (win0_6.blk t).view.emb (ix2 p j) = ix2 (row t p) j := by
  blk_ext [ind6]
  all_goals rfl

theorem norm_congr {y y' z z' x x' : Fin 1024 → EReal} {w w' : FVec Ideal S1024x1024 .bf16} {g g' b b' : EReal} (j : Fin 1024)
    (hy : ∀ k, y k = y' k) (hz : ∀ k, z k = z' k) (hx : ∀ k, x k = x' k) (hw : ∀ k l : Fin 1024, w (ix2 k l) = w' (ix2 k l)) (hg : g = g') (hb : b = b') :
    norm (resid y z x w) g b j = norm (resid y' z' x' w') g' b' j := by
  obtain rfl : y = y' := funext hy
  obtain rfl : z = z' := funext hz
  obtain rfl : x = x' := funext hx
  obtain rfl : w = w' := funext fun i => by rw [pair 1024 1024 i]; exact hw _ _
  rw [hg, hb]

theorem point (t : Fin cfg0.N) (p : Fin 256) (j : Fin 1024) :
    k0_pay1 (iblk m c 0 t) (iblk m c 1 t) (iblk m c 2 t) (iblk m c 3 t) (iblk m c 4 t) (iblk m c 5 t) (ix2 p j)
      = out (ay m c) (az m c) (ax m c) (aw m c) (ag m c) (ab m c) (ix2 (row t p) j) := by
  refine (pay_at _ _ _ _ _ _ p j).trans ?_
  exact norm_congr j (fun k => (blk0 m c t p k).trans (V_y m c _ k)) (fun k => (blk1 m c t p k).trans (V_z m c _ k))
    (fun k => (blk2 m c t p k).trans (V_x m c _ k)) (fun k l => (blk3 m c t k l).trans (congrFun (V_w m c) _))
    ((blk4 m c t j).trans (V_g m c j)) ((blk5 m c t j).trans (V_b m c j))

theorem final6 : (dats m 0 c).arrAt 6 cfg0.N = out (ay m c) (az m c) (ax m c) (aw m c) (ag m c) (ab m c) := by
  refine (dats m 0 c).arrAt_eq_of_covers 6 _ (by decide +kernel) fun t hf y => ?_
  blk_simp
  rw [after0_6]
  frame_out
  obtain ⟨p, j, rfl⟩ : ∃ (p : Fin 256) (j : Fin 1024), y = ix2 p j := ⟨y 0, y 1, pair 256 1024 y⟩
  exact (point m c t p j).trans (congrArg (out (ay m c) (az m c) (ax m c) (aw m c) (ag m c) (ab m c)) (emb6 t p j).symm)

end Cert.OutLnIdeal.Val

namespace Cert.OutLnRefIdeal.Val

open Cert.OutLnRefIdeal Cert.OutLnRefIdeal.Gen Cert.OutLnIdeal.Val
open Idealize.ShloMosaic Idealize.ShloMosaic.TcCoe Idealize.SL.Sem

theorem ref (m : (ℓ : Loc nD τ sig) → Buf (Elt Ideal) ℓ) (c : Dev nD) : Cert.OutLnRefIdeal.Value.res_main_v30 m c
    = out (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := by
  funext i
  obtain ⟨r, j, rfl⟩ : ∃ (r : Fin 32768) (j : Fin 1024), i = ix2 r j := ⟨i 0, i 1, pair _ _ i⟩
  unfold Cert.OutLnRefIdeal.Value.res_main_v30
  generalize m ((c.tc : Thread nD τ).loc main_arg0) = y
  generalize m ((c.tc : Thread nD τ).loc main_arg1) = z
  generalize m ((c.tc : Thread nD τ).loc main_arg2) = x
  generalize m ((c.tc : Thread nD τ).loc main_arg3) = w
  generalize m ((c.tc : Thread nD τ).loc main_arg4) = g
  generalize m ((c.tc : Thread nD τ).loc main_arg5) = b
  pointwise
  rfl

end Cert.OutLnRefIdeal.Val
-- ==== Proof.Val.Rope.lean ====
/-
  The rotary embedding of the projections: the reference's rotation of the first sixteen entries of a head, and the kernel's
  form of it, a 128-lane tile turned both ways and multiplied by three tables.
-/
module

public import Idealize.ShloMosaic.Lib.Pointwise
public import Idealize.ShloMosaic.Lib.IdealHost
public import Idealize.ShloMosaic.Lib.ValueIdxCore

@[expose] public section

noncomputable section

namespace Cert.Rope

open Idealize.ShloMosaic

/-- A row with its heads' first sixteen entries rotated, at column `j`; heads are 64 wide. -/
def rope (y : ℕ → EReal) (c s : Fin 8 → EReal) (j : ℕ) : EReal :=
  if j % 64 < 8 then y j * c ⟨j % 8, by omega⟩ - y (j + 8) * s ⟨j % 8, by omega⟩
  else if j % 64 < 16 then y j * c ⟨j % 8, by omega⟩ + y (j - 8) * s ⟨j % 8, by omega⟩
  else y j

/-- The three tables at a lane. -/
def tabC (c : Fin 8 → EReal) (l : ℕ) : EReal := if l % 64 < 16 then c ⟨l % 8, by omega⟩ else 1
def tabS1 (s : Fin 8 → EReal) (l : ℕ) : EReal := if l % 64 < 8 then - s ⟨l % 8, by omega⟩ else 0
def tabS2 (s : Fin 8 → EReal) (l : ℕ) : EReal := if 8 ≤ l % 64 ∧ l % 64 < 16 then s ⟨l % 8, by omega⟩ else 0

theorem rope_tile (y : ℕ → EReal) (c s : Fin 8 → EReal) (T l : ℕ) (hl : l < 128) :
    y (128 * T + l) * tabC c l + y (128 * T + (l + 8) % 128) * tabS1 s l + y (128 * T + (l + 120) % 128) * tabS2 s l
      = rope y c s (128 * T + l) := by
  have e8 : (⟨(128 * T + l) % 8, by omega⟩ : Fin 8) = ⟨l % 8, by omega⟩ := Fin.ext (by show (128 * T + l) % 8 = l % 8; omega)
  have e64 : (128 * T + l) % 64 = l % 64 := by omega
  unfold rope tabC tabS1 tabS2
  rw [e64, e8]
  by_cases h8 : l % 64 < 8
  · rw [if_pos h8, if_pos h8, if_pos (by omega), if_neg (by omega), mul_zero, add_zero, mul_neg, ← sub_eq_add_neg,
      show 128 * T + (l + 8) % 128 = 128 * T + l + 8 by omega]
  · by_cases h16 : l % 64 < 16
    · rw [if_neg h8, if_neg h8, if_pos h16, if_pos h16, if_pos (by omega), mul_zero, add_zero,
        show 128 * T + (l + 120) % 128 = 128 * T + l - 8 by omega]
    · rw [if_neg h8, if_neg h8, if_neg h16, if_neg h16, if_neg (by omega), mul_zero, mul_zero, add_zero, add_zero, mul_one]

/-- A row cut into tiles of 128 lanes, each turned both ways and multiplied by three tables, at column `j`. -/
def turn (y c s1 s2 : ℕ → EReal) (j : ℕ) : EReal :=
  y j * c (j % 128) + y (128 * (j / 128) + (j % 128 + 8) % 128) * s1 (j % 128)
    + y (128 * (j / 128) + (j % 128 + 120) % 128) * s2 (j % 128)

theorem rope_turn (y : ℕ → EReal) (c s : Fin 8 → EReal) (j : ℕ) : turn y (tabC c) (tabS1 s) (tabS2 s) j = rope y c s j := by
  have h := rope_tile y c s (j / 128) (j % 128) (by omega)
  rw [show 128 * (j / 128) + j % 128 = j by omega] at h
  exact h

theorem turn_congr {y y' c c' s1 s1' s2 s2' : ℕ → EReal} {N j : ℕ} (hN : N % 128 = 0) (hj : j < N) (hy : ∀ n < N, y n = y' n)
    (hc : ∀ l < 128, c l = c' l) (h1 : ∀ l < 128, s1 l = s1' l) (h2 : ∀ l < 128, s2 l = s2' l) : turn y c s1 s2 j = turn y' c' s1' s2' j := by
  unfold turn
  rw [hy _ hj, hc _ (by omega), h1 _ (by omega), h2 _ (by omega), hy _ (by omega), hy _ (by omega)]

/-- The angle of position `t` and frequency `f`. -/
def ang (t f : ℕ) : EReal :=
  FloatOps.sitofp (F := Ideal) .f32 (BitVec.ofNat 32 t) *
    Ideal.pow (Ideal.ofBits .f32 0x48F42400#32)
      (Ideal.div (-(Ideal.ofBits .f32 0x40000000#32 * FloatOps.sitofp (F := Ideal) .f32 (BitVec.ofNat 32 f))) (Ideal.ofBits .f32 0x41800000#32))

/-- An element of the product of the activations and the weights. -/
def prd {W : ℕ} [NeZero W] (x : (⟨3, ![4, 8192, 1024]⟩ : Shape).Idx → EReal) (w : (⟨2, ![1024, W]⟩ : Shape).Idx → EReal) (b : Fin 4) (t : Fin 8192) (n : ℕ) : EReal :=
  ∑ k : Fin 1024, x (ix3 b t k) * w (ix2 k (Fin.ofNat W n))

theorem prd_eq {W : ℕ} [NeZero W] (x : (⟨3, ![4, 8192, 1024]⟩ : Shape).Idx → EReal) (w : (⟨2, ![1024, W]⟩ : Shape).Idx → EReal) (b : Fin 4) (t : Fin 8192) {n n' : ℕ}
    (h : n < W) (e : n = n') :
    ∑ k : Fin 1024, x (ix3 b t k) * w (ix2 k ⟨n, h⟩) = prd x w b t n' := by
  subst e
  unfold prd
  rw [show Fin.ofNat W n = ⟨n, h⟩ from Fin.ext (Nat.mod_eq_of_lt h)]

/-- The product with its heads rotated, from column `o` of the weights. -/
def roped {W : ℕ} [NeZero W] (x : (⟨3, ![4, 8192, 1024]⟩ : Shape).Idx → EReal) (w : (⟨2, ![1024, W]⟩ : Shape).Idx → EReal) (o : ℕ) (b : Fin 4) (t : Fin 8192) (j : ℕ) : EReal :=
  rope (fun n => prd x w b t (o + n)) (fun f => Ideal.cos (ang (t.val) f.val)) (fun f => Ideal.sin (ang (t.val) f.val)) j

/-- The reference's form of it. -/
theorem roped_of {W : ℕ} [NeZero W] (x : (⟨3, ![4, 8192, 1024]⟩ : Shape).Idx → EReal) (w : (⟨2, ![1024, W]⟩ : Shape).Idx → EReal) (o : ℕ) (b : Fin 4) (t : Fin 8192) (j : ℕ)
    (f : ℕ → EReal) (hf : ∀ n, n < 64 * (j / 64) + 64 → f n = prd x w b t (o + n)) :
    (if j % 64 < 8 then
      f j * Ideal.cos (ang (t.val) (j % 64)) - f (j / 64 * 64 + (8 + j % 64)) * Ideal.sin (ang (t.val) (j % 64))
    else if j % 64 - 8 < 8 then
      f (j / 64 * 64 + (8 + (j % 64 - 8))) * Ideal.cos (ang (t.val) (j % 64 - 8)) + f (j / 64 * 64 + (j % 64 - 8)) * Ideal.sin (ang (t.val) (j % 64 - 8))
    else f (j / 64 * 64 + (16 + (j % 64 - 8 - 8)))) = roped x w o b t j := by
  unfold roped rope
  by_cases h8 : j % 64 < 8
  · rw [if_pos h8, if_pos h8, hf _ (by omega), hf _ (by omega), show j / 64 * 64 + (8 + j % 64) = j + 8 by omega,
      show j % 64 = j % 8 by omega]
  · by_cases h16 : j % 64 < 16
    · rw [if_neg h8, if_neg h8, if_pos h16, if_pos (by omega), hf _ (by omega), hf _ (by omega), show j / 64 * 64 + (8 + (j % 64 - 8)) = j by omega,
        show j / 64 * 64 + (j % 64 - 8) = j - 8 by omega, show j % 64 - 8 = j % 8 by omega]
    · rw [if_neg h8, if_neg h8, if_neg h16, if_neg (by omega), hf _ (by omega), show j / 64 * 64 + (16 + (j % 64 - 8 - 8)) = j by omega]

/-- A tile of a product's rows, turned: the row's form. -/
theorem turn_of {N : ℕ} [NeZero N] (y : (⟨2, ![512, N]⟩ : Shape).Idx → EReal) (c s1 s2 : (⟨2, ![512, 128]⟩ : Shape).Idx → EReal) (p : Fin 512) (T : ℕ) (l : Fin 128)
    (h : 128 * T + 128 ≤ N) :
    y (ix2 p ⟨128 * T + l.val, by omega⟩) * c (ix2 p l) + y (ix2 p ⟨128 * T + (l.val + 8) % 128, by omega⟩) * s1 (ix2 p l)
        + y (ix2 p ⟨128 * T + (l.val + 120) % 128, by omega⟩) * s2 (ix2 p l)
      = turn (fun n => y (ix2 p (Fin.ofNat N n))) (fun l => c (ix2 p (Fin.ofNat 128 l))) (fun l => s1 (ix2 p (Fin.ofNat 128 l)))
          (fun l => s2 (ix2 p (Fin.ofNat 128 l))) (128 * T + l.val) := by
  unfold turn
  have e : ∀ n (hn : n < N), Fin.ofNat N n = ⟨n, hn⟩ := fun n hn => Fin.ext (Nat.mod_eq_of_lt hn)
  have el : Fin.ofNat 128 l.val = l := Fin.ext (Nat.mod_eq_of_lt l.isLt)
  rw [show (128 * T + l.val) % 128 = l.val by omega, show (128 * T + l.val) / 128 = T by omega]
  simp only [el]
  rw [e _ (by omega), e _ (by omega), e _ (by omega)]

/-- The columns of an array of eight, taken by an index for each of 128 lanes. -/
abbrev laneDims (wf : GatherDims.WF ⟨2, ![8192, 8]⟩ ⟨2, ![128, 1]⟩ ⟨2, ![8192, 128]⟩ [0] [1] [] [1] [] 1 ![8192, 1]) :
    GatherDims ⟨2, ![8192, 8]⟩ ⟨2, ![128, 1]⟩ ⟨2, ![8192, 128]⟩ where
  offsetDims := [0]
  collapsedSliceDims := [1]
  operandBatchingDims := []
  startIndicesBatchingDims := []
  startIndexMap := [1]
  indexVectorDim := 1
  sliceSizes := ![8192, 1]
  wf := wf

theorem lanes_at {α : Type} (wf : GatherDims.WF ⟨2, ![8192, 8]⟩ ⟨2, ![128, 1]⟩ ⟨2, ![8192, 128]⟩ [0] [1] [] [1] [] 1 ![8192, 1])
    (x : (⟨2, ![8192, 8]⟩ : Shape).Idx → α) (idx : IVec ⟨2, ![128, 1]⟩ 32) (t : Fin 8192) (l : Fin 128) :
    Host.gather (laneDims wf) x idx (ix2 t l) = x (ix2 t ⟨min (idx (ix2 l 0)).toInt.toNat 7, by omega⟩) := by
  unfold Host.gather
  congr 1
  funext a
  refine Fin.ext ?_
  show (laneDims wf).start (ix2 t l) idx a + (laneDims wf).batchCoord (ix2 t l) a + (laneDims wf).offCoord (ix2 t l) a = _
  rw [GatherDims.batchCoord_eq_zero _ _ _ List.not_mem_nil]
  match a with
  | ⟨0, _⟩ =>
    have h0 : (laneDims wf).start (ix2 t l) idx (0 : Fin 2) = 0 := by
      unfold GatherDims.start
      rw [dif_neg (show ¬ (0 : Fin 2) ∈ (laneDims wf).startIndexMap from fun h => by rcases List.mem_singleton.mp h with h; exact absurd h (by decide))]
    refine (congrArg (· + 0 + (laneDims wf).offCoord (ix2 t l) (0 : Fin 2)) h0).trans ?_
    rw [Nat.zero_add]
    rfl
  | ⟨1, _⟩ =>
    have h1 : (laneDims wf).offCoord (ix2 t l) (1 : Fin 2) = 0 :=
      GatherDims.offCoord_eq_zero _ _ _ (fun h => ((GatherDims.mem_sKept _ _).mp h).1 (List.mem_singleton.mpr rfl))
    refine (congrArg ((laneDims wf).start (ix2 t l) idx (1 : Fin 2) + 0 + ·) h1).trans ?_
    rw [Nat.add_zero]
    unfold GatherDims.start
    rw [dif_pos (show (1 : Fin 2) ∈ (laneDims wf).startIndexMap from List.mem_singleton.mpr rfl)]
    have hsi : (laneDims wf).siIdx (ix2 t l) ⟨List.idxOf (1 : Fin 2) (laneDims wf).startIndexMap,
        List.idxOf_lt_length_iff.2 (List.mem_singleton.mpr rfl)⟩ = ix2 l 0 := by
      funext b; refine Fin.ext ?_
      match b with
      | ⟨0, _⟩ => rfl
      | ⟨1, _⟩ => rfl
    rw [hsi]
    rfl

end Cert.Rope

end
-- ==== Proof.Val.MobaProj.lean ====
/-
  The block-attention layer's projection: what one grid point stores, and the five result arrays against the reference's.
-/
module

public import proofs.«01_k».proof.Proof.Gen.MobaProjIdeal.Value
public import proofs.«01_k».proof.Proof.Gen.MobaProjRefIdeal.Run
public import proofs.«01_k».proof.Proof.Val.Rope
public import Idealize.ShloMosaic.Lib.Pointwise
public import Idealize.ShloMosaic.Lib.IdealHost
public import Idealize.ShloMosaic.Lib.Pipeline.ValueKit

@[expose] public section
set_option maxRecDepth 16384

noncomputable section
namespace Cert.MobaProjIdeal.Val
open Cert.MobaProjIdeal Cert.MobaProjIdeal.Gen Cert.Rope
open Idealize.ShloMosaic Idealize.ShloMosaic.TcCoe Idealize.SL.Sem
variable (m : (ℓ : Loc nD τ sig) → Buf (Elt Ideal) ℓ) (c : Dev nD)

/-- The angles of the embedding. -/
def angles : FVec Ideal S8192x8 .f32 :=
  mulf (broadcastInDim S8192x8 ![0, 1] bcast_S8192x1_S8192x8_0_1 (broadcastInDim S8192x1 ![0] bcast_S8192_S8192x1_0 (sitofp .f32 (iotaInDim S8192 32 0))))
    (broadcastInDim S8192x8 ![0, 1] bcast_S1x8_S8192x8_0_1 (broadcastInDim S1x8 ![1] bcast_S8_S1x8_1
      (Host.powf (broadcastInDim S8 ![] bcast_S_S8 (constant S_ .f32 0x48F42400#32))
        (Host.divf (Host.negf (addf (broadcastInDim S8 ![] bcast_S_S8 (constant S_ .f32 0x00000000#32))
          (mulf (broadcastInDim S8 ![] bcast_S_S8 (constant S_ .f32 0x40000000#32)) (sitofp .f32 (iotaInDim S8 32 0)))))
          (broadcastInDim S8 ![] bcast_S_S8 (constant S_ .f32 0x41800000#32))))))

/-- The lane's angle, as printed. -/
def lanes : IVec S128x1 32 :=
  broadcastInDim S128x1 ![0] bcast_S128_S128x1_0
    (select (cmpi .slt (fun i => lit0 (S128.rowMajor i)) (broadcastInDim S128 ![] bcast_S_S128 (constantI S_ 32 0#32)))
      (addi (fun i => lit0 (S128.rowMajor i)) (broadcastInDim S128 ![] bcast_S_S128 (constantI S_ 32 8#32)))
      fun i => lit0 (S128.rowMajor i))

theorem lanes_eq : ∀ l : Fin 128, (⟨min (lanes (ix2 l 0)).toInt.toNat 7, by omega⟩ : Fin 8) = ⟨l.val % 8, by omega⟩ := by
  decide +kernel

theorem mask1 : ∀ l : Fin 128, lit1 (S128.rowMajor (ix1 l)) = if l.val % 64 < 16 then 1#1 else 0#1 := by decide +kernel
theorem mask2 : ∀ l : Fin 128, lit2 (S128.rowMajor (ix1 l)) = if l.val % 64 < 8 then 1#1 else 0#1 := by decide +kernel
theorem mask3 : ∀ l : Fin 128, lit3 (S128.rowMajor (ix1 l)) = if 8 ≤ l.val % 64 ∧ l.val % 64 < 16 then 1#1 else 0#1 := by decide +kernel

/-- The tables of the kernel. -/
theorem table_at (mask : Fin 128 → BitVec 1) (x : FVec Ideal S8192x8 .f32) (k : BitVec 32) (t : Fin 8192) (l : Fin 128) :
    select (broadcastInDim S8192x128 ![0, 1] bcast_S1x128_S8192x128_0_1 (broadcastInDim S1x128 ![1] bcast_S128_S1x128_1 fun i => mask (S128.rowMajor i)))
      (Host.gather gather_S8192x8_S128x1_S8192x128_0_1_n_n_1_1_81921 x lanes)
      (broadcastInDim S8192x128 ![] bcast_S_S8192x128 (constant S_ .f32 k)) (ix2 t l)
     = if mask (S128.rowMajor (ix1 l)) = 1#1 then x (ix2 t ⟨l.val % 8, by omega⟩) else Ideal.ofBits .f32 k := by
  have h := (lanes_at gather_S8192x8_S128x1_S8192x128_0_1_n_n_1_1_81921_wf x lanes t l).trans (congrArg (fun i => x (ix2 t i)) (lanes_eq l))
  rw [← h]
  rfl

theorem angles_at (t : Fin 8192) (f : Fin 8) : angles (ix2 t f) = ang t.val f.val := by
  unfold angles
  pointwise
  rfl

def tileRope (y : Vec Ideal S512x1024 .f32) (c s1 s2 : Vec Ideal S512x128 .f32) (p : Fin 512) (T : ℕ) (l : Fin 128) (h : 128 * T + 128 ≤ 1024) : EReal :=
  y (ix2 p ⟨128 * T + l.val, by omega⟩) * c (ix2 p l) + y (ix2 p ⟨128 * T + (l.val + 8) % 128, by omega⟩) * s1 (ix2 p l)
        + y (ix2 p ⟨128 * T + (l.val + 120) % 128, by omega⟩) * s2 (ix2 p l)

theorem cat (v0 v1 v2 v3 v4 v5 v6 v7 : FVec Ideal S512x128 .f32) (h) (p : Fin 512) (T : Fin 8) (l : Fin 128) :
    concatenate S512x1024 1 [⟨S512x128, v0⟩, ⟨S512x128, v1⟩, ⟨S512x128, v2⟩, ⟨S512x128, v3⟩, ⟨S512x128, v4⟩, ⟨S512x128, v5⟩, ⟨S512x128, v6⟩, ⟨S512x128, v7⟩] h
      (ix2 p (⟨128 * T.val + l.val, by omega⟩ : Fin 1024)) = (![v0, v1, v2, v3, v4, v5, v6, v7] T) (ix2 p l) := by
  pointwise
  fin_cases T <;> (simp only; )
  all_goals (repeat first | rw [dif_pos (by omega)] | rw [dif_neg (by omega)])
  all_goals (first | rfl | (refine congrArg _ (congrArg (ix2 p) (Fin.ext ?_)); (dsimp only; omega)))

theorem q_at (c s1 s2 : Vec Ideal S512x128 .f32) (x0 : Vec Ideal S512x1024 .f32) (w : Vec Ideal S1024x1024 .bf16) (p : Fin 512) (T : Fin 8) (l : Fin 128) :
    k0_pay14 (k0_pay2 c) (k0_pay3 s1) (k0_pay4 s2) (k0_pay6 x0 w) (k0_pay7 c s1 s2 x0 w) (k0_pay8 c s1 s2 x0 w) (k0_pay9 c s1 s2 x0 w) (k0_pay11 x0 w) (k0_pay12 x0 w)
      (k0_pay13 c x0 w) (ix2 p (⟨128 * T.val + l.val, by omega⟩ : Fin 1024))
     = tileRope (k0_pay6 x0 w) c s1 s2 p T.val l (by omega) * (((Real.log 256)⁻¹ : ℝ) : EReal) := by
  unfold k0_pay14 k0_pay13 k0_pay12 k0_pay11 k0_pay10 k0_pay9 k0_pay8 k0_pay7 k0_pay4 k0_pay3 k0_pay2
  generalize k0_pay6 x0 w = y
  dsimp only
  refine congrArg (· * (((Real.log 256)⁻¹ : ℝ) : EReal)) ((cat _ _ _ _ _ _ _ _ _ p T l).trans ?_)
  fin_cases T
  all_goals (dsimp only [Matrix.cons_val])
  all_goals (pointwise; first | rfl | (unfold tileRope; simp only [Nat.mul_zero, Nat.zero_add]; rfl))

/-- The rotated keys of a tile. -/
def keys (c s1 s2 : Vec Ideal S512x128 .f32) (x0 : Vec Ideal S512x1024 .f32) (w : Vec Ideal S1024x1024 .bf16) : FVec Ideal S512x1024 .f32 :=
  let y := k0_pay15 (k0_pay5 x0) w
  k0_pay24 (k0_pay2 c) (k0_pay3 s1) (k0_pay4 s2) y
    (k0_pay17 (k0_pay2 c) (k0_pay3 s1) (k0_pay4 s2) (k0_pay16 (k0_pay5 x0) w)) (k0_pay18 (k0_pay2 c) (k0_pay3 s1) (k0_pay4 s2) y)
    (k0_pay19 (k0_pay2 c) (k0_pay3 s1) (k0_pay4 s2) y) (k0_pay20 (k0_pay2 c) (k0_pay3 s1) (k0_pay4 s2) y)
    (k0_pay21 (k0_pay2 c) (k0_pay3 s1) (k0_pay4 s2) y) (k0_pay22 (k0_pay2 c) (k0_pay3 s1) (k0_pay4 s2) y) (k0_pay23 y)

theorem keys_at (c s1 s2 : Vec Ideal S512x128 .f32) (x0 : Vec Ideal S512x1024 .f32) (w : Vec Ideal S1024x1024 .bf16) (p : Fin 512) (T : Fin 8) (l : Fin 128) :
    keys c s1 s2 x0 w (ix2 p (⟨128 * T.val + l.val, by omega⟩ : Fin 1024)) = tileRope (k0_pay15 (k0_pay5 x0) w) c s1 s2 p T.val l (by omega) := by
  unfold keys k0_pay24 k0_pay23 k0_pay22 k0_pay21 k0_pay20 k0_pay19 k0_pay18 k0_pay17 k0_pay16 k0_pay4 k0_pay3 k0_pay2
  generalize k0_pay15 (k0_pay5 x0) w = y
  dsimp only
  refine (cat _ _ _ _ _ _ _ _ _ p T l).trans ?_
  fin_cases T
  all_goals (dsimp only [Matrix.cons_val])
  all_goals (pointwise; first | rfl | (unfold tileRope; simp only [Nat.mul_zero, Nat.zero_add]; rfl))

/-- Two columns of the mean, from the rotated keys. -/
theorem mean_lo (c s1 s2 : Vec Ideal S512x128 .f32) (x0 : Vec Ideal S512x1024 .f32) (w : Vec Ideal S1024x1024 .bf16) (j : Fin 1024) :
  k0_pay26 (k0_pay2 c) (k0_pay3 s1) (k0_pay4 s2) (k0_pay15 (k0_pay5 x0) w)
    (k0_pay17 (k0_pay2 c) (k0_pay3 s1) (k0_pay4 s2) (k0_pay16 (k0_pay5 x0) w)) (k0_pay18 (k0_pay2 c) (k0_pay3 s1) (k0_pay4 s2) (k0_pay15 (k0_pay5 x0) w))
    (k0_pay19 (k0_pay2 c) (k0_pay3 s1) (k0_pay4 s2) (k0_pay15 (k0_pay5 x0) w)) (k0_pay20 (k0_pay2 c) (k0_pay3 s1) (k0_pay4 s2) (k0_pay15 (k0_pay5 x0) w))
    (k0_pay21 (k0_pay2 c) (k0_pay3 s1) (k0_pay4 s2) (k0_pay15 (k0_pay5 x0) w)) (k0_pay22 (k0_pay2 c) (k0_pay3 s1) (k0_pay4 s2) (k0_pay15 (k0_pay5 x0) w)) (k0_pay23 (k0_pay15 (k0_pay5 x0) w))
    (ix3 (0 : Fin 1) (0 : Fin 1) j) = (∑ q : Fin 256, keys c s1 s2 x0 w (ix2 (⟨q.val, by omega⟩ : Fin 512) j)) * Ideal.ofBits .f32 0x3B800000#32 := by
  unfold k0_pay26
  show _ = (∑ q : Fin 256, k0_pay24 _ _ _ _ _ _ _ _ _ _ _ (ix2 (⟨q.val, by omega⟩ : Fin 512) j)) * Ideal.ofBits .f32 0x3B800000#32
  generalize k0_pay24 (k0_pay2 c) (k0_pay3 s1) (k0_pay4 s2) _ _ _ _ _ _ _ _ = y
  pointwise

theorem mean_hi (c s1 s2 : Vec Ideal S512x128 .f32) (x0 : Vec Ideal S512x1024 .f32) (w : Vec Ideal S1024x1024 .bf16) (j : Fin 1024) :
  k0_pay27 (k0_pay2 c) (k0_pay3 s1) (k0_pay4 s2) (k0_pay15 (k0_pay5 x0) w)
    (k0_pay17 (k0_pay2 c) (k0_pay3 s1) (k0_pay4 s2) (k0_pay16 (k0_pay5 x0) w)) (k0_pay18 (k0_pay2 c) (k0_pay3 s1) (k0_pay4 s2) (k0_pay15 (k0_pay5 x0) w))
    (k0_pay19 (k0_pay2 c) (k0_pay3 s1) (k0_pay4 s2) (k0_pay15 (k0_pay5 x0) w)) (k0_pay20 (k0_pay2 c) (k0_pay3 s1) (k0_pay4 s2) (k0_pay15 (k0_pay5 x0) w))
    (k0_pay21 (k0_pay2 c) (k0_pay3 s1) (k0_pay4 s2) (k0_pay15 (k0_pay5 x0) w)) (k0_pay22 (k0_pay2 c) (k0_pay3 s1) (k0_pay4 s2) (k0_pay15 (k0_pay5 x0) w)) (k0_pay23 (k0_pay15 (k0_pay5 x0) w))
    (ix3 (0 : Fin 1) (0 : Fin 1) j) = (∑ q : Fin 256, keys c s1 s2 x0 w (ix2 (⟨256 + q.val, by omega⟩ : Fin 512) j)) * Ideal.ofBits .f32 0x3B800000#32 := by
  unfold k0_pay27
  show _ = (∑ q : Fin 256, k0_pay24 _ _ _ _ _ _ _ _ _ _ _ (ix2 (⟨256 + q.val, by omega⟩ : Fin 512) j)) * Ideal.ofBits .f32 0x3B800000#32
  generalize k0_pay24 (k0_pay2 c) (k0_pay3 s1) (k0_pay4 s2) _ _ _ _ _ _ _ _ = y
  pointwise

theorem pay6_at (x0 : Vec Ideal S512x1024 .f32) (w : Vec Ideal S1024x1024 .bf16) (p : Fin 512) (j : Fin 1024) :
    k0_pay6 x0 w (ix2 p j) = ∑ k : Fin 1024, x0 (ix2 p k) * w (ix2 k j) := by
  unfold_payloads
  pointwise
theorem pay15_at (x0 : Vec Ideal S512x1024 .f32) (w : Vec Ideal S1024x1024 .bf16) (p : Fin 512) (j : Fin 1024) :
    k0_pay15 (k0_pay5 x0) w (ix2 p j) = ∑ k : Fin 1024, x0 (ix2 p k) * w (ix2 k j) := by
  unfold_payloads
  pointwise
theorem pay28_at (x0 : Vec Ideal S512x1024 .f32) (w : Vec Ideal S1024x1024 .bf16) (p : Fin 512) (j : Fin 1024) :
    k0_pay28 (k0_pay5 x0) w (ix2 p j) = ∑ k : Fin 1024, x0 (ix2 p k) * w (ix2 k j) := by
  unfold_payloads
  pointwise
theorem pay1_at (x0 : Vec Ideal S512x1024 .f32) (w : Vec Ideal S1024x1024 .bf16) (p : Fin 512) (j : Fin 1024) :
    k0_pay1 (k0_pay5 x0) w (ix2 p j) = ∑ k : Fin 1024, x0 (ix2 p k) * w (ix2 k j) := by
  unfold_payloads
  pointwise

theorem V_c (t : Fin 8192) (l : Fin 128) : V m c main_v33 (ix2 t l) = tabC (fun f => Ideal.cos (ang t.val f.val)) l.val := by
  have h : V m c main_v33 = select (broadcastInDim S8192x128 ![0, 1] bcast_S1x128_S8192x128_0_1 (broadcastInDim S1x128 ![1] bcast_S128_S1x128_1 fun i => lit1 (S128.rowMajor i)))
      (Host.gather gather_S8192x8_S128x1_S8192x128_0_1_n_n_1_1_81921 (Host.cos angles) lanes)
      (broadcastInDim S8192x128 ![] bcast_S_S8192x128 (constant S_ .f32 0x3F800000#32)) := by
    unfold V
    simp only [hostOps0, hostOps0_1, hostOps0_2, hostOps0_3, hostOps0_4, hostOps0_5, hostOps0_6, List.flatten_cons, List.flatten_nil, List.append_nil, List.cons_append, List.nil_append]
    after_results_simp <;> rfl
  rw [h]; refine (table_at lit1 (Host.cos angles) _ t l).trans ?_; rw [mask1]
  unfold tabC
  split_ifs
  all_goals first | contradiction | (exact congrArg Ideal.cos (angles_at _ _)) | (simp [Ideal.ofBits, Ideal.ieee, -EReal.coe_mul]; norm_num; done) | (simp [Ideal.ofBits, Ideal.ieee]; done)

theorem V_s1 (t : Fin 8192) (l : Fin 128) : V m c main_v36 (ix2 t l) = tabS1 (fun f => Ideal.sin (ang t.val f.val)) l.val := by
  have h : V m c main_v36 = select (broadcastInDim S8192x128 ![0, 1] bcast_S1x128_S8192x128_0_1 (broadcastInDim S1x128 ![1] bcast_S128_S1x128_1 fun i => lit2 (S128.rowMajor i)))
      (Host.negf (Host.gather gather_S8192x8_S128x1_S8192x128_0_1_n_n_1_1_81921 (Host.sin angles) lanes))
      (broadcastInDim S8192x128 ![] bcast_S_S8192x128 (constant S_ .f32 0x00000000#32)) := by
    unfold V
    simp only [hostOps0, hostOps0_1, hostOps0_2, hostOps0_3, hostOps0_4, hostOps0_5, hostOps0_6, List.flatten_cons, List.flatten_nil, List.append_nil, List.cons_append, List.nil_append]
    after_results_simp <;> rfl
  rw [h]; refine (table_at lit2 (Host.negf (Host.sin angles)) _ t l).trans ?_; rw [mask2]
  unfold tabS1
  split_ifs
  all_goals first | contradiction | (exact congrArg (fun a => - Ideal.sin a) (angles_at _ _)) | (simp [Ideal.ofBits, Ideal.ieee, -EReal.coe_mul]; norm_num; done) | (simp [Ideal.ofBits, Ideal.ieee]; done)

theorem V_s2 (t : Fin 8192) (l : Fin 128) : V m c main_v38 (ix2 t l) = tabS2 (fun f => Ideal.sin (ang t.val f.val)) l.val := by
  have h : V m c main_v38 = select (broadcastInDim S8192x128 ![0, 1] bcast_S1x128_S8192x128_0_1 (broadcastInDim S1x128 ![1] bcast_S128_S1x128_1 fun i => lit3 (S128.rowMajor i)))
      (Host.gather gather_S8192x8_S128x1_S8192x128_0_1_n_n_1_1_81921 (Host.sin angles) lanes)
      (broadcastInDim S8192x128 ![] bcast_S_S8192x128 (constant S_ .f32 0x00000000#32)) := by
    unfold V
    simp only [hostOps0, hostOps0_1, hostOps0_2, hostOps0_3, hostOps0_4, hostOps0_5, hostOps0_6, List.flatten_cons, List.flatten_nil, List.append_nil, List.cons_append, List.nil_append]
    after_results_simp <;> rfl
  rw [h]; refine (table_at lit3 (Host.sin angles) _ t l).trans ?_; rw [mask3]
  unfold tabS2
  split_ifs
  all_goals first | contradiction | (exact congrArg Ideal.sin (angles_at _ _)) | (simp [Ideal.ofBits, Ideal.ieee, -EReal.coe_mul]; norm_num; done) | (simp [Ideal.ofBits, Ideal.ieee]; done)

theorem rows_at (x : FVec Ideal S4x8192x1024 .f32) (r : Fin 32768) (k : Fin 1024) :
    shapeCast S32768x1024 x shapeCasts_S4x8192x1024_S32768x1024 (ix2 r k)
      = x (ix3 (⟨r.val / 8192, by omega⟩ : Fin 4) (⟨r.val % 8192, by omega⟩ : Fin 8192) k) := by
  pointwise

theorem V_x (r : Fin 32768) (k : Fin 1024) : V m c main_v39 (ix2 r k)
    = m ((c : Thread nD τ).loc main_arg0) (ix3 (⟨r.val / 8192, by omega⟩ : Fin 4) (⟨r.val % 8192, by omega⟩ : Fin 8192) k) := by
  have h : V m c main_v39 = shapeCast S32768x1024 (m ((c : Thread nD τ).loc main_arg0)) shapeCasts_S4x8192x1024_S32768x1024 := by
    unfold V
    simp only [hostOps0, hostOps0_1, hostOps0_2, hostOps0_3, hostOps0_4, hostOps0_5, hostOps0_6, List.flatten_cons, List.flatten_nil, List.append_nil, List.cons_append, List.nil_append]
    after_results_simp <;> rfl
  rw [h]
  exact rows_at _ r k

theorem V_w : V m c main_v40 = m ((c : Thread nD τ).loc main_arg1) := by
  unfold V
  simp only [hostOps0, hostOps0_1, hostOps0_2, hostOps0_3, hostOps0_4, hostOps0_5, hostOps0_6, List.flatten_cons, List.flatten_nil, List.append_nil, List.cons_append, List.nil_append]
  after_results_simp <;> rfl

theorem ind0 : ∀ t : Fin cfg0.N, win0_0.index t = ![(grid0.coords t 0).val, 0] :=
  (by decide +kernel : ∀ t : Fin grid0.N, _)
theorem ind1 : ∀ t : Fin cfg0.N, win0_1.index t = ![0, 0] :=
  (by decide +kernel : ∀ t : Fin grid0.N, _)
theorem ind2 : ∀ t : Fin cfg0.N, win0_2.index t = ![(grid0.coords t 0).val % 16, 0] :=
  (by decide +kernel : ∀ t : Fin grid0.N, _)
theorem ind3 : ∀ t : Fin cfg0.N, win0_3.index t = ![(grid0.coords t 0).val % 16, 0] :=
  (by decide +kernel : ∀ t : Fin grid0.N, _)
theorem ind4 : ∀ t : Fin cfg0.N, win0_4.index t = ![(grid0.coords t 0).val % 16, 0] :=
  (by decide +kernel : ∀ t : Fin grid0.N, _)
theorem ind5 : ∀ t : Fin cfg0.N, win0_5.index t = ![(grid0.coords t 0).val, 0] :=
  (by decide +kernel : ∀ t : Fin grid0.N, _)
theorem ind6 : ∀ t : Fin cfg0.N, win0_6.index t = ![(grid0.coords t 0).val, 0] :=
  (by decide +kernel : ∀ t : Fin grid0.N, _)
theorem ind7 : ∀ t : Fin cfg0.N, win0_7.index t = ![(grid0.coords t 0).val, 0] :=
  (by decide +kernel : ∀ t : Fin grid0.N, _)
theorem ind8 : ∀ t : Fin cfg0.N, win0_8.index t = ![(grid0.coords t 0).val, 0] :=
  (by decide +kernel : ∀ t : Fin grid0.N, _)
theorem ind9 : ∀ t : Fin cfg0.N, win0_9.index t = ![(grid0.coords t 0).val, 0, 0] :=
  (by decide +kernel : ∀ t : Fin grid0.N, _)

theorem lt0 (t : Fin cfg0.N) : (grid0.coords t 0).val < 64 := (grid0.coords t 0).isLt

/-- A row of a point's tile, its batch and its position. -/
def row (t : Fin cfg0.N) (p : Fin 512) : Fin 32768 := ⟨(grid0.coords t 0).val * 512 + p.val, by have := lt0 t; omega⟩
def bat (r : Fin 32768) : Fin 4 := ⟨r.val / 8192, by omega⟩
def pos (r : Fin 32768) : Fin 8192 := ⟨r.val % 8192, by omega⟩
def seat (t : Fin cfg0.N) (p : Fin 512) : Fin 8192 := ⟨(grid0.coords t 0).val % 16 * 512 + p.val, by omega⟩
theorem seat_eq (t : Fin cfg0.N) (p : Fin 512) : seat t p = pos (row t p) :=
  Fin.ext (by show (grid0.coords t 0).val % 16 * 512 + p.val = ((grid0.coords t 0).val * 512 + p.val) % 8192; omega)

theorem blk0 (t : Fin cfg0.N) (p : Fin 512) (k : Fin 1024) : iblk m c 0 t (ix2 p k) = V m c main_v39 (ix2 (row t p) k) := by
  blk_simp [iblk]
  congr 1
  blk_ext [ind0]
  all_goals rfl

theorem blk1 (t : Fin cfg0.N) (k : Fin 1024) (j : Fin 4096) : iblk m c 1 t (ix2 k j) = V m c main_v40 (ix2 k j) := by
  blk_simp [iblk]
  congr 1
  blk_ext [ind1]
  all_goals rfl

theorem blk2 (t : Fin cfg0.N) (p : Fin 512) (l : Fin 128) : iblk m c 2 t (ix2 p l) = V m c main_v33 (ix2 (seat t p) l) := by
  blk_simp [iblk]
  congr 1
  blk_ext [ind2]
  all_goals rfl

theorem blk3 (t : Fin cfg0.N) (p : Fin 512) (l : Fin 128) : iblk m c 3 t (ix2 p l) = V m c main_v36 (ix2 (seat t p) l) := by
  blk_simp [iblk]
  congr 1
  blk_ext [ind3]
  all_goals rfl

theorem blk4 (t : Fin cfg0.N) (p : Fin 512) (l : Fin 128) : iblk m c 4 t (ix2 p l) = V m c main_v38 (ix2 (seat t p) l) := by
  blk_simp [iblk]
  congr 1
  blk_ext [ind4]
  all_goals rfl

/-- Arrays of the launch. -/
abbrev ax : FVec Ideal S4x8192x1024 .f32 := m ((c : Thread nD τ).loc main_arg0)
abbrev aw : FVec Ideal S1024x4096 .f32 := m ((c : Thread nD τ).loc main_arg1)

def tile (x0 : Vec Ideal S512x1024 .f32) (x1 : Vec Ideal S1024x4096 .bf16) (p : Fin 512) (j : Fin 4096) : EReal :=
  ∑ k : Fin 1024, x0 (ix2 p k) * x1 (ix2 k j)

theorem tile_eq (t : Fin cfg0.N) (p : Fin 512) (n : ℕ) (h : n < 4096) : tile (iblk m c 0 t) (iblk m c 1 t) p ⟨n, h⟩
      = prd (W := 4096) (ax m c) (aw m c) (bat (row t p)) (pos (row t p)) n := by
  refine Eq.trans ?_ (prd_eq (W := 4096) (ax m c) (aw m c) (bat (row t p)) (pos (row t p)) h rfl)
  unfold tile
  refine Finset.sum_congr rfl fun k _ => ?_
  rw [blk0, blk1, V_x, V_w]
  rfl

/-- A tile of the product, turned by the point's tables. -/
theorem tile_roped (t : Fin cfg0.N) (o : ℕ) (y : Vec Ideal S512x1024 .f32) (p : Fin 512) (ho : o + 1024 ≤ 4096)
    (hy : ∀ j : Fin 1024, y (ix2 p j) = tile (iblk m c 0 t) (iblk m c 1 t) p ⟨o + j.val, by omega⟩) (T : Fin 8) (l : Fin 128) :
    tileRope y (iblk m c 2 t) (iblk m c 3 t) (iblk m c 4 t) p T.val l (by omega)
      = roped (W := 4096) (ax m c) (aw m c) o (bat (row t p)) (pos (row t p)) (128 * T.val + l.val) := by
  have el : ∀ l < 128, (Fin.ofNat 128 l).val = l := fun l h => Nat.mod_eq_of_lt h
  refine (turn_of (N := 1024) y (iblk m c 2 t) (iblk m c 3 t) (iblk m c 4 t) p T.val l (by omega)).trans ?_
  unfold roped
  rw [← rope_turn]
  refine turn_congr (N := 1024) rfl (by omega) (fun n hn => ?_) (fun l hl => ?_) (fun l hl => ?_) (fun l hl => ?_)
  · refine (hy _).trans ((tile_eq m c t p _ _).trans (congrArg (fun n => prd (W := 4096) (ax m c) (aw m c) _ _ (o + n)) (Nat.mod_eq_of_lt hn)))
  · refine (blk2 m c t p _).trans ((V_c m c _ _).trans ?_)
    rw [seat_eq, el l hl]
  · refine (blk3 m c t p _).trans ((V_s1 m c _ _).trans ?_)
    rw [seat_eq, el l hl]
  · refine (blk4 m c t p _).trans ((V_s2 m c _ _).trans ?_)
    rw [seat_eq, el l hl]

theorem pair (n0 n1 : ℕ) (i : (⟨2, ![n0, n1]⟩ : Shape).Idx) : i = ix2 (i 0) (i 1) := by
  funext a
  match a with
  | ⟨0, _⟩ => rfl
  | ⟨1, _⟩ => rfl

theorem triple (n0 n1 n2 : ℕ) (i : (⟨3, ![n0, n1, n2]⟩ : Shape).Idx) : i = ix3 (i 0) (i 1) (i 2) := by
  funext a
  match a with
  | ⟨0, _⟩ => rfl
  | ⟨1, _⟩ => rfl
  | ⟨2, _⟩ => rfl

theorem ld2 (w : Vec Ideal S1024x4096 .bf16) (k j : Fin 1024) : View.ld w r0_2 (ix2 k j) = w (ix2 k (⟨0 + j.val, by omega⟩ : Fin 4096)) := by
  refine congrArg w (funext fun a => Fin.ext ?_)
  match a with
  | ⟨0, _⟩ => show 0 + 1 * k.val = k.val; omega
  | ⟨1, _⟩ => show 0 + 1 * j.val = 0 + j.val; omega
theorem ld3 (w : Vec Ideal S1024x4096 .bf16) (k j : Fin 1024) : View.ld w r0_3 (ix2 k j) = w (ix2 k (⟨1024 + j.val, by omega⟩ : Fin 4096)) := by
  refine congrArg w (funext fun a => Fin.ext ?_)
  match a with
  | ⟨0, _⟩ => show 0 + 1 * k.val = k.val; omega
  | ⟨1, _⟩ => show 1024 + 1 * j.val = 1024 + j.val; omega
theorem ld6 (w : Vec Ideal S1024x4096 .bf16) (k j : Fin 1024) : View.ld w r0_6 (ix2 k j) = w (ix2 k (⟨2048 + j.val, by omega⟩ : Fin 4096)) := by
  refine congrArg w (funext fun a => Fin.ext ?_)
  match a with
  | ⟨0, _⟩ => show 0 + 1 * k.val = k.val; omega
  | ⟨1, _⟩ => show 2048 + 1 * j.val = 2048 + j.val; omega
theorem ld7 (w : Vec Ideal S1024x4096 .bf16) (k j : Fin 1024) : View.ld w r0_7 (ix2 k j) = w (ix2 k (⟨3072 + j.val, by omega⟩ : Fin 4096)) := by
  refine congrArg w (funext fun a => Fin.ext ?_)
  match a with
  | ⟨0, _⟩ => show 0 + 1 * k.val = k.val; omega
  | ⟨1, _⟩ => show 3072 + 1 * j.val = 3072 + j.val; omega

theorem ld1 (x : Vec Ideal S512x1024 .f32) : View.ld x r0_1 = x := by
  funext i
  refine congrArg x (funext fun a => Fin.ext ?_)
  match a with
  | ⟨0, _⟩ => show 0 + 1 * (i 0).val = (i 0).val; omega
  | ⟨1, _⟩ => show 0 + 1 * (i 1).val = (i 1).val; omega
theorem ld0 (x : Vec Ideal S512x128 .f32) : View.ld x r0_0 = x := by
  funext i
  refine congrArg x (funext fun a => Fin.ext ?_)
  match a with
  | ⟨0, _⟩ => show 0 + 1 * (i 0).val = (i 0).val; omega
  | ⟨1, _⟩ => show 0 + 1 * (i 1).val = (i 1).val; omega

/-- The five results: the scaled queries, the keys, the values, the gate's input and the blocks' mean keys. -/
def out5 (x : FVec Ideal S4x8192x1024 .f32) (w : FVec Ideal S1024x4096 .f32) : FVec Ideal S32768x1024 .bf16 :=
  fun i => roped (W := 4096) x w 0 (bat (i 0)) (pos (i 0)) (i 1).val * (((Real.log 256)⁻¹ : ℝ) : EReal)
def out6 (x : FVec Ideal S4x8192x1024 .f32) (w : FVec Ideal S1024x4096 .f32) : FVec Ideal S32768x1024 .bf16 :=
  fun i => roped (W := 4096) x w 1024 (bat (i 0)) (pos (i 0)) (i 1).val
def out7 (x : FVec Ideal S4x8192x1024 .f32) (w : FVec Ideal S1024x4096 .f32) : FVec Ideal S32768x1024 .bf16 :=
  fun i => prd (W := 4096) x w (bat (i 0)) (pos (i 0)) (2048 + (i 1).val)
def out8 (x : FVec Ideal S4x8192x1024 .f32) (w : FVec Ideal S1024x4096 .f32) : FVec Ideal S32768x1024 .f32 :=
  fun i => prd (W := 4096) x w (bat (i 0)) (pos (i 0)) (3072 + (i 1).val)
def mean (x : FVec Ideal S4x8192x1024 .f32) (w : FVec Ideal S1024x4096 .f32) (t : Fin 64) (b : Fin 2) (j : Fin 1024) : EReal :=
  Ideal.div (∑ q : Fin 256, roped (W := 4096) x w 1024 ⟨t.val / 16, by omega⟩ ⟨(t.val % 16 * 2 + b.val) * 256 + q.val, by omega⟩ j.val) (Ideal.ofBits .f32 0x43800000#32)
def out9 (x : FVec Ideal S4x8192x1024 .f32) (w : FVec Ideal S1024x4096 .f32) : FVec Ideal S64x2x1024 .f32 :=
  fun i => mean x w (i 0) (i 1) (i 2)

theorem emb5 (t : Fin cfg0.N) (p : Fin 512) (j : Fin 1024) : (win0_5.blk t).view.emb (ix2 p j) = ix2 (row t p) j := by
  blk_ext [ind5]
  all_goals rfl
theorem emb6 (t : Fin cfg0.N) (p : Fin 512) (j : Fin 1024) : (win0_6.blk t).view.emb (ix2 p j) = ix2 (row t p) j := by
  blk_ext [ind6]
  all_goals rfl
theorem emb7 (t : Fin cfg0.N) (p : Fin 512) (j : Fin 1024) : (win0_7.blk t).view.emb (ix2 p j) = ix2 (row t p) j := by
  blk_ext [ind7]
  all_goals rfl
theorem emb8 (t : Fin cfg0.N) (p : Fin 512) (j : Fin 1024) : (win0_8.blk t).view.emb (ix2 p j) = ix2 (row t p) j := by
  blk_ext [ind8]
  all_goals rfl

theorem split (j : Fin 1024) : ∃ (T : Fin 8) (l : Fin 128), j = ⟨128 * T.val + l.val, by omega⟩ :=
  ⟨⟨j.val / 128, by omega⟩, ⟨j.val % 128, by omega⟩, Fin.ext (by show j.val = 128 * (j.val / 128) + j.val % 128; omega)⟩

theorem q_tile (x0 : Vec Ideal S512x1024 .f32) (x1 : Vec Ideal S1024x4096 .bf16) (p : Fin 512) (j : Fin 1024) :
    k0_pay6 x0 (View.ld x1 r0_2) (ix2 p j) = tile x0 x1 p ⟨0 + j.val, by omega⟩ := by
  rw [pay6_at]
  exact Finset.sum_congr rfl fun k _ => congrArg (x0 (ix2 p k) * ·) (ld2 x1 k j)

theorem k_tile (x0 : Vec Ideal S512x1024 .f32) (x1 : Vec Ideal S1024x4096 .bf16) (p : Fin 512) (j : Fin 1024) :
    k0_pay15 (k0_pay5 x0) (View.ld x1 r0_3) (ix2 p j) = tile x0 x1 p ⟨1024 + j.val, by omega⟩ := by
  rw [pay15_at]
  exact Finset.sum_congr rfl fun k _ => congrArg (x0 (ix2 p k) * ·) (ld3 x1 k j)

theorem v_tile (x0 : Vec Ideal S512x1024 .f32) (x1 : Vec Ideal S1024x4096 .bf16) (p : Fin 512) (j : Fin 1024) :
    k0_pay28 (k0_pay5 x0) (View.ld x1 r0_6) (ix2 p j) = tile x0 x1 p ⟨2048 + j.val, by omega⟩ := by
  rw [pay28_at]
  exact Finset.sum_congr rfl fun k _ => congrArg (x0 (ix2 p k) * ·) (ld6 x1 k j)

theorem z_tile (x0 : Vec Ideal S512x1024 .f32) (x1 : Vec Ideal S1024x4096 .bf16) (p : Fin 512) (j : Fin 1024) :
    k0_pay1 (k0_pay5 x0) (View.ld x1 r0_7) (ix2 p j) = tile x0 x1 p ⟨3072 + j.val, by omega⟩ := by
  rw [pay1_at]
  exact Finset.sum_congr rfl fun k _ => congrArg (x0 (ix2 p k) * ·) (ld7 x1 k j)

theorem keys_eq (t : Fin cfg0.N) (p : Fin 512) (j : Fin 1024) :
    keys (iblk m c 2 t) (iblk m c 3 t) (iblk m c 4 t) (iblk m c 0 t) (View.ld (iblk m c 1 t) r0_3) (ix2 p j)
      = roped (W := 4096) (ax m c) (aw m c) 1024 (bat (row t p)) (pos (row t p)) j.val := by
  obtain ⟨T, l, rfl⟩ := split j
  exact (keys_at _ _ _ _ _ p T l).trans (tile_roped m c t 1024 _ p (by norm_num) (fun j => k_tile _ _ p j) T l)

theorem point5 (t : Fin cfg0.N) (p : Fin 512) (j : Fin 1024) :
    out0_5 (iblk m c 0 t) (iblk m c 1 t) (iblk m c 2 t) (iblk m c 3 t) (iblk m c 4 t) (ix2 p j) = out5 (ax m c) (aw m c) (ix2 (row t p) j) := by
  unfold_out out0_5
  frame_out
  try simp only [ld0, ld1]
  obtain ⟨T, l, rfl⟩ := split j
  exact (q_at _ _ _ _ _ p T l).trans (congrArg (· * (((Real.log 256)⁻¹ : ℝ) : EReal)) (tile_roped m c t 0 _ p (by norm_num) (fun j => q_tile _ _ p j) T l))

theorem point6 (t : Fin cfg0.N) (p : Fin 512) (j : Fin 1024) :
    out0_6 (iblk m c 0 t) (iblk m c 1 t) (iblk m c 2 t) (iblk m c 3 t) (iblk m c 4 t) (ix2 p j) = out6 (ax m c) (aw m c) (ix2 (row t p) j) := by
  unfold_out out0_6
  frame_out
  try simp only [ld0, ld1]
  exact keys_eq m c t p j

theorem point7 (t : Fin cfg0.N) (p : Fin 512) (j : Fin 1024) :
    out0_7 (iblk m c 0 t) (iblk m c 1 t) (iblk m c 2 t) (iblk m c 3 t) (iblk m c 4 t) (ix2 p j) = out7 (ax m c) (aw m c) (ix2 (row t p) j) := by
  unfold_out out0_7
  frame_out
  try simp only [ld0, ld1]
  exact (v_tile _ _ p j).trans (tile_eq m c t p (2048 + j.val) (by omega))

theorem point8 (t : Fin cfg0.N) (p : Fin 512) (j : Fin 1024) :
    out0_8 (iblk m c 0 t) (iblk m c 1 t) (iblk m c 2 t) (iblk m c 3 t) (iblk m c 4 t) (ix2 p j) = out8 (ax m c) (aw m c) (ix2 (row t p) j) := by
  unfold_out out0_8
  frame_out
  try simp only [ld0, ld1]
  exact (z_tile _ _ p j).trans (tile_eq m c t p (3072 + j.val) (by omega))

theorem final5 : (dats m 0 c).arrAt 5 cfg0.N = out5 (ax m c) (aw m c) := by
  refine (dats m 0 c).arrAt_eq_of_covers 5 _ (by decide +kernel) fun t hf y => ?_
  blk_simp
  rw [after0_5]
  obtain ⟨p, j, rfl⟩ : ∃ (p : Fin 512) (j : Fin 1024), y = ix2 p j := ⟨y 0, y 1, pair 512 1024 y⟩
  exact (point5 m c t p j).trans (congrArg (out5 (ax m c) (aw m c)) (emb5 t p j).symm)

theorem final6 : (dats m 0 c).arrAt 6 cfg0.N = out6 (ax m c) (aw m c) := by
  refine (dats m 0 c).arrAt_eq_of_covers 6 _ (by decide +kernel) fun t hf y => ?_
  blk_simp
  rw [after0_6]
  obtain ⟨p, j, rfl⟩ : ∃ (p : Fin 512) (j : Fin 1024), y = ix2 p j := ⟨y 0, y 1, pair 512 1024 y⟩
  exact (point6 m c t p j).trans (congrArg (out6 (ax m c) (aw m c)) (emb6 t p j).symm)

theorem final7 : (dats m 0 c).arrAt 7 cfg0.N = out7 (ax m c) (aw m c) := by
  refine (dats m 0 c).arrAt_eq_of_covers 7 _ (by decide +kernel) fun t hf y => ?_
  blk_simp
  rw [after0_7]
  obtain ⟨p, j, rfl⟩ : ∃ (p : Fin 512) (j : Fin 1024), y = ix2 p j := ⟨y 0, y 1, pair 512 1024 y⟩
  exact (point7 m c t p j).trans (congrArg (out7 (ax m c) (aw m c)) (emb7 t p j).symm)

theorem final8 : (dats m 0 c).arrAt 8 cfg0.N = out8 (ax m c) (aw m c) := by
  refine (dats m 0 c).arrAt_eq_of_covers 8 _ (by decide +kernel) fun t hf y => ?_
  blk_simp
  rw [after0_8]
  obtain ⟨p, j, rfl⟩ : ∃ (p : Fin 512) (j : Fin 1024), y = ix2 p j := ⟨y 0, y 1, pair 512 1024 y⟩
  exact (point8 m c t p j).trans (congrArg (out8 (ax m c) (aw m c)) (emb8 t p j).symm)

theorem over256 : Ideal.ofBits .f32 0x3B800000#32 = (((1 : ℝ) / 256 : ℝ) : EReal) := by
  simp [Ideal.ofBits, Ideal.ieee, -EReal.coe_mul]; norm_num
theorem n256 : Ideal.ofBits .f32 0x43800000#32 = ((256 : ℝ) : EReal) := by
  simp [Ideal.ofBits, Ideal.ieee, -EReal.coe_mul]; norm_num

/-- A point's number, as the means' row. -/
def tix (t : Fin cfg0.N) : Fin 64 := ⟨(grid0.coords t 0).val, lt0 t⟩

/-- The mean of half a tile's keys. -/
theorem mean_eq (t : Fin cfg0.N) (b : Fin 2) (j : Fin 1024) (f : Fin 256 → Fin 512) (hf : ∀ q, (f q).val = 256 * b.val + q.val) :
    (∑ q : Fin 256, keys (iblk m c 2 t) (iblk m c 3 t) (iblk m c 4 t) (iblk m c 0 t) (View.ld (iblk m c 1 t) r0_3) (ix2 (f q) j)) * Ideal.ofBits .f32 0x3B800000#32
      = mean (ax m c) (aw m c) (tix t) b j := by
  have ht := lt0 t
  unfold mean
  rw [n256, Ideal.div_coe (by norm_num), over256]
  refine congrArg (· * (((1 : ℝ) / 256 : ℝ) : EReal)) (Finset.sum_congr rfl fun q _ => (keys_eq m c t (f q) j).trans ?_)
  have eb : bat (row t (f q)) = ⟨(grid0.coords t 0).val / 16, by omega⟩ := Fin.ext (by
    show ((grid0.coords t 0).val * 512 + (f q).val) / 8192 = (grid0.coords t 0).val / 16
    have := hf q; omega)
  have ep : pos (row t (f q)) = ⟨((grid0.coords t 0).val % 16 * 2 + b.val) * 256 + q.val, by omega⟩ := Fin.ext (by
    show ((grid0.coords t 0).val * 512 + (f q).val) % 8192 = ((grid0.coords t 0).val % 16 * 2 + b.val) * 256 + q.val
    have := hf q; omega)
  rw [eb, ep]
  rfl

/-- The two rows of the means' block, stored apart. -/
theorem two_at (hi lo : Vec Ideal S1x1x1024 .f32) (v : Fin 2 → EReal) (b : Fin 2) (j : Fin 1024)
    (h1 : hi (ix3 (0 : Fin 1) (0 : Fin 1) j) = v 1) (h0 : lo (ix3 (0 : Fin 1) (0 : Fin 1) j) = v 0) :
    View.canon ([⟨r0_5, hi⟩, ⟨r0_4, lo⟩] : List (View.Piece (Elt Ideal) S1x2x1024 .f32)) (ix3 (0 : Fin 1) b j) = v b := by
  refine View.canon_eq_of_allAt _ _ _ (cover0_9 _ _ _) (View.allAt_cons _ _ _ (fun x hx => ?_) (View.allAt_cons _ _ _ (fun x hx => ?_) (View.allAt_nil _ _)))
  · obtain ⟨u, a, l, rfl⟩ : ∃ (u : Fin 1) (a : Fin 1) (l : Fin 1024), x = ix3 u a l := ⟨x 0, x 1, x 2, triple 1 1 1024 x⟩
    obtain rfl : u = 0 := Subsingleton.elim _ _
    obtain rfl : a = 0 := Subsingleton.elim _ _
    have e1 : 1 + 1 * 0 = b.val := congrArg Fin.val (congrFun hx 1)
    have e2 : 0 + 1 * l.val = j.val := congrArg Fin.val (congrFun hx 2)
    obtain rfl : l = j := Fin.ext (by omega)
    obtain rfl : b = 1 := Fin.ext (by show b.val = 1; omega)
    exact h1
  · obtain ⟨u, a, l, rfl⟩ : ∃ (u : Fin 1) (a : Fin 1) (l : Fin 1024), x = ix3 u a l := ⟨x 0, x 1, x 2, triple 1 1 1024 x⟩
    obtain rfl : u = 0 := Subsingleton.elim _ _
    obtain rfl : a = 0 := Subsingleton.elim _ _
    have e1 : 0 + 1 * 0 = b.val := congrArg Fin.val (congrFun hx 1)
    have e2 : 0 + 1 * l.val = j.val := congrArg Fin.val (congrFun hx 2)
    obtain rfl : l = j := Fin.ext (by omega)
    obtain rfl : b = 0 := Fin.ext (by show b.val = 0; omega)
    exact h0

theorem point9 (t : Fin cfg0.N) (u : Fin 1) (b : Fin 2) (j : Fin 1024) :
    out0_9 (iblk m c 0 t) (iblk m c 1 t) (iblk m c 2 t) (iblk m c 3 t) (iblk m c 4 t) (ix3 u b j) = mean (ax m c) (aw m c) (tix t) b j := by
  obtain rfl : u = 0 := Subsingleton.elim _ _
  unfold_out out0_9
  frame_out
  exact two_at _ _ (fun b => mean (ax m c) (aw m c) (tix t) b j) b j
    ((mean_hi _ _ _ _ _ j).trans (mean_eq m c t 1 j (fun q => ⟨256 + q.val, by omega⟩) fun q => rfl))
    ((mean_lo _ _ _ _ _ j).trans (mean_eq m c t 0 j (fun q => ⟨q.val, by omega⟩) fun q => (Nat.zero_add _).symm))

theorem emb9 (t : Fin cfg0.N) (u : Fin 1) (b : Fin 2) (j : Fin 1024) : (win0_9.blk t).view.emb (ix3 u b j) = ix3 (tix t) b j := by
  obtain rfl : u = 0 := Subsingleton.elim _ _
  blk_ext [ind9]
  all_goals rfl

theorem out9_at (x : FVec Ideal S4x8192x1024 .f32) (w : FVec Ideal S1024x4096 .f32) (t : Fin 64) (b : Fin 2) (j : Fin 1024) : out9 x w (ix3 t b j) = mean x w t b j := rfl

theorem emb9' (t : Fin cfg0.N) (y : S1x2x1024.Idx) : (win0_9.blk t).view.emb y = ix3 (tix t) (y 1 : Fin 2) (y 2 : Fin 1024) :=
  (congrArg (win0_9.blk t).view.emb (triple 1 2 1024 y)).trans (emb9 t (y 0) (y 1) (y 2))

theorem point9' (t : Fin cfg0.N) (y : S1x2x1024.Idx) :
    out0_9 (iblk m c 0 t) (iblk m c 1 t) (iblk m c 2 t) (iblk m c 3 t) (iblk m c 4 t) y = mean (ax m c) (aw m c) (tix t) (y 1 : Fin 2) (y 2 : Fin 1024) :=
  (congrArg (out0_9 (iblk m c 0 t) (iblk m c 1 t) (iblk m c 2 t) (iblk m c 3 t) (iblk m c 4 t)) (triple 1 2 1024 y)).trans (point9 m c t (y 0) (y 1) (y 2))

theorem at9 (t : Fin cfg0.N) (y : S1x2x1024.Idx) :
    out0_9 (iblk m c 0 t) (iblk m c 1 t) (iblk m c 2 t) (iblk m c 3 t) (iblk m c 4 t) y = out9 (ax m c) (aw m c) ((win0_9.blk t).view.emb y) :=
  (point9' m c t y).trans ((out9_at _ _ _ _ _).symm.trans (congrArg (out9 (ax m c) (aw m c)) (emb9' t y).symm))

set_option maxHeartbeats 2000000 in
theorem final9 : (dats m 0 c).arrAt 9 cfg0.N = out9 (ax m c) (aw m c) := by
  refine (dats m 0 c).arrAt_eq_of_covers 9 _ (by decide +kernel) fun t hf y => ?_
  blk_simp
  rw [after0_9]
  exact at9 m c t y

end Cert.MobaProjIdeal.Val

namespace Cert.MobaProjRefIdeal.Val
open Cert.MobaProjRefIdeal Cert.MobaProjRefIdeal.Gen Cert.Rope Cert.MobaProjIdeal.Val
open Idealize.ShloMosaic Idealize.ShloMosaic.TcCoe Idealize.SL.Sem

theorem eighth : Ideal.ofBits .f32 0x3E000000#32 = (((1 : ℝ) / 8 : ℝ) : EReal) := by
  simp [Ideal.ofBits, Ideal.ieee, -EReal.coe_mul]; norm_num
theorem two : Ideal.ofBits .f32 0x40000000#32 = ((2 : ℝ) : EReal) := by
  simp [Ideal.ofBits, Ideal.ieee, -EReal.coe_mul]; norm_num

theorem log256 : (Real.log 256)⁻¹ = 1 / 8 * (1 / Real.log 2) := by
  rw [show (256 : ℝ) = 2 ^ 8 by norm_num, Real.log_pow]
  push_cast
  rw [mul_inv, one_div, one_div]

theorem scaling (a : EReal) : Ideal.div (a * Ideal.ofBits .f32 0x3E000000#32) (Ideal.log (Ideal.ofBits .f32 0x40000000#32)) = a * (((Real.log 256)⁻¹ : ℝ) : EReal) := by
  rw [eighth, two, log256, show Ideal.log ((2 : ℝ) : EReal) = ((Real.log 2 : ℝ) : EReal) from if_neg (not_le.mpr (by norm_num)), Ideal.div_coe (Real.log_pos (by norm_num)).ne', mul_assoc, ← EReal.coe_mul]

section
variable (m : (ℓ : Loc nD τ sig) → Buf (Elt Ideal) ℓ) (c : Dev nD)

theorem ref5 : Cert.MobaProjRefIdeal.Value.res_main_v73 m c = out5 (m ((c.tc : Thread nD τ).loc main_arg0)) (m ((c.tc : Thread nD τ).loc main_arg1)) := by
  funext i
  obtain ⟨r, j, rfl⟩ : ∃ (r : Fin 32768) (j : Fin 1024), i = ix2 r j := ⟨i 0, i 1, pair _ _ i⟩
  unfold Cert.MobaProjRefIdeal.Value.res_main_v73
  generalize m ((c.tc : Thread nD τ).loc main_arg0) = x
  generalize m ((c.tc : Thread nD τ).loc main_arg1) = w
  pointwise
  refine (scaling _).trans (congrArg (· * (((Real.log 256)⁻¹ : ℝ) : EReal)) (Eq.trans ?_ (roped_of x w 0 (bat r) (pos r) j.val (fun n => prd x w (bat r) (pos r) n)
    (fun n _ => congrArg (prd x w (bat r) (pos r)) (Nat.zero_add n).symm))))
  simp only [prd_eq x w _ _ _ rfl]
  rfl

theorem ref6 : Cert.MobaProjRefIdeal.Value.res_main_v75 m c = out6 (m ((c.tc : Thread nD τ).loc main_arg0)) (m ((c.tc : Thread nD τ).loc main_arg1)) := by
  funext i
  obtain ⟨r, j, rfl⟩ : ∃ (r : Fin 32768) (j : Fin 1024), i = ix2 r j := ⟨i 0, i 1, pair _ _ i⟩
  unfold Cert.MobaProjRefIdeal.Value.res_main_v75
  generalize m ((c.tc : Thread nD τ).loc main_arg0) = x
  generalize m ((c.tc : Thread nD τ).loc main_arg1) = w
  pointwise
  refine Eq.trans ?_ (roped_of x w 1024 (bat r) (pos r) j.val (fun n => prd x w (bat r) (pos r) (1024 + n)) (fun _ _ => rfl))
  simp only [prd_eq x w _ _ _ rfl]
  rfl

theorem ref9 : Cert.MobaProjRefIdeal.Value.res_main_v79 m c = out9 (m ((c.tc : Thread nD τ).loc main_arg0)) (m ((c.tc : Thread nD τ).loc main_arg1)) := by
  funext i
  obtain ⟨t, b, j, rfl⟩ : ∃ (t : Fin 64) (b : Fin 2) (j : Fin 1024), i = ix3 t b j := ⟨i 0, i 1, i 2, triple _ _ _ i⟩
  unfold Cert.MobaProjRefIdeal.Value.res_main_v79
  generalize m ((c.tc : Thread nD τ).loc main_arg0) = x
  generalize m ((c.tc : Thread nD τ).loc main_arg1) = w
  pointwise
  refine congrArg (Ideal.div · _) (Finset.sum_congr rfl fun q _ => ?_)
  refine Eq.trans ?_ (roped_of x w 1024 _ _ j.val (fun n => prd x w _ _ (1024 + n)) (fun _ _ => rfl))
  simp only [prd_eq x w _ _ _ rfl]
  rfl
end

section
variable (x : FVec Ideal S4x8192x1024 .f32) (w : FVec Ideal S1024x4096 .f32)

/-- The product, before it is cut in four. -/
abbrev whole : FVec Ideal S4x8192x4096 .f32 := Host.dotGeneral dot_S4x8192x1024_S1024x4096_S4x8192x4096_2_0_01_1_n_n none x w

theorem ref7 : truncf .bf16 (shapeCast S32768x1024 (extractStridedSlice S4x8192x1024 ![0, 0, 2048] (whole x w) slices_S4x8192x4096_S4x8192x1024_0_0_2048) shapeCasts_S4x8192x1024_S32768x1024) bitsLt_bf16_f32 = out7 x w := by
  funext i
  obtain ⟨r, j, rfl⟩ : ∃ (r : Fin 32768) (j : Fin 1024), i = ix2 r j := ⟨i 0, i 1, pair _ _ i⟩
  pointwise
  exact prd_eq x w (bat r) (pos r) _ rfl

theorem ref8 : shapeCast S32768x1024 (extractStridedSlice S4x8192x1024 ![0, 0, 3072] (whole x w) slices_S4x8192x4096_S4x8192x1024_0_0_3072) shapeCasts_S4x8192x1024_S32768x1024 = out8 x w := by
  funext i
  obtain ⟨r, j, rfl⟩ : ∃ (r : Fin 32768) (j : Fin 1024), i = ix2 r j := ⟨i 0, i 1, pair _ _ i⟩
  pointwise
  exact prd_eq x w (bat r) (pos r) _ rfl
end

end Cert.MobaProjRefIdeal.Val
-- ==== Proof.Val.SwaProj.lean ====
/-
  The sliding-window layer's projection: what one grid point stores, and the four result arrays against the reference's.
-/
module

public import proofs.«01_k».proof.Proof.Gen.SwaProjIdeal.Value
public import proofs.«01_k».proof.Proof.Gen.SwaProjRefIdeal.Run
public import proofs.«01_k».proof.Proof.Val.Rope
public import Idealize.ShloMosaic.Lib.Pointwise
public import Idealize.ShloMosaic.Lib.IdealHost
public import Idealize.ShloMosaic.Lib.Pipeline.ValueKit

@[expose] public section
set_option maxRecDepth 16384

noncomputable section
namespace Cert.SwaProjIdeal.Val
open Cert.SwaProjIdeal Cert.SwaProjIdeal.Gen Cert.Rope
open Idealize.ShloMosaic Idealize.ShloMosaic.TcCoe Idealize.SL.Sem
variable (m : (ℓ : Loc nD τ sig) → Buf (Elt Ideal) ℓ) (c : Dev nD)

/-- The angles of the embedding. -/
def angles : FVec Ideal S8192x8 .f32 :=
  mulf (broadcastInDim S8192x8 ![0, 1] bcast_S8192x1_S8192x8_0_1 (broadcastInDim S8192x1 ![0] bcast_S8192_S8192x1_0 (sitofp .f32 (iotaInDim S8192 32 0))))
    (broadcastInDim S8192x8 ![0, 1] bcast_S1x8_S8192x8_0_1 (broadcastInDim S1x8 ![1] bcast_S8_S1x8_1
      (Host.powf (broadcastInDim S8 ![] bcast_S_S8 (constant S_ .f32 0x48F42400#32))
        (Host.divf (Host.negf (addf (broadcastInDim S8 ![] bcast_S_S8 (constant S_ .f32 0x00000000#32))
          (mulf (broadcastInDim S8 ![] bcast_S_S8 (constant S_ .f32 0x40000000#32)) (sitofp .f32 (iotaInDim S8 32 0)))))
          (broadcastInDim S8 ![] bcast_S_S8 (constant S_ .f32 0x41800000#32))))))

/-- The lane's angle, as printed. -/
def lanes : IVec S128x1 32 :=
  broadcastInDim S128x1 ![0] bcast_S128_S128x1_0
    (select (cmpi .slt (fun i => lit0 (S128.rowMajor i)) (broadcastInDim S128 ![] bcast_S_S128 (constantI S_ 32 0#32)))
      (addi (fun i => lit0 (S128.rowMajor i)) (broadcastInDim S128 ![] bcast_S_S128 (constantI S_ 32 8#32)))
      fun i => lit0 (S128.rowMajor i))

theorem lanes_eq : ∀ l : Fin 128, (⟨min (lanes (ix2 l 0)).toInt.toNat 7, by omega⟩ : Fin 8) = ⟨l.val % 8, by omega⟩ := by
  decide +kernel

theorem mask1 : ∀ l : Fin 128, lit1 (S128.rowMajor (ix1 l)) = if l.val % 64 < 16 then 1#1 else 0#1 := by decide +kernel
theorem mask2 : ∀ l : Fin 128, lit2 (S128.rowMajor (ix1 l)) = if l.val % 64 < 8 then 1#1 else 0#1 := by decide +kernel
theorem mask3 : ∀ l : Fin 128, lit3 (S128.rowMajor (ix1 l)) = if 8 ≤ l.val % 64 ∧ l.val % 64 < 16 then 1#1 else 0#1 := by decide +kernel

/-- The tables of the kernel. -/
theorem table_at (mask : Fin 128 → BitVec 1) (x : FVec Ideal S8192x8 .f32) (k : BitVec 32) (t : Fin 8192) (l : Fin 128) :
    select (broadcastInDim S8192x128 ![0, 1] bcast_S1x128_S8192x128_0_1 (broadcastInDim S1x128 ![1] bcast_S128_S1x128_1 fun i => mask (S128.rowMajor i)))
      (Host.gather gather_S8192x8_S128x1_S8192x128_0_1_n_n_1_1_81921 x lanes)
      (broadcastInDim S8192x128 ![] bcast_S_S8192x128 (constant S_ .f32 k)) (ix2 t l)
     = if mask (S128.rowMajor (ix1 l)) = 1#1 then x (ix2 t ⟨l.val % 8, by omega⟩) else Ideal.ofBits .f32 k := by
  have h := (lanes_at gather_S8192x8_S128x1_S8192x128_0_1_n_n_1_1_81921_wf x lanes t l).trans (congrArg (fun i => x (ix2 t i)) (lanes_eq l))
  rw [← h]
  rfl

theorem angles_at (t : Fin 8192) (f : Fin 8) : angles (ix2 t f) = ang t.val f.val := by
  unfold angles
  pointwise
  rfl

def tileRope (y : Vec Ideal S512x1024 .f32) (c s1 s2 : Vec Ideal S512x128 .f32) (p : Fin 512) (T : ℕ) (l : Fin 128) (h : 128 * T + 128 ≤ 1024) : EReal :=
  y (ix2 p ⟨128 * T + l.val, by omega⟩) * c (ix2 p l) + y (ix2 p ⟨128 * T + (l.val + 8) % 128, by omega⟩) * s1 (ix2 p l)
        + y (ix2 p ⟨128 * T + (l.val + 120) % 128, by omega⟩) * s2 (ix2 p l)

theorem cat (v0 v1 v2 v3 v4 v5 v6 v7 : FVec Ideal S512x128 .f32) (h) (p : Fin 512) (T : Fin 8) (l : Fin 128) :
    concatenate S512x1024 1 [⟨S512x128, v0⟩, ⟨S512x128, v1⟩, ⟨S512x128, v2⟩, ⟨S512x128, v3⟩, ⟨S512x128, v4⟩, ⟨S512x128, v5⟩, ⟨S512x128, v6⟩, ⟨S512x128, v7⟩] h
      (ix2 p (⟨128 * T.val + l.val, by omega⟩ : Fin 1024)) = (![v0, v1, v2, v3, v4, v5, v6, v7] T) (ix2 p l) := by
  pointwise
  fin_cases T <;> (simp only; )
  all_goals (repeat first | rw [dif_pos (by omega)] | rw [dif_neg (by omega)])
  all_goals (first | rfl | (refine congrArg _ (congrArg (ix2 p) (Fin.ext ?_)); (dsimp only; omega)))

theorem q_at (c s1 s2 : Vec Ideal S512x128 .f32) (x0 : Vec Ideal S512x1024 .f32) (w : Vec Ideal S1024x1024 .bf16) (p : Fin 512) (T : Fin 8) (l : Fin 128) :
    k0_pay16 (k0_pay4 c) (k0_pay5 s1) (k0_pay6 s2) (k0_pay8 x0 w) (k0_pay9 c s1 s2 x0 w) (k0_pay10 c s1 s2 x0 w) (k0_pay11 c s1 s2 x0 w) (k0_pay13 x0 w) (k0_pay14 x0 w)
      (k0_pay15 c x0 w) (ix2 p (⟨128 * T.val + l.val, by omega⟩ : Fin 1024))
     = tileRope (k0_pay8 x0 w) c s1 s2 p T.val l (by omega) * Ideal.ofBits .f32 0x3E000000#32 := by
  unfold k0_pay16 k0_pay15 k0_pay14 k0_pay13 k0_pay12 k0_pay11 k0_pay10 k0_pay9 k0_pay6 k0_pay5 k0_pay4
  generalize k0_pay8 x0 w = y
  dsimp only
  refine congrArg (· * Ideal.ofBits .f32 0x3E000000#32) ((cat _ _ _ _ _ _ _ _ _ p T l).trans ?_)
  fin_cases T
  all_goals (dsimp only [Matrix.cons_val])
  all_goals (pointwise; first | rfl | (unfold tileRope; simp only [Nat.mul_zero, Nat.zero_add]; rfl))

/-- The keys' tiles: two of them. -/
def tileRope2 (y : Vec Ideal S512x256 .f32) (c s1 s2 : Vec Ideal S512x128 .f32) (p : Fin 512) (T : ℕ) (l : Fin 128) (h : 128 * T + 128 ≤ 256) : EReal :=
  y (ix2 p ⟨128 * T + l.val, by omega⟩) * c (ix2 p l) + y (ix2 p ⟨128 * T + (l.val + 8) % 128, by omega⟩) * s1 (ix2 p l)
        + y (ix2 p ⟨128 * T + (l.val + 120) % 128, by omega⟩) * s2 (ix2 p l)

theorem cat2 (v0 v1 : FVec Ideal S512x128 .f32) (h) (p : Fin 512) (T : Fin 2) (l : Fin 128) :
    (truncf .bf16 (concatenate S512x256 1 [⟨S512x128, v0⟩, ⟨S512x128, v1⟩] h) bitsLt_bf16_f32 (ix2 p (⟨128 * T.val + l.val, by omega⟩ : Fin 256)) : EReal)
      = (![v0, v1] T) (ix2 p l) := by
  pointwise
  fin_cases T <;> (simp only; )
  all_goals (repeat first | rw [dif_pos (by omega)] | rw [dif_neg (by omega)])
  all_goals (first | rfl | (refine congrArg _ (congrArg (ix2 p) (Fin.ext ?_)); (dsimp only; omega)))

theorem keys_at (c s1 s2 : Vec Ideal S512x128 .f32) (x0 : Vec Ideal S512x1024 .f32) (w : Vec Ideal S1024x256 .bf16) (p : Fin 512) (T : Fin 2) (l : Fin 128) :
    k0_pay1 (k0_pay4 c) (k0_pay5 s1) (k0_pay6 s2) (k0_pay17 (k0_pay7 x0) w) (k0_pay18 (k0_pay7 x0) w) (ix2 p (⟨128 * T.val + l.val, by omega⟩ : Fin 256))
      = tileRope2 (k0_pay17 (k0_pay7 x0) w) c s1 s2 p T.val l (by omega) := by
  unfold k0_pay1 k0_pay18 k0_pay6 k0_pay5 k0_pay4
  generalize k0_pay17 (k0_pay7 x0) w = y
  dsimp only
  refine (cat2 _ _ _ p T l).trans ?_
  fin_cases T
  all_goals (dsimp only [Matrix.cons_val])
  all_goals (pointwise; first | rfl | (unfold tileRope2; simp only [Nat.mul_zero, Nat.zero_add]; rfl))

theorem pay8_at (x0 : Vec Ideal S512x1024 .f32) (w : Vec Ideal S1024x1024 .bf16) (p : Fin 512) (j : Fin 1024) :
    k0_pay8 x0 w (ix2 p j) = ∑ k : Fin 1024, x0 (ix2 p k) * w (ix2 k j) := by
  unfold_payloads
  pointwise
theorem pay17_at (x0 : Vec Ideal S512x1024 .f32) (w : Vec Ideal S1024x256 .bf16) (p : Fin 512) (j : Fin 256) :
    k0_pay17 (k0_pay7 x0) w (ix2 p j) = ∑ k : Fin 1024, x0 (ix2 p k) * w (ix2 k j) := by
  unfold_payloads
  pointwise
theorem pay2_at (x0 : Vec Ideal S512x1024 .f32) (w : Vec Ideal S1024x256 .bf16) (p : Fin 512) (j : Fin 256) :
    k0_pay2 (k0_pay7 x0) w (ix2 p j) = ∑ k : Fin 1024, x0 (ix2 p k) * w (ix2 k j) := by
  unfold_payloads
  pointwise
theorem pay3_at (x0 : Vec Ideal S512x1024 .f32) (w : Vec Ideal S1024x1024 .bf16) (p : Fin 512) (j : Fin 1024) :
    k0_pay3 (k0_pay7 x0) w (ix2 p j) = ∑ k : Fin 1024, x0 (ix2 p k) * w (ix2 k j) := by
  unfold_payloads
  pointwise

theorem V_c (t : Fin 8192) (l : Fin 128) : V m c main_v33 (ix2 t l) = tabC (fun f => Ideal.cos (ang t.val f.val)) l.val := by
  have h : V m c main_v33 = select (broadcastInDim S8192x128 ![0, 1] bcast_S1x128_S8192x128_0_1 (broadcastInDim S1x128 ![1] bcast_S128_S1x128_1 fun i => lit1 (S128.rowMajor i)))
      (Host.gather gather_S8192x8_S128x1_S8192x128_0_1_n_n_1_1_81921 (Host.cos angles) lanes)
      (broadcastInDim S8192x128 ![] bcast_S_S8192x128 (constant S_ .f32 0x3F800000#32)) := by
    unfold V
    simp only [hostOps0, hostOps0_1, hostOps0_2, hostOps0_3, hostOps0_4, hostOps0_5, hostOps0_6, List.flatten_cons, List.flatten_nil, List.append_nil, List.cons_append, List.nil_append]
    after_results_simp <;> rfl
  rw [h]; refine (table_at lit1 (Host.cos angles) _ t l).trans ?_; rw [mask1]
  unfold tabC
  split_ifs
  all_goals first | contradiction | (exact congrArg Ideal.cos (angles_at _ _)) | (simp [Ideal.ofBits, Ideal.ieee, -EReal.coe_mul]; norm_num; done) | (simp [Ideal.ofBits, Ideal.ieee]; done)

theorem V_s1 (t : Fin 8192) (l : Fin 128) : V m c main_v36 (ix2 t l) = tabS1 (fun f => Ideal.sin (ang t.val f.val)) l.val := by
  have h : V m c main_v36 = select (broadcastInDim S8192x128 ![0, 1] bcast_S1x128_S8192x128_0_1 (broadcastInDim S1x128 ![1] bcast_S128_S1x128_1 fun i => lit2 (S128.rowMajor i)))
      (Host.negf (Host.gather gather_S8192x8_S128x1_S8192x128_0_1_n_n_1_1_81921 (Host.sin angles) lanes))
      (broadcastInDim S8192x128 ![] bcast_S_S8192x128 (constant S_ .f32 0x00000000#32)) := by
    unfold V
    simp only [hostOps0, hostOps0_1, hostOps0_2, hostOps0_3, hostOps0_4, hostOps0_5, hostOps0_6, List.flatten_cons, List.flatten_nil, List.append_nil, List.cons_append, List.nil_append]
    after_results_simp <;> rfl
  rw [h]; refine (table_at lit2 (Host.negf (Host.sin angles)) _ t l).trans ?_; rw [mask2]
  unfold tabS1
  split_ifs
  all_goals first | contradiction | (exact congrArg (fun a => - Ideal.sin a) (angles_at _ _)) | (simp [Ideal.ofBits, Ideal.ieee, -EReal.coe_mul]; norm_num; done) | (simp [Ideal.ofBits, Ideal.ieee]; done)

theorem V_s2 (t : Fin 8192) (l : Fin 128) : V m c main_v38 (ix2 t l) = tabS2 (fun f => Ideal.sin (ang t.val f.val)) l.val := by
  have h : V m c main_v38 = select (broadcastInDim S8192x128 ![0, 1] bcast_S1x128_S8192x128_0_1 (broadcastInDim S1x128 ![1] bcast_S128_S1x128_1 fun i => lit3 (S128.rowMajor i)))
      (Host.gather gather_S8192x8_S128x1_S8192x128_0_1_n_n_1_1_81921 (Host.sin angles) lanes)
      (broadcastInDim S8192x128 ![] bcast_S_S8192x128 (constant S_ .f32 0x00000000#32)) := by
    unfold V
    simp only [hostOps0, hostOps0_1, hostOps0_2, hostOps0_3, hostOps0_4, hostOps0_5, hostOps0_6, List.flatten_cons, List.flatten_nil, List.append_nil, List.cons_append, List.nil_append]
    after_results_simp <;> rfl
  rw [h]; refine (table_at lit3 (Host.sin angles) _ t l).trans ?_; rw [mask3]
  unfold tabS2
  split_ifs
  all_goals first | contradiction | (exact congrArg Ideal.sin (angles_at _ _)) | (simp [Ideal.ofBits, Ideal.ieee, -EReal.coe_mul]; norm_num; done) | (simp [Ideal.ofBits, Ideal.ieee]; done)

theorem rows_at (x : FVec Ideal S4x8192x1024 .f32) (r : Fin 32768) (k : Fin 1024) :
    shapeCast S32768x1024 x shapeCasts_S4x8192x1024_S32768x1024 (ix2 r k)
      = x (ix3 (⟨r.val / 8192, by omega⟩ : Fin 4) (⟨r.val % 8192, by omega⟩ : Fin 8192) k) := by
  pointwise

theorem V_x (r : Fin 32768) (k : Fin 1024) : V m c main_v39 (ix2 r k)
    = m ((c : Thread nD τ).loc main_arg0) (ix3 (⟨r.val / 8192, by omega⟩ : Fin 4) (⟨r.val % 8192, by omega⟩ : Fin 8192) k) := by
  have h : V m c main_v39 = shapeCast S32768x1024 (m ((c : Thread nD τ).loc main_arg0)) shapeCasts_S4x8192x1024_S32768x1024 := by
    unfold V
    simp only [hostOps0, hostOps0_1, hostOps0_2, hostOps0_3, hostOps0_4, hostOps0_5, hostOps0_6, List.flatten_cons, List.flatten_nil, List.append_nil, List.cons_append, List.nil_append]
    after_results_simp <;> rfl
  rw [h]
  exact rows_at _ r k

theorem V_w : V m c main_v40 = m ((c : Thread nD τ).loc main_arg1) := by
  unfold V
  simp only [hostOps0, hostOps0_1, hostOps0_2, hostOps0_3, hostOps0_4, hostOps0_5, hostOps0_6, List.flatten_cons, List.flatten_nil, List.append_nil, List.cons_append, List.nil_append]
  after_results_simp <;> rfl

theorem ind0 : ∀ t : Fin cfg0.N, win0_0.index t = ![(grid0.coords t 0).val, 0] :=
  (by decide +kernel : ∀ t : Fin grid0.N, _)
theorem ind1 : ∀ t : Fin cfg0.N, win0_1.index t = ![0, 0] :=
  (by decide +kernel : ∀ t : Fin grid0.N, _)
theorem ind2 : ∀ t : Fin cfg0.N, win0_2.index t = ![(grid0.coords t 0).val % 16, 0] :=
  (by decide +kernel : ∀ t : Fin grid0.N, _)
theorem ind3 : ∀ t : Fin cfg0.N, win0_3.index t = ![(grid0.coords t 0).val % 16, 0] :=
  (by decide +kernel : ∀ t : Fin grid0.N, _)
theorem ind4 : ∀ t : Fin cfg0.N, win0_4.index t = ![(grid0.coords t 0).val % 16, 0] :=
  (by decide +kernel : ∀ t : Fin grid0.N, _)
theorem ind5 : ∀ t : Fin cfg0.N, win0_5.index t = ![(grid0.coords t 0).val, 0] :=
  (by decide +kernel : ∀ t : Fin grid0.N, _)
theorem ind6 : ∀ t : Fin cfg0.N, win0_6.index t = ![(grid0.coords t 0).val, 0] :=
  (by decide +kernel : ∀ t : Fin grid0.N, _)
theorem ind7 : ∀ t : Fin cfg0.N, win0_7.index t = ![(grid0.coords t 0).val, 0] :=
  (by decide +kernel : ∀ t : Fin grid0.N, _)
theorem ind8 : ∀ t : Fin cfg0.N, win0_8.index t = ![(grid0.coords t 0).val, 0] :=
  (by decide +kernel : ∀ t : Fin grid0.N, _)
theorem lt0 (t : Fin cfg0.N) : (grid0.coords t 0).val < 64 := (grid0.coords t 0).isLt

/-- A row of a point's tile, its batch and its position. -/
def row (t : Fin cfg0.N) (p : Fin 512) : Fin 32768 := ⟨(grid0.coords t 0).val * 512 + p.val, by have := lt0 t; omega⟩
def bat (r : Fin 32768) : Fin 4 := ⟨r.val / 8192, by omega⟩
def pos (r : Fin 32768) : Fin 8192 := ⟨r.val % 8192, by omega⟩
def seat (t : Fin cfg0.N) (p : Fin 512) : Fin 8192 := ⟨(grid0.coords t 0).val % 16 * 512 + p.val, by omega⟩
theorem seat_eq (t : Fin cfg0.N) (p : Fin 512) : seat t p = pos (row t p) :=
  Fin.ext (by show (grid0.coords t 0).val % 16 * 512 + p.val = ((grid0.coords t 0).val * 512 + p.val) % 8192; omega)

theorem blk0 (t : Fin cfg0.N) (p : Fin 512) (k : Fin 1024) : iblk m c 0 t (ix2 p k) = V m c main_v39 (ix2 (row t p) k) := by
  blk_simp [iblk]
  congr 1
  blk_ext [ind0]
  all_goals rfl

theorem blk1 (t : Fin cfg0.N) (k : Fin 1024) (j : Fin 2560) : iblk m c 1 t (ix2 k j) = V m c main_v40 (ix2 k j) := by
  blk_simp [iblk]
  congr 1
  blk_ext [ind1]
  all_goals rfl

theorem blk2 (t : Fin cfg0.N) (p : Fin 512) (l : Fin 128) : iblk m c 2 t (ix2 p l) = V m c main_v33 (ix2 (seat t p) l) := by
  blk_simp [iblk]
  congr 1
  blk_ext [ind2]
  all_goals rfl

theorem blk3 (t : Fin cfg0.N) (p : Fin 512) (l : Fin 128) : iblk m c 3 t (ix2 p l) = V m c main_v36 (ix2 (seat t p) l) := by
  blk_simp [iblk]
  congr 1
  blk_ext [ind3]
  all_goals rfl

theorem blk4 (t : Fin cfg0.N) (p : Fin 512) (l : Fin 128) : iblk m c 4 t (ix2 p l) = V m c main_v38 (ix2 (seat t p) l) := by
  blk_simp [iblk]
  congr 1
  blk_ext [ind4]
  all_goals rfl

/-- Arrays of the launch. -/
abbrev ax : FVec Ideal S4x8192x1024 .f32 := m ((c : Thread nD τ).loc main_arg0)
abbrev aw : FVec Ideal S1024x2560 .f32 := m ((c : Thread nD τ).loc main_arg1)

def tile (x0 : Vec Ideal S512x1024 .f32) (x1 : Vec Ideal S1024x2560 .bf16) (p : Fin 512) (j : Fin 2560) : EReal :=
  ∑ k : Fin 1024, x0 (ix2 p k) * x1 (ix2 k j)

theorem tile_eq (t : Fin cfg0.N) (p : Fin 512) (n : ℕ) (h : n < 2560) : tile (iblk m c 0 t) (iblk m c 1 t) p ⟨n, h⟩
      = prd (W := 2560) (ax m c) (aw m c) (bat (row t p)) (pos (row t p)) n := by
  refine Eq.trans ?_ (prd_eq (W := 2560) (ax m c) (aw m c) (bat (row t p)) (pos (row t p)) h rfl)
  unfold tile
  refine Finset.sum_congr rfl fun k _ => ?_
  rw [blk0, blk1, V_x, V_w]
  rfl

/-- A tile of the product, turned by the point's tables. -/
theorem tile_roped (t : Fin cfg0.N) (o : ℕ) (y : Vec Ideal S512x1024 .f32) (p : Fin 512) (ho : o + 1024 ≤ 2560)
    (hy : ∀ j : Fin 1024, y (ix2 p j) = tile (iblk m c 0 t) (iblk m c 1 t) p ⟨o + j.val, by omega⟩) (T : Fin 8) (l : Fin 128) :
    tileRope y (iblk m c 2 t) (iblk m c 3 t) (iblk m c 4 t) p T.val l (by omega)
      = roped (W := 2560) (ax m c) (aw m c) o (bat (row t p)) (pos (row t p)) (128 * T.val + l.val) := by
  have el : ∀ l < 128, (Fin.ofNat 128 l).val = l := fun l h => Nat.mod_eq_of_lt h
  refine (turn_of (N := 1024) y (iblk m c 2 t) (iblk m c 3 t) (iblk m c 4 t) p T.val l (by omega)).trans ?_
  unfold roped
  rw [← rope_turn]
  refine turn_congr (N := 1024) rfl (by omega) (fun n hn => ?_) (fun l hl => ?_) (fun l hl => ?_) (fun l hl => ?_)
  · refine (hy _).trans ((tile_eq m c t p _ _).trans (congrArg (fun n => prd (W := 2560) (ax m c) (aw m c) _ _ (o + n)) (Nat.mod_eq_of_lt hn)))
  · refine (blk2 m c t p _).trans ((V_c m c _ _).trans ?_)
    rw [seat_eq, el l hl]
  · refine (blk3 m c t p _).trans ((V_s1 m c _ _).trans ?_)
    rw [seat_eq, el l hl]
  · refine (blk4 m c t p _).trans ((V_s2 m c _ _).trans ?_)
    rw [seat_eq, el l hl]

/-- A tile of the product, turned by the point's tables. -/
theorem tile_roped2 (t : Fin cfg0.N) (o : ℕ) (y : Vec Ideal S512x256 .f32) (p : Fin 512) (ho : o + 256 ≤ 2560)
    (hy : ∀ j : Fin 256, y (ix2 p j) = tile (iblk m c 0 t) (iblk m c 1 t) p ⟨o + j.val, by omega⟩) (T : Fin 2) (l : Fin 128) :
    tileRope2 y (iblk m c 2 t) (iblk m c 3 t) (iblk m c 4 t) p T.val l (by omega)
      = roped (W := 2560) (ax m c) (aw m c) o (bat (row t p)) (pos (row t p)) (128 * T.val + l.val) := by
  have el : ∀ l < 128, (Fin.ofNat 128 l).val = l := fun l h => Nat.mod_eq_of_lt h
  refine (turn_of (N := 256) y (iblk m c 2 t) (iblk m c 3 t) (iblk m c 4 t) p T.val l (by omega)).trans ?_
  unfold roped
  rw [← rope_turn]
  refine turn_congr (N := 256) rfl (by omega) (fun n hn => ?_) (fun l hl => ?_) (fun l hl => ?_) (fun l hl => ?_)
  · refine (hy _).trans ((tile_eq m c t p _ _).trans (congrArg (fun n => prd (W := 2560) (ax m c) (aw m c) _ _ (o + n)) (Nat.mod_eq_of_lt hn)))
  · refine (blk2 m c t p _).trans ((V_c m c _ _).trans ?_)
    rw [seat_eq, el l hl]
  · refine (blk3 m c t p _).trans ((V_s1 m c _ _).trans ?_)
    rw [seat_eq, el l hl]
  · refine (blk4 m c t p _).trans ((V_s2 m c _ _).trans ?_)
    rw [seat_eq, el l hl]

theorem pair (n0 n1 : ℕ) (i : (⟨2, ![n0, n1]⟩ : Shape).Idx) : i = ix2 (i 0) (i 1) := by
  funext a
  match a with
  | ⟨0, _⟩ => rfl
  | ⟨1, _⟩ => rfl

theorem ld1 (x : Vec Ideal S512x1024 .f32) : View.ld x r0_1 = x := by
  funext i
  refine congrArg x (funext fun a => Fin.ext ?_)
  match a with
  | ⟨0, _⟩ => show 0 + 1 * (i 0).val = (i 0).val; omega
  | ⟨1, _⟩ => show 0 + 1 * (i 1).val = (i 1).val; omega
theorem ld0 (x : Vec Ideal S512x128 .f32) : View.ld x r0_0 = x := by
  funext i
  refine congrArg x (funext fun a => Fin.ext ?_)
  match a with
  | ⟨0, _⟩ => show 0 + 1 * (i 0).val = (i 0).val; omega
  | ⟨1, _⟩ => show 0 + 1 * (i 1).val = (i 1).val; omega
theorem ld2 (w : Vec Ideal S1024x2560 .bf16) (k : Fin 1024) (j : Fin 1024) : View.ld w r0_2 (ix2 k j) = w (ix2 k (⟨0 + j.val, by omega⟩ : Fin 2560)) := by
  refine congrArg w (funext fun a => Fin.ext ?_)
  match a with
  | ⟨0, _⟩ => show 0 + 1 * k.val = k.val; omega
  | ⟨1, _⟩ => show 0 + 1 * j.val = 0 + j.val; omega
theorem ld3 (w : Vec Ideal S1024x2560 .bf16) (k : Fin 1024) (j : Fin 256) : View.ld w r0_3 (ix2 k j) = w (ix2 k (⟨1024 + j.val, by omega⟩ : Fin 2560)) := by
  refine congrArg w (funext fun a => Fin.ext ?_)
  match a with
  | ⟨0, _⟩ => show 0 + 1 * k.val = k.val; omega
  | ⟨1, _⟩ => show 1024 + 1 * j.val = 1024 + j.val; omega
theorem ld5 (w : Vec Ideal S1024x2560 .bf16) (k : Fin 1024) (j : Fin 256) : View.ld w r0_5 (ix2 k j) = w (ix2 k (⟨1280 + j.val, by omega⟩ : Fin 2560)) := by
  refine congrArg w (funext fun a => Fin.ext ?_)
  match a with
  | ⟨0, _⟩ => show 0 + 1 * k.val = k.val; omega
  | ⟨1, _⟩ => show 1280 + 1 * j.val = 1280 + j.val; omega
theorem ld6 (w : Vec Ideal S1024x2560 .bf16) (k : Fin 1024) (j : Fin 1024) : View.ld w r0_6 (ix2 k j) = w (ix2 k (⟨1536 + j.val, by omega⟩ : Fin 2560)) := by
  refine congrArg w (funext fun a => Fin.ext ?_)
  match a with
  | ⟨0, _⟩ => show 0 + 1 * k.val = k.val; omega
  | ⟨1, _⟩ => show 1536 + 1 * j.val = 1536 + j.val; omega

/-- The four results: the scaled queries, the keys, the values and the gate's input. -/
def out5 (x : FVec Ideal S4x8192x1024 .f32) (w : FVec Ideal S1024x2560 .f32) : FVec Ideal S32768x1024 .bf16 :=
  fun i => roped (W := 2560) x w 0 (bat (i 0)) (pos (i 0)) (i 1).val * Ideal.ofBits .f32 0x3E000000#32
def out6 (x : FVec Ideal S4x8192x1024 .f32) (w : FVec Ideal S1024x2560 .f32) : FVec Ideal S32768x256 .bf16 :=
  fun i => roped (W := 2560) x w 1024 (bat (i 0)) (pos (i 0)) (i 1).val
def out7 (x : FVec Ideal S4x8192x1024 .f32) (w : FVec Ideal S1024x2560 .f32) : FVec Ideal S32768x256 .bf16 :=
  fun i => prd (W := 2560) x w (bat (i 0)) (pos (i 0)) (1280 + (i 1).val)
def out8 (x : FVec Ideal S4x8192x1024 .f32) (w : FVec Ideal S1024x2560 .f32) : FVec Ideal S32768x1024 .f32 :=
  fun i => prd (W := 2560) x w (bat (i 0)) (pos (i 0)) (1536 + (i 1).val)

theorem emb5 (t : Fin cfg0.N) (p : Fin 512) (j : Fin 1024) : (win0_5.blk t).view.emb (ix2 p j) = ix2 (row t p) j := by
  blk_ext [ind5]
  all_goals rfl
theorem emb6 (t : Fin cfg0.N) (p : Fin 512) (j : Fin 256) : (win0_6.blk t).view.emb (ix2 p j) = ix2 (row t p) j := by
  blk_ext [ind6]
  all_goals rfl
theorem emb7 (t : Fin cfg0.N) (p : Fin 512) (j : Fin 256) : (win0_7.blk t).view.emb (ix2 p j) = ix2 (row t p) j := by
  blk_ext [ind7]
  all_goals rfl
theorem emb8 (t : Fin cfg0.N) (p : Fin 512) (j : Fin 1024) : (win0_8.blk t).view.emb (ix2 p j) = ix2 (row t p) j := by
  blk_ext [ind8]
  all_goals rfl

theorem split (j : Fin 1024) : ∃ (T : Fin 8) (l : Fin 128), j = ⟨128 * T.val + l.val, by omega⟩ :=
  ⟨⟨j.val / 128, by omega⟩, ⟨j.val % 128, by omega⟩, Fin.ext (by show j.val = 128 * (j.val / 128) + j.val % 128; omega)⟩
theorem split2 (j : Fin 256) : ∃ (T : Fin 2) (l : Fin 128), j = ⟨128 * T.val + l.val, by omega⟩ :=
  ⟨⟨j.val / 128, by omega⟩, ⟨j.val % 128, by omega⟩, Fin.ext (by show j.val = 128 * (j.val / 128) + j.val % 128; omega)⟩

theorem q_tile (x0 : Vec Ideal S512x1024 .f32) (x1 : Vec Ideal S1024x2560 .bf16) (p : Fin 512) (j : Fin 1024) :
    k0_pay8 x0 (View.ld x1 r0_2) (ix2 p j) = tile x0 x1 p ⟨0 + j.val, by omega⟩ := by
  rw [pay8_at]
  exact Finset.sum_congr rfl fun k _ => congrArg (x0 (ix2 p k) * ·) (ld2 x1 k j)

theorem k_tile (x0 : Vec Ideal S512x1024 .f32) (x1 : Vec Ideal S1024x2560 .bf16) (p : Fin 512) (j : Fin 256) :
    k0_pay17 (k0_pay7 x0) (View.ld x1 r0_3) (ix2 p j) = tile x0 x1 p ⟨1024 + j.val, by omega⟩ := by
  rw [pay17_at]
  exact Finset.sum_congr rfl fun k _ => congrArg (x0 (ix2 p k) * ·) (ld3 x1 k j)

theorem v_tile (x0 : Vec Ideal S512x1024 .f32) (x1 : Vec Ideal S1024x2560 .bf16) (p : Fin 512) (j : Fin 256) :
    k0_pay2 (k0_pay7 x0) (View.ld x1 r0_5) (ix2 p j) = tile x0 x1 p ⟨1280 + j.val, by omega⟩ := by
  rw [pay2_at]
  exact Finset.sum_congr rfl fun k _ => congrArg (x0 (ix2 p k) * ·) (ld5 x1 k j)

theorem z_tile (x0 : Vec Ideal S512x1024 .f32) (x1 : Vec Ideal S1024x2560 .bf16) (p : Fin 512) (j : Fin 1024) :
    k0_pay3 (k0_pay7 x0) (View.ld x1 r0_6) (ix2 p j) = tile x0 x1 p ⟨1536 + j.val, by omega⟩ := by
  rw [pay3_at]
  exact Finset.sum_congr rfl fun k _ => congrArg (x0 (ix2 p k) * ·) (ld6 x1 k j)

theorem point5 (t : Fin cfg0.N) (p : Fin 512) (j : Fin 1024) :
    out0_5 (iblk m c 0 t) (iblk m c 1 t) (iblk m c 2 t) (iblk m c 3 t) (iblk m c 4 t) (ix2 p j) = out5 (ax m c) (aw m c) (ix2 (row t p) j) := by
  unfold_out out0_5
  frame_out
  try simp only [ld0, ld1]
  obtain ⟨T, l, rfl⟩ := split j
  exact (q_at _ _ _ _ _ p T l).trans (congrArg (· * Ideal.ofBits .f32 0x3E000000#32) (tile_roped m c t 0 _ p (by norm_num) (fun j => q_tile _ _ p j) T l))

theorem point6 (t : Fin cfg0.N) (p : Fin 512) (j : Fin 256) :
    out0_6 (iblk m c 0 t) (iblk m c 1 t) (iblk m c 2 t) (iblk m c 3 t) (iblk m c 4 t) (ix2 p j) = out6 (ax m c) (aw m c) (ix2 (row t p) j) := by
  unfold_out out0_6
  frame_out
  try simp only [ld0, ld1]
  obtain ⟨T, l, rfl⟩ := split2 j
  exact (keys_at _ _ _ _ _ p T l).trans (tile_roped2 m c t 1024 _ p (by norm_num) (fun j => k_tile _ _ p j) T l)

theorem point7 (t : Fin cfg0.N) (p : Fin 512) (j : Fin 256) :
    out0_7 (iblk m c 0 t) (iblk m c 1 t) (iblk m c 2 t) (iblk m c 3 t) (iblk m c 4 t) (ix2 p j) = out7 (ax m c) (aw m c) (ix2 (row t p) j) := by
  unfold_out out0_7
  frame_out
  try simp only [ld0, ld1]
  exact (v_tile _ _ p j).trans (tile_eq m c t p (1280 + j.val) (by omega))

theorem point8 (t : Fin cfg0.N) (p : Fin 512) (j : Fin 1024) :
    out0_8 (iblk m c 0 t) (iblk m c 1 t) (iblk m c 2 t) (iblk m c 3 t) (iblk m c 4 t) (ix2 p j) = out8 (ax m c) (aw m c) (ix2 (row t p) j) := by
  unfold_out out0_8
  frame_out
  try simp only [ld0, ld1]
  exact (z_tile _ _ p j).trans (tile_eq m c t p (1536 + j.val) (by omega))

theorem final5 : (dats m 0 c).arrAt 5 cfg0.N = out5 (ax m c) (aw m c) := by
  refine (dats m 0 c).arrAt_eq_of_covers 5 _ (by decide +kernel) fun t hf y => ?_
  blk_simp
  rw [after0_5]
  obtain ⟨p, j, rfl⟩ : ∃ (p : Fin 512) (j : Fin 1024), y = ix2 p j := ⟨y 0, y 1, pair 512 1024 y⟩
  exact (point5 m c t p j).trans (congrArg (out5 (ax m c) (aw m c)) (emb5 t p j).symm)

theorem final6 : (dats m 0 c).arrAt 6 cfg0.N = out6 (ax m c) (aw m c) := by
  refine (dats m 0 c).arrAt_eq_of_covers 6 _ (by decide +kernel) fun t hf y => ?_
  blk_simp
  rw [after0_6]
  obtain ⟨p, j, rfl⟩ : ∃ (p : Fin 512) (j : Fin 256), y = ix2 p j := ⟨y 0, y 1, pair 512 256 y⟩
  exact (point6 m c t p j).trans (congrArg (out6 (ax m c) (aw m c)) (emb6 t p j).symm)

theorem final7 : (dats m 0 c).arrAt 7 cfg0.N = out7 (ax m c) (aw m c) := by
  refine (dats m 0 c).arrAt_eq_of_covers 7 _ (by decide +kernel) fun t hf y => ?_
  blk_simp
  rw [after0_7]
  obtain ⟨p, j, rfl⟩ : ∃ (p : Fin 512) (j : Fin 256), y = ix2 p j := ⟨y 0, y 1, pair 512 256 y⟩
  exact (point7 m c t p j).trans (congrArg (out7 (ax m c) (aw m c)) (emb7 t p j).symm)

theorem final8 : (dats m 0 c).arrAt 8 cfg0.N = out8 (ax m c) (aw m c) := by
  refine (dats m 0 c).arrAt_eq_of_covers 8 _ (by decide +kernel) fun t hf y => ?_
  blk_simp
  rw [after0_8]
  obtain ⟨p, j, rfl⟩ : ∃ (p : Fin 512) (j : Fin 1024), y = ix2 p j := ⟨y 0, y 1, pair 512 1024 y⟩
  exact (point8 m c t p j).trans (congrArg (out8 (ax m c) (aw m c)) (emb8 t p j).symm)

end Cert.SwaProjIdeal.Val

namespace Cert.SwaProjRefIdeal.Val
open Cert.SwaProjRefIdeal Cert.SwaProjRefIdeal.Gen Cert.Rope Cert.SwaProjIdeal.Val
open Idealize.ShloMosaic Idealize.ShloMosaic.TcCoe Idealize.SL.Sem

section
variable (m : (ℓ : Loc nD τ sig) → Buf (Elt Ideal) ℓ) (c : Dev nD)

theorem ref5 : Cert.SwaProjRefIdeal.Value.res_main_v66 m c = out5 (m ((c.tc : Thread nD τ).loc main_arg0)) (m ((c.tc : Thread nD τ).loc main_arg1)) := by
  funext i
  obtain ⟨r, j, rfl⟩ : ∃ (r : Fin 32768) (j : Fin 1024), i = ix2 r j := ⟨i 0, i 1, pair _ _ i⟩
  unfold Cert.SwaProjRefIdeal.Value.res_main_v66
  generalize m ((c.tc : Thread nD τ).loc main_arg0) = x
  generalize m ((c.tc : Thread nD τ).loc main_arg1) = w
  pointwise
  refine congrArg (· * Ideal.ofBits .f32 0x3E000000#32) (Eq.trans ?_ (roped_of x w 0 (bat r) (pos r) j.val (fun n => prd x w (bat r) (pos r) n)
    (fun n _ => congrArg (prd x w (bat r) (pos r)) (Nat.zero_add n).symm)))
  simp only [prd_eq x w _ _ _ rfl]
  rfl

theorem ref6 : Cert.SwaProjRefIdeal.Value.res_main_v68 m c = out6 (m ((c.tc : Thread nD τ).loc main_arg0)) (m ((c.tc : Thread nD τ).loc main_arg1)) := by
  funext i
  obtain ⟨r, j, rfl⟩ : ∃ (r : Fin 32768) (j : Fin 256), i = ix2 r j := ⟨i 0, i 1, pair _ _ i⟩
  unfold Cert.SwaProjRefIdeal.Value.res_main_v68
  generalize m ((c.tc : Thread nD τ).loc main_arg0) = x
  generalize m ((c.tc : Thread nD τ).loc main_arg1) = w
  pointwise
  refine Eq.trans ?_ (roped_of x w 1024 (bat r) (pos r) j.val (fun n => prd x w (bat r) (pos r) (1024 + n)) (fun _ _ => rfl))
  simp only [prd_eq x w _ _ _ rfl]
  rfl

end

section
variable (x : FVec Ideal S4x8192x1024 .f32) (w : FVec Ideal S1024x2560 .f32)

/-- The product, before it is cut in four. -/
abbrev whole : FVec Ideal S4x8192x2560 .f32 := Host.dotGeneral dot_S4x8192x1024_S1024x2560_S4x8192x2560_2_0_01_1_n_n none x w

theorem ref7 : truncf .bf16 (shapeCast S32768x256 (extractStridedSlice S4x8192x256 ![0, 0, 1280] (whole x w) slices_S4x8192x2560_S4x8192x256_0_0_1280) shapeCasts_S4x8192x256_S32768x256) bitsLt_bf16_f32 = out7 x w := by
  funext i
  obtain ⟨r, j, rfl⟩ : ∃ (r : Fin 32768) (j : Fin 256), i = ix2 r j := ⟨i 0, i 1, pair _ _ i⟩
  pointwise
  exact prd_eq x w (bat r) (pos r) _ rfl

theorem ref8 : shapeCast S32768x1024 (extractStridedSlice S4x8192x1024 ![0, 0, 1536] (whole x w) slices_S4x8192x2560_S4x8192x1024_0_0_1536) shapeCasts_S4x8192x1024_S32768x1024 = out8 x w := by
  funext i
  obtain ⟨r, j, rfl⟩ : ∃ (r : Fin 32768) (j : Fin 1024), i = ix2 r j := ⟨i 0, i 1, pair _ _ i⟩
  pointwise
  exact prd_eq x w (bat r) (pos r) _ rfl
end

end Cert.SwaProjRefIdeal.Val
-- ==== Proof.Val.DilOut.lean ====
/-
  The dilated layer's output block: what one grid point stores, and the result.
-/
module

public import proofs.«01_k».proof.Proof.Gen.DilOutIdeal.Value
public import Idealize.ShloMosaic.Lib.Pointwise
public import Idealize.ShloMosaic.Lib.IdealHost
public import Idealize.ShloMosaic.Lib.Pipeline.ValueKit
public import Idealize.ShloMosaic.Lib.Pipeline.StridedRows
public import Idealize.ShloMosaic.Lib.Pipeline.CanonAppend

@[expose] public section

set_option maxRecDepth 65536

noncomputable section

namespace Cert.DilOutIdeal.Val

open Cert.DilOutIdeal Cert.DilOutIdeal.Gen
open Idealize.ShloMosaic Idealize.ShloMosaic.TcCoe Idealize.SL.Sem

/-! ## The scratch buffers -/

/-- The first values of a sequence, the last one first. -/
def down {α : Type} (f : ℕ → α) : ℕ → List α
  | 0 => []
  | n + 1 => f n :: down f n

theorem mem_down {α : Type} (f : ℕ → α) (p : α) : ∀ n, p ∈ down f n → ∃ k, k < n ∧ p = f k
  | n + 1, h => by
    rcases List.mem_cons.mp h with rfl | h
    · exact ⟨n, by omega, rfl⟩
    · obtain ⟨k, hk, e⟩ := mem_down f p n h
      exact ⟨k, by omega, e⟩
theorem down_mem {α : Type} (f : ℕ → α) (k : ℕ) : ∀ n, k < n → f k ∈ down f n
  | n + 1, h => by
    by_cases e : k = n
    · subst e; exact List.mem_cons_self
    · exact List.mem_cons_of_mem _ (down_mem f k n (by omega))

abbrev PieceY : Type := View.Piece (Elt Ideal) S8x256x128 .f32
abbrev PieceL : Type := View.Piece (Elt Ideal) S1x256x128 .f32

/-- The columns a store reads. -/
def col_st4 (n : ℕ) : Rect S64x4096 := Rect.unit (s := S64x4096) ![0, n % 32 * 128] S64x128.size fun a => by
  match a with
  | ⟨0, _⟩ => show 0 + 64 ≤ 64; omega
  | ⟨1, _⟩ => show n % 32 * 128 + 128 ≤ 4096; omega
/-- The columns a store reads. -/
def col_st16 (n : ℕ) : Rect S16x16384 := Rect.unit (s := S16x16384) ![0, n % 128 * 128] S16x128.size fun a => by
  match a with
  | ⟨0, _⟩ => show 0 + 16 ≤ 16; omega
  | ⟨1, _⟩ => show n % 128 * 128 + 128 ≤ 16384; omega
/-- The columns a store reads. -/
def col_sl4 (n : ℕ) : Rect S64x512 := Rect.unit (s := S64x512) ![0, n % 4 * 128] S64x128.size fun a => by
  match a with
  | ⟨0, _⟩ => show 0 + 64 ≤ 64; omega
  | ⟨1, _⟩ => show n % 4 * 128 + 128 ≤ 512; omega
/-- The columns a store reads. -/
def col_sl16 (n : ℕ) : Rect S16x2048 := Rect.unit (s := S16x2048) ![0, n % 16 * 128] S16x128.size fun a => by
  match a with
  | ⟨0, _⟩ => show 0 + 16 ≤ 16; omega
  | ⟨1, _⟩ => show n % 16 * 128 + 128 ≤ 2048; omega
/-- The `n`-th store of the second group's outputs. -/
def st4 (x : Vec Ideal S64x4096 .f32) (n : ℕ) : PieceY :=
  ⟨StridedRows.rowRect (C := 8) (N := 64) (DP := 4) (D := 4) (L := 128) le_rfl ⟨n % 8, by omega⟩ ⟨n / 8 % 4, by omega⟩,
    shapeCast S1x64x128 (shapeCast S64x128 (View.ld x (col_st4 n)) shapeCasts_S64x128_S64x128) shapeCasts_S64x128_S1x64x128⟩
/-- The `n`-th store of the third group's outputs. -/
def st16 (x : Vec Ideal S16x16384 .f32) (n : ℕ) : PieceY :=
  ⟨StridedRows.rowRect (C := 8) (N := 16) (DP := 16) (D := 16) (L := 128) le_rfl ⟨n % 8, by omega⟩ ⟨n / 8 % 16, by omega⟩,
    shapeCast S1x16x128 (shapeCast S16x128 (View.ld x (col_st16 n)) shapeCasts_S16x128_S16x128) shapeCasts_S16x128_S1x16x128⟩
/-- The `n`-th store of the second group's denominators. -/
def sl4 (x : Vec Ideal S64x512 .f32) (n : ℕ) : PieceL :=
  ⟨StridedRows.rowRect (C := 1) (N := 64) (DP := 4) (D := 4) (L := 128) le_rfl ⟨0, by omega⟩ ⟨n % 4, by omega⟩,
    shapeCast S1x64x128 (shapeCast S64x128 (View.ld x (col_sl4 n)) shapeCasts_S64x128_S64x128) shapeCasts_S64x128_S1x64x128⟩
/-- The `n`-th store of the third group's denominators. -/
def sl16 (x : Vec Ideal S16x2048 .f32) (n : ℕ) : PieceL :=
  ⟨StridedRows.rowRect (C := 1) (N := 16) (DP := 16) (D := 16) (L := 128) le_rfl ⟨0, by omega⟩ ⟨n % 16, by omega⟩,
    shapeCast S1x16x128 (shapeCast S16x128 (View.ld x (col_sl16 n)) shapeCasts_S16x128_S16x128) shapeCasts_S16x128_S1x16x128⟩

/-- What a group's outputs and denominators leave in the buffers. -/
def G4 (x : Vec Ideal S64x4096 .f32) (y : S8x256x128.Idx) : EReal :=
  x (ix2 (⟨(y 1).val / 4, by have : (y 1).val < 256 := (y 1).isLt; omega⟩ : Fin 64)
    (⟨(y 1).val % 4 * 1024 + (y 0).val * 128 + (y 2).val, by have : (y 0).val < 8 := (y 0).isLt; have : (y 2).val < 128 := (y 2).isLt; omega⟩ : Fin 4096))
def G16 (x : Vec Ideal S16x16384 .f32) (y : S8x256x128.Idx) : EReal :=
  x (ix2 (⟨(y 1).val / 16, by have : (y 1).val < 256 := (y 1).isLt; omega⟩ : Fin 16)
    (⟨(y 1).val % 16 * 1024 + (y 0).val * 128 + (y 2).val, by have : (y 0).val < 8 := (y 0).isLt; have : (y 2).val < 128 := (y 2).isLt; omega⟩ : Fin 16384))
def H4 (x : Vec Ideal S64x512 .f32) (y : S1x256x128.Idx) : EReal :=
  x (ix2 (⟨(y 1).val / 4, by have : (y 1).val < 256 := (y 1).isLt; omega⟩ : Fin 64)
    (⟨(y 1).val % 4 * 128 + (y 2).val, by have : (y 2).val < 128 := (y 2).isLt; omega⟩ : Fin 512))
def H16 (x : Vec Ideal S16x2048 .f32) (y : S1x256x128.Idx) : EReal :=
  x (ix2 (⟨(y 1).val / 16, by have : (y 1).val < 256 := (y 1).isLt; omega⟩ : Fin 16)
    (⟨(y 1).val % 16 * 128 + (y 2).val, by have : (y 2).val < 128 := (y 2).isLt; omega⟩ : Fin 2048))

theorem cast64 (v : Vec Ideal S64x128 .f32) (a : Fin 64) (b : Fin 128) :
    shapeCast S1x64x128 (shapeCast S64x128 v shapeCasts_S64x128_S64x128) shapeCasts_S64x128_S1x64x128 (ix3 0 a b) = v (ix2 a b) := by
  pointwise
theorem cast16 (v : Vec Ideal S16x128 .f32) (a : Fin 16) (b : Fin 128) :
    shapeCast S1x16x128 (shapeCast S16x128 v shapeCasts_S16x128_S16x128) shapeCasts_S16x128_S1x16x128 (ix3 0 a b) = v (ix2 a b) := by
  pointwise

theorem triple (n1 n2 : ℕ) (i : (⟨3, ![1, n1, n2]⟩ : Shape).Idx) : i = ix3 0 (i 1) (i 2) := by
  funext a
  match a with
  | ⟨0, _⟩ => exact Fin.ext (by have h : (i 0).val < 1 := (i 0).isLt; show (i 0).val = 0; omega)
  | ⟨1, _⟩ => rfl
  | ⟨2, _⟩ => rfl
theorem ext2 {n0 n1 : ℕ} {i k : (⟨2, ![n0, n1]⟩ : Shape).Idx} (h0 : (i 0).val = (k 0).val) (h1 : (i 1).val = (k 1).val) : i = k := by
  funext a
  match a with
  | ⟨0, _⟩ => exact Fin.ext h0
  | ⟨1, _⟩ => exact Fin.ext h1

theorem st4_eq (x : Vec Ideal S64x4096 .f32) (n : ℕ) (hn : n < 32) (i : (st4 x n).1.shape.Idx) : (st4 x n).2 i = G4 x ((st4 x n).1.emb i) := by
  obtain ⟨a, b, rfl⟩ : ∃ (a : Fin 64) (b : Fin 128), i = ix3 0 a b := ⟨i 1, i 2, triple 64 128 i⟩
  refine Eq.trans (show _ = (View.ld x (col_st4 n) : Vec Ideal S64x128 .f32) (ix2 a b) from cast64 (View.ld x (col_st4 n)) a b) ?_
  refine congrArg x (ext2 ?_ ?_)
  · show 0 + 1 * a.val = (n / 8 % 4 + 4 * a.val) / 4
    omega
  · show n % 32 * 128 + 1 * b.val = (n / 8 % 4 + 4 * a.val) % 4 * 1024 + (n % 8 + 1 * 0) * 128 + (0 + 1 * b.val)
    omega
theorem st16_eq (x : Vec Ideal S16x16384 .f32) (n : ℕ) (hn : n < 128) (i : (st16 x n).1.shape.Idx) : (st16 x n).2 i = G16 x ((st16 x n).1.emb i) := by
  obtain ⟨a, b, rfl⟩ : ∃ (a : Fin 16) (b : Fin 128), i = ix3 0 a b := ⟨i 1, i 2, triple 16 128 i⟩
  refine Eq.trans (show _ = (View.ld x (col_st16 n) : Vec Ideal S16x128 .f32) (ix2 a b) from cast16 (View.ld x (col_st16 n)) a b) ?_
  refine congrArg x (ext2 ?_ ?_)
  · show 0 + 1 * a.val = (n / 8 % 16 + 16 * a.val) / 16
    omega
  · show n % 128 * 128 + 1 * b.val = (n / 8 % 16 + 16 * a.val) % 16 * 1024 + (n % 8 + 1 * 0) * 128 + (0 + 1 * b.val)
    omega
theorem sl4_eq (x : Vec Ideal S64x512 .f32) (n : ℕ) (hn : n < 4) (i : (sl4 x n).1.shape.Idx) : (sl4 x n).2 i = H4 x ((sl4 x n).1.emb i) := by
  obtain ⟨a, b, rfl⟩ : ∃ (a : Fin 64) (b : Fin 128), i = ix3 0 a b := ⟨i 1, i 2, triple 64 128 i⟩
  refine Eq.trans (show _ = (View.ld x (col_sl4 n) : Vec Ideal S64x128 .f32) (ix2 a b) from cast64 (View.ld x (col_sl4 n)) a b) ?_
  refine congrArg x (ext2 ?_ ?_)
  · show 0 + 1 * a.val = (n % 4 + 4 * a.val) / 4
    omega
  · show n % 4 * 128 + 1 * b.val = (n % 4 + 4 * a.val) % 4 * 128 + (0 + 1 * b.val)
    omega
theorem sl16_eq (x : Vec Ideal S16x2048 .f32) (n : ℕ) (hn : n < 16) (i : (sl16 x n).1.shape.Idx) : (sl16 x n).2 i = H16 x ((sl16 x n).1.emb i) := by
  obtain ⟨a, b, rfl⟩ : ∃ (a : Fin 16) (b : Fin 128), i = ix3 0 a b := ⟨i 1, i 2, triple 16 128 i⟩
  refine Eq.trans (show _ = (View.ld x (col_sl16 n) : Vec Ideal S16x128 .f32) (ix2 a b) from cast16 (View.ld x (col_sl16 n)) a b) ?_
  refine congrArg x (ext2 ?_ ?_)
  · show 0 + 1 * a.val = (n % 16 + 16 * a.val) / 16
    omega
  · show n % 16 * 128 + 1 * b.val = (n % 16 + 16 * a.val) % 16 * 128 + (0 + 1 * b.val)
    omega

theorem canon_st4 (x : Vec Ideal S64x4096 .f32) (L' : List PieceY) (y : S8x256x128.Idx) : View.canon (down (st4 x) 32 ++ L') y = G4 x y := by
  refine View.canon_append_of_pieces (G4 x) L' _ (fun p hp i => ?_) y ?_
  · obtain ⟨k, hk, rfl⟩ := mem_down _ _ _ hp
    exact st4_eq x k hk i
  · have h0 : (y 0).val < 8 := (y 0).isLt
    have h1 : (y 1).val < 256 := (y 1).isLt
    have h2 : (y 2).val < 128 := (y 2).isLt
    refine ⟨_, down_mem (st4 x) ((y 1).val % 4 * 8 + (y 0).val) 32 (by omega), ?_⟩
    rw [LoadRect.mem_set]
    intro a
    match a with
    | ⟨0, _⟩ => exact ⟨0, Nat.one_pos, by show (y 0).val = ((y 1).val % 4 * 8 + (y 0).val) % 8 + 1 * 0; omega⟩
    | ⟨1, _⟩ => exact ⟨(y 1).val / 4, by show (y 1).val / 4 < 64; omega, by show (y 1).val = ((y 1).val % 4 * 8 + (y 0).val) / 8 % 4 + 4 * ((y 1).val / 4); omega⟩
    | ⟨2, _⟩ => exact ⟨(y 2).val, h2, by show (y 2).val = 0 + 1 * (y 2).val; omega⟩
theorem canon_st16 (x : Vec Ideal S16x16384 .f32) (L' : List PieceY) (y : S8x256x128.Idx) : View.canon (down (st16 x) 128 ++ L') y = G16 x y := by
  refine View.canon_append_of_pieces (G16 x) L' _ (fun p hp i => ?_) y ?_
  · obtain ⟨k, hk, rfl⟩ := mem_down _ _ _ hp
    exact st16_eq x k hk i
  · have h0 : (y 0).val < 8 := (y 0).isLt
    have h1 : (y 1).val < 256 := (y 1).isLt
    have h2 : (y 2).val < 128 := (y 2).isLt
    refine ⟨_, down_mem (st16 x) ((y 1).val % 16 * 8 + (y 0).val) 128 (by omega), ?_⟩
    rw [LoadRect.mem_set]
    intro a
    match a with
    | ⟨0, _⟩ => exact ⟨0, Nat.one_pos, by show (y 0).val = ((y 1).val % 16 * 8 + (y 0).val) % 8 + 1 * 0; omega⟩
    | ⟨1, _⟩ => exact ⟨(y 1).val / 16, by show (y 1).val / 16 < 16; omega, by show (y 1).val = ((y 1).val % 16 * 8 + (y 0).val) / 8 % 16 + 16 * ((y 1).val / 16); omega⟩
    | ⟨2, _⟩ => exact ⟨(y 2).val, h2, by show (y 2).val = 0 + 1 * (y 2).val; omega⟩
theorem canon_sl4 (x : Vec Ideal S64x512 .f32) (L' : List PieceL) (y : S1x256x128.Idx) : View.canon (down (sl4 x) 4 ++ L') y = H4 x y := by
  refine View.canon_append_of_pieces (H4 x) L' _ (fun p hp i => ?_) y ?_
  · obtain ⟨k, hk, rfl⟩ := mem_down _ _ _ hp
    exact sl4_eq x k hk i
  · have h0 : (y 0).val < 1 := (y 0).isLt
    have h1 : (y 1).val < 256 := (y 1).isLt
    have h2 : (y 2).val < 128 := (y 2).isLt
    refine ⟨_, down_mem (sl4 x) ((y 1).val % 4) 4 (by omega), ?_⟩
    rw [LoadRect.mem_set]
    intro a
    match a with
    | ⟨0, _⟩ => exact ⟨0, Nat.one_pos, by show (y 0).val = 0 + 1 * 0; omega⟩
    | ⟨1, _⟩ => exact ⟨(y 1).val / 4, by show (y 1).val / 4 < 64; omega, by show (y 1).val = (y 1).val % 4 % 4 + 4 * ((y 1).val / 4); omega⟩
    | ⟨2, _⟩ => exact ⟨(y 2).val, h2, by show (y 2).val = 0 + 1 * (y 2).val; omega⟩
theorem canon_sl16 (x : Vec Ideal S16x2048 .f32) (L' : List PieceL) (y : S1x256x128.Idx) : View.canon (down (sl16 x) 16 ++ L') y = H16 x y := by
  refine View.canon_append_of_pieces (H16 x) L' _ (fun p hp i => ?_) y ?_
  · obtain ⟨k, hk, rfl⟩ := mem_down _ _ _ hp
    exact sl16_eq x k hk i
  · have h0 : (y 0).val < 1 := (y 0).isLt
    have h1 : (y 1).val < 256 := (y 1).isLt
    have h2 : (y 2).val < 128 := (y 2).isLt
    refine ⟨_, down_mem (sl16 x) ((y 1).val % 16) 16 (by omega), ?_⟩
    rw [LoadRect.mem_set]
    intro a
    match a with
    | ⟨0, _⟩ => exact ⟨0, Nat.one_pos, by show (y 0).val = 0 + 1 * 0; omega⟩
    | ⟨1, _⟩ => exact ⟨(y 1).val / 16, by show (y 1).val / 16 < 16; omega, by show (y 1).val = (y 1).val % 16 % 16 + 16 * ((y 1).val / 16); omega⟩
    | ⟨2, _⟩ => exact ⟨(y 2).val, h2, by show (y 2).val = 0 + 1 * (y 2).val; omega⟩

/-! ## What a point stores -/

/-- What a point stores, from its blocks and what it reads back of the two buffers. -/
def fin (x0 : Vec Ideal S256x1024 .f32) (x3 : Vec Ideal S256x128 .f32) (x6 : Vec Ideal S256x1024 .bf16) (x7 x8 : Vec Ideal S256x1024 .f32)
    (x9 : Vec Ideal S1024x1024 .bf16) (x10 x11 : Vec Ideal S1x1024 .f32) (a b : Vec Ideal S1x256x128 .f32) (u v : Fin 8 → Vec Ideal S1x256x128 .f32) :
    FVec Ideal S256x1024 .f32 :=
  k0_pay1
    (k0_pay224
      (k0_pay222
        (k0_pay77 (k0_pay33 (k0_pay26 b) (k0_pay27 (k0_pay2 x3) (k0_pay7 a) b) (k0_pay28 (k0_pay2 x3) (k0_pay7 a) b) (k0_pay29 (k0_pay2 x3) (k0_pay7 a) b) x6 x0)
          (k0_pay34 (k0_pay26 b) (k0_pay27 (k0_pay2 x3) (k0_pay7 a) b) (k0_pay28 (k0_pay2 x3) (k0_pay7 a) b) (k0_pay29 (k0_pay2 x3) (k0_pay7 a) b) x6)
          (k0_pay71 (u 0)) (k0_pay72 (u 1)) (k0_pay73 (u 2)) (k0_pay74 (u 3)) (k0_pay75 (u 4)) (k0_pay76 (u 5)) (u 6) (u 7))
        (k0_pay78 (k0_pay31 (k0_pay26 b) (k0_pay27 (k0_pay2 x3) (k0_pay7 a) b))
          (k0_pay32 (k0_pay26 b) (k0_pay27 (k0_pay2 x3) (k0_pay7 a) b) (k0_pay28 (k0_pay2 x3) (k0_pay7 a) b) (k0_pay29 (k0_pay2 x3) (k0_pay7 a) b)) x6)
        (k0_pay220 (v 0)) (k0_pay221 (v 1)) (v 2) (v 3) (v 4) (v 5) (v 6) (v 7) x7 x8 x9)
      (k0_pay223
        (k0_pay77 (k0_pay33 (k0_pay26 b) (k0_pay27 (k0_pay2 x3) (k0_pay7 a) b) (k0_pay28 (k0_pay2 x3) (k0_pay7 a) b) (k0_pay29 (k0_pay2 x3) (k0_pay7 a) b) x6 x0)
          (k0_pay34 (k0_pay26 b) (k0_pay27 (k0_pay2 x3) (k0_pay7 a) b) (k0_pay28 (k0_pay2 x3) (k0_pay7 a) b) (k0_pay29 (k0_pay2 x3) (k0_pay7 a) b) x6)
          (k0_pay71 (u 0)) (k0_pay72 (u 1)) (k0_pay73 (u 2)) (k0_pay74 (u 3)) (k0_pay75 (u 4)) (k0_pay76 (u 5)) (u 6) (u 7))
        (k0_pay78 (k0_pay31 (k0_pay26 b) (k0_pay27 (k0_pay2 x3) (k0_pay7 a) b))
          (k0_pay32 (k0_pay26 b) (k0_pay27 (k0_pay2 x3) (k0_pay7 a) b) (k0_pay28 (k0_pay2 x3) (k0_pay7 a) b) (k0_pay29 (k0_pay2 x3) (k0_pay7 a) b)) x6)
        (k0_pay220 (v 0)) (k0_pay221 (v 1)) (v 2) (v 3) (v 4) (v 5) (v 6) (v 7) x7 x8 x9)
      x10)
    x11

/-- A lane block read back. -/
def rdY (L : List PieceY) (k : Fin 8) : Vec Ideal S1x256x128 .f32 :=
  (View.whole cc0_scratch0).readCov L (Rect.unit (s := S8x256x128) ![k.val, 0, 0] S1x256x128.size fun a => by
    match a with
    | ⟨0, _⟩ => show k.val + 1 ≤ 8; omega
    | ⟨1, _⟩ => show 0 + 256 ≤ 256; omega
    | ⟨2, _⟩ => show 0 + 128 ≤ 128; omega).toLoadRect
/-- The denominators read back. -/
def rdL (L : List PieceL) : Vec Ideal S1x256x128 .f32 :=
  (View.whole cc0_scratch1).readCov L (Rect.unit (s := S1x256x128) ![0, 0, 0] S1x256x128.size inb_S1x256x128_S1x256x128_0_0_0).toLoadRect

theorem rdY_at (L : List PieceY) (k : Fin 8) (p : Fin 256) (l : Fin 128) : rdY L k (ix3 0 p l) = View.canon L (ix3 k p l) := by
  unfold rdY
  rw [View.readCov_eq_canon']
  refine congrArg (View.canon L) ?_
  funext a
  match a with
  | ⟨0, _⟩ => exact Fin.ext (show k.val + 1 * 0 = k.val by omega)
  | ⟨1, _⟩ => exact Fin.ext (show 0 + 1 * p.val = p.val by omega)
  | ⟨2, _⟩ => exact Fin.ext (show 0 + 1 * l.val = l.val by omega)
theorem rdL_at (L : List PieceL) (p : Fin 256) (l : Fin 128) : rdL L (ix3 0 p l) = View.canon L (ix3 0 p l) := by
  unfold rdL
  rw [View.readCov_eq_canon']
  refine congrArg (View.canon L) ?_
  funext a
  match a with
  | ⟨0, _⟩ => exact Fin.ext (show 0 + 1 * 0 = 0 by omega)
  | ⟨1, _⟩ => exact Fin.ext (show 0 + 1 * p.val = p.val by omega)
  | ⟨2, _⟩ => exact Fin.ext (show 0 + 1 * l.val = l.val by omega)

variable (m : (ℓ : Loc nD τ sig) → Buf (Elt Ideal) ℓ) (c : Dev nD)

/-- The stores of the denominators of the second group, and of both. -/
abbrev LL4 (x4 : Vec Ideal S64x512 .f32) : List PieceL := down (sl4 x4) 4 ++ []
abbrev LL16 (x4 : Vec Ideal S64x512 .f32) (x5 : Vec Ideal S16x2048 .f32) : List PieceL := down (sl16 x5) 16 ++ LL4 x4
abbrev LY4 (x1 : Vec Ideal S64x4096 .f32) : List PieceY := down (st4 x1) 32 ++ []
abbrev LY16 (x1 : Vec Ideal S64x4096 .f32) (x2 : Vec Ideal S16x16384 .f32) : List PieceY := down (st16 x2) 128 ++ LY4 x1

set_option maxHeartbeats 4000000 in
theorem outs_eq (t : Fin cfg0.N) : outsAt0 m c t
    = fin (iblk m c 0 t) (iblk m c 3 t) (iblk m c 6 t) (iblk m c 7 t) (iblk m c 8 t) (iblk m c 9 t) (iblk m c 10 t) (iblk m c 11 t)
        (rdL (LL4 (iblk m c 4 t))) (rdL (LL16 (iblk m c 4 t) (iblk m c 5 t))) (rdY (LY4 (iblk m c 1 t))) (rdY (LY16 (iblk m c 1 t) (iblk m c 2 t))) := by
  unfold outsAt0
  frame_out
  rfl

end Cert.DilOutIdeal.Val
-- ==== Proof.Val.DilPay.lean ====
/-
  The dilated layer's output block: the kernel's arithmetic at a row and a column.
-/
module

public import proofs.«01_k».proof.Proof.Gen.DilOutIdeal.Skeleton
public import Idealize.ShloMosaic.Lib.Pointwise
public import Idealize.ShloMosaic.Lib.IdealHost

@[expose] public section

set_option maxRecDepth 65536

noncomputable section

namespace Cert.DilOutIdeal.Val

open Cert.DilOutIdeal Cert.DilOutIdeal.Gen
open Idealize.ShloMosaic Idealize.ShloMosaic.TcCoe Idealize.SL.Sem

/-- A row of weights, and what rounding took from them, against the table. -/
def spread (f : Fin 128 → EReal) (E : Vec Ideal S256x1024 .bf16) (k : Fin 1024) : EReal :=
  ∑ i : Fin 128, f i * E (ix2 ⟨i.val, by omega⟩ k) + ∑ i : Fin 128, (f i - f i) * E (ix2 ⟨128 + i.val, by omega⟩ k)

/-- Eight blocks of 128 columns. -/
def eight (f : Fin 8 → Fin 128 → EReal) (k : Fin 1024) : EReal := f ⟨k.val / 128, by omega⟩ ⟨k.val % 128, by omega⟩

/-- The eight blocks one after another. -/
def chain (f : Fin 8 → Fin 128 → EReal) (k : Fin 1024) : EReal :=
  if _h : k.val < 128 then f ⟨0, by omega⟩ ⟨k.val, by omega⟩
  else if _h : k.val - 128 < 128 then f ⟨1, by omega⟩ ⟨k.val - 128, by omega⟩
  else if _h : k.val - 128 - 128 < 128 then f ⟨2, by omega⟩ ⟨k.val - 128 - 128, by omega⟩
  else if _h : k.val - 128 - 128 - 128 < 128 then f ⟨3, by omega⟩ ⟨k.val - 128 - 128 - 128, by omega⟩
  else if _h : k.val - 128 - 128 - 128 - 128 < 128 then f ⟨4, by omega⟩ ⟨k.val - 128 - 128 - 128 - 128, by omega⟩
  else if _h : k.val - 128 - 128 - 128 - 128 - 128 < 128 then f ⟨5, by omega⟩ ⟨k.val - 128 - 128 - 128 - 128 - 128, by omega⟩
  else if _h : k.val - 128 - 128 - 128 - 128 - 128 - 128 < 128 then f ⟨6, by omega⟩ ⟨k.val - 128 - 128 - 128 - 128 - 128 - 128, by omega⟩
  else f ⟨7, by omega⟩ ⟨k.val - 128 - 128 - 128 - 128 - 128 - 128 - 128, by omega⟩

theorem eight_eq (f : Fin 8 → Fin 128 → EReal) (k : Fin 1024) : chain f k = eight f k := by
  have hk := k.isLt
  unfold chain eight
  split_ifs
  all_goals
    refine congr (congrArg f (Fin.ext ?_)) (Fin.ext ?_)
    all_goals
      dsimp only
      omega

variable (a b d e : FVec Ideal S256x128 .f32) (E : Vec Ideal S256x1024 .bf16) (x y z : Vec Ideal S256x1024 .f32) (A B : FVec Ideal S256x1024 .f32)
  (w : Vec Ideal S1024x1024 .bf16) (g h : Vec Ideal S1x1024 .f32) (p : Fin 256) (k : Fin 1024)
  (u : Fin 8 → Vec Ideal S1x256x128 .f32)

theorem pay33_at : k0_pay33 a b d e E x (ix2 p k)
    = (spread (fun i => Ideal.div (d (ix2 p i)) (d (ix2 p i) + Ideal.exp (e (ix2 p i)) + Ideal.exp (a (ix2 p i) - b (ix2 p i)))) E k)
      * x (ix2 p k) := by
  unfold_payloads
  pointwise
  rfl

theorem pay34_at : k0_pay34 a b d e E (ix2 p k)
    = spread (fun i => Ideal.div (Ideal.exp (e (ix2 p i))) (d (ix2 p i) + Ideal.exp (e (ix2 p i)) + Ideal.exp (a (ix2 p i) - b (ix2 p i)))) E k := by
  unfold_payloads
  pointwise
  rfl

theorem pay78_at : k0_pay78 a b E (ix2 p k) = spread (fun i => Ideal.div (a (ix2 p i)) (b (ix2 p i))) E k := by
  unfold_payloads
  pointwise
  rfl

theorem pay77_at : k0_pay77 A B (k0_pay71 (u 0)) (k0_pay72 (u 1)) (k0_pay73 (u 2)) (k0_pay74 (u 3)) (k0_pay75 (u 4)) (k0_pay76 (u 5)) (u 6) (u 7) (ix2 p k)
    = A (ix2 p k) + B (ix2 p k) * eight (fun t l => u t (ix3 0 p l)) k := by
  unfold_payloads
  pointwise
  rw [← eight_eq]
  rfl

/-- A row before the normalisation: the residual, scaled, plus the gated row times the weights. -/
def before (y z x : Fin 1024 → EReal) (w : FVec Ideal S1024x1024 .bf16) (j : Fin 1024) : EReal :=
  Ideal.ofBits FTy.f32 1071072509#32 * x j + ∑ k, y k * (z k * Ideal.logistic (z k)) * w (ix2 k j)

/-- A row's mean. -/
def avg (r : Fin 1024 → EReal) : EReal := Ideal.div (∑ k, r k) (Ideal.ofBits FTy.f32 1149239296#32)

theorem pay222_at : k0_pay222 A B (k0_pay220 (u 0)) (k0_pay221 (u 1)) (u 2) (u 3) (u 4) (u 5) (u 6) (u 7) x y w (ix2 p k)
    = before (fun i => A (ix2 p i) + B (ix2 p i) * eight (fun t l => u t (ix3 0 p l)) i) (fun i => x (ix2 p i)) (fun i => y (ix2 p i)) w k := by
  unfold_payloads
  pointwise
  simp only [← eight_eq]
  rfl

theorem pay224_at (c : FVec Ideal S256x1 .f32) : k0_pay224 A c g (ix2 p k)
    = (A (ix2 p k) - c (ix2 p 0)) * Ideal.rsqrt (avg (fun i => (A (ix2 p i) - c (ix2 p 0)) * (A (ix2 p i) - c (ix2 p 0))) + Ideal.ofBits FTy.f32 925353388#32)
      * g (ix2 0 k) := by
  unfold_payloads
  pointwise
  rfl

theorem pay1_at : k0_pay1 A h (ix2 p k) = A (ix2 p k) + h (ix2 0 k) := by
  unfold_payloads
  pointwise

/-! ## The weights -/

theorem exp_range {x : EReal} (h : x ≤ 0) : 0 ≤ Ideal.exp x ∧ Ideal.exp x ≤ 1 := by
  induction x using EReal.rec with
  | bot => exact ⟨le_refl _, zero_le_one⟩
  | top => exact absurd h (by simp)
  | coe r =>
    have hr : r ≤ 0 := by exact_mod_cast h
    show (0 : EReal) ≤ ((Real.exp r : ℝ) : EReal) ∧ ((Real.exp r : ℝ) : EReal) ≤ 1
    exact ⟨by exact_mod_cast (Real.exp_pos r).le, by exact_mod_cast Real.exp_le_one_iff.mpr hr⟩

theorem sub_le {a b : EReal} (h : a ≤ b) : a - b ≤ 0 := by
  induction a using EReal.rec with
  | bot => simp
  | top =>
    obtain rfl : b = ⊤ := top_le_iff.mp h
    simp
  | coe r =>
    induction b using EReal.rec with
    | bot => exact absurd h (by simp)
    | top => simp
    | coe q =>
      rw [← EReal.coe_sub]
      exact_mod_cast sub_nonpos.mpr (by exact_mod_cast h)

theorem div_ne_top {e t : EReal} (h0 : 0 ≤ e) (h1 : e ≤ 1) (ht : e ≤ t) : Ideal.div e t ≠ ⊤ := by
  unfold Ideal.div
  split_ifs with h h'
  · exact absurd (h ▸ ht) (not_le.mpr h')
  · exact bot_ne_top
  · have e1 : e ≠ ⊤ := fun h => absurd (h ▸ h1) (by rw [top_le_iff, ← EReal.coe_one]; exact EReal.coe_ne_top 1)
    have e2 : e ≠ ⊥ := fun h => absurd (h ▸ h0) (by simp)
    lift e to ℝ using ⟨e1, e2⟩
    induction t using EReal.rec with
    | bot => simp
    | top => simp
    | coe q =>
      rw [← EReal.coe_inv, ← EReal.coe_mul]
      exact EReal.coe_ne_top _

theorem add_self_sub {a : EReal} (h : a ≠ ⊤) : a + (a - a) = a := by
  induction a using EReal.rec with
  | bot => simp
  | top => exact absurd rfl h
  | coe r => rw [← EReal.coe_sub, sub_self, EReal.coe_zero, add_zero]

/-- The table copies each head's weight to the head's columns. -/
theorem spread_eq (f : Fin 128 → EReal) (E : Vec Ideal S256x1024 .bf16) (k : Fin 1024)
    (hE : ∀ q : Fin 256, E (ix2 q k) = if q.val % 128 = k.val / 64 then (1 : EReal) else 0) (h : f ⟨k.val / 64, by omega⟩ ≠ ⊤) :
    spread f E k = f ⟨k.val / 64, by omega⟩ := by
  have key : ∀ (g : Fin 128 → EReal) (n : ℕ) (hn : n = 0 ∨ n = 128), ∑ i : Fin 128, g i * E (ix2 ⟨n + i.val, by omega⟩ k) = g ⟨k.val / 64, by omega⟩ := by
    intro g n hn
    refine (Finset.sum_eq_single (⟨k.val / 64, by omega⟩ : Fin 128) (fun i _ hi => ?_) (fun hi => absurd (Finset.mem_univ _) hi)).trans ?_
    · rw [hE, if_neg, mul_zero]
      intro e
      exact hi (Fin.ext (by dsimp only at e ⊢; omega))
    · rw [hE, if_pos, mul_one]
      dsimp only
      omega
  unfold spread
  refine Eq.trans ?_ (add_self_sub h)
  refine congrArg₂ (· + ·) ?_ ?_
  · refine Eq.trans (Finset.sum_congr rfl fun i _ => ?_) (key f 0 (Or.inl rfl))
    exact congrArg (fun q : Fin 256 => f i * E (ix2 q k)) (Fin.ext (by dsimp only; omega))
  · exact key (fun i => f i - f i) 128 (Or.inr rfl)

end Cert.DilOutIdeal.Val
-- ==== Proof.Val.DilRef.lean ====
/-
  The dilated layer's output block: the groups' mixture, the rows and the norm, and the reference's result in these terms.
-/
module

public import proofs.«01_k».proof.Proof.Gen.DilOutRefIdeal.Run
public import Idealize.ShloMosaic.Lib.Pointwise
public import Idealize.ShloMosaic.Lib.IdealHost
public import Idealize.ShloMosaic.Lib.Pipeline.ValueKit

@[expose] public section

set_option maxRecDepth 16384

noncomputable section

namespace Cert.DilOutRefIdeal.Val

open Cert.DilOutRefIdeal Cert.DilOutRefIdeal.Gen
open Idealize.ShloMosaic Idealize.ShloMosaic.TcCoe Idealize.SL.Sem

/-- The largest of three denominators. -/
def top (a b c : EReal) : EReal := max (max a b) c

/-- The sum of three denominators, scaled by the largest. -/
def tot (a b c : EReal) : EReal := Ideal.exp (a - top a b c) + Ideal.exp (b - top a b c) + Ideal.exp (c - top a b c)

/-- Three groups' outputs, weighed by their denominators. -/
def mix (a b c u v w : EReal) : EReal :=
  Ideal.div (Ideal.exp (a - top a b c)) (tot a b c) * u + Ideal.div (Ideal.exp (b - top a b c)) (tot a b c) * v
    + Ideal.div (Ideal.exp (c - top a b c)) (tot a b c) * w

/-- One of three values. -/
def sel (a b c : EReal) (k : Fin 3) : EReal := if _h : k.val < 1 then a else if _h : k.val - 1 < 1 then b else c

/-- The largest of three values, from minus infinity. -/
def topR (a b c : EReal) : EReal :=
  max (Ideal.ofBits FTy.f32 4286578688#32) (Finset.fold max (Ideal.ofBits FTy.f32 4286578688#32) (fun k => sel a b c k) Finset.univ)

/-- The mixture as a sum over the groups. -/
def mixR (a b c u v w : EReal) : EReal :=
  ∑ k, Ideal.div (Ideal.exp (sel a b c k - topR a b c)) (∑ i, Ideal.exp (sel a b c i - topR a b c)) * sel u v w k

theorem topR_eq (a b c : EReal) : topR a b c = top a b c := by
  have e : Ideal.ofBits FTy.f32 4286578688#32 = (⊥ : EReal) := by simp [Ideal.ofBits, Ideal.ieee]
  unfold topR top
  rw [e, show (Finset.univ : Finset (Fin 3)) = {0, 1, 2} from rfl, Finset.fold_insert (by decide), Finset.fold_insert (by decide), Finset.fold_singleton]
  show max ⊥ (max a (max b (max c ⊥))) = _
  simp only [max_bot_right, max_bot_left, max_assoc, bot_le, max_eq_right, max_eq_left]

theorem mixR_eq (a b c u v w : EReal) : mixR a b c u v w = mix a b c u v w := by
  unfold mixR
  simp only [topR_eq, Fin.sum_univ_three]
  rfl

/-- A row before the normalisation: the residual, scaled, plus the gated row times the weights. -/
def resid (y z x : Fin 1024 → EReal) (w : FVec Ideal S1024x1024 .f32) (j : Fin 1024) : EReal :=
  Ideal.ofBits FTy.f32 1071072509#32 * x j + ∑ k, y k * (z k * Ideal.logistic (z k)) * w (ix2 k j)

/-- A row's mean. -/
def mean (r : Fin 1024 → EReal) : EReal := Ideal.div (∑ k, r k) (Ideal.ofBits FTy.f32 1149239296#32)

/-- The layer norm of a row. -/
def norm (r : Fin 1024 → EReal) (g b : EReal) (j : Fin 1024) : EReal :=
  (r j - mean r) * Ideal.rsqrt (mean (fun k => (r k - mean r) * (r k - mean r)) + Ideal.ofBits FTy.f32 925353388#32) * g + b

/-- A row of an activation. -/
def line (x : FVec Ideal S4x8192x1024 .f32) (r : Fin 32768) (k : Fin 1024) : EReal :=
  x (ix3 (⟨r.val / 8192, by omega⟩ : Fin 4) (⟨r.val % 8192, by omega⟩ : Fin 8192) k)

/-- A row's denominator for a column: that of the column's head. -/
def den (l : FVec Ideal S4x8192x16 .f32) (r : Fin 32768) (k : Fin 1024) : EReal :=
  l (ix3 (⟨r.val / 8192, by omega⟩ : Fin 4) (⟨r.val % 8192, by omega⟩ : Fin 8192) (⟨k.val / 64, by omega⟩ : Fin 16))

/-- A row of the mixture. -/
def mixed (y0 y1 y2 : FVec Ideal S4x8192x1024 .f32) (l0 l1 l2 : FVec Ideal S4x8192x16 .f32) (r : Fin 32768) (k : Fin 1024) : EReal :=
  mix (den l0 r k) (den l1 r k) (den l2 r k) (line y0 r k) (line y1 r k) (line y2 r k)

/-- The result. -/
def out (y0 y1 y2 : FVec Ideal S4x8192x1024 .f32) (l0 l1 l2 : FVec Ideal S4x8192x16 .f32) (z x : FVec Ideal S4x8192x1024 .f32)
    (w : FVec Ideal S1024x1024 .f32) (g b : FVec Ideal S1024 .f32) : FVec Ideal S32768x1024 .f32 :=
  fun i => norm (resid (mixed y0 y1 y2 l0 l1 l2 (i 0)) (line z (i 0)) (line x (i 0)) w) (g (ix1 (i 1 : Fin 1024))) (b (ix1 (i 1 : Fin 1024))) (i 1)

theorem pair (n0 n1 : ℕ) (i : (⟨2, ![n0, n1]⟩ : Shape).Idx) : i = ix2 (i 0) (i 1) := by
  funext a
  match a with
  | ⟨0, _⟩ => rfl
  | ⟨1, _⟩ => rfl

/-! The reference's arrays, one after another. -/

def stackL (l0 l1 l2 : FVec Ideal S4x8192x16 .f32) : FVec Ideal S3x4x8192x16 .f32 :=
  concatenate S3x4x8192x16 0 [⟨S1x4x8192x16, ((broadcastInDim S1x4x8192x16 ![1, 2, 3] bcast_S4x8192x16_S1x4x8192x16_1_2_3 l0) : (⟨S1x4x8192x16, .f32⟩ : BufTy).Contents (Elt Ideal))⟩, ⟨S1x4x8192x16, ((broadcastInDim S1x4x8192x16 ![1, 2, 3] bcast_S4x8192x16_S1x4x8192x16_1_2_3 l1) : (⟨S1x4x8192x16, .f32⟩ : BufTy).Contents (Elt Ideal))⟩, ⟨S1x4x8192x16, ((broadcastInDim S1x4x8192x16 ![1, 2, 3] bcast_S4x8192x16_S1x4x8192x16_1_2_3 l2) : (⟨S1x4x8192x16, .f32⟩ : BufTy).Contents (Elt Ideal))⟩] concatenates_S1x4x8192x16_S1x4x8192x16_S1x4x8192x16_S3x4x8192x16_d0
def stackY (y0 y1 y2 : FVec Ideal S4x8192x1024 .f32) : FVec Ideal S3x4x8192x16x64 .f32 :=
  concatenate S3x4x8192x16x64 0 [⟨S1x4x8192x16x64, ((broadcastInDim S1x4x8192x16x64 ![1, 2, 3, 4] bcast_S4x8192x16x64_S1x4x8192x16x64_1_2_3_4 (shapeCast S4x8192x16x64 y0 shapeCasts_S4x8192x1024_S4x8192x16x64)) : (⟨S1x4x8192x16x64, .f32⟩ : BufTy).Contents (Elt Ideal))⟩, ⟨S1x4x8192x16x64, ((broadcastInDim S1x4x8192x16x64 ![1, 2, 3, 4] bcast_S4x8192x16x64_S1x4x8192x16x64_1_2_3_4 (shapeCast S4x8192x16x64 y1 shapeCasts_S4x8192x1024_S4x8192x16x64)) : (⟨S1x4x8192x16x64, .f32⟩ : BufTy).Contents (Elt Ideal))⟩, ⟨S1x4x8192x16x64, ((broadcastInDim S1x4x8192x16x64 ![1, 2, 3, 4] bcast_S4x8192x16x64_S1x4x8192x16x64_1_2_3_4 (shapeCast S4x8192x16x64 y2 shapeCasts_S4x8192x1024_S4x8192x16x64)) : (⟨S1x4x8192x16x64, .f32⟩ : BufTy).Contents (Elt Ideal))⟩] concatenates_S1x4x8192x16x64_S1x4x8192x16x64_S1x4x8192x16x64_S3x4x8192x16x64_d0
def topA (C : FVec Ideal S3x4x8192x16 .f32) : FVec Ideal S4x8192x16 .f32 :=
  maximumf (broadcastInDim S4x8192x16 ![] bcast_S_S4x8192x16 (constant (F := Ideal) S_ .f32 0xFF800000#32)) (Host.reduce FloatOps.maximumf C (constant (F := Ideal) S_ .f32 0xFF800000#32) reducesTo_S3x4x8192x16_S4x8192x16_d0 h_S_)
def expA (C : FVec Ideal S3x4x8192x16 .f32) (M : FVec Ideal S4x8192x16 .f32) : FVec Ideal S3x4x8192x16 .f32 :=
  Host.exp (subf C (broadcastInDim S3x4x8192x16 ![0, 1, 2, 3] bcast_S1x4x8192x16_S3x4x8192x16_0_1_2_3 (broadcastInDim S1x4x8192x16 ![1, 2, 3] bcast_S4x8192x16_S1x4x8192x16_1_2_3 M)))
def totA (E : FVec Ideal S3x4x8192x16 .f32) : FVec Ideal S4x8192x16 .f32 :=
  Host.reduceAdd E (constant (F := Ideal) S_ .f32 0x00000000#32) reducesTo_S3x4x8192x16_S4x8192x16_d0 h_S_
def mixA (E : FVec Ideal S3x4x8192x16 .f32) (D : FVec Ideal S4x8192x16 .f32) (CY : FVec Ideal S3x4x8192x16x64 .f32) : FVec Ideal S4x8192x1024 .f32 :=
  shapeCast S4x8192x1024 (Host.dotGeneral dot_S3x4x8192x16_S3x4x8192x16x64_S4x8192x16x64_0_0_n_4_123_123 none (Host.divf E (broadcastInDim S3x4x8192x16 ![0, 1, 2, 3] bcast_S1x4x8192x16_S3x4x8192x16_0_1_2_3 (broadcastInDim S1x4x8192x16 ![1, 2, 3] bcast_S4x8192x16_S1x4x8192x16_1_2_3 D))) CY) shapeCasts_S4x8192x16x64_S4x8192x1024
def residA (Y z x : FVec Ideal S4x8192x1024 .f32) (w : FVec Ideal S1024x1024 .f32) : FVec Ideal S4x8192x1024 .f32 :=
  addf (mulf (broadcastInDim S4x8192x1024 ![] bcast_S_S4x8192x1024 (constant (F := Ideal) S_ .f32 0x3FD744FD#32)) x) (Host.dotGeneral dot_S4x8192x1024_S1024x1024_S4x8192x1024_2_0_01_1_n_n none (mulf Y (mulf z (Host.divf (broadcastInDim S4x8192x1024 ![] bcast_S_S4x8192x1024 (constant (F := Ideal) S_ .f32 0x3F800000#32)) (addf (broadcastInDim S4x8192x1024 ![] bcast_S_S4x8192x1024 (constant (F := Ideal) S_ .f32 0x3F800000#32)) (Host.exp (Host.negf z)))))) w)
def normA (R : FVec Ideal S4x8192x1024 .f32) (g be : FVec Ideal S1024 .f32) : FVec Ideal S32768x1024 .f32 :=
  shapeCast S32768x1024 (addf (mulf (mulf (subf R (broadcastInDim S4x8192x1024 ![0, 1, 2] bcast_S4x8192x1_S4x8192x1024_0_1_2 (Host.divf (broadcastInDim S4x8192x1 ![0, 1] bcast_S4x8192_S4x8192x1_0_1 (Host.reduceAdd R (constant (F := Ideal) S_ .f32 0x00000000#32) reducesTo_S4x8192x1024_S4x8192_d2 h_S_)) (broadcastInDim S4x8192x1 ![] bcast_S_S4x8192x1 (constant (F := Ideal) S_ .f32 0x44800000#32))))) (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf (subf R (broadcastInDim S4x8192x1024 ![0, 1, 2] bcast_S4x8192x1_S4x8192x1024_0_1_2 (Host.divf (broadcastInDim S4x8192x1 ![0, 1] bcast_S4x8192_S4x8192x1_0_1 (Host.reduceAdd R (constant (F := Ideal) S_ .f32 0x00000000#32) reducesTo_S4x8192x1024_S4x8192_d2 h_S_)) (broadcastInDim S4x8192x1 ![] bcast_S_S4x8192x1 (constant (F := Ideal) S_ .f32 0x44800000#32))))) (subf R (broadcastInDim S4x8192x1024 ![0, 1, 2] bcast_S4x8192x1_S4x8192x1024_0_1_2 (Host.divf (broadcastInDim S4x8192x1 ![0, 1] bcast_S4x8192_S4x8192x1_0_1 (Host.reduceAdd R (constant (F := Ideal) S_ .f32 0x00000000#32) reducesTo_S4x8192x1024_S4x8192_d2 h_S_)) (broadcastInDim S4x8192x1 ![] bcast_S_S4x8192x1 (constant (F := Ideal) S_ .f32 0x44800000#32)))))) (constant (F := Ideal) S_ .f32 0x00000000#32) reducesTo_S4x8192x1024_S4x8192_d2 h_S_)) (broadcastInDim S4x8192x1 ![] bcast_S_S4x8192x1 (constant (F := Ideal) S_ .f32 0x44800000#32))) (broadcastInDim S4x8192x1 ![] bcast_S_S4x8192x1 (constant (F := Ideal) S_ .f32 0x3727C5AC#32)))))) (broadcastInDim S4x8192x1024 ![0, 1, 2] bcast_S1x1x1024_S4x8192x1024_0_1_2 (broadcastInDim S1x1x1024 ![2] bcast_S1024_S1x1x1024_2 g))) (broadcastInDim S4x8192x1024 ![0, 1, 2] bcast_S1x1x1024_S4x8192x1024_0_1_2 (broadcastInDim S1x1x1024 ![2] bcast_S1024_S1x1x1024_2 be))) shapeCasts_S4x8192x1024_S32768x1024

section
variable (l0 l1 l2 : FVec Ideal S4x8192x16 .f32) (y0 y1 y2 z x R : FVec Ideal S4x8192x1024 .f32) (w : FVec Ideal S1024x1024 .f32) (g be : FVec Ideal S1024 .f32) (C E : FVec Ideal S3x4x8192x16 .f32)
  (M D : FVec Ideal S4x8192x16 .f32) (CY : FVec Ideal S3x4x8192x16x64 .f32) (k : Fin 3) (b : Fin 4) (s : Fin 8192) (h : Fin 16) (j : Fin 64) (q : Fin 1024) (r : Fin 32768)

theorem stackL_at : stackL l0 l1 l2 (ix4 k b s h) = sel (l0 (ix3 b s h)) (l1 (ix3 b s h)) (l2 (ix3 b s h)) k := by
  unfold stackL
  pointwise
  rfl

theorem stackY_at : stackY y0 y1 y2 (ix5 k b s h j)
    = sel (y0 (ix3 b s ⟨h.val * 64 + j.val, by omega⟩)) (y1 (ix3 b s ⟨h.val * 64 + j.val, by omega⟩)) (y2 (ix3 b s ⟨h.val * 64 + j.val, by omega⟩)) k := by
  unfold stackY
  pointwise
  rfl

theorem topA_at : topA C (ix3 b s h)
    = max (Ideal.ofBits FTy.f32 4286578688#32) (Finset.fold max (Ideal.ofBits FTy.f32 4286578688#32) (fun i => C (ix4 i b s h)) Finset.univ) := by
  unfold topA
  pointwise

theorem expA_at : expA C M (ix4 k b s h) = Ideal.exp (C (ix4 k b s h) - M (ix3 b s h)) := by
  unfold expA
  pointwise

theorem totA_at : totA E (ix3 b s h) = ∑ i, E (ix4 i b s h) := by
  unfold totA
  pointwise

theorem mixA_at : mixA E D CY (ix3 b s q)
    = ∑ i, Ideal.div (E (ix4 i b s ⟨q.val / 64, by omega⟩)) (D (ix3 b s ⟨q.val / 64, by omega⟩)) * CY (ix5 i b s ⟨q.val / 64, by omega⟩ ⟨q.val % 64, by omega⟩) := by
  unfold mixA
  pointwise

theorem residA_at : residA y0 z x w (ix3 b s q)
    = resid (fun k => y0 (ix3 b s k)) (fun k => z (ix3 b s k)) (fun k => x (ix3 b s k)) w q := by
  unfold residA
  pointwise
  rfl

theorem normA_at : normA R g be (ix2 r q) = norm (line R r) (g (ix1 q)) (be (ix1 q)) q := by
  unfold normA
  pointwise
  rfl

/-- The mixture of the groups, as the reference forms it. -/
abbrev groups : FVec Ideal S4x8192x1024 .f32 :=
  mixA (expA (stackL l0 l1 l2) (topA (stackL l0 l1 l2))) (totA (expA (stackL l0 l1 l2) (topA (stackL l0 l1 l2)))) (stackY y0 y1 y2)

theorem groups_at : groups l0 l1 l2 y0 y1 y2 (ix3 b s q)
    = mix (l0 (ix3 b s ⟨q.val / 64, by omega⟩)) (l1 (ix3 b s ⟨q.val / 64, by omega⟩)) (l2 (ix3 b s ⟨q.val / 64, by omega⟩))
        (y0 (ix3 b s q)) (y1 (ix3 b s q)) (y2 (ix3 b s q)) := by
  have hq : (⟨q.val / 64 * 64 + q.val % 64, by omega⟩ : Fin 1024) = q := Fin.ext (by dsimp only; omega)
  have hM : ∀ h, topA (stackL l0 l1 l2) (ix3 b s h) = topR (l0 (ix3 b s h)) (l1 (ix3 b s h)) (l2 (ix3 b s h)) := fun h => by
    rw [topA_at]
    simp only [stackL_at]
    rfl
  unfold groups
  rw [mixA_at, ← mixR_eq]
  refine Finset.sum_congr rfl fun i _ => ?_
  rw [stackY_at, totA_at]
  simp only [expA_at, stackL_at, hM, hq]

end

set_option maxHeartbeats 4000000 in
theorem ref_eq (m : (ℓ : Loc nD τ sig) → Buf (Elt Ideal) ℓ) (c : Dev nD) : Cert.DilOutRefIdeal.Value.res_main_v54 m c
    = normA (residA (groups (m ((c.tc : Thread nD τ).loc main_arg3)) (m ((c.tc : Thread nD τ).loc main_arg4)) (m ((c.tc : Thread nD τ).loc main_arg5))
          (m ((c.tc : Thread nD τ).loc main_arg0)) (m ((c.tc : Thread nD τ).loc main_arg1)) (m ((c.tc : Thread nD τ).loc main_arg2)))
        (m ((c.tc : Thread nD τ).loc main_arg6)) (m ((c.tc : Thread nD τ).loc main_arg7)) (m ((c.tc : Thread nD τ).loc main_arg8)))
        (m ((c.tc : Thread nD τ).loc main_arg9)) (m ((c.tc : Thread nD τ).loc main_arg10)) := rfl

theorem ref (m : (ℓ : Loc nD τ sig) → Buf (Elt Ideal) ℓ) (c : Dev nD) : Cert.DilOutRefIdeal.Value.res_main_v54 m c
    = out (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9)) (m ((c.tc : Thread nD τ).loc main_arg10)) := by
  rw [ref_eq]
  funext i
  obtain ⟨r, j, rfl⟩ : ∃ (r : Fin 32768) (j : Fin 1024), i = ix2 r j := ⟨i 0, i 1, pair _ _ i⟩
  refine (normA_at _ _ _ _ _).trans ?_
  refine congrArg (fun f => norm f _ _ j) (funext fun q => ?_)
  refine (residA_at _ _ _ _ _ _ q).trans ?_
  exact congrArg (fun f => resid f _ _ _ q) (funext fun k => groups_at _ _ _ _ _ _ _ _ k)

end Cert.DilOutRefIdeal.Val
-- ==== Proof.Val.DilFin.lean ====
/-
  The dilated layer's output block: a row of what a point stores.
-/
module

public import proofs.«01_k».proof.Proof.Val.DilOut
public import proofs.«01_k».proof.Proof.Val.DilPay
public import proofs.«01_k».proof.Proof.Val.DilRef

@[expose] public section

set_option maxRecDepth 65536

noncomputable section

namespace Cert.DilOutIdeal.Val

open Cert.DilOutIdeal Cert.DilOutIdeal.Gen Cert.DilOutRefIdeal.Val
open Idealize.ShloMosaic Idealize.ShloMosaic.TcCoe Idealize.SL.Sem

theorem weight_a (a b c : EReal) : Ideal.div (Ideal.exp (a - top a b c)) (tot a b c) ≠ ⊤ := by
  have ha := exp_range (sub_le (show a ≤ top a b c from le_max_of_le_left (le_max_left _ _)))
  have hb := exp_range (sub_le (show b ≤ top a b c from le_max_of_le_left (le_max_right _ _)))
  have hc := exp_range (sub_le (show c ≤ top a b c from le_max_right _ _))
  exact div_ne_top ha.1 ha.2 (le_add_of_le_of_nonneg (le_add_of_nonneg_right hb.1) hc.1)
theorem weight_b (a b c : EReal) : Ideal.div (Ideal.exp (b - top a b c)) (tot a b c) ≠ ⊤ := by
  have ha := exp_range (sub_le (show a ≤ top a b c from le_max_of_le_left (le_max_left _ _)))
  have hb := exp_range (sub_le (show b ≤ top a b c from le_max_of_le_left (le_max_right _ _)))
  have hc := exp_range (sub_le (show c ≤ top a b c from le_max_right _ _))
  exact div_ne_top hb.1 hb.2 (le_add_of_le_of_nonneg (le_add_of_nonneg_left ha.1) hc.1)
theorem weight_c (a b c : EReal) : Ideal.div (Ideal.exp (c - top a b c)) (tot a b c) ≠ ⊤ := by
  have ha := exp_range (sub_le (show a ≤ top a b c from le_max_of_le_left (le_max_left _ _)))
  have hb := exp_range (sub_le (show b ≤ top a b c from le_max_of_le_left (le_max_right _ _)))
  have hc := exp_range (sub_le (show c ≤ top a b c from le_max_right _ _))
  exact div_ne_top hc.1 hc.2 (le_add_of_nonneg_left (add_nonneg ha.1 hb.1))

section
variable (x0 : Vec Ideal S256x1024 .f32) (x3 : Vec Ideal S256x128 .f32) (x6 : Vec Ideal S256x1024 .bf16) (x7 x8 : Vec Ideal S256x1024 .f32)
    (x9 : Vec Ideal S1024x1024 .bf16) (x10 x11 : Vec Ideal S1x1024 .f32) (a b : Vec Ideal S1x256x128 .f32) (u v : Fin 8 → Vec Ideal S1x256x128 .f32)
    (A B : FVec Ideal S256x1024 .f32) (p : Fin 256) (i : Fin 128) (k j : Fin 1024)

theorem pay26_at : k0_pay26 b (ix2 p i) = b (ix3 0 p i) := by
  unfold_payloads
  pointwise
theorem pay27_at : k0_pay27 (k0_pay2 x3) (k0_pay7 a) b (ix2 p i) = top (x3 (ix2 p i)) (a (ix3 0 p i)) (b (ix3 0 p i)) := by
  unfold_payloads
  pointwise
  rfl
theorem pay28_at : k0_pay28 (k0_pay2 x3) (k0_pay7 a) b (ix2 p i)
    = Ideal.exp (x3 (ix2 p i) - top (x3 (ix2 p i)) (a (ix3 0 p i)) (b (ix3 0 p i))) := by
  unfold_payloads
  pointwise
  rfl
theorem pay29_at : k0_pay29 (k0_pay2 x3) (k0_pay7 a) b (ix2 p i)
    = a (ix3 0 p i) - top (x3 (ix2 p i)) (a (ix3 0 p i)) (b (ix3 0 p i)) := by
  unfold_payloads
  pointwise
  rfl
theorem pay31_at : k0_pay31 (k0_pay26 b) (k0_pay27 (k0_pay2 x3) (k0_pay7 a) b) (ix2 p i)
    = Ideal.exp (b (ix3 0 p i) - top (x3 (ix2 p i)) (a (ix3 0 p i)) (b (ix3 0 p i))) := by
  unfold_payloads
  pointwise
  rfl
theorem pay32_at : k0_pay32 (k0_pay26 b) (k0_pay27 (k0_pay2 x3) (k0_pay7 a) b) (k0_pay28 (k0_pay2 x3) (k0_pay7 a) b) (k0_pay29 (k0_pay2 x3) (k0_pay7 a) b) (ix2 p i)
    = tot (x3 (ix2 p i)) (a (ix3 0 p i)) (b (ix3 0 p i)) := by
  unfold_payloads
  pointwise
  rfl

/-- A head of a column. -/
abbrev head (k : Fin 1024) : Fin 128 := ⟨k.val / 64, by omega⟩

/-- The mixture at a row and a column. -/
theorem group_at (hE : ∀ q : Fin 256, x6 (ix2 q k) = if q.val % 128 = k.val / 64 then (1 : EReal) else 0) :
    k0_pay77 (k0_pay33 (k0_pay26 b) (k0_pay27 (k0_pay2 x3) (k0_pay7 a) b) (k0_pay28 (k0_pay2 x3) (k0_pay7 a) b) (k0_pay29 (k0_pay2 x3) (k0_pay7 a) b) x6 x0)
        (k0_pay34 (k0_pay26 b) (k0_pay27 (k0_pay2 x3) (k0_pay7 a) b) (k0_pay28 (k0_pay2 x3) (k0_pay7 a) b) (k0_pay29 (k0_pay2 x3) (k0_pay7 a) b) x6)
        (k0_pay71 (u 0)) (k0_pay72 (u 1)) (k0_pay73 (u 2)) (k0_pay74 (u 3)) (k0_pay75 (u 4)) (k0_pay76 (u 5)) (u 6) (u 7) (ix2 p k)
      + k0_pay78 (k0_pay31 (k0_pay26 b) (k0_pay27 (k0_pay2 x3) (k0_pay7 a) b))
        (k0_pay32 (k0_pay26 b) (k0_pay27 (k0_pay2 x3) (k0_pay7 a) b) (k0_pay28 (k0_pay2 x3) (k0_pay7 a) b) (k0_pay29 (k0_pay2 x3) (k0_pay7 a) b)) x6 (ix2 p k)
        * eight (fun t l => v t (ix3 0 p l)) k
      = mix (x3 (ix2 p (head k))) (a (ix3 0 p (head k))) (b (ix3 0 p (head k)))
          (x0 (ix2 p k)) (eight (fun t l => u t (ix3 0 p l)) k) (eight (fun t l => v t (ix3 0 p l)) k) := by
  rw [pay77_at, pay33_at, pay34_at, pay78_at]
  simp only [pay26_at, pay27_at, pay28_at, pay29_at, pay31_at, pay32_at]
  unfold mix
  refine congrArg₂ (· + ·) (congrArg₂ (· + ·) (congrArg (· * _) ?_) (congrArg (· * _) ?_)) (congrArg (· * _) ?_)
  · exact spread_eq (fun i => Ideal.div (Ideal.exp (x3 (ix2 p i) - top (x3 (ix2 p i)) (a (ix3 0 p i)) (b (ix3 0 p i)))) (tot (x3 (ix2 p i)) (a (ix3 0 p i)) (b (ix3 0 p i))))
      x6 k hE (weight_a _ _ _)
  · exact spread_eq (fun i => Ideal.div (Ideal.exp (a (ix3 0 p i) - top (x3 (ix2 p i)) (a (ix3 0 p i)) (b (ix3 0 p i)))) (tot (x3 (ix2 p i)) (a (ix3 0 p i)) (b (ix3 0 p i))))
      x6 k hE (weight_b _ _ _)
  · exact spread_eq (fun i => Ideal.div (Ideal.exp (b (ix3 0 p i) - top (x3 (ix2 p i)) (a (ix3 0 p i)) (b (ix3 0 p i)))) (tot (x3 (ix2 p i)) (a (ix3 0 p i)) (b (ix3 0 p i))))
      x6 k hE (weight_c _ _ _)

theorem pay223_at : k0_pay223 A B (k0_pay220 (v 0)) (k0_pay221 (v 1)) (v 2) (v 3) (v 4) (v 5) (v 6) (v 7) x7 x8 x9 (ix2 p 0)
    = avg (fun i => k0_pay222 A B (k0_pay220 (v 0)) (k0_pay221 (v 1)) (v 2) (v 3) (v 4) (v 5) (v 6) (v 7) x7 x8 x9 (ix2 p i)) := by
  unfold k0_pay223
  pointwise
  rfl

theorem tail_at : k0_pay1 (k0_pay224 (k0_pay222 A B (k0_pay220 (v 0)) (k0_pay221 (v 1)) (v 2) (v 3) (v 4) (v 5) (v 6) (v 7) x7 x8 x9)
      (k0_pay223 A B (k0_pay220 (v 0)) (k0_pay221 (v 1)) (v 2) (v 3) (v 4) (v 5) (v 6) (v 7) x7 x8 x9) x10) x11 (ix2 p j)
    = norm (resid (fun i => A (ix2 p i) + B (ix2 p i) * eight (fun t l => v t (ix3 0 p l)) i) (fun i => x7 (ix2 p i)) (fun i => x8 (ix2 p i)) x9)
        (x10 (ix2 0 j)) (x11 (ix2 0 j)) j := by
  rw [pay1_at, pay224_at]
  simp only [pay223_at, pay222_at]
  rfl

theorem fin_at (hE : ∀ (q : Fin 256) (k : Fin 1024), x6 (ix2 q k) = if q.val % 128 = k.val / 64 then (1 : EReal) else 0) :
    fin x0 x3 x6 x7 x8 x9 x10 x11 a b u v (ix2 p j)
      = norm (resid (fun k => mix (x3 (ix2 p (head k))) (a (ix3 0 p (head k))) (b (ix3 0 p (head k)))
          (x0 (ix2 p k)) (eight (fun t l => u t (ix3 0 p l)) k) (eight (fun t l => v t (ix3 0 p l)) k))
          (fun i => x7 (ix2 p i)) (fun i => x8 (ix2 p i)) x9) (x10 (ix2 0 j)) (x11 (ix2 0 j)) j := by
  unfold fin
  refine (tail_at _ _ _ _ _ _ _ _ _ _).trans ?_
  exact congrArg (fun f => norm (resid f _ _ _) _ _ j) (funext fun k => group_at _ _ _ _ _ _ _ _ _ fun q => hE q k)

end

end Cert.DilOutIdeal.Val
-- ==== Proof.Val.DilTab.lean ====
/-
  The dilated layer's output block: the table that copies each head's weight to the head's columns.
-/
module

public import proofs.«01_k».proof.Proof.Gen.DilOutIdeal
public import Idealize.ShloMosaic.Lib.Pointwise
public import Idealize.ShloMosaic.Lib.IdealHost

@[expose] public section

set_option maxRecDepth 16384

noncomputable section

namespace Cert.DilOutIdeal.Val

open Cert.DilOutIdeal Cert.DilOutIdeal.Gen
open Idealize.ShloMosaic Idealize.ShloMosaic.TcCoe Idealize.SL.Sem

/-- The table: one where the row's place in its half is the column's head, zero elsewhere. -/
abbrev heads : FVec Ideal S256x1024 .bf16 :=
  uitofp .bf16 (cmpi .eq (Host.remsi (iotaInDim S256x1024 32 0) (broadcastInDim S256x1024 ![] bcast_S_S256x1024 (constantI S_ 32 128#32)))
    (Host.divsi (iotaInDim S256x1024 32 1) (broadcastInDim S256x1024 ![] bcast_S_S256x1024 (constantI S_ 32 64#32))))

theorem rem_eq : ∀ q : Fin 256, IntOp.remsi ArithUnit.host (BitVec.ofNat 32 q.val) 128#32 = BitVec.ofNat 32 (q.val % 128) := by decide +kernel
theorem div_eq : ∀ k : Fin 1024, IntOp.divsi ArithUnit.host (BitVec.ofNat 32 k.val) 64#32 = BitVec.ofNat 32 (k.val / 64) := by decide +kernel

theorem heads_at (q : Fin 256) (k : Fin 1024) : heads (ix2 q k) = if q.val % 128 = k.val / 64 then (1 : EReal) else 0 := by
  pointwise
  rw [rem_eq, div_eq]
  have hq : q.val % 128 < 2 ^ 32 := by omega
  have hk : k.val / 64 < 2 ^ 32 := by omega
  show ((IntOp.cmpi CmpIPredicate.eq (BitVec.ofNat 32 (q.val % 128)) (BitVec.ofNat 32 (k.val / 64))).toNat : EReal) = _
  have e : (BitVec.ofNat 32 (q.val % 128) = BitVec.ofNat 32 (k.val / 64)) ↔ q.val % 128 = k.val / 64 := by
    rw [← BitVec.toNat_inj, BitVec.toNat_ofNat, BitVec.toNat_ofNat, Nat.mod_eq_of_lt hq, Nat.mod_eq_of_lt hk]
  unfold IntOp.cmpi
  by_cases h : q.val % 128 = k.val / 64
  · rw [if_pos h, h]
    simp
  · rw [if_neg h]
    have : (BitVec.ofNat 32 (q.val % 128) == BitVec.ofNat 32 (k.val / 64)) = false := by
      rw [beq_eq_false_iff_ne]
      exact fun h' => h (e.mp h')
    simp only [this]
    simp

end Cert.DilOutIdeal.Val
-- ==== Proof.Val.DilFinal.lean ====
/-
  The dilated layer's output block: the arrays the launch finds, its blocks, and the result against the reference's.
-/
module

public import proofs.«01_k».proof.Proof.Val.DilFin
public import proofs.«01_k».proof.Proof.Val.DilTab

@[expose] public section

set_option maxRecDepth 16384

noncomputable section

namespace Cert.DilOutIdeal.Val

open Cert.DilOutIdeal Cert.DilOutIdeal.Gen Cert.DilOutRefIdeal.Val
open Idealize.ShloMosaic Idealize.ShloMosaic.TcCoe Idealize.SL.Sem

/-! ## Arrays as they are laid out -/

theorem ext3 {n0 n1 n2 : ℕ} {i k : (⟨3, ![n0, n1, n2]⟩ : Shape).Idx} (h0 : (i 0).val = (k 0).val) (h1 : (i 1).val = (k 1).val)
    (h2 : (i 2).val = (k 2).val) : i = k := by
  funext a
  match a with
  | ⟨0, _⟩ => exact Fin.ext h0
  | ⟨1, _⟩ => exact Fin.ext h1
  | ⟨2, _⟩ => exact Fin.ext h2

theorem rows_at (x : FVec Ideal S4x8192x1024 .f32) (r : Fin 32768) (k : Fin 1024) :
    shapeCast S32768x1024 x shapeCasts_S4x8192x1024_S32768x1024 (ix2 r k) = line x r k := by
  pointwise
  rfl
theorem rows4_at (x : FVec Ideal S4x8192x1024 .f32) (r : Fin 8192) (q : Fin 4096) :
    shapeCast S8192x4096 x shapeCasts_S4x8192x1024_S8192x4096 (ix2 r q)
      = line x ⟨4 * r.val + q.val / 1024, by omega⟩ ⟨q.val % 1024, by omega⟩ := by
  pointwise
  refine congrArg x (ext3 ?_ ?_ rfl)
  · show r.val / 2048 = (4 * r.val + q.val / 1024) / 8192
    omega
  · show r.val % 2048 * 4 + q.val / 1024 = (4 * r.val + q.val / 1024) % 8192
    omega
theorem rows16_at (x : FVec Ideal S4x8192x1024 .f32) (r : Fin 2048) (q : Fin 16384) :
    shapeCast S2048x16384 x shapeCasts_S4x8192x1024_S2048x16384 (ix2 r q)
      = line x ⟨16 * r.val + q.val / 1024, by omega⟩ ⟨q.val % 1024, by omega⟩ := by
  pointwise
  refine congrArg x (ext3 ?_ ?_ rfl)
  · show r.val / 512 = (16 * r.val + q.val / 1024) / 8192
    omega
  · show r.val % 512 * 16 + q.val / 1024 = (16 * r.val + q.val / 1024) % 8192
    omega
theorem line_at (x : FVec Ideal S1024 .f32) (k : Fin 1024) :
    shapeCast S1x1024 x shapeCasts_S1024_S1x1024 (ix2 0 k) = x (ix1 k) := by
  pointwise

/-- The heads' lanes, filled up. -/
abbrev wide (l : FVec Ideal S4x8192x16 .f32) : FVec Ideal S4x8192x128 .f32 :=
  pad S4x8192x128 ![0, 0, 0] ![0, 0, 112] ![0, 0, 0] l (sitofp .f32 (constantI S_ 32 0#32)) pads_S4x8192x16_S4x8192x128_000_000_01120 h_S_

theorem wide_at (l : FVec Ideal S4x8192x16 .f32) (b : Fin 4) (s : Fin 8192) (h : Fin 128) (hh : h.val < 16) :
    wide l (ix3 b s h) = l (ix3 b s ⟨h.val, hh⟩) := by
  pointwise
  simp [hh]
theorem lanes_at (l : FVec Ideal S4x8192x128 .f32) (r : Fin 32768) (h : Fin 128) :
    shapeCast S32768x128 l shapeCasts_S4x8192x128_S32768x128 (ix2 r h)
      = l (ix3 (⟨r.val / 8192, by omega⟩ : Fin 4) (⟨r.val % 8192, by omega⟩ : Fin 8192) h) := by
  pointwise
theorem lanes4_at (l : FVec Ideal S4x8192x128 .f32) (r : Fin 8192) (q : Fin 512) :
    shapeCast S8192x512 l shapeCasts_S4x8192x128_S8192x512 (ix2 r q)
      = l (ix3 (⟨(4 * r.val + q.val / 128) / 8192, by omega⟩ : Fin 4) (⟨(4 * r.val + q.val / 128) % 8192, by omega⟩ : Fin 8192) (⟨q.val % 128, by omega⟩ : Fin 128)) := by
  pointwise
  refine congrArg l (ext3 ?_ ?_ rfl)
  · show r.val / 2048 = (4 * r.val + q.val / 128) / 8192
    omega
  · show r.val % 2048 * 4 + q.val / 128 = (4 * r.val + q.val / 128) % 8192
    omega
theorem lanes16_at (l : FVec Ideal S4x8192x128 .f32) (r : Fin 2048) (q : Fin 2048) :
    shapeCast S2048x2048 l shapeCasts_S4x8192x128_S2048x2048 (ix2 r q)
      = l (ix3 (⟨(16 * r.val + q.val / 128) / 8192, by omega⟩ : Fin 4) (⟨(16 * r.val + q.val / 128) % 8192, by omega⟩ : Fin 8192) (⟨q.val % 128, by omega⟩ : Fin 128)) := by
  pointwise
  refine congrArg l (ext3 ?_ ?_ rfl)
  · show r.val / 512 = (16 * r.val + q.val / 128) / 8192
    omega
  · show r.val % 512 * 16 + q.val / 128 = (16 * r.val + q.val / 128) % 8192
    omega

variable (m : (ℓ : Loc nD τ sig) → Buf (Elt Ideal) ℓ) (c : Dev nD)

/-! ## What the launch finds -/

theorem V_0 : V m c main_v0 = shapeCast S32768x1024 (m ((c : Thread nD τ).loc main_arg0)) shapeCasts_S4x8192x1024_S32768x1024 := by
  unfold V
  simp only [hostOps0, hostOps0_1, hostOps0_2, hostOps0_3, hostOps0_4, hostOps0_5, hostOps0_6, List.flatten_cons, List.flatten_nil, List.append_nil, List.cons_append, List.nil_append]
  after_results_simp <;> rfl
theorem V_1 : V m c main_v1 = shapeCast S8192x4096 (m ((c : Thread nD τ).loc main_arg1)) shapeCasts_S4x8192x1024_S8192x4096 := by
  unfold V
  simp only [hostOps0, hostOps0_1, hostOps0_2, hostOps0_3, hostOps0_4, hostOps0_5, hostOps0_6, List.flatten_cons, List.flatten_nil, List.append_nil, List.cons_append, List.nil_append]
  after_results_simp <;> rfl
theorem V_2 : V m c main_v2 = shapeCast S2048x16384 (m ((c : Thread nD τ).loc main_arg2)) shapeCasts_S4x8192x1024_S2048x16384 := by
  unfold V
  simp only [hostOps0, hostOps0_1, hostOps0_2, hostOps0_3, hostOps0_4, hostOps0_5, hostOps0_6, List.flatten_cons, List.flatten_nil, List.append_nil, List.cons_append, List.nil_append]
  after_results_simp <;> rfl
theorem V_3 : V m c main_v4 = shapeCast S32768x128 (wide (m ((c : Thread nD τ).loc main_arg3))) shapeCasts_S4x8192x128_S32768x128 := by
  unfold V
  simp only [hostOps0, hostOps0_1, hostOps0_2, hostOps0_3, hostOps0_4, hostOps0_5, hostOps0_6, List.flatten_cons, List.flatten_nil, List.append_nil, List.cons_append, List.nil_append]
  after_results_simp <;> rfl
theorem V_4 : V m c main_v6 = shapeCast S8192x512 (wide (m ((c : Thread nD τ).loc main_arg4))) shapeCasts_S4x8192x128_S8192x512 := by
  unfold V
  simp only [hostOps0, hostOps0_1, hostOps0_2, hostOps0_3, hostOps0_4, hostOps0_5, hostOps0_6, List.flatten_cons, List.flatten_nil, List.append_nil, List.cons_append, List.nil_append]
  after_results_simp <;> rfl
theorem V_5 : V m c main_v8 = shapeCast S2048x2048 (wide (m ((c : Thread nD τ).loc main_arg5))) shapeCasts_S4x8192x128_S2048x2048 := by
  unfold V
  simp only [hostOps0, hostOps0_1, hostOps0_2, hostOps0_3, hostOps0_4, hostOps0_5, hostOps0_6, List.flatten_cons, List.flatten_nil, List.append_nil, List.cons_append, List.nil_append]
  after_results_simp <;> rfl
theorem V_6 : V m c main_v19 = heads := by
  unfold V
  simp only [hostOps0, hostOps0_1, hostOps0_2, hostOps0_3, hostOps0_4, hostOps0_5, hostOps0_6, List.flatten_cons, List.flatten_nil, List.append_nil, List.cons_append, List.nil_append]
  after_results_simp <;> rfl
theorem V_7 : V m c main_v9 = shapeCast S32768x1024 (m ((c : Thread nD τ).loc main_arg6)) shapeCasts_S4x8192x1024_S32768x1024 := by
  unfold V
  simp only [hostOps0, hostOps0_1, hostOps0_2, hostOps0_3, hostOps0_4, hostOps0_5, hostOps0_6, List.flatten_cons, List.flatten_nil, List.append_nil, List.cons_append, List.nil_append]
  after_results_simp <;> rfl
theorem V_8 : V m c main_v10 = shapeCast S32768x1024 (m ((c : Thread nD τ).loc main_arg7)) shapeCasts_S4x8192x1024_S32768x1024 := by
  unfold V
  simp only [hostOps0, hostOps0_1, hostOps0_2, hostOps0_3, hostOps0_4, hostOps0_5, hostOps0_6, List.flatten_cons, List.flatten_nil, List.append_nil, List.cons_append, List.nil_append]
  after_results_simp <;> rfl
theorem V_9 : V m c main_v11 = m ((c : Thread nD τ).loc main_arg8) := by
  unfold V
  simp only [hostOps0, hostOps0_1, hostOps0_2, hostOps0_3, hostOps0_4, hostOps0_5, hostOps0_6, List.flatten_cons, List.flatten_nil, List.append_nil, List.cons_append, List.nil_append]
  after_results_simp <;> rfl
theorem V_10 : V m c main_v20 = shapeCast S1x1024 (m ((c : Thread nD τ).loc main_arg9)) shapeCasts_S1024_S1x1024 := by
  unfold V
  simp only [hostOps0, hostOps0_1, hostOps0_2, hostOps0_3, hostOps0_4, hostOps0_5, hostOps0_6, List.flatten_cons, List.flatten_nil, List.append_nil, List.cons_append, List.nil_append]
  after_results_simp <;> rfl
theorem V_11 : V m c main_v21 = shapeCast S1x1024 (m ((c : Thread nD τ).loc main_arg10)) shapeCasts_S1024_S1x1024 := by
  unfold V
  simp only [hostOps0, hostOps0_1, hostOps0_2, hostOps0_3, hostOps0_4, hostOps0_5, hostOps0_6, List.flatten_cons, List.flatten_nil, List.append_nil, List.cons_append, List.nil_append]
  after_results_simp <;> rfl

theorem table (q : Fin 256) (k : Fin 1024) : V m c main_v19 (ix2 q k) = if q.val % 128 = k.val / 64 then (1 : EReal) else 0 :=
  (congrFun (V_6 m c) _).trans (heads_at q k)

/-! ## The blocks -/

theorem ind0 : ∀ t : Fin cfg0.N, win0_0.index t = ![(grid0.coords t 0).val, 0] :=
  (by decide +kernel : ∀ t : Fin grid0.N, _)
theorem ind1 : ∀ t : Fin cfg0.N, win0_1.index t = ![(grid0.coords t 0).val, 0] :=
  (by decide +kernel : ∀ t : Fin grid0.N, _)
theorem ind2 : ∀ t : Fin cfg0.N, win0_2.index t = ![(grid0.coords t 0).val, 0] :=
  (by decide +kernel : ∀ t : Fin grid0.N, _)
theorem ind3 : ∀ t : Fin cfg0.N, win0_3.index t = ![(grid0.coords t 0).val, 0] :=
  (by decide +kernel : ∀ t : Fin grid0.N, _)
theorem ind4 : ∀ t : Fin cfg0.N, win0_4.index t = ![(grid0.coords t 0).val, 0] :=
  (by decide +kernel : ∀ t : Fin grid0.N, _)
theorem ind5 : ∀ t : Fin cfg0.N, win0_5.index t = ![(grid0.coords t 0).val, 0] :=
  (by decide +kernel : ∀ t : Fin grid0.N, _)
theorem ind6 : ∀ t : Fin cfg0.N, win0_6.index t = ![0, 0] :=
  (by decide +kernel : ∀ t : Fin grid0.N, _)
theorem ind7 : ∀ t : Fin cfg0.N, win0_7.index t = ![(grid0.coords t 0).val, 0] :=
  (by decide +kernel : ∀ t : Fin grid0.N, _)
theorem ind8 : ∀ t : Fin cfg0.N, win0_8.index t = ![(grid0.coords t 0).val, 0] :=
  (by decide +kernel : ∀ t : Fin grid0.N, _)
theorem ind9 : ∀ t : Fin cfg0.N, win0_9.index t = ![0, 0] :=
  (by decide +kernel : ∀ t : Fin grid0.N, _)
theorem ind10 : ∀ t : Fin cfg0.N, win0_10.index t = ![0, 0] :=
  (by decide +kernel : ∀ t : Fin grid0.N, _)
theorem ind11 : ∀ t : Fin cfg0.N, win0_11.index t = ![0, 0] :=
  (by decide +kernel : ∀ t : Fin grid0.N, _)
theorem ind12 : ∀ t : Fin cfg0.N, win0_12.index t = ![(grid0.coords t 0).val, 0] :=
  (by decide +kernel : ∀ t : Fin grid0.N, _)

theorem lt0 (t : Fin cfg0.N) : (grid0.coords t 0).val < 128 := (grid0.coords t 0).isLt

/-- A row of a point's tile. -/
def row (t : Fin cfg0.N) (p : Fin 256) : Fin 32768 := ⟨(grid0.coords t 0).val * 256 + p.val, by have := lt0 t; omega⟩
/-- A row of a point's tile of every fourth row. -/
def row4 (t : Fin cfg0.N) (p : Fin 64) : Fin 8192 := ⟨(grid0.coords t 0).val * 64 + p.val, by have := lt0 t; omega⟩
/-- A row of a point's tile of every sixteenth row. -/
def row16 (t : Fin cfg0.N) (p : Fin 16) : Fin 2048 := ⟨(grid0.coords t 0).val * 16 + p.val, by have := lt0 t; omega⟩

theorem blk0 (t : Fin cfg0.N) (p : Fin 256) (k : Fin 1024) : iblk m c 0 t (ix2 p k) = V m c main_v0 (ix2 (row t p) k) := by
  blk_simp [iblk]
  congr 1
  blk_ext [ind0]
  all_goals rfl
theorem blk1 (t : Fin cfg0.N) (p : Fin 64) (k : Fin 4096) : iblk m c 1 t (ix2 p k) = V m c main_v1 (ix2 (row4 t p) k) := by
  blk_simp [iblk]
  congr 1
  blk_ext [ind1]
  all_goals rfl
theorem blk2 (t : Fin cfg0.N) (p : Fin 16) (k : Fin 16384) : iblk m c 2 t (ix2 p k) = V m c main_v2 (ix2 (row16 t p) k) := by
  blk_simp [iblk]
  congr 1
  blk_ext [ind2]
  all_goals rfl
theorem blk3 (t : Fin cfg0.N) (p : Fin 256) (k : Fin 128) : iblk m c 3 t (ix2 p k) = V m c main_v4 (ix2 (row t p) k) := by
  blk_simp [iblk]
  congr 1
  blk_ext [ind3]
  all_goals rfl
theorem blk4 (t : Fin cfg0.N) (p : Fin 64) (k : Fin 512) : iblk m c 4 t (ix2 p k) = V m c main_v6 (ix2 (row4 t p) k) := by
  blk_simp [iblk]
  congr 1
  blk_ext [ind4]
  all_goals rfl
theorem blk5 (t : Fin cfg0.N) (p : Fin 16) (k : Fin 2048) : iblk m c 5 t (ix2 p k) = V m c main_v8 (ix2 (row16 t p) k) := by
  blk_simp [iblk]
  congr 1
  blk_ext [ind5]
  all_goals rfl
theorem blk6 (t : Fin cfg0.N) (p : Fin 256) (k : Fin 1024) : iblk m c 6 t (ix2 p k) = V m c main_v19 (ix2 p k) := by
  blk_simp [iblk]
  congr 1
  blk_ext [ind6]
  all_goals rfl
theorem blk7 (t : Fin cfg0.N) (p : Fin 256) (k : Fin 1024) : iblk m c 7 t (ix2 p k) = V m c main_v9 (ix2 (row t p) k) := by
  blk_simp [iblk]
  congr 1
  blk_ext [ind7]
  all_goals rfl
theorem blk8 (t : Fin cfg0.N) (p : Fin 256) (k : Fin 1024) : iblk m c 8 t (ix2 p k) = V m c main_v10 (ix2 (row t p) k) := by
  blk_simp [iblk]
  congr 1
  blk_ext [ind8]
  all_goals rfl
theorem blk9 (t : Fin cfg0.N) (p : Fin 1024) (k : Fin 1024) : iblk m c 9 t (ix2 p k) = V m c main_v11 (ix2 p k) := by
  blk_simp [iblk]
  congr 1
  blk_ext [ind9]
  all_goals rfl
theorem blk10 (t : Fin cfg0.N) (k : Fin 1024) : iblk m c 10 t (ix2 0 k) = V m c main_v20 (ix2 0 k) := by
  blk_simp [iblk]
  congr 1
  blk_ext [ind10]
  all_goals rfl
theorem blk11 (t : Fin cfg0.N) (k : Fin 1024) : iblk m c 11 t (ix2 0 k) = V m c main_v21 (ix2 0 k) := by
  blk_simp [iblk]
  congr 1
  blk_ext [ind11]
  all_goals rfl
theorem emb12 (t : Fin cfg0.N) (p : Fin 256) (j : Fin 1024) : (win0_12.blk t).view.emb (ix2 p j) = ix2 (row t p) j := by
  blk_ext [ind12]
  all_goals rfl

/-! ## The result -/

/-- Arrays of the launch. -/
abbrev res : FVec Ideal S32768x1024 .f32 :=
  out (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10))

section
variable (t : Fin cfg0.N) (p : Fin 256) (j k : Fin 1024)

theorem read0 : iblk m c 0 t (ix2 p k) = line (m ((c : Thread nD τ).loc main_arg0)) (row t p) k :=
  ((blk0 m c t p k).trans (congrFun (V_0 m c) _)).trans (rows_at _ _ k)
theorem read7 : iblk m c 7 t (ix2 p k) = line (m ((c : Thread nD τ).loc main_arg6)) (row t p) k :=
  ((blk7 m c t p k).trans (congrFun (V_7 m c) _)).trans (rows_at _ _ k)
theorem read8 : iblk m c 8 t (ix2 p k) = line (m ((c : Thread nD τ).loc main_arg7)) (row t p) k :=
  ((blk8 m c t p k).trans (congrFun (V_8 m c) _)).trans (rows_at _ _ k)
theorem read10 : iblk m c 10 t (ix2 0 k) = m ((c : Thread nD τ).loc main_arg9) (ix1 k) :=
  ((blk10 m c t k).trans (congrFun (V_10 m c) _)).trans (line_at _ k)
theorem read11 : iblk m c 11 t (ix2 0 k) = m ((c : Thread nD τ).loc main_arg10) (ix1 k) :=
  ((blk11 m c t k).trans (congrFun (V_11 m c) _)).trans (line_at _ k)
theorem read3 : iblk m c 3 t (ix2 p (head k)) = den (m ((c : Thread nD τ).loc main_arg3)) (row t p) k :=
  (((blk3 m c t p (head k)).trans (congrFun (V_3 m c) _)).trans (lanes_at _ _ _)).trans (wide_at _ _ _ _ (by show k.val / 64 < 16; omega))

theorem read4 : rdL (LL4 (iblk m c 4 t)) (ix3 0 p (head k)) = den (m ((c : Thread nD τ).loc main_arg4)) (row t p) k := by
  have h1 := lt0 t
  refine ((rdL_at _ p _).trans (canon_sl4 _ _ _)).trans ?_
  unfold H4
  refine (((blk4 m c t _ _).trans (congrFun (V_4 m c) _)).trans (lanes4_at _ _ _)).trans ?_
  refine (wide_at _ _ _ _ (by show (p.val % 4 * 128 + k.val / 64) % 128 < 16; omega)).trans ?_
  refine congrArg (m ((c : Thread nD τ).loc main_arg4)) (ext3 ?_ ?_ ?_)
  · show (4 * ((grid0.coords t 0).val * 64 + p.val / 4) + (p.val % 4 * 128 + k.val / 64) / 128) / 8192 = ((grid0.coords t 0).val * 256 + p.val) / 8192
    omega
  · show (4 * ((grid0.coords t 0).val * 64 + p.val / 4) + (p.val % 4 * 128 + k.val / 64) / 128) % 8192 = ((grid0.coords t 0).val * 256 + p.val) % 8192
    omega
  · show (p.val % 4 * 128 + k.val / 64) % 128 = k.val / 64
    omega
theorem read5 : rdL (LL16 (iblk m c 4 t) (iblk m c 5 t)) (ix3 0 p (head k)) = den (m ((c : Thread nD τ).loc main_arg5)) (row t p) k := by
  have h1 := lt0 t
  refine ((rdL_at _ p _).trans (canon_sl16 _ _ _)).trans ?_
  unfold H16
  refine (((blk5 m c t _ _).trans (congrFun (V_5 m c) _)).trans (lanes16_at _ _ _)).trans ?_
  refine (wide_at _ _ _ _ (by show (p.val % 16 * 128 + k.val / 64) % 128 < 16; omega)).trans ?_
  refine congrArg (m ((c : Thread nD τ).loc main_arg5)) (ext3 ?_ ?_ ?_)
  · show (16 * ((grid0.coords t 0).val * 16 + p.val / 16) + (p.val % 16 * 128 + k.val / 64) / 128) / 8192 = ((grid0.coords t 0).val * 256 + p.val) / 8192
    omega
  · show (16 * ((grid0.coords t 0).val * 16 + p.val / 16) + (p.val % 16 * 128 + k.val / 64) / 128) % 8192 = ((grid0.coords t 0).val * 256 + p.val) % 8192
    omega
  · show (p.val % 16 * 128 + k.val / 64) % 128 = k.val / 64
    omega

theorem read1 : eight (fun n l => rdY (LY4 (iblk m c 1 t)) n (ix3 0 p l)) k = line (m ((c : Thread nD τ).loc main_arg1)) (row t p) k := by
  have h1 := lt0 t
  unfold eight
  refine ((rdY_at _ _ p _).trans (canon_st4 _ _ _)).trans ?_
  unfold G4
  refine (((blk1 m c t _ _).trans (congrFun (V_1 m c) _)).trans (rows4_at _ _ _)).trans ?_
  refine congrArg₂ (line (m ((c : Thread nD τ).loc main_arg1))) (Fin.ext ?_) (Fin.ext ?_)
  · show 4 * ((grid0.coords t 0).val * 64 + p.val / 4) + (p.val % 4 * 1024 + k.val / 128 * 128 + k.val % 128) / 1024 = (grid0.coords t 0).val * 256 + p.val
    omega
  · show (p.val % 4 * 1024 + k.val / 128 * 128 + k.val % 128) % 1024 = k.val
    omega
theorem read2 : eight (fun n l => rdY (LY16 (iblk m c 1 t) (iblk m c 2 t)) n (ix3 0 p l)) k = line (m ((c : Thread nD τ).loc main_arg2)) (row t p) k := by
  have h1 := lt0 t
  unfold eight
  refine ((rdY_at _ _ p _).trans (canon_st16 _ _ _)).trans ?_
  unfold G16
  refine (((blk2 m c t _ _).trans (congrFun (V_2 m c) _)).trans (rows16_at _ _ _)).trans ?_
  refine congrArg₂ (line (m ((c : Thread nD τ).loc main_arg2))) (Fin.ext ?_) (Fin.ext ?_)
  · show 16 * ((grid0.coords t 0).val * 16 + p.val / 16) + (p.val % 16 * 1024 + k.val / 128 * 128 + k.val % 128) / 1024 = (grid0.coords t 0).val * 256 + p.val
    omega
  · show (p.val % 16 * 1024 + k.val / 128 * 128 + k.val % 128) % 1024 = k.val
    omega

theorem norm_congr {y y' z z' x x' : Fin 1024 → EReal} {w w' : FVec Ideal S1024x1024 .f32} {g g' b b' : EReal} (j : Fin 1024)
    (hy : ∀ k, y k = y' k) (hz : ∀ k, z k = z' k) (hx : ∀ k, x k = x' k) (hw : ∀ k l : Fin 1024, w (ix2 k l) = w' (ix2 k l)) (hg : g = g') (hb : b = b') :
    norm (resid y z x w) g b j = norm (resid y' z' x' w') g' b' j := by
  obtain rfl : y = y' := funext hy
  obtain rfl : z = z' := funext hz
  obtain rfl : x = x' := funext hx
  obtain rfl : w = w' := funext fun i => by rw [pair 1024 1024 i]; exact hw _ _
  rw [hg, hb]

theorem mix_congr {a a' b b' d d' u u' v v' w w' : EReal} (ha : a = a') (hb : b = b') (hd : d = d') (hu : u = u') (hv : v = v') (hw : w = w') :
    mix a b d u v w = mix a' b' d' u' v' w' := by
  subst ha hb hd hu hv hw
  rfl

theorem point : outsAt0 m c t (ix2 p j) = res m c (ix2 (row t p) j) := by
  rw [outs_eq]
  refine (fin_at _ _ _ _ _ _ _ _ _ _ _ _ p j fun q k => (blk6 m c t q k).trans (table m c q k)).trans ?_
  exact norm_congr j
    (fun k => mix_congr (read3 m c t p k) (read4 m c t p k) (read5 m c t p k) (read0 m c t p k) (read1 m c t p k) (read2 m c t p k))
    (fun k => read7 m c t p k) (fun k => read8 m c t p k) (fun k l => (blk9 m c t k l).trans (congrFun (V_9 m c) _))
    (read10 m c t j) (read11 m c t j)

end

theorem final12 : (dats m 0 c).arrAt 12 cfg0.N = res m c := by
  refine (dats m 0 c).arrAt_eq_of_covers 12 _ (by decide +kernel) fun t hf y => ?_
  blk_simp
  rw [after0_12]
  obtain ⟨p, j, rfl⟩ : ∃ (p : Fin 256) (j : Fin 1024), y = ix2 p j := ⟨y 0, y 1, pair 256 1024 y⟩
  exact (point m c t p j).trans (congrArg (res m c) (emb12 t p j).symm)

end Cert.DilOutIdeal.Val
-- ==== Proof.lean ====
/-
  The certificate's claims: both programs of the stick-breaking attention and the reference run to their ends with
  unchanged arguments and every counter at zero, the idealized kernel is the kernel with its two named constants, and for
  finite queries and keys its result is the reference's.
-/
module

public import proofs.«01_k».proof.Defs
public import proofs.«01_k».proof.Proof.Gen.ReferenceIdeal
public import proofs.«01_k».proof.Proof.Gen.ReferenceIdeal.Run
public import proofs.«01_k».proof.Proof.K.Run
public import proofs.«01_k».proof.Proof.KI.Run
public import proofs.«01_k».proof.Proof.Val.Final
public import proofs.«01_k».proof.Proof.Gen.SbProj.Frame
public import proofs.«01_k».proof.Proof.Val.SbProj
public import proofs.«01_k».proof.Proof.Gen.OutLn.Frame
public import proofs.«01_k».proof.Proof.Val.OutLn
public import proofs.«01_k».proof.Proof.Gen.MobaProj.Frame
public import proofs.«01_k».proof.Proof.Val.MobaProj
public import proofs.«01_k».proof.Proof.Gen.SwaProj.Frame
public import proofs.«01_k».proof.Proof.Val.SwaProj
public import proofs.«01_k».proof.Proof.Gen.DilOut.Frame
public import proofs.«01_k».proof.Proof.Val.DilFinal

@[expose] public section

noncomputable section

namespace Cert.Proof

open Idealize.ShloMosaic Idealize.SL.Sem

/-- The kernel as printed runs, its arguments unchanged. -/
theorem frame_kernel : Cert.quiescent_Kernel := fun m ρ _ => Cert.Kernel.Sb.quiet (F := Bits) m ρ

/-- The idealized kernel runs, its arguments unchanged. -/
theorem frame_kernelIdeal : Cert.quiescent_KernelIdeal := fun m ρ _ => Cert.KernelIdeal.Sb.quiet (F := Ideal) m ρ

/-- The reference runs, its arguments unchanged; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The two named constants are what the idealized program reads. -/
theorem preserves : Cert.preserves_Kernel_KernelIdeal :=
  ⟨IdealRules.named_const.statement _ _ _ _ _ rfl, IdealRules.named_const.statement _ _ _ _ _ rfl⟩

/-- The side condition of the precondition's program. -/
theorem pre_facts : Cert.Pre_finite_qk.Facts := ⟨by decide⟩

/-- A number below plus infinity in absolute value is real. -/
theorem real_of_abs {x : EReal} (h : max x (-x) < ⊤) : ∃ r : ℝ, x = ((r : ℝ) : EReal) := by
  induction x with
  | bot => exact absurd (lt_of_le_of_lt (le_max_right _ _) h) (by simp)
  | coe r => exact ⟨r, rfl⟩
  | top => exact absurd (lt_of_le_of_lt (le_max_left _ _) h) (by simp)

theorem plus_inf : Ideal.ofBits .f32 0x7F800000#32 = (⊤ : EReal) := by
  simp [Ideal.ofBits, Ideal.ieee]

/-- What the comparison with plus infinity says of an element. -/
theorem real_of_cmp {x : FVec Ideal Cert.Pre_finite_qk.S4x8192x1024 .f32} {hb : Cert.Pre_finite_qk.S_.BroadcastsInDim Cert.Pre_finite_qk.S4x8192x1024 ![]}
    (h : cmpf .olt (Host.absf x) (broadcastInDim Cert.Pre_finite_qk.S4x8192x1024 ![] hb (constant Cert.Pre_finite_qk.S_ .f32 0x7F800000#32)) = fun _ => 1#1)
    (i : Cert.Pre_finite_qk.S4x8192x1024.Idx) : ∃ r : ℝ, x i = ((r : ℝ) : EReal) := by
  have hi : BitVec.ofBool (decide (max (x i) (-(x i)) < Ideal.ofBits .f32 0x7F800000#32)) = 1#1 := congrFun h i
  rw [plus_inf] at hi
  refine real_of_abs ?_
  by_contra hn
  rw [decide_eq_false hn] at hi
  exact absurd hi (by decide)

theorem algebraic : Cert.algebraic_KernelIdeal_ReferenceIdeal_pre_finite_qk (hPre_finite_qk := pre_facts) := by
  intro m g m' g' hpre hargs
  refine ⟨fun c => Cert.ReferenceIdeal.Value.refOut (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · refine (θ_run Cert.KernelIdeal.defs _ _).mono (fun r h c => ⟨?_, h.2 c⟩)
      (θ_run_and (Cert.KernelIdeal.Sb.run_main (F := Ideal) m g) (Cert.KernelIdeal.Sb.unchanged (F := Ideal) m g))
    choose qr hq using real_of_cmp (hpre c).1
    choose kr hk using real_of_cmp (hpre c).2
    exact ((h.1 c).1 3).trans (Cert.KernelIdeal.Sb.final hq hk rfl rfl rfl)
  · refine (θ_run Cert.ReferenceIdeal.defs _ _).mono (fun r h c => ⟨?_, (h c).2⟩) (Cert.ReferenceIdeal.Value.run (F := Ideal) m' g')
    rw [(h c).1, Cert.ReferenceIdeal.Value.res_eq, (hargs c).1, (hargs c).2.1, (hargs c).2.2]

/-- The run of the reference of the stick-breaking projection: its arguments are unchanged, and it declares no semaphore. -/
theorem frame_SbProj : Cert.quiescent_SbProjRefIdeal := fun m ρ _ =>
  (θ_run Cert.SbProjRefIdeal.defs _ _).mono (fun r h => ⟨fun c => (h c).2.2.2.2, sem_eq_zero_of_no_sems (by decide) r.2⟩)
    (Cert.SbProjRefIdeal.Value.run (F := Ideal) m ρ)

theorem preserves_SbProj : Cert.preserves_SbProj_SbProjIdeal := IdealRules.named_const.statement _ _ _ _ _ rfl

theorem algebraic_SbProj : Cert.algebraic_SbProjIdeal_SbProjRefIdeal := by
  intro m g m' g' _ hargs
  let a0 := fun c : Dev Cert.SbProjIdeal.nD => m ((c.tc : Thread Cert.SbProjIdeal.nD Cert.SbProjIdeal.τ).loc Cert.SbProjIdeal.main_arg0)
  let a1 := fun c : Dev Cert.SbProjIdeal.nD => m ((c.tc : Thread Cert.SbProjIdeal.nD Cert.SbProjIdeal.τ).loc Cert.SbProjIdeal.main_arg1)
  refine ⟨fun c => Cert.SbProjIdeal.Val.out2 (a0 c) (a1 c), fun c => Cert.SbProjIdeal.Val.out3 (a0 c) (a1 c), fun c => Cert.SbProjIdeal.Val.out4 (a0 c) (a1 c), fun c => Cert.SbProjIdeal.Val.out5 (a0 c) (a1 c), ?_, ?_⟩
  · exact (θ_run Cert.SbProjIdeal.defs _ _).mono (fun r h c => ⟨(h c).1.trans (Cert.SbProjIdeal.Val.final2 m c), (h c).2.1.trans (Cert.SbProjIdeal.Val.final3 m c), (h c).2.2.1.trans (Cert.SbProjIdeal.Val.final4 m c), (h c).2.2.2.1.trans (Cert.SbProjIdeal.Val.final5 m c), (h c).2.2.2.2⟩)
      (Cert.SbProjIdeal.Value.run_blocks (F := Ideal) m g)
  · refine (θ_run Cert.SbProjRefIdeal.defs _ _).mono (fun r h c => ⟨?_, ?_, ?_, ?_, (h c).2.2.2.2⟩) (Cert.SbProjRefIdeal.Value.run (F := Ideal) m' g')
    · rw [(h c).1, (hargs c).1, (hargs c).2]
      exact Cert.SbProjRefIdeal.Val.ref2 _ _
    · rw [(h c).2.1, (hargs c).1, (hargs c).2]
      exact Cert.SbProjRefIdeal.Val.ref3 _ _
    · rw [(h c).2.2.1, (hargs c).1, (hargs c).2]
      exact Cert.SbProjRefIdeal.Val.ref4 _ _
    · rw [(h c).2.2.2.1, (hargs c).1, (hargs c).2]
      exact Cert.SbProjRefIdeal.Val.ref5 _ _

/-- The run of the reference of the output block: its arguments are unchanged, and it declares no semaphore. -/
theorem frame_OutLn : Cert.quiescent_OutLnRefIdeal := fun m ρ _ =>
  (θ_run Cert.OutLnRefIdeal.defs _ _).mono (fun r h => ⟨fun c => (h c).2, sem_eq_zero_of_no_sems (by decide) r.2⟩)
    (Cert.OutLnRefIdeal.Value.run (F := Ideal) m ρ)

theorem preserves_OutLn : Cert.preserves_OutLn_OutLnIdeal := trivial

theorem algebraic_OutLn : Cert.algebraic_OutLnIdeal_OutLnRefIdeal := by
  intro m g m' g' _ hargs
  let a0 := fun c : Dev Cert.OutLnIdeal.nD => m ((c.tc : Thread Cert.OutLnIdeal.nD Cert.OutLnIdeal.τ).loc Cert.OutLnIdeal.main_arg0)
  let a1 := fun c : Dev Cert.OutLnIdeal.nD => m ((c.tc : Thread Cert.OutLnIdeal.nD Cert.OutLnIdeal.τ).loc Cert.OutLnIdeal.main_arg1)
  let a2 := fun c : Dev Cert.OutLnIdeal.nD => m ((c.tc : Thread Cert.OutLnIdeal.nD Cert.OutLnIdeal.τ).loc Cert.OutLnIdeal.main_arg2)
  let a3 := fun c : Dev Cert.OutLnIdeal.nD => m ((c.tc : Thread Cert.OutLnIdeal.nD Cert.OutLnIdeal.τ).loc Cert.OutLnIdeal.main_arg3)
  let a4 := fun c : Dev Cert.OutLnIdeal.nD => m ((c.tc : Thread Cert.OutLnIdeal.nD Cert.OutLnIdeal.τ).loc Cert.OutLnIdeal.main_arg4)
  let a5 := fun c : Dev Cert.OutLnIdeal.nD => m ((c.tc : Thread Cert.OutLnIdeal.nD Cert.OutLnIdeal.τ).loc Cert.OutLnIdeal.main_arg5)
  refine ⟨fun c => Cert.OutLnIdeal.Val.out (a0 c) (a1 c) (a2 c) (a3 c) (a4 c) (a5 c), ?_, ?_⟩
  · exact (θ_run Cert.OutLnIdeal.defs _ _).mono (fun r h c => ⟨(h c).1.trans (Cert.OutLnIdeal.Val.final6 m c), (h c).2⟩)
      (Cert.OutLnIdeal.Value.run_blocks (F := Ideal) m g)
  · refine (θ_run Cert.OutLnRefIdeal.defs _ _).mono (fun r h c => ⟨?_, (h c).2⟩) (Cert.OutLnRefIdeal.Value.run (F := Ideal) m' g')
    · rw [(h c).1, Cert.OutLnRefIdeal.Val.ref, (hargs c).1, (hargs c).2.1, (hargs c).2.2.1, (hargs c).2.2.2.1, (hargs c).2.2.2.2.1, (hargs c).2.2.2.2.2]

/-- The run of the reference of the block-attention projection: its arguments are unchanged, and it declares no semaphore. -/
theorem frame_MobaProj : Cert.quiescent_MobaProjRefIdeal := fun m ρ _ =>
  (θ_run Cert.MobaProjRefIdeal.defs _ _).mono (fun r h => ⟨fun c => (h c).2.2.2.2.2, sem_eq_zero_of_no_sems (by decide) r.2⟩)
    (Cert.MobaProjRefIdeal.Value.run (F := Ideal) m ρ)

theorem preserves_MobaProj : Cert.preserves_MobaProj_MobaProjIdeal := IdealRules.named_const.statement _ _ _ _ _ rfl

theorem algebraic_MobaProj : Cert.algebraic_MobaProjIdeal_MobaProjRefIdeal := by
  intro m g m' g' _ hargs
  let a0 := fun c : Dev Cert.MobaProjIdeal.nD => m ((c.tc : Thread Cert.MobaProjIdeal.nD Cert.MobaProjIdeal.τ).loc Cert.MobaProjIdeal.main_arg0)
  let a1 := fun c : Dev Cert.MobaProjIdeal.nD => m ((c.tc : Thread Cert.MobaProjIdeal.nD Cert.MobaProjIdeal.τ).loc Cert.MobaProjIdeal.main_arg1)
  refine ⟨fun c => Cert.MobaProjIdeal.Val.out5 (a0 c) (a1 c), fun c => Cert.MobaProjIdeal.Val.out6 (a0 c) (a1 c), fun c => Cert.MobaProjIdeal.Val.out7 (a0 c) (a1 c), fun c => Cert.MobaProjIdeal.Val.out8 (a0 c) (a1 c), fun c => Cert.MobaProjIdeal.Val.out9 (a0 c) (a1 c), ?_, ?_⟩
  · exact (θ_run Cert.MobaProjIdeal.defs _ _).mono (fun r h c => ⟨(h c).1.trans (Cert.MobaProjIdeal.Val.final5 m c), (h c).2.1.trans (Cert.MobaProjIdeal.Val.final6 m c), (h c).2.2.1.trans (Cert.MobaProjIdeal.Val.final7 m c), (h c).2.2.2.1.trans (Cert.MobaProjIdeal.Val.final8 m c), (h c).2.2.2.2.1.trans (Cert.MobaProjIdeal.Val.final9 m c), (h c).2.2.2.2.2⟩)
      (Cert.MobaProjIdeal.Value.run_blocks (F := Ideal) m g)
  · refine (θ_run Cert.MobaProjRefIdeal.defs _ _).mono (fun r h c => ⟨?_, ?_, ?_, ?_, ?_, (h c).2.2.2.2.2⟩) (Cert.MobaProjRefIdeal.Value.run (F := Ideal) m' g')
    · rw [(h c).1, Cert.MobaProjRefIdeal.Val.ref5, (hargs c).1, (hargs c).2]
    · rw [(h c).2.1, Cert.MobaProjRefIdeal.Val.ref6, (hargs c).1, (hargs c).2]
    · rw [(h c).2.2.1, (hargs c).1, (hargs c).2]
      exact Cert.MobaProjRefIdeal.Val.ref7 _ _
    · rw [(h c).2.2.2.1, (hargs c).1, (hargs c).2]
      exact Cert.MobaProjRefIdeal.Val.ref8 _ _
    · rw [(h c).2.2.2.2.1, Cert.MobaProjRefIdeal.Val.ref9, (hargs c).1, (hargs c).2]

/-- The run of the reference of the sliding-window projection: its arguments are unchanged, and it declares no semaphore. -/
theorem frame_SwaProj : Cert.quiescent_SwaProjRefIdeal := fun m ρ _ =>
  (θ_run Cert.SwaProjRefIdeal.defs _ _).mono (fun r h => ⟨fun c => (h c).2.2.2.2, sem_eq_zero_of_no_sems (by decide) r.2⟩)
    (Cert.SwaProjRefIdeal.Value.run (F := Ideal) m ρ)

theorem preserves_SwaProj : Cert.preserves_SwaProj_SwaProjIdeal := trivial

theorem algebraic_SwaProj : Cert.algebraic_SwaProjIdeal_SwaProjRefIdeal := by
  intro m g m' g' _ hargs
  let a0 := fun c : Dev Cert.SwaProjIdeal.nD => m ((c.tc : Thread Cert.SwaProjIdeal.nD Cert.SwaProjIdeal.τ).loc Cert.SwaProjIdeal.main_arg0)
  let a1 := fun c : Dev Cert.SwaProjIdeal.nD => m ((c.tc : Thread Cert.SwaProjIdeal.nD Cert.SwaProjIdeal.τ).loc Cert.SwaProjIdeal.main_arg1)
  refine ⟨fun c => Cert.SwaProjIdeal.Val.out5 (a0 c) (a1 c), fun c => Cert.SwaProjIdeal.Val.out6 (a0 c) (a1 c), fun c => Cert.SwaProjIdeal.Val.out7 (a0 c) (a1 c), fun c => Cert.SwaProjIdeal.Val.out8 (a0 c) (a1 c), ?_, ?_⟩
  · exact (θ_run Cert.SwaProjIdeal.defs _ _).mono (fun r h c => ⟨(h c).1.trans (Cert.SwaProjIdeal.Val.final5 m c), (h c).2.1.trans (Cert.SwaProjIdeal.Val.final6 m c), (h c).2.2.1.trans (Cert.SwaProjIdeal.Val.final7 m c), (h c).2.2.2.1.trans (Cert.SwaProjIdeal.Val.final8 m c), (h c).2.2.2.2⟩)
      (Cert.SwaProjIdeal.Value.run_blocks (F := Ideal) m g)
  · refine (θ_run Cert.SwaProjRefIdeal.defs _ _).mono (fun r h c => ⟨?_, ?_, ?_, ?_, (h c).2.2.2.2⟩) (Cert.SwaProjRefIdeal.Value.run (F := Ideal) m' g')
    · rw [(h c).1, Cert.SwaProjRefIdeal.Val.ref5, (hargs c).1, (hargs c).2]
    · rw [(h c).2.1, Cert.SwaProjRefIdeal.Val.ref6, (hargs c).1, (hargs c).2]
    · rw [(h c).2.2.1, (hargs c).1, (hargs c).2]
      exact Cert.SwaProjRefIdeal.Val.ref7 _ _
    · rw [(h c).2.2.2.1, (hargs c).1, (hargs c).2]
      exact Cert.SwaProjRefIdeal.Val.ref8 _ _

/-- The run of the reference of the dilated layer's output block: its arguments are unchanged, and it declares no semaphore. -/
theorem frame_DilOut : Cert.quiescent_DilOutRefIdeal := fun m ρ _ =>
  (θ_run Cert.DilOutRefIdeal.defs _ _).mono (fun r h => ⟨fun c => (h c).2, sem_eq_zero_of_no_sems (by decide) r.2⟩)
    (Cert.DilOutRefIdeal.Value.run (F := Ideal) m ρ)

theorem preserves_DilOut : Cert.preserves_DilOut_DilOutIdeal := trivial

theorem algebraic_DilOut : Cert.algebraic_DilOutIdeal_DilOutRefIdeal := by
  intro m g m' g' _ hargs
  let a0 := fun c : Dev Cert.DilOutIdeal.nD => m ((c.tc : Thread Cert.DilOutIdeal.nD Cert.DilOutIdeal.τ).loc Cert.DilOutIdeal.main_arg0)
  let a1 := fun c : Dev Cert.DilOutIdeal.nD => m ((c.tc : Thread Cert.DilOutIdeal.nD Cert.DilOutIdeal.τ).loc Cert.DilOutIdeal.main_arg1)
  let a2 := fun c : Dev Cert.DilOutIdeal.nD => m ((c.tc : Thread Cert.DilOutIdeal.nD Cert.DilOutIdeal.τ).loc Cert.DilOutIdeal.main_arg2)
  let a3 := fun c : Dev Cert.DilOutIdeal.nD => m ((c.tc : Thread Cert.DilOutIdeal.nD Cert.DilOutIdeal.τ).loc Cert.DilOutIdeal.main_arg3)
  let a4 := fun c : Dev Cert.DilOutIdeal.nD => m ((c.tc : Thread Cert.DilOutIdeal.nD Cert.DilOutIdeal.τ).loc Cert.DilOutIdeal.main_arg4)
  let a5 := fun c : Dev Cert.DilOutIdeal.nD => m ((c.tc : Thread Cert.DilOutIdeal.nD Cert.DilOutIdeal.τ).loc Cert.DilOutIdeal.main_arg5)
  let a6 := fun c : Dev Cert.DilOutIdeal.nD => m ((c.tc : Thread Cert.DilOutIdeal.nD Cert.DilOutIdeal.τ).loc Cert.DilOutIdeal.main_arg6)
  let a7 := fun c : Dev Cert.DilOutIdeal.nD => m ((c.tc : Thread Cert.DilOutIdeal.nD Cert.DilOutIdeal.τ).loc Cert.DilOutIdeal.main_arg7)
  let a8 := fun c : Dev Cert.DilOutIdeal.nD => m ((c.tc : Thread Cert.DilOutIdeal.nD Cert.DilOutIdeal.τ).loc Cert.DilOutIdeal.main_arg8)
  let a9 := fun c : Dev Cert.DilOutIdeal.nD => m ((c.tc : Thread Cert.DilOutIdeal.nD Cert.DilOutIdeal.τ).loc Cert.DilOutIdeal.main_arg9)
  let a10 := fun c : Dev Cert.DilOutIdeal.nD => m ((c.tc : Thread Cert.DilOutIdeal.nD Cert.DilOutIdeal.τ).loc Cert.DilOutIdeal.main_arg10)
  refine ⟨fun c => Cert.DilOutRefIdeal.Val.out (a0 c) (a1 c) (a2 c) (a3 c) (a4 c) (a5 c) (a6 c) (a7 c) (a8 c) (a9 c) (a10 c), ?_, ?_⟩
  · exact (θ_run Cert.DilOutIdeal.defs _ _).mono (fun r h c => ⟨(h c).1.trans (Cert.DilOutIdeal.Val.final12 m c), (h c).2⟩)
      (Cert.DilOutIdeal.Value.run_blocks (F := Ideal) m g)
  · refine (θ_run Cert.DilOutRefIdeal.defs _ _).mono (fun r h c => ⟨?_, (h c).2⟩) (Cert.DilOutRefIdeal.Value.run (F := Ideal) m' g')
    · rw [(h c).1, Cert.DilOutRefIdeal.Val.ref, (hargs c).1, (hargs c).2.1, (hargs c).2.2.1, (hargs c).2.2.2.1, (hargs c).2.2.2.2.1, (hargs c).2.2.2.2.2.1, (hargs c).2.2.2.2.2.2.1, (hargs c).2.2.2.2.2.2.2.1, (hargs c).2.2.2.2.2.2.2.2.1, (hargs c).2.2.2.2.2.2.2.2.2.1, (hargs c).2.2.2.2.2.2.2.2.2.2]

theorem claim : Cert.Claim := ⟨Cert.Kernel.Gen.facts, Cert.KernelIdeal.Gen.facts, Cert.ReferenceIdeal.Gen.facts, Cert.SbProj.Gen.facts, Cert.SbProjIdeal.Gen.facts, Cert.SbProjRefIdeal.Gen.facts, Cert.OutLn.Gen.facts, Cert.OutLnIdeal.Gen.facts, Cert.OutLnRefIdeal.Gen.facts, Cert.MobaProj.Gen.facts, Cert.MobaProjIdeal.Gen.facts, Cert.MobaProjRefIdeal.Gen.facts, Cert.SwaProj.Gen.facts, Cert.SwaProjIdeal.Gen.facts, Cert.SwaProjRefIdeal.Gen.facts, Cert.DilOut.Gen.facts, Cert.DilOutIdeal.Gen.facts, Cert.DilOutRefIdeal.Gen.facts, pre_facts,
  frame_kernel, frame_kernelIdeal, fun m ρ _ => Cert.KernelIdeal.Sb.quiet (F := Ideal) m ρ, frame_reference,
  fun m ρ _ => frame_reference m ρ trivial,
  fun m ρ _ => Cert.SbProj.Gen.frame (F := Bits) m ρ, fun m ρ _ => Cert.SbProjIdeal.Gen.frame (F := Ideal) m ρ, frame_SbProj,
  fun m ρ _ => Cert.OutLn.Gen.frame (F := Bits) m ρ, fun m ρ _ => Cert.OutLnIdeal.Gen.frame (F := Ideal) m ρ, frame_OutLn,
  fun m ρ _ => Cert.MobaProj.Gen.frame (F := Bits) m ρ, fun m ρ _ => Cert.MobaProjIdeal.Gen.frame (F := Ideal) m ρ, frame_MobaProj,
  fun m ρ _ => Cert.SwaProj.Gen.frame (F := Bits) m ρ, fun m ρ _ => Cert.SwaProjIdeal.Gen.frame (F := Ideal) m ρ, frame_SwaProj,
  fun m ρ _ => Cert.DilOut.Gen.frame (F := Bits) m ρ, fun m ρ _ => Cert.DilOutIdeal.Gen.frame (F := Ideal) m ρ, frame_DilOut,
  preserves, algebraic, preserves_SbProj, algebraic_SbProj, preserves_OutLn, algebraic_OutLn, preserves_MobaProj, algebraic_MobaProj, preserves_SwaProj, algebraic_SwaProj, preserves_DilOut, algebraic_DilOut⟩

end Cert.Proof

end
